-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_heads [hPre_finite_heads : Cert.Pre_finite_heads.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_heads.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).1 = (fun _ => 1#1)
    ∧ (Cert.Pre_finite_heads.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_heads [hPre_finite_heads : Cert.Pre_finite_heads.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_heads.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).1 = (fun _ => 1#1)
    ∧ (Cert.Pre_finite_heads.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_finite_heads [hKernel7Ideal : Cert.Kernel7Ideal.Facts] [hPre_finite_heads : Cert.Pre_finite_heads.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_heads m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_finite_heads [hReference7Ideal : Cert.Reference7Ideal.Facts] [hPre_finite_heads : Cert.Pre_finite_heads.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_heads m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)) (v6 : (c : Dev Cert.KernelIdeal.nD) → Buf (Elt Ideal) ((c.tc : Thread Cert.KernelIdeal.nD Cert.KernelIdeal.τ).loc Cert.KernelIdeal.main_v6_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_v6_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_v109) = v3 c
          ∧ r.2.mem ((c.tc : Thread Cert.ReferenceIdeal.nD Cert.ReferenceIdeal.τ).loc Cert.ReferenceIdeal.main_v110) = v4 c
          ∧ r.2.mem ((c.tc : Thread Cert.ReferenceIdeal.nD Cert.ReferenceIdeal.τ).loc Cert.ReferenceIdeal.main_v105) = v5 c
          ∧ r.2.mem ((c.tc : Thread Cert.ReferenceIdeal.nD Cert.ReferenceIdeal.τ).loc Cert.ReferenceIdeal.main_v111) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite_heads [hKernel7Ideal : Cert.Kernel7Ideal.Facts] [hReference7Ideal : Cert.Reference7Ideal.Facts] [hPre_finite_heads : Cert.Pre_finite_heads.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_heads m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v13_0)) (v1 : (c : Dev Cert.Kernel7Ideal.nD) → Buf (Elt Ideal) ((c.tc : Thread Cert.Kernel7Ideal.nD Cert.Kernel7Ideal.τ).loc Cert.Kernel7Ideal.main_v13_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13_0) = v0 c
          ∧ r.2.mem ((c.tc : Thread Cert.Kernel7Ideal.nD Cert.Kernel7Ideal.τ).loc Cert.Kernel7Ideal.main_v13_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_v35) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)) →
    ∃ (v0 : (c : Dev Cert.Kernel8Ideal.nD) → Buf (Elt Ideal) ((c.tc : Thread Cert.Kernel8Ideal.nD Cert.Kernel8Ideal.τ).loc Cert.Kernel8Ideal.main_v38_0)) (v1 : (c : Dev Cert.Kernel8Ideal.nD) → Buf (Elt Ideal) ((c.tc : Thread Cert.Kernel8Ideal.nD Cert.Kernel8Ideal.τ).loc Cert.Kernel8Ideal.main_v38_1)) (v2 : (c : Dev Cert.Kernel8Ideal.nD) → Buf (Elt Ideal) ((c.tc : Thread Cert.Kernel8Ideal.nD Cert.Kernel8Ideal.τ).loc Cert.Kernel8Ideal.main_v38_2)) (v3 : (c : Dev Cert.Kernel8Ideal.nD) → Buf (Elt Ideal) ((c.tc : Thread Cert.Kernel8Ideal.nD Cert.Kernel8Ideal.τ).loc Cert.Kernel8Ideal.main_v38_3)) (v4 : (c : Dev Cert.Kernel8Ideal.nD) → Buf (Elt Ideal) ((c.tc : Thread Cert.Kernel8Ideal.nD Cert.Kernel8Ideal.τ).loc Cert.Kernel8Ideal.main_v38_4)) (v5 : (c : Dev Cert.Kernel8Ideal.nD) → Buf (Elt Ideal) ((c.tc : Thread Cert.Kernel8Ideal.nD Cert.Kernel8Ideal.τ).loc Cert.Kernel8Ideal.main_v38_5)) (v6 : (c : Dev Cert.Kernel8Ideal.nD) → Buf (Elt Ideal) ((c.tc : Thread Cert.Kernel8Ideal.nD Cert.Kernel8Ideal.τ).loc Cert.Kernel8Ideal.main_v38_6)) (v7 : (c : Dev Cert.Kernel8Ideal.nD) → Buf (Elt Ideal) ((c.tc : Thread Cert.Kernel8Ideal.nD Cert.Kernel8Ideal.τ).loc Cert.Kernel8Ideal.main_v38_7)) (v8 : (c : Dev Cert.Kernel8Ideal.nD) → Buf (Elt Ideal) ((c.tc : Thread Cert.Kernel8Ideal.nD Cert.Kernel8Ideal.τ).loc Cert.Kernel8Ideal.main_v38_8)) (v9 : (c : Dev Cert.Kernel8Ideal.nD) → Buf (Elt Ideal) ((c.tc : Thread Cert.Kernel8Ideal.nD Cert.Kernel8Ideal.τ).loc Cert.Kernel8Ideal.main_v38_9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v38_0) = v0 c
          ∧ r.2.mem ((c.tc : Thread Cert.Kernel8Ideal.nD Cert.Kernel8Ideal.τ).loc Cert.Kernel8Ideal.main_v38_1) = v1 c
          ∧ r.2.mem ((c.tc : Thread Cert.Kernel8Ideal.nD Cert.Kernel8Ideal.τ).loc Cert.Kernel8Ideal.main_v38_2) = v2 c
          ∧ r.2.mem ((c.tc : Thread Cert.Kernel8Ideal.nD Cert.Kernel8Ideal.τ).loc Cert.Kernel8Ideal.main_v38_3) = v3 c
          ∧ r.2.mem ((c.tc : Thread Cert.Kernel8Ideal.nD Cert.Kernel8Ideal.τ).loc Cert.Kernel8Ideal.main_v38_4) = v4 c
          ∧ r.2.mem ((c.tc : Thread Cert.Kernel8Ideal.nD Cert.Kernel8Ideal.τ).loc Cert.Kernel8Ideal.main_v38_5) = v5 c
          ∧ r.2.mem ((c.tc : Thread Cert.Kernel8Ideal.nD Cert.Kernel8Ideal.τ).loc Cert.Kernel8Ideal.main_v38_6) = v6 c
          ∧ r.2.mem ((c.tc : Thread Cert.Kernel8Ideal.nD Cert.Kernel8Ideal.τ).loc Cert.Kernel8Ideal.main_v38_7) = v7 c
          ∧ r.2.mem ((c.tc : Thread Cert.Kernel8Ideal.nD Cert.Kernel8Ideal.τ).loc Cert.Kernel8Ideal.main_v38_8) = v8 c
          ∧ r.2.mem ((c.tc : Thread Cert.Kernel8Ideal.nD Cert.Kernel8Ideal.τ).loc Cert.Kernel8Ideal.main_v38_9) = v9 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v62) = v0 c
          ∧ r.2.mem ((c.tc : Thread Cert.Reference8Ideal.nD Cert.Reference8Ideal.τ).loc Cert.Reference8Ideal.main_v83) = v1 c
          ∧ r.2.mem ((c.tc : Thread Cert.Reference8Ideal.nD Cert.Reference8Ideal.τ).loc Cert.Reference8Ideal.main_v102) = v2 c
          ∧ r.2.mem ((c.tc : Thread Cert.Reference8Ideal.nD Cert.Reference8Ideal.τ).loc Cert.Reference8Ideal.main_v103) = v3 c
          ∧ r.2.mem ((c.tc : Thread Cert.Reference8Ideal.nD Cert.Reference8Ideal.τ).loc Cert.Reference8Ideal.main_v105) = v4 c
          ∧ r.2.mem ((c.tc : Thread Cert.Reference8Ideal.nD Cert.Reference8Ideal.τ).loc Cert.Reference8Ideal.main_v42) = v5 c
          ∧ r.2.mem ((c.tc : Thread Cert.Reference8Ideal.nD Cert.Reference8Ideal.τ).loc Cert.Reference8Ideal.main_v43) = v6 c
          ∧ r.2.mem ((c.tc : Thread Cert.Reference8Ideal.nD Cert.Reference8Ideal.τ).loc Cert.Reference8Ideal.main_v106) = v7 c
          ∧ r.2.mem ((c.tc : Thread Cert.Reference8Ideal.nD Cert.Reference8Ideal.τ).loc Cert.Reference8Ideal.main_v107) = v8 c
          ∧ r.2.mem ((c.tc : Thread Cert.Reference8Ideal.nD Cert.Reference8Ideal.τ).loc Cert.Reference8Ideal.main_v61) = v9 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_v11) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  IdealRules.named_const.Statement Cert.Kernel10Ideal.κ "c1" .f32 0x3FC48605#32 (((5463681 * 8388608⁻¹)⁻¹ : ℝ) : EReal)
  ∧ IdealRules.named_const.Statement Cert.Kernel10Ideal.κ "c2" .f32 0x42C8E6D3#32 (((2672307 * 268435456⁻¹)⁻¹ : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  IdealRules.named_const.Statement Cert.Kernel11Ideal.κ "c1" .f32 0x3FC48605#32 (((5463681 * 8388608⁻¹)⁻¹ : ℝ) : EReal)
  ∧ IdealRules.named_const.Statement Cert.Kernel11Ideal.κ "c2" .f32 0x42C8E6D3#32 (((2672307 * 268435456⁻¹)⁻¹ : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v26) = v1 c
          ∧ r.2.mem ((c.tc : Thread Cert.Reference11Ideal.nD Cert.Reference11Ideal.τ).loc Cert.Reference11Ideal.main_v7) = v2 c
          ∧ r.2.mem ((c.tc : Thread Cert.Reference11Ideal.nD Cert.Reference11Ideal.τ).loc Cert.Reference11Ideal.main_v13) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  IdealRules.named_const.Statement Cert.Kernel12Ideal.κ "c1" .f32 0x3FC48605#32 (((5463681 * 8388608⁻¹)⁻¹ : ℝ) : EReal)
  ∧ IdealRules.named_const.Statement Cert.Kernel12Ideal.κ "c2" .f32 0x42C8E6D3#32 (((2672307 * 268435456⁻¹)⁻¹ : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v26) = v1 c
          ∧ r.2.mem ((c.tc : Thread Cert.Reference12Ideal.nD Cert.Reference12Ideal.τ).loc Cert.Reference12Ideal.main_v7) = v2 c
          ∧ r.2.mem ((c.tc : Thread Cert.Reference12Ideal.nD Cert.Reference12Ideal.τ).loc Cert.Reference12Ideal.main_v13) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "c1" .f32 0x3FC48605#32 (((5463681 * 8388608⁻¹)⁻¹ : ℝ) : EReal)
  ∧ IdealRules.named_const.Statement Cert.Kernel13Ideal.κ "c2" .f32 0x42C8E6D3#32 (((2672307 * 268435456⁻¹)⁻¹ : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v7) = v2 c
          ∧ r.2.mem ((c.tc : Thread Cert.Reference13Ideal.nD Cert.Reference13Ideal.τ).loc Cert.Reference13Ideal.main_v13) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "c1" .f32 0x3FC48605#32 (((5463681 * 8388608⁻¹)⁻¹ : ℝ) : EReal)
  ∧ IdealRules.named_const.Statement Cert.Kernel14Ideal.κ "c2" .f32 0x42C8E6D3#32 (((2672307 * 268435456⁻¹)⁻¹ : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v30) = v1 c
          ∧ r.2.mem ((c.tc : Thread Cert.Reference14Ideal.nD Cert.Reference14Ideal.τ).loc Cert.Reference14Ideal.main_v11) = v2 c
          ∧ r.2.mem ((c.tc : Thread Cert.Reference14Ideal.nD Cert.Reference14Ideal.τ).loc Cert.Reference14Ideal.main_v17) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite_heads : Cert.Pre_finite_heads.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_heads (hKernel7Ideal := hKernel7Ideal) (hPre_finite_heads := hPre_finite_heads)
    ∧ quiescent_Reference7Ideal (hReference7Ideal := hReference7Ideal)
    ∧ quiescent_Reference7Ideal_pre_finite_heads (hReference7Ideal := hReference7Ideal) (hPre_finite_heads := hPre_finite_heads)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_heads (hKernel7Ideal := hKernel7Ideal) (hReference7Ideal := hReference7Ideal) (hPre_finite_heads := hPre_finite_heads)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part1 {F : FTy → Type} [FloatOps F] (main_arg6 : FVec F S1x1024 .f32) (main_arg7 : FVec F S1024x5632 .f32) (main_arg8 : FVec F S2816x1024 .f32) (main_v2 : IVec S8192x1024 1) (main_v5 : IVec S8192x1024 1) (main_v8 : IVec S1x1024 1) (main_v11 : IVec S1x1024 1) (main_v14 : IVec S1x1024 1) (main_v17 : IVec S1x1024 1) : IVec S8192x1024 1 × IVec S8192x1024 1 × IVec S1x1024 1 × IVec S1x1024 1 × IVec S1x1024 1 × IVec S1x1024 1 × IVec S1x1024 1 × IVec S1024x5632 1 × IVec S2816x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1024x5632 .f32 := Host.absf main_arg7
  let main_cst_6 : FVec F S_ .f32 := constant S_ .f32 0x7F800000#32
  let main_v22 : FVec F S1024x5632 .f32 := broadcastInDim S1024x5632 ![] bcast_S_S1024x5632 main_cst_6
  let main_v23 : IVec S1024x5632 1 := cmpf .olt main_v21 main_v22
  let main_v24 : FVec F S2816x1024 .f32 := Host.absf main_arg8
  let main_cst_7 : FVec F S_ .f32 := constant S_ .f32 0x7F800000#32
  let main_v25 : FVec F S2816x1024 .f32 := broadcastInDim S2816x1024 ![] bcast_S_S2816x1024 main_cst_7
  let main_v26 : IVec S2816x1024 1 := cmpf .olt main_v24 main_v25
  (main_v2, main_v5, main_v8, main_v11, main_v14, main_v17, main_v20, main_v23, main_v26)

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1x1024 .f32) (main_arg5 : FVec F S1x1024 .f32) (main_arg6 : FVec F S1x1024 .f32) (main_arg7 : FVec F S1024x5632 .f32) (main_arg8 : FVec F S2816x1024 .f32) : IVec S8192x1024 1 × IVec S8192x1024 1 × IVec S1x1024 1 × IVec S1x1024 1 × IVec S1x1024 1 × IVec S1x1024 1 × IVec S1x1024 1 × IVec S1024x5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_v2 main_v5 main_v8 main_v11 main_v14 main_v17
-- ==== Pre_finite_heads.lean ====
abbrev S8192x1024 : Shape := ⟨2, ![8192, 1024]⟩
abbrev S8192x512 : Shape := ⟨2, ![8192, 512]⟩
abbrev S1x64 : Shape := ⟨2, ![1, 64]⟩
abbrev S1024x1024 : Shape := ⟨2, ![1024, 1024]⟩
abbrev S1x1024 : Shape := ⟨2, ![1, 1024]⟩
abbrev S_ : Shape := ⟨0, ![]⟩

class Facts : Prop where
  bcast_S_S8192x512 : S_.BroadcastsInDim S8192x512 (![] : Fin 0 → Fin S8192x512.rank)

variable [Facts]

def fn {F : FTy → Type} [FloatOps F] (main_arg0 : FVec F S8192x1024 .f32) (main_arg1 : FVec F S8192x512 .bf16) (main_arg2 : FVec F S8192x512 .f32) (main_arg3 : FVec F S8192x512 .f32) (main_arg4 : FVec F S8192x512 .f32) (main_arg5 : FVec F S1x64 .f32) (main_arg6 : FVec F S1024x1024 .f32) (main_arg7 : FVec F S1x1024 .f32) (main_arg8 : FVec F S1x1024 .f32) : IVec S8192x512 1 × IVec S8192x512 1 :=
  let main_v0 : FVec F S8192x512 .f32 := Host.absf main_arg2
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg3
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  (main_v2, main_v5)
-- ==== Kernel.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S5632x1024 : Shape := ⟨2, ![5632, 1024]⟩
abbrev S8192x5632 : Shape := ⟨2, ![8192, 5632]⟩
abbrev S8192x2816 : Shape := ⟨2, ![8192, 2816]⟩
abbrev S8x1024 : Shape := ⟨2, ![8, 1024]⟩
abbrev S8x128 : Shape := ⟨2, ![8, 128]⟩
abbrev S256x1024 : Shape := ⟨2, ![256, 1024]⟩
abbrev S256x5632 : Shape := ⟨2, ![256, 5632]⟩
abbrev S256x2816 : Shape := ⟨2, ![256, 2816]⟩
abbrev S2 : Shape := ⟨1, ![2]⟩
abbrev S1 : Shape := ⟨1, ![1]⟩
abbrev S256 : Shape := ⟨1, ![256]⟩
abbrev S256x1 : Shape := ⟨2, ![256, 1]⟩
abbrev S1x256x1024 : Shape := ⟨3, ![1, 256, 1024]⟩
abbrev S1x1x1 : Shape := ⟨3, ![1, 1, 1]⟩
abbrev S1024 : Shape := ⟨1, ![1024]⟩

abbrev nBuf : Space → Nat
  | .hbm => 23
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x5632, .f32⟩
  | .hbm, ⟨8, _⟩ => ⟨S2816x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S5632x1024, .f32⟩
  | .hbm, ⟨14, _⟩ => ⟨S5632x1024, .bf16⟩
  | .hbm, ⟨15, _⟩ => ⟨S2816x1024, .bf16⟩
  | .hbm, ⟨16, _⟩ => ⟨S8192x1024, .f32⟩
  | .hbm, ⟨17, _⟩ => ⟨S8192x1024, .bf16⟩
  | .hbm, ⟨18, _⟩ => ⟨S8192x5632, .bf16⟩
  | .hbm, ⟨19, _⟩ => ⟨S8192x2816, .bf16⟩
  | .hbm, ⟨20, _⟩ => ⟨S8192x1024, .bf16⟩
  | .hbm, ⟨21, _⟩ => ⟨S8x1024, .f32⟩
  | .hbm, ⟨22, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x5632, .bf16⟩
  | .local _ .vmem, ⟨13, _⟩ => ⟨S256x5632, .bf16⟩
  | .local _ .vmem, ⟨14, _⟩ => ⟨S256x2816, .bf16⟩
  | .local _ .vmem, ⟨15, _⟩ => ⟨S256x2816, .bf16⟩
  | .local _ .vmem, ⟨16, _⟩ => ⟨S256x1024, .bf16⟩
  | .local _ .vmem, ⟨17, _⟩ => ⟨S256x1024, .bf16⟩
  | .local _ .vmem, ⟨18, _⟩ => ⟨S8x1024, .f32⟩
  | .local _ .vmem, ⟨19, _⟩ => ⟨S8x128, .f32⟩
  | .local _ .vmem, ⟨20, _⟩ => ⟨S5632x1024, .bf16⟩
  | .local _ .vmem, ⟨21, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_v6_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩
abbrev S5x1024 : Shape := ⟨2, ![5, 1024]⟩
abbrev S8x1024 : Shape := ⟨2, ![8, 1024]⟩
abbrev S8x128 : Shape := ⟨2, ![8, 128]⟩

abbrev nBuf : Space → Nat
  | .hbm => 163
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1024x5632, .f32⟩
  | 8 => ⟨S2816x1024, .f32⟩
  | 9 => ⟨S_, .f32⟩
  | 10 => ⟨S1x1024, .f32⟩
  | 11 => ⟨S1x1024, .f32⟩
  | 12 => ⟨S1x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x5632, .f32⟩
  | 35 => ⟨S8192x2816, .f32⟩
  | 36 => ⟨S8192x2816, .f32⟩
  | 37 => ⟨S8192x2816, .f32⟩
  | 38 => ⟨S8192x2816, .f32⟩
  | 39 => ⟨S_, .f32⟩
  | 40 => ⟨S8192x2816, .f32⟩
  | 41 => ⟨S8192x2816, .f32⟩
  | 42 => ⟨S_, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S8192x2816, .f32⟩
  | 49 => ⟨S8192x2816, .f32⟩
  | 50 => ⟨S8192x2816, .f32⟩
  | 51 => ⟨S8192x1024, .f32⟩
  | 52 => ⟨S1x1024, .f32⟩
  | 53 => ⟨S8192x1024, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S8192x1024, .f32⟩
  | 77 => ⟨S8192x1024, .f32⟩
  | 78 => ⟨S_, .f32⟩
  | 79 => ⟨S8192, .f32⟩
  | 80 => ⟨S_, .f32⟩
  | 81 => ⟨S8192, .f32⟩
  | 82 => ⟨S8192, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S8192, .f32⟩
  | 91 => ⟨S_, .f32⟩
  | 92 => ⟨S8192, .f32⟩
  | 93 => ⟨S8192, .f32⟩
  | 94 => ⟨S8192x1024, .f32⟩
  | 95 => ⟨S8192x1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S8192x1024, .f32⟩
  | 102 => ⟨S8192x1024, .f32⟩
  | 103 => ⟨S_, .f32⟩
  | 104 => ⟨S8192, .f32⟩
  | 105 => ⟨S8192x1, .f32⟩
  | 106 => ⟨S8192x1024, .f32⟩
  | 107 => ⟨S8192x1024, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x2816, .f32⟩
  | 120 => ⟨S8192x2816, .f32⟩
  | 121 => ⟨S8192x2816, .f32⟩
  | 122 => ⟨S8192x2816, .f32⟩
  | 123 => ⟨S8192x2816, .f32⟩
  | 124 => ⟨S8192x2816, .f32⟩
  | 125 => ⟨S8192x2816, .f32⟩
  | 126 => ⟨S8192x5632, .f32⟩
  | 127 => ⟨S8192x1024, .f32⟩
  | _ => ⟨S8192x1024, .f32⟩

abbrev hbmTy0_1 (i : Nat) : BufTy := match i % 128 with
  | 0 => ⟨S_, .f32⟩
  | 1 => ⟨S1024, .f32⟩
  | 2 => ⟨S1x1024, .f32⟩
  | 3 => ⟨S8192x1024, .f32⟩
  | 4 => ⟨S_, .f32⟩
  | 5 => ⟨S1024, .f32⟩
  | 6 => ⟨S1x1024, .f32⟩
  | 7 => ⟨S8192x1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S8192x1024, .f32⟩
  | 14 => ⟨S8192x1024, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S_, .f32⟩
  | 27 => ⟨S5x1024, .f32⟩
  | 28 => ⟨S8x1024, .f32⟩
  | 29 => ⟨S8192x1024, .f32⟩
  | 30 => ⟨S8192x1024, .bf16⟩
  | 31 => ⟨S8192x5632, .bf16⟩
  | 32 => ⟨S8192x2816, .bf16⟩
  | 33 => ⟨S8192x1024, .bf16⟩
  | 34 => ⟨S8x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v23_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v23_1 : Ref sig .tc := ⟨.hbm, 48, rfl⟩
abbrev main_v23_0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_4 : Ref sig .tc := ⟨.hbm, 54, rfl⟩
abbrev main_v28 : Ref sig .tc := ⟨.hbm, 55, rfl⟩
abbrev main_v29 : Ref sig .tc := ⟨.hbm, 56, rfl⟩
abbrev main_cst_5 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_cst_10 : Ref sig .tc := ⟨.hbm, 80, rfl⟩
abbrev main_v48 : Ref sig .tc := ⟨.hbm, 81, rfl⟩
abbrev main_v49 : Ref sig .tc := ⟨.hbm, 82, rfl⟩
abbrev main_cst_11 : Ref sig .tc := ⟨.hbm, 83, rfl⟩
abbrev main_v50 : Ref sig .tc := ⟨.hbm, 84, rfl⟩
abbrev main_cst_12 : Ref sig .tc := ⟨.hbm, 85, rfl⟩
abbrev main_v51 : Ref sig .tc := ⟨.hbm, 86, rfl⟩
abbrev main_cst_13 : Ref sig .tc := ⟨.hbm, 87, rfl⟩
abbrev main_cst_14 : Ref sig .tc := ⟨.hbm, 88, rfl⟩
abbrev main_v52 : Ref sig .tc := ⟨.hbm, 89, rfl⟩
abbrev main_v53 : Ref sig .tc := ⟨.hbm, 90, rfl⟩
abbrev main_cst_15 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_16 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_17 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_18 : Ref sig .tc := ⟨.hbm, 109, rfl⟩
abbrev main_v69 : Ref sig .tc := ⟨.hbm, 110, rfl⟩
abbrev main_v70 : Ref sig .tc := ⟨.hbm, 111, rfl⟩
abbrev main_cst_19 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_20 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_21 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_22 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_23 : Ref sig .tc := ⟨.hbm, 144, rfl⟩
abbrev main_v96 : Ref sig .tc := ⟨.hbm, 145, rfl⟩
abbrev main_v97 : Ref sig .tc := ⟨.hbm, 146, rfl⟩
abbrev main_cst_24 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_cst_25 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S5632x1024 : Shape := ⟨2, ![5632, 1024]⟩
abbrev S512x512 : Shape := ⟨2, ![512, 512]⟩
abbrev S512x5632 : Shape := ⟨2, ![512, 5632]⟩
abbrev S5632x512 : Shape := ⟨2, ![5632, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S5632x1024, .bf16⟩
  | .local _ .vmem, ⟨0, _⟩ => ⟨S512x512, .bf16⟩
  | .local _ .vmem, ⟨1, _⟩ => ⟨S512x512, .bf16⟩
  | .local _ .vmem, ⟨2, _⟩ => ⟨S512x5632, .bf16⟩
  | .local _ .vmem, ⟨3, _⟩ => ⟨S512x5632, .bf16⟩
  | .local _ .vmem, ⟨4, _⟩ => ⟨S5632x512, .bf16⟩
  | .local _ .vmem, ⟨5, _⟩ => ⟨S5632x512, .bf16⟩
  | .local _ .vmem, ⟨6, _⟩ => ⟨S512x5632, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S5632x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S8192x5632 : Shape := ⟨2, ![8192, 5632]⟩
abbrev S5632x1024 : Shape := ⟨2, ![5632, 1024]⟩
abbrev S1024x5632 : Shape := ⟨2, ![1024, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S5632x1024, .f32⟩
  | .hbm, ⟨5, _⟩ => ⟨S1024x5632, .f32⟩
  | .hbm, ⟨6, _⟩ => ⟨S5632x1024, .f32⟩
  | .hbm, ⟨7, _⟩ => ⟨S5632x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference3Ideal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S8448x1024 : Shape := ⟨2, ![8448, 1024]⟩
abbrev S8448x2432 : Shape := ⟨2, ![8448, 2432]⟩
abbrev S2432x512 : Shape := ⟨2, ![2432, 512]⟩
abbrev S1408x512 : Shape := ⟨2, ![1408, 512]⟩
abbrev S1408x2432 : Shape := ⟨2, ![1408, 2432]⟩
abbrev S512x2432 : Shape := ⟨2, ![512, 2432]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x2432, .bf16⟩
  | .hbm, ⟨2, _⟩ => ⟨S2432x512, .bf16⟩
  | .local _ .vmem, ⟨0, _⟩ => ⟨S1408x512, .bf16⟩
  | .local _ .vmem, ⟨1, _⟩ => ⟨S1408x512, .bf16⟩
  | .local _ .vmem, ⟨2, _⟩ => ⟨S1408x2432, .bf16⟩
  | .local _ .vmem, ⟨3, _⟩ => ⟨S1408x2432, .bf16⟩
  | .local _ .vmem, ⟨4, _⟩ => ⟨S2432x512, .bf16⟩
  | .local _ .vmem, ⟨5, _⟩ => ⟨S512x2432, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 6], ![false, false]⟩

def k0_cond2 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2432x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8448x1024 : Shape := ⟨2, ![8448, 1024]⟩
abbrev S8448x2432 : Shape := ⟨2, ![8448, 2432]⟩
abbrev S2432x1024 : Shape := ⟨2, ![2432, 1024]⟩
abbrev S1024x2432 : Shape := ⟨2, ![1024, 2432]⟩
abbrev S512x2432 : Shape := ⟨2, ![512, 2432]⟩
abbrev S2432x512 : Shape := ⟨2, ![2432, 512]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2432, .bf16⟩
  | .hbm, ⟨2, _⟩ => ⟨S8448x1024, .f32⟩
  | .hbm, ⟨3, _⟩ => ⟨S8448x2432, .f32⟩
  | .hbm, ⟨4, _⟩ => ⟨S2432x1024, .f32⟩
  | .hbm, ⟨5, _⟩ => ⟨S1024x2432, .f32⟩
  | .hbm, ⟨6, _⟩ => ⟨S512x2432, .f32⟩
  | .hbm, ⟨7, _⟩ => ⟨S2432x512, .f32⟩
  | .hbm, ⟨8, _⟩ => ⟨S2432x512, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel6.lean ====
abbrev S8448x1024 : Shape := ⟨2, ![8448, 1024]⟩
abbrev S8448x2432 : Shape := ⟨2, ![8448, 2432]⟩
abbrev S2432x512 : Shape := ⟨2, ![2432, 512]⟩
abbrev S1408x512 : Shape := ⟨2, ![1408, 512]⟩
abbrev S1408x2432 : Shape := ⟨2, ![1408, 2432]⟩
abbrev S512x2432 : Shape := ⟨2, ![512, 2432]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x2432, .bf16⟩
  | .hbm, ⟨2, _⟩ => ⟨S2432x512, .bf16⟩
  | .local _ .vmem, ⟨0, _⟩ => ⟨S1408x512, .bf16⟩
  | .local _ .vmem, ⟨1, _⟩ => ⟨S1408x512, .bf16⟩
  | .local _ .vmem, ⟨2, _⟩ => ⟨S1408x2432, .bf16⟩
  | .local _ .vmem, ⟨3, _⟩ => ⟨S1408x2432, .bf16⟩
  | .local _ .vmem, ⟨4, _⟩ => ⟨S2432x512, .bf16⟩
  | .local _ .vmem, ⟨5, _⟩ => ⟨S512x2432, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 6], ![false, false]⟩

def k0_cond2 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2432x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S8448x1024 : Shape := ⟨2, ![8448, 1024]⟩
abbrev S8448x2432 : Shape := ⟨2, ![8448, 2432]⟩
abbrev S2432x1024 : Shape := ⟨2, ![2432, 1024]⟩
abbrev S1024x2432 : Shape := ⟨2, ![1024, 2432]⟩
abbrev S512x2432 : Shape := ⟨2, ![512, 2432]⟩
abbrev S2432x512 : Shape := ⟨2, ![2432, 512]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2432, .bf16⟩
  | .hbm, ⟨2, _⟩ => ⟨S8448x1024, .f32⟩
  | .hbm, ⟨3, _⟩ => ⟨S8448x2432, .f32⟩
  | .hbm, ⟨4, _⟩ => ⟨S2432x1024, .f32⟩
  | .hbm, ⟨5, _⟩ => ⟨S1024x2432, .f32⟩
  | .hbm, ⟨6, _⟩ => ⟨S512x2432, .f32⟩
  | .hbm, ⟨7, _⟩ => ⟨S2432x512, .f32⟩
  | .hbm, ⟨8, _⟩ => ⟨S2432x512, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel7.lean ====
abbrev S8192x1024 : Shape := ⟨2, ![8192, 1024]⟩
abbrev S8192x512 : Shape := ⟨2, ![8192, 512]⟩
abbrev S1x64 : Shape := ⟨2, ![1, 64]⟩
abbrev S1024x1024 : Shape := ⟨2, ![1024, 1024]⟩
abbrev S1x1024 : Shape := ⟨2, ![1, 1024]⟩
abbrev S1x1x1x64 : Shape := ⟨4, ![1, 1, 1, 64]⟩
abbrev S1x1x8x64 : Shape := ⟨4, ![1, 1, 8, 64]⟩
abbrev S1x512 : Shape := ⟨2, ![1, 512]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 31
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x64, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1x1x1x64, .f32⟩
  | .hbm, ⟨10, _⟩ => ⟨S1x1x8x64, .f32⟩
  | .hbm, ⟨11, _⟩ => ⟨S1x512, .f32⟩
  | .hbm, ⟨12, _⟩ => ⟨S8x8, .i32⟩
  | .hbm, ⟨13, _⟩ => ⟨S8x8, .i32⟩
  | .hbm, ⟨14, _⟩ => ⟨S_, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S8x8, .f32⟩
  | .hbm, ⟨19, _⟩ => ⟨S_, .f32⟩
  | .hbm, ⟨20, _⟩ => ⟨S64x64, .f32⟩
  | .hbm, ⟨21, _⟩ => ⟨S8x1x8x1, .f32⟩
  | .hbm, ⟨22, _⟩ => ⟨S1x64x1x64, .f32⟩
  | .hbm, ⟨23, _⟩ => ⟨S8x64x8x64, .f32⟩
  | .hbm, ⟨24, _⟩ => ⟨S8x64x8x64, .f32⟩
  | .hbm, ⟨25, _⟩ => ⟨S8x64x8x64, .f32⟩
  | .hbm, ⟨26, _⟩ => ⟨S512x512, .f32⟩
  | .hbm, ⟨27, _⟩ => ⟨S512x512, .bf16⟩
  | .hbm, ⟨28, _⟩ => ⟨S1024x1024, .bf16⟩
  | .hbm, ⟨29, _⟩ => ⟨S8192x1024, .f32⟩
  | .hbm, ⟨30, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S512x512, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference7Ideal.lean ====
abbrev S8192x1024 : Shape := ⟨2, ![8192, 1024]⟩
abbrev S8192x512 : Shape := ⟨2, ![8192, 512]⟩
abbrev S1x64 : Shape := ⟨2, ![1, 64]⟩
abbrev S1024x1024 : Shape := ⟨2, ![1024, 1024]⟩
abbrev S1x1024 : Shape := ⟨2, ![1, 1024]⟩
abbrev S65536x64 : Shape := ⟨2, ![65536, 64]⟩
abbrev S_ : Shape := ⟨0, ![]⟩
abbrev S65536 : Shape := ⟨1, ![65536]⟩
abbrev S65536x1 : Shape := ⟨2, ![65536, 1]⟩
abbrev S8192 : Shape := ⟨1, ![8192]⟩
abbrev S8192x1 : Shape := ⟨2, ![8192, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S1x64, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S8192x512, .f32⟩
  | .hbm, ⟨10, _⟩ => ⟨S65536x64, .f32⟩
  | .hbm, ⟨11, _⟩ => ⟨S65536x64, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S65536x1, .f32⟩
  | .hbm, ⟨22, _⟩ => ⟨S65536x64, .f32⟩
  | .hbm, ⟨23, _⟩ => ⟨S65536x64, .f32⟩
  | .hbm, ⟨24, _⟩ => ⟨S65536x64, .f32⟩
  | .hbm, ⟨25, _⟩ => ⟨S65536x64, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]
-- ==== Kernel8.lean ====
abbrev S8192x1024 : Shape := ⟨2, ![8192, 1024]⟩
abbrev S256x1024 : Shape := ⟨2, ![256, 1024]⟩
abbrev S1x1024 : Shape := ⟨2, ![1, 1024]⟩
abbrev S1024x2336 : Shape := ⟨2, ![1024, 2336]⟩
abbrev S16x256 : Shape := ⟨2, ![16, 256]⟩
abbrev S1x256 : Shape := ⟨2, ![1, 256]⟩
abbrev S8192x64 : Shape := ⟨2, ![8192, 64]⟩
abbrev S_ : Shape := ⟨0, ![]⟩
abbrev S2336x1024 : Shape := ⟨2, ![2336, 1024]⟩
abbrev S2432x1024 : Shape := ⟨2, ![2432, 1024]⟩
abbrev S128x512 : Shape := ⟨2, ![128, 512]⟩
abbrev S1 : Shape := ⟨1, ![1]⟩
abbrev S2 : Shape := ⟨1, ![2]⟩
abbrev S1x512 : Shape := ⟨2, ![1, 512]⟩
abbrev S64 : Shape := ⟨1, ![64]⟩
abbrev S1x64 : Shape := ⟨2, ![1, 64]⟩
abbrev S256x128 : Shape := ⟨2, ![256, 128]⟩
abbrev S8192x128 : Shape := ⟨2, ![8192, 128]⟩
abbrev S8448x128 : Shape := ⟨2, ![8448, 128]⟩
abbrev S8448x1024 : Shape := ⟨2, ![8448, 1024]⟩
abbrev S8448x512 : Shape := ⟨2, ![8448, 512]⟩
abbrev S8448x256 : Shape := ⟨2, ![8448, 256]⟩
abbrev S8192x512 : Shape := ⟨2, ![8192, 512]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S256x2432 : Shape := ⟨2, ![256, 2432]⟩

abbrev nBuf : Space → Nat
  | .hbm => 104
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S256x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x2336, .f32⟩
  | .hbm, ⟨8, _⟩ => ⟨S16x256, .f32⟩
  | .hbm, ⟨9, _⟩ => ⟨S1x256, .f32⟩
  | .hbm, ⟨10, _⟩ => ⟨S16x256, .f32⟩
  | .hbm, ⟨11, _⟩ => ⟨S1x256, .f32⟩
  | .hbm, ⟨12, _⟩ => ⟨S8192x64, .f32⟩
  | .hbm, ⟨13, _⟩ => ⟨S8192x64, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S2336x1024, .f32⟩
  | .hbm, ⟨23, _⟩ => ⟨S2336x1024, .bf16⟩
  | .hbm, ⟨24, _⟩ => ⟨S_, .i32⟩
  | .hbm, ⟨25, _⟩ => ⟨S_, .bf16⟩
  | .hbm, ⟨26, _⟩ => ⟨S2432x1024, .bf16⟩
  | .hbm, ⟨27, _⟩ => ⟨S_, .f32⟩
  | .hbm, ⟨28, _⟩ => ⟨S128x512, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S128x512, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S128x512, .f32⟩
  | .hbm, ⟨41, _⟩ => ⟨S128x512, .bf16⟩
  | .hbm, ⟨42, _⟩ => ⟨S1x512, .f32⟩
  | .hbm, ⟨43, _⟩ => ⟨S64, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S_, .i32⟩
  | .hbm, ⟨53, _⟩ => ⟨S64, .i32⟩
  | .hbm, ⟨54, _⟩ => ⟨S64, .i1⟩
  | .hbm, ⟨55, _⟩ => ⟨S_, .i32⟩
  | .hbm, ⟨56, _⟩ => ⟨S64, .i32⟩
  | .hbm, ⟨57, _⟩ => ⟨S64, .i1⟩
  | .hbm, ⟨58, _⟩ => ⟨S_, .i32⟩
  | .hbm, ⟨59, _⟩ => ⟨S_, .i1⟩
  | .hbm, ⟨60, _⟩ => ⟨S64, .i1⟩
  | .hbm, ⟨61, _⟩ => ⟨S64, .i1⟩
  | .hbm, ⟨62, _⟩ => ⟨S64, .i1⟩
  | .hbm, ⟨63, _⟩ => ⟨S64, .i32⟩
  | .hbm, ⟨64, _⟩ => ⟨S64, .i32⟩
  | .hbm, ⟨65, _⟩ => ⟨S64, .i32⟩
  | .hbm, ⟨66, _⟩ => ⟨S_, .i32⟩
  | .hbm, ⟨67, _⟩ => ⟨S64, .i32⟩
  | .hbm, ⟨68, _⟩ => ⟨S64, .i1⟩
  | .hbm, ⟨69, _⟩ => ⟨S1x64, .i1⟩
  | .hbm, ⟨70, _⟩ => ⟨S8192x64, .f32⟩
  | .hbm, ⟨71, _⟩ => ⟨S_, .f32⟩
  | .hbm, ⟨72, _⟩ => ⟨S_, .f32⟩
  | .hbm, ⟨73, _⟩ => ⟨S8192x64, .i1⟩
  | .hbm, ⟨74, _⟩ => ⟨S8192x64, .f32⟩
  | .hbm, ⟨75, _⟩ => ⟨S8192x64, .f32⟩
  | .hbm, ⟨76, _⟩ => ⟨S1x64, .i1⟩
  | .hbm, ⟨77, _⟩ => ⟨S_, .f32⟩
  | .hbm, ⟨78, _⟩ => ⟨S_, .f32⟩
  | .hbm, ⟨79, _⟩ => ⟨S8192x64, .i1⟩
  | .hbm, ⟨80, _⟩ => ⟨S8192x64, .f32⟩
  | .hbm, ⟨81, _⟩ => ⟨S8192x64, .f32⟩
  | .hbm, ⟨82, _⟩ => ⟨S_, .f32⟩
  | .hbm, ⟨83, _⟩ => ⟨S256x128, .f32⟩
  | .hbm, ⟨84, _⟩ => ⟨S8192x128, .f32⟩
  | .hbm, ⟨85, _⟩ => ⟨S8448x128, .f32⟩
  | .hbm, ⟨86, _⟩ => ⟨S_, .f32⟩
  | .hbm, ⟨87, _⟩ => ⟨S256x128, .f32⟩
  | .hbm, ⟨88, _⟩ => ⟨S8192x128, .f32⟩
  | .hbm, ⟨89, _⟩ => ⟨S8448x128, .f32⟩
  | .hbm, ⟨90, _⟩ => ⟨S_, .f32⟩
  | .hbm, ⟨91, _⟩ => ⟨S256x128, .f32⟩
  | .hbm, ⟨92, _⟩ => ⟨S8192x128, .f32⟩
  | .hbm, ⟨93, _⟩ => ⟨S8448x128, .f32⟩
  | .hbm, ⟨94, _⟩ => ⟨S8448x1024, .bf16⟩
  | .hbm, ⟨95, _⟩ => ⟨S8448x512, .bf16⟩
  | .hbm, ⟨96, _⟩ => ⟨S8448x128, .bf16⟩
  | .hbm, ⟨97, _⟩ => ⟨S8448x128, .bf16⟩
  | .hbm, ⟨98, _⟩ => ⟨S8448x256, .f32⟩
  | .hbm, ⟨99, _⟩ => ⟨S8448x256, .f32⟩
  | .hbm, ⟨100, _⟩ => ⟨S8448x512, .f32⟩
  | .hbm, ⟨101, _⟩ => ⟨S8192x512, .f32⟩
  | .hbm, ⟨102, _⟩ => ⟨S8448x128, .bf16⟩
  | .hbm, ⟨103, _⟩ => ⟨S8448x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S2432x1024, .bf16⟩
  | .local _ .vmem, ⟨8, _⟩ => ⟨S128x512, .bf16⟩
  | .local _ .vmem, ⟨9, _⟩ => ⟨S1x512, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x1024, .bf16⟩
  | .local _ .vmem, ⟨17, _⟩ => ⟨S256x1024, .bf16⟩
  | .local _ .vmem, ⟨18, _⟩ => ⟨S256x512, .bf16⟩
  | .local _ .vmem, ⟨19, _⟩ => ⟨S256x512, .bf16⟩
  | .local _ .vmem, ⟨20, _⟩ => ⟨S256x128, .bf16⟩
  | .local _ .vmem, ⟨21, _⟩ => ⟨S256x128, .bf16⟩
  | .local _ .vmem, ⟨22, _⟩ => ⟨S256x128, .bf16⟩
  | .local _ .vmem, ⟨23, _⟩ => ⟨S256x128, .bf16⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x128, .bf16⟩
  | .local _ .vmem, ⟨33, _⟩ => ⟨S256x128, .bf16⟩
  | .local _ .vmem, ⟨34, _⟩ => ⟨S256x512, .f32⟩
  | .local _ .vmem, ⟨35, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_call0_v0 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_c_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_c_5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_6 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v21 : Ref sig .tc := ⟨.hbm, 65, rfl⟩
abbrev main_c_7 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst_8 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v26 : Ref sig .tc := ⟨.hbm, 75, rfl⟩
abbrev main_v27 : Ref sig .tc := ⟨.hbm, 76, rfl⟩
abbrev main_cst_9 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v28 : Ref sig .tc := ⟨.hbm, 81, rfl⟩
abbrev main_cst_10 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_cst_11 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_cst_12 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38_0 : Ref sig .tc := ⟨.hbm, 94, rfl⟩
abbrev main_v38_1 : Ref sig .tc := ⟨.hbm, 95, rfl⟩
abbrev main_v38_2 : Ref sig .tc := ⟨.hbm, 96, rfl⟩
abbrev main_v38_3 : Ref sig .tc := ⟨.hbm, 97, rfl⟩
abbrev main_v38_4 : Ref sig .tc := ⟨.hbm, 98, rfl⟩
abbrev main_v38_5 : Ref sig .tc := ⟨.hbm, 99, rfl⟩
abbrev main_v38_6 : Ref sig .tc := ⟨.hbm, 100, rfl⟩
abbrev main_v38_7 : Ref sig .tc := ⟨.hbm, 101, rfl⟩
abbrev main_v38_8 : Ref sig .tc := ⟨.hbm, 102, rfl⟩
abbrev main_v38_9 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_13 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_14 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_15 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_16 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_17 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_18 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_19 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_20 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_21 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2432x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference8Ideal.lean ====
abbrev S8192x1024 : Shape := ⟨2, ![8192, 1024]⟩
abbrev S256x1024 : Shape := ⟨2, ![256, 1024]⟩
abbrev S1x1024 : Shape := ⟨2, ![1, 1024]⟩
abbrev S1024x2336 : Shape := ⟨2, ![1024, 2336]⟩
abbrev S16x256 : Shape := ⟨2, ![16, 256]⟩
abbrev S1x256 : Shape := ⟨2, ![1, 256]⟩
abbrev S8192x64 : Shape := ⟨2, ![8192, 64]⟩
abbrev S_ : Shape := ⟨0, ![]⟩
abbrev S256 : Shape := ⟨1, ![256]⟩
abbrev S256x1 : Shape := ⟨2, ![256, 1]⟩
abbrev S8192 : Shape := ⟨1, ![8192]⟩
abbrev S8192x1 : Shape := ⟨2, ![8192, 1]⟩
abbrev S8448x1024 : Shape := ⟨2, ![8448, 1024]⟩
abbrev S8448x2336 : Shape := ⟨2, ![8448, 2336]⟩
abbrev S8448x512 : Shape := ⟨2, ![8448, 512]⟩
abbrev S8448x128 : Shape := ⟨2, ![8448, 128]⟩
abbrev S8448x256 : Shape := ⟨2, ![8448, 256]⟩
abbrev S8448x16 : Shape := ⟨2, ![8448, 16]⟩
abbrev S8448x32 : Shape := ⟨2, ![8448, 32]⟩
abbrev S256x512 : Shape := ⟨2, ![256, 512]⟩
abbrev S8192x512 : Shape := ⟨2, ![8192, 512]⟩
abbrev S8192x8x64 : Shape := ⟨3, ![8192, 8, 64]⟩
abbrev S8192x8x2x2x16 : Shape := ⟨5, ![8192, 8, 2, 2, 16]⟩
abbrev S8192x8x2x1x16 : Shape := ⟨5, ![8192, 8, 2, 1, 16]⟩
abbrev S8192x1x64 : Shape := ⟨3, ![8192, 1, 64]⟩
abbrev S256x128 : Shape := ⟨2, ![256, 128]⟩
abbrev S8192x128 : Shape := ⟨2, ![8192, 128]⟩
abbrev S8192x2x64 : Shape := ⟨3, ![8192, 2, 64]⟩
abbrev S8192x2x2x2x16 : Shape := ⟨5, ![8192, 2, 2, 2, 16]⟩
abbrev S8192x2x2x1x16 : Shape := ⟨5, ![8192, 2, 2, 1, 16]⟩

abbrev nBuf : Space → Nat
  | .hbm => 166
  | .vmem => 0
  | .smem => 0
  | _ => 0

abbrev hbmTy0_0 (i : Nat) : BufTy := match i % 128 with
  | 0 => ⟨S8192x1024, .f32⟩
  | 1 => ⟨S256x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1024x2336, .f32⟩
  | 8 => ⟨S16x256, .f32⟩
  | 9 => ⟨S1x256, .f32⟩
  | 10 => ⟨S16x256, .f32⟩
  | 11 => ⟨S1x256, .f32⟩
  | 12 => ⟨S8192x64, .f32⟩
  | 13 => ⟨S8192x64, .f32⟩
  | 14 => ⟨S256x1024, .f32⟩
  | 15 => ⟨S_, .f32⟩
  | 16 => ⟨S256, .f32⟩
  | 17 => ⟨S256x1, .f32⟩
  | 18 => ⟨S_, .f32⟩
  | 19 => ⟨S256x1, .f32⟩
  | 20 => ⟨S256x1, .f32⟩
  | 21 => ⟨S_, .f32⟩
  | 22 => ⟨S256x1, .f32⟩
  | 23 => ⟨S256x1, .f32⟩
  | 24 => ⟨S256x1, .f32⟩
  | 25 => ⟨S256x1024, .f32⟩
  | 26 => ⟨S256x1024, .f32⟩
  | 27 => ⟨S256x1024, .f32⟩
  | 28 => ⟨S256x1024, .f32⟩
  | 29 => ⟨S_, .f32⟩
  | 30 => ⟨S1x1024, .f32⟩
  | 31 => ⟨S1x1024, .f32⟩
  | 32 => ⟨S256x1024, .f32⟩
  | 33 => ⟨S256x1024, .f32⟩
  | 34 => ⟨S256x1024, .f32⟩
  | 35 => ⟨S256x1024, .f32⟩
  | 36 => ⟨S8192x1024, .f32⟩
  | 37 => ⟨S_, .f32⟩
  | 38 => ⟨S8192, .f32⟩
  | 39 => ⟨S8192x1, .f32⟩
  | 40 => ⟨S_, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x1, .f32⟩
  | 47 => ⟨S8192x1024, .f32⟩
  | 48 => ⟨S8192x1024, .f32⟩
  | 49 => ⟨S8192x1024, .f32⟩
  | 50 => ⟨S8192x1024, .f32⟩
  | 51 => ⟨S_, .f32⟩
  | 52 => ⟨S1x1024, .f32⟩
  | 53 => ⟨S1x1024, .f32⟩
  | 54 => ⟨S8192x1024, .f32⟩
  | 55 => ⟨S8192x1024, .f32⟩
  | 56 => ⟨S8192x1024, .f32⟩
  | 57 => ⟨S8192x1024, .f32⟩
  | 58 => ⟨S8448x1024, .f32⟩
  | 59 => ⟨S8448x2336, .f32⟩
  | 60 => ⟨S8448x512, .f32⟩
  | 61 => ⟨S8448x128, .f32⟩
  | 62 => ⟨S8448x128, .f32⟩
  | 63 => ⟨S8448x256, .f32⟩
  | 64 => ⟨S8448x256, .f32⟩
  | 65 => ⟨S8448x512, .f32⟩
  | 66 => ⟨S8448x512, .f32⟩
  | 67 => ⟨S8448x16, .f32⟩
  | 68 => ⟨S8448x16, .f32⟩
  | 69 => ⟨S8448x32, .f32⟩
  | 70 => ⟨S_, .i32⟩
  | 71 => ⟨S_, .f32⟩
  | 72 => ⟨S8448x128, .f32⟩
  | 73 => ⟨S8448x256, .f32⟩
  | 74 => ⟨S8448x256, .f32⟩
  | 75 => ⟨S8448x256, .f32⟩
  | 76 => ⟨S8448x256, .f32⟩
  | 77 => ⟨S_, .f32⟩
  | 78 => ⟨S8448x256, .f32⟩
  | 79 => ⟨S8448x256, .f32⟩
  | 80 => ⟨S8448x256, .f32⟩
  | 81 => ⟨S8448x256, .f32⟩
  | 82 => ⟨S8448x256, .i1⟩
  | 83 => ⟨S8448x256, .f32⟩
  | 84 => ⟨S8448x256, .f32⟩
  | 85 => ⟨S8448x256, .f32⟩
  | 86 => ⟨S8448x256, .f32⟩
  | 87 => ⟨S8448x256, .f32⟩
  | 88 => ⟨S8448x256, .f32⟩
  | 89 => ⟨S8448x256, .f32⟩
  | 90 => ⟨S8448x256, .f32⟩
  | 91 => ⟨S8448x256, .f32⟩
  | 92 => ⟨S_, .f32⟩
  | 93 => ⟨S8448x256, .f32⟩
  | 94 => ⟨S8448x256, .f32⟩
  | 95 => ⟨S8448x256, .f32⟩
  | 96 => ⟨S8448x256, .f32⟩
  | 97 => ⟨S8448x256, .f32⟩
  | 98 => ⟨S8448x256, .f32⟩
  | 99 => ⟨S_, .f32⟩
  | 100 => ⟨S8448x256, .f32⟩
  | 101 => ⟨S8448x256, .f32⟩
  | 102 => ⟨S8448x256, .f32⟩
  | 103 => ⟨S8448x256, .f32⟩
  | 104 => ⟨S8448x256, .i1⟩
  | 105 => ⟨S8448x256, .f32⟩
  | 106 => ⟨S8448x256, .f32⟩
  | 107 => ⟨S8448x256, .f32⟩
  | 108 => ⟨S8448x256, .f32⟩
  | 109 => ⟨S8448x256, .f32⟩
  | 110 => ⟨S8448x256, .f32⟩
  | 111 => ⟨S8448x256, .f32⟩
  | 112 => ⟨S8448x256, .f32⟩
  | 113 => ⟨S8448x256, .f32⟩
  | 114 => ⟨S_, .f32⟩
  | 115 => ⟨S8448x256, .f32⟩
  | 116 => ⟨S8448x256, .f32⟩
  | 117 => ⟨S8448x512, .f32⟩
  | 118 => ⟨S8448x1024, .bf16⟩
  | 119 => ⟨S256x512, .f32⟩
  | 120 => ⟨S8192x512, .f32⟩
  | 121 => ⟨S8192x8x64, .f32⟩
  | 122 => ⟨S8192x8x2x2x16, .f32⟩
  | 123 => ⟨S8192x8x2x1x16, .f32⟩
  | 124 => ⟨S8192x8x2x1x16, .f32⟩
  | 125 => ⟨S8192x8x2x1x16, .f32⟩
  | 126 => ⟨S8192x8x2x2x16, .f32⟩
  | 127 => ⟨S8192x8x64, .f32⟩
  | _ => ⟨S8192x1024, .f32⟩

abbrev hbmTy0_1 (i : Nat) : BufTy := match i % 128 with
  | 0 => ⟨S8192x1x64, .f32⟩
  | 1 => ⟨S8192x8x64, .f32⟩
  | 2 => ⟨S8192x8x64, .f32⟩
  | 3 => ⟨S8192x1x64, .f32⟩
  | 4 => ⟨S8192x8x64, .f32⟩
  | 5 => ⟨S8192x8x64, .f32⟩
  | 6 => ⟨S8192x8x64, .f32⟩
  | 7 => ⟨S8192x512, .f32⟩
  | 8 => ⟨S8448x512, .f32⟩
  | 9 => ⟨S_, .f32⟩
  | 10 => ⟨S8448x512, .f32⟩
  | 11 => ⟨S8448x512, .f32⟩
  | 12 => ⟨S8448x512, .bf16⟩
  | 13 => ⟨S256x128, .f32⟩
  | 14 => ⟨S8192x128, .f32⟩
  | 15 => ⟨S8192x2x64, .f32⟩
  | 16 => ⟨S8192x2x2x2x16, .f32⟩
  | 17 => ⟨S8192x2x2x1x16, .f32⟩
  | 18 => ⟨S8192x2x2x1x16, .f32⟩
  | 19 => ⟨S8192x2x2x1x16, .f32⟩
  | 20 => ⟨S8192x2x2x2x16, .f32⟩
  | 21 => ⟨S8192x2x64, .f32⟩
  | 22 => ⟨S8192x1x64, .f32⟩
  | 23 => ⟨S8192x2x64, .f32⟩
  | 24 => ⟨S8192x2x64, .f32⟩
  | 25 => ⟨S8192x1x64, .f32⟩
  | 26 => ⟨S8192x2x64, .f32⟩
  | 27 => ⟨S8192x2x64, .f32⟩
  | 28 => ⟨S8192x2x64, .f32⟩
  | 29 => ⟨S8192x128, .f32⟩
  | 30 => ⟨S8448x128, .f32⟩
  | 31 => ⟨S8448x128, .bf16⟩
  | 32 => ⟨S8448x128, .bf16⟩
  | 33 => ⟨S_, .f32⟩
  | 34 => ⟨S8448x256, .f32⟩
  | 35 => ⟨S8448x256, .f32⟩
  | 36 => ⟨S8192x512, .f32⟩
  | 37 => ⟨S8448x128, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_v0 : Ref sig .tc := ⟨.hbm, 76, rfl⟩
abbrev main_call1_call0_cst : Ref sig .tc := ⟨.hbm, 77, rfl⟩
abbrev main_call1_call0_v0 : Ref sig .tc := ⟨.hbm, 78, rfl⟩
abbrev main_call1_call0_v1 : Ref sig .tc := ⟨.hbm, 79, rfl⟩
abbrev main_call1_call0_v2 : Ref sig .tc := ⟨.hbm, 80, rfl⟩
abbrev main_call1_call0_v3 : Ref sig .tc := ⟨.hbm, 81, rfl⟩
abbrev main_call1_call0_v4 : Ref sig .tc := ⟨.hbm, 82, rfl⟩
abbrev main_call1_call0_v5 : Ref sig .tc := ⟨.hbm, 83, rfl⟩
abbrev main_call1_call0_v6 : Ref sig .tc := ⟨.hbm, 84, rfl⟩
abbrev main_call1_call0_v7 : Ref sig .tc := ⟨.hbm, 85, rfl⟩
abbrev main_call1_call0_v8 : Ref sig .tc := ⟨.hbm, 86, rfl⟩
abbrev main_call1_call0_v9 : Ref sig .tc := ⟨.hbm, 87, rfl⟩
abbrev main_call1_call0_v10 : Ref sig .tc := ⟨.hbm, 88, rfl⟩
abbrev main_call1_call0_v11 : Ref sig .tc := ⟨.hbm, 89, rfl⟩
abbrev main_call1_v1 : Ref sig .tc := ⟨.hbm, 90, rfl⟩
abbrev main_v52 : Ref sig .tc := ⟨.hbm, 91, rfl⟩
abbrev main_cst_7 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_call2_v0 : Ref sig .tc := ⟨.hbm, 98, rfl⟩
abbrev main_call2_call0_cst : Ref sig .tc := ⟨.hbm, 99, rfl⟩
abbrev main_call2_call0_v0 : Ref sig .tc := ⟨.hbm, 100, rfl⟩
abbrev main_call2_call0_v1 : Ref sig .tc := ⟨.hbm, 101, rfl⟩
abbrev main_call2_call0_v2 : Ref sig .tc := ⟨.hbm, 102, rfl⟩
abbrev main_call2_call0_v3 : Ref sig .tc := ⟨.hbm, 103, rfl⟩
abbrev main_call2_call0_v4 : Ref sig .tc := ⟨.hbm, 104, rfl⟩
abbrev main_call2_call0_v5 : Ref sig .tc := ⟨.hbm, 105, rfl⟩
abbrev main_call2_call0_v6 : Ref sig .tc := ⟨.hbm, 106, rfl⟩
abbrev main_call2_call0_v7 : Ref sig .tc := ⟨.hbm, 107, rfl⟩
abbrev main_call2_call0_v8 : Ref sig .tc := ⟨.hbm, 108, rfl⟩
abbrev main_call2_call0_v9 : Ref sig .tc := ⟨.hbm, 109, rfl⟩
abbrev main_call2_call0_v10 : Ref sig .tc := ⟨.hbm, 110, rfl⟩
abbrev main_call2_call0_v11 : Ref sig .tc := ⟨.hbm, 111, rfl⟩
abbrev main_call2_v1 : Ref sig .tc := ⟨.hbm, 112, rfl⟩
abbrev main_v58 : Ref sig .tc := ⟨.hbm, 113, rfl⟩
abbrev main_cst_8 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_9 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_cst_10 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩

abbrev nD : Nat := 1
abbrev τ : Topo := Topo.v7x

variable {F : FTy → Type} [FloatOps F]
-- ==== Kernel9.lean ====
abbrev S8x1024 : Shape := ⟨2, ![8, 1024]⟩
abbrev S1x1024 : Shape := ⟨2, ![1, 1024]⟩
abbrev S1024x768 : Shape := ⟨2, ![1024, 768]⟩
abbrev S8x768 : Shape := ⟨2, ![8, 768]⟩
abbrev S1x768 : Shape := ⟨2, ![1, 768]⟩
abbrev S_ : Shape := ⟨0, ![]⟩
abbrev S7x768 : Shape := ⟨2, ![7, 768]⟩
abbrev S16x768 : Shape := ⟨2, ![16, 768]⟩
abbrev S1x1024x768 : Shape := ⟨3, ![1, 1024, 768]⟩
abbrev S16x1024 : Shape := ⟨2, ![16, 1024]⟩

abbrev nBuf : Space → Nat
  | .hbm => 10
  | .vmem => 6
  | .smem => 0
  | _ => 0

abbrev bufTy : (tb : Table) → Fin (tcTables nBuf tb) → BufTy
  | .hbm, ⟨0, _⟩ => ⟨S8x1024, .f32⟩
  | .hbm, ⟨1, _⟩ => ⟨S1x1024, .f32⟩
  | .hbm, ⟨2, _⟩ => ⟨S1024x768, .f32⟩
  | .hbm, ⟨3, _⟩ => ⟨S8x768, .f32⟩
  | .hbm, ⟨4, _⟩ => ⟨S1x768, .f32⟩
  | .hbm, ⟨5, _⟩ => ⟨S_, .f32⟩
  | .hbm, ⟨6, _⟩ => ⟨S7x768, .f32⟩
  | .hbm, ⟨7, _⟩ => ⟨S16x768, .f32⟩
  | .hbm, ⟨8, _⟩ => ⟨S1x1024x768, .f32⟩
  | .hbm, ⟨9, _⟩ => ⟨S8x1024, .f32⟩
  | .local _ .vmem, ⟨0, _⟩ => ⟨S8x1024, .f32⟩
  | .local _ .vmem, ⟨1, _⟩ => ⟨S1x1024, .f32⟩
  | .local _ .vmem, ⟨2, _⟩ => ⟨S1024x768, .f32⟩
  | .local _ .vmem, ⟨3, _⟩ => ⟨S16x768, .f32⟩
  | .local _ .vmem, ⟨4, _⟩ => ⟨S1x1024x768, .f32⟩
  | .local _ .vmem, ⟨5, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S8x1024 : Shape := ⟨2, ![8, 1024]⟩
abbrev S1x1024 : Shape := ⟨2, ![1, 1024]⟩
abbrev S1024x768 : Shape := ⟨2, ![1024, 768]⟩
abbrev S8x768 : Shape := ⟨2, ![8, 768]⟩
abbrev S1x768 : Shape := ⟨2, ![1, 768]⟩
abbrev S_ : Shape := ⟨0, ![]⟩
abbrev S768x1024 : Shape := ⟨2, ![768, 1024]⟩
abbrev S1x1024x768 : Shape := ⟨3, ![1, 1024, 768]⟩

abbrev nBuf : Space → Nat
  | .hbm => 35
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024, .f32⟩
  | .hbm, ⟨2, _⟩ => ⟨S1024x768, .f32⟩
  | .hbm, ⟨3, _⟩ => ⟨S8x768, .f32⟩
  | .hbm, ⟨4, _⟩ => ⟨S1x768, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8x1024, .f32⟩
  | .hbm, ⟨15, _⟩ => ⟨S8x1024, .f32⟩
  | .hbm, ⟨16, _⟩ => ⟨S_, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S8x768, .f32⟩
  | .hbm, ⟨24, _⟩ => ⟨S1x768, .f32⟩
  | .hbm, ⟨25, _⟩ => ⟨S768x1024, .f32⟩
  | .hbm, ⟨26, _⟩ => ⟨S1024x768, .f32⟩
  | .hbm, ⟨27, _⟩ => ⟨S1x1024, .f32⟩
  | .hbm, ⟨28, _⟩ => ⟨S768x1024, .f32⟩
  | .hbm, ⟨29, _⟩ => ⟨S1024x768, .f32⟩
  | .hbm, ⟨30, _⟩ => ⟨S1024x768, .f32⟩
  | .hbm, ⟨31, _⟩ => ⟨S1x1024x768, .f32⟩
  | .hbm, ⟨32, _⟩ => ⟨S_, .i32⟩
  | .hbm, ⟨33, _⟩ => ⟨S_, .f32⟩
  | .hbm, ⟨34, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_call1_v0 : Ref sig .tc := ⟨.hbm, 14, rfl⟩
abbrev main_call1_v1 : Ref sig .tc := ⟨.hbm, 15, rfl⟩
abbrev main_call1_cst : Ref sig .tc := ⟨.hbm, 16, rfl⟩
abbrev main_call1_v2 : Ref sig .tc := ⟨.hbm, 17, rfl⟩
abbrev main_call1_v3 : Ref sig .tc := ⟨.hbm, 18, rfl⟩
abbrev main_call1_cst_0 : Ref sig .tc := ⟨.hbm, 19, rfl⟩
abbrev main_call1_v4 : Ref sig .tc := ⟨.hbm, 20, rfl⟩
abbrev main_call1_v5 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_call2_v0 : Ref sig .tc := ⟨.hbm, 33, rfl⟩
abbrev main_v11 : Ref sig .tc := ⟨.hbm, 34, rfl⟩

abbrev nD : Nat := 1
abbrev τ : Topo := Topo.v7x

variable {F : FTy → Type} [FloatOps F]
-- ==== Kernel10.lean ====
abbrev S1x1024x768 : Shape := ⟨3, ![1, 1024, 768]⟩
abbrev S1x512x768 : Shape := ⟨3, ![1, 512, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel10Ideal.lean ====
variable {F : FTy → Type} [FloatOps F] [Named F]
def κ : String → Option EReal := fun
  | "c1" => some (((5463681 * 8388608⁻¹)⁻¹ : ℝ) : EReal)
  | "c2" => some (((2672307 * 268435456⁻¹)⁻¹ : ℝ) : EReal)
  | _ => none
-- ==== Reference10Ideal.lean ====
abbrev S1x1024x768 : Shape := ⟨3, ![1, 1024, 768]⟩
abbrev S_ : Shape := ⟨0, ![]⟩
abbrev S1024x768 : Shape := ⟨2, ![1024, 768]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S_, .f32⟩
  | .hbm, ⟨5, _⟩ => ⟨S1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S_, .f32⟩
  | .hbm, ⟨11, _⟩ => ⟨S1x1024x768, .f32⟩
  | .hbm, ⟨12, _⟩ => ⟨S1x1024x768, .f32⟩
  | .hbm, ⟨13, _⟩ => ⟨S1x1024x768, .f32⟩
  | .hbm, ⟨14, _⟩ => ⟨S_, .f32⟩
  | .hbm, ⟨15, _⟩ => ⟨S1x1024x768, .f32⟩
  | .hbm, ⟨16, _⟩ => ⟨S1x1024x768, .f32⟩
  | .hbm, ⟨17, _⟩ => ⟨S1x1024x768, .f32⟩
  | .hbm, ⟨18, _⟩ => ⟨S_, .f32⟩
  | .hbm, ⟨19, _⟩ => ⟨S1x1024x768, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S_, .f32⟩
  | .hbm, ⟨26, _⟩ => ⟨S1x1024x768, .f32⟩
  | .hbm, ⟨27, _⟩ => ⟨S1x1024x768, .f32⟩
  | .hbm, ⟨28, _⟩ => ⟨S1x1024x768, .f32⟩
  | .hbm, ⟨29, _⟩ => ⟨S_, .f32⟩
  | .hbm, ⟨30, _⟩ => ⟨S1x1024x768, .f32⟩
  | .hbm, ⟨31, _⟩ => ⟨S1x1024x768, .f32⟩
  | .hbm, ⟨32, _⟩ => ⟨S1x1024x768, .f32⟩
  | .hbm, ⟨33, _⟩ => ⟨S_, .f32⟩
  | .hbm, ⟨34, _⟩ => ⟨S1x1024x768, .f32⟩
  | .hbm, ⟨35, _⟩ => ⟨S1x1024x768, .f32⟩
  | .hbm, ⟨36, _⟩ => ⟨S1x1024x768, .f32⟩
  | .hbm, ⟨37, _⟩ => ⟨S_, .f32⟩
  | .hbm, ⟨38, _⟩ => ⟨S1x1024x768, .f32⟩
  | .hbm, ⟨39, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S1x128x1024 : Shape := ⟨3, ![1, 128, 1024]⟩
abbrev S8x128x1024 : Shape := ⟨3, ![8, 128, 1024]⟩
abbrev S1x64x1024 : Shape := ⟨3, ![1, 64, 1024]⟩
abbrev S8x64x1024 : Shape := ⟨3, ![8, 64, 1024]⟩
abbrev S64x1024 : Shape := ⟨2, ![64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x128x1024, .f32⟩
  | .hbm, ⟨1, _⟩ => ⟨S8x128x1024, .bf16⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S1x64x1024, .f32⟩
  | .local _ .vmem, ⟨1, _⟩ => ⟨S1x64x1024, .f32⟩
  | .local _ .vmem, ⟨2, _⟩ => ⟨S8x64x1024, .bf16⟩
  | .local _ .vmem, ⟨3, _⟩ => ⟨S8x64x1024, .bf16⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel11Ideal.lean ====
variable {F : FTy → Type} [FloatOps F] [Named F]
def κ : String → Option EReal := fun
  | "c1" => some (((5463681 * 8388608⁻¹)⁻¹ : ℝ) : EReal)
  | "c2" => some (((2672307 * 268435456⁻¹)⁻¹ : ℝ) : EReal)
  | _ => none
-- ==== Reference11Ideal.lean ====
abbrev S1x128x1024 : Shape := ⟨3, ![1, 128, 1024]⟩
abbrev S8x128x1024 : Shape := ⟨3, ![8, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S8x128x1024, .bf16⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel12.lean ====
abbrev S1x352x1024 : Shape := ⟨3, ![1, 352, 1024]⟩
abbrev S8x352x1024 : Shape := ⟨3, ![8, 352, 1024]⟩
abbrev S1x176x1024 : Shape := ⟨3, ![1, 176, 1024]⟩
abbrev S8x176x1024 : Shape := ⟨3, ![8, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x352x1024, .f32⟩
  | .hbm, ⟨1, _⟩ => ⟨S8x352x1024, .bf16⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S1x176x1024, .f32⟩
  | .local _ .vmem, ⟨1, _⟩ => ⟨S1x176x1024, .f32⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel12Ideal.lean ====
variable {F : FTy → Type} [FloatOps F] [Named F]
def κ : String → Option EReal := fun
  | "c1" => some (((5463681 * 8388608⁻¹)⁻¹ : ℝ) : EReal)
  | "c2" => some (((2672307 * 268435456⁻¹)⁻¹ : ℝ) : EReal)
  | _ => none
-- ==== Reference12Ideal.lean ====
abbrev S1x352x1024 : Shape := ⟨3, ![1, 352, 1024]⟩
abbrev S8x352x1024 : Shape := ⟨3, ![8, 352, 1024]⟩
abbrev S_ : Shape := ⟨0, ![]⟩
abbrev S352x1024 : Shape := ⟨2, ![352, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x352x1024, .f32⟩
  | .hbm, ⟨1, _⟩ => ⟨S8x352x1024, .bf16⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1x352x1024, .f32⟩
  | .hbm, ⟨8, _⟩ => ⟨S_, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | _, _ => ⟨S1x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel13.lean ====
abbrev S1x704x1024 : Shape := ⟨3, ![1, 704, 1024]⟩
abbrev S8x704x1024 : Shape := ⟨3, ![8, 704, 1024]⟩
abbrev S1x352x1024 : Shape := ⟨3, ![1, 352, 1024]⟩
abbrev S8x352x1024 : Shape := ⟨3, ![8, 352, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x704x1024, .f32⟩
  | .hbm, ⟨1, _⟩ => ⟨S8x704x1024, .bf16⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S8x352x1024, .bf16⟩
  | .local _ .vmem, ⟨3, _⟩ => ⟨S8x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel13Ideal.lean ====
variable {F : FTy → Type} [FloatOps F] [Named F]
def κ : String → Option EReal := fun
  | "c1" => some (((5463681 * 8388608⁻¹)⁻¹ : ℝ) : EReal)
  | "c2" => some (((2672307 * 268435456⁻¹)⁻¹ : ℝ) : EReal)
  | _ => none
-- ==== Reference13Ideal.lean ====
abbrev S1x704x1024 : Shape := ⟨3, ![1, 704, 1024]⟩
abbrev S8x704x1024 : Shape := ⟨3, ![8, 704, 1024]⟩
abbrev S_ : Shape := ⟨0, ![]⟩
abbrev S704x1024 : Shape := ⟨2, ![704, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S8x704x1024, .bf16⟩
  | .hbm, ⟨2, _⟩ => ⟨S1x704x1024, .f32⟩
  | .hbm, ⟨3, _⟩ => ⟨S1x704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S1x704x1024, .f32⟩
  | .hbm, ⟨8, _⟩ => ⟨S_, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S1x704x1024, .f32⟩
  | .hbm, ⟨23, _⟩ => ⟨S_, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | .hbm, ⟨37, _⟩ => ⟨S1x704x1024, .f32⟩
  | .hbm, ⟨38, _⟩ => ⟨S_, .f32⟩
  | .hbm, ⟨39, _⟩ => ⟨S1x704x1024, .f32⟩
  | .hbm, ⟨40, _⟩ => ⟨S1x704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel14.lean ====
abbrev S1x292x1024 : Shape := ⟨3, ![1, 292, 1024]⟩
abbrev S8x292x512 : Shape := ⟨3, ![8, 292, 512]⟩
abbrev S1x292x512 : Shape := ⟨3, ![1, 292, 512]⟩
abbrev S292x512 : Shape := ⟨2, ![292, 512]⟩

abbrev nBuf : Space → Nat
  | .hbm => 9
  | .vmem => 9
  | .smem => 0
  | _ => 0

abbrev bufTy : (tb : Table) → Fin (tcTables nBuf tb) → BufTy
  | .hbm, ⟨0, _⟩ => ⟨S1x292x1024, .f32⟩
  | .hbm, ⟨1, _⟩ => ⟨S8x292x512, .bf16⟩
  | .hbm, ⟨2, _⟩ => ⟨S8x292x512, .bf16⟩
  | .hbm, ⟨3, _⟩ => ⟨S1x292x1024, .f32⟩
  | .hbm, ⟨4, _⟩ => ⟨S1x292x1024, .f32⟩
  | .hbm, ⟨5, _⟩ => ⟨S1x292x1024, .f32⟩
  | .hbm, ⟨6, _⟩ => ⟨S1x292x1024, .f32⟩
  | .hbm, ⟨7, _⟩ => ⟨S1x292x1024, .f32⟩
  | .hbm, ⟨8, _⟩ => ⟨S1x292x1024, .f32⟩
  | .local _ .vmem, ⟨0, _⟩ => ⟨S1x292x1024, .f32⟩
  | .local _ .vmem, ⟨1, _⟩ => ⟨S8x292x512, .bf16⟩
  | .local _ .vmem, ⟨2, _⟩ => ⟨S8x292x512, .bf16⟩
  | .local _ .vmem, ⟨3, _⟩ => ⟨S1x292x1024, .f32⟩
  | .local _ .vmem, ⟨4, _⟩ => ⟨S1x292x1024, .f32⟩
  | .local _ .vmem, ⟨5, _⟩ => ⟨S1x292x1024, .f32⟩
  | .local _ .vmem, ⟨6, _⟩ => ⟨S1x292x1024, .f32⟩
  | .local _ .vmem, ⟨7, _⟩ => ⟨S1x292x1024, .f32⟩
  | .local _ .vmem, ⟨8, _⟩ => ⟨S1x292x1024, .f32⟩
  | _, _ => ⟨S1x292x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x292x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x292x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x292x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x292x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x292x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x292x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x292x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x292x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x292x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Kernel14Ideal.lean ====
variable {F : FTy → Type} [FloatOps F] [Named F]
def κ : String → Option EReal := fun
  | "c1" => some (((5463681 * 8388608⁻¹)⁻¹ : ℝ) : EReal)
  | "c2" => some (((2672307 * 268435456⁻¹)⁻¹ : ℝ) : EReal)
  | _ => none
-- ==== Reference14Ideal.lean ====
abbrev S1x292x1024 : Shape := ⟨3, ![1, 292, 1024]⟩
abbrev S8x292x512 : Shape := ⟨3, ![8, 292, 512]⟩
abbrev S_ : Shape := ⟨0, ![]⟩
abbrev S292x512 : Shape := ⟨2, ![292, 512]⟩
abbrev S1x292x512 : Shape := ⟨3, ![1, 292, 512]⟩

abbrev nBuf : Space → Nat
  | .hbm => 47
  | .vmem => 0
  | .smem => 0
  | _ => 0

abbrev bufTy : (tb : Table) → Fin (tcTables nBuf tb) → BufTy
  | .hbm, ⟨0, _⟩ => ⟨S1x292x1024, .f32⟩
  | .hbm, ⟨1, _⟩ => ⟨S8x292x512, .bf16⟩
  | .hbm, ⟨2, _⟩ => ⟨S8x292x512, .bf16⟩
  | .hbm, ⟨3, _⟩ => ⟨S1x292x1024, .f32⟩
  | .hbm, ⟨4, _⟩ => ⟨S1x292x1024, .f32⟩
  | .hbm, ⟨5, _⟩ => ⟨S8x292x512, .f32⟩
  | .hbm, ⟨6, _⟩ => ⟨S_, .f32⟩
  | .hbm, ⟨7, _⟩ => ⟨S292x512, .f32⟩
  | .hbm, ⟨8, _⟩ => ⟨S1x292x512, .f32⟩
  | .hbm, ⟨9, _⟩ => ⟨S8x292x512, .f32⟩
  | .hbm, ⟨10, _⟩ => ⟨S_, .f32⟩
  | .hbm, ⟨11, _⟩ => ⟨S292x512, .f32⟩
  | .hbm, ⟨12, _⟩ => ⟨S1x292x512, .f32⟩
  | .hbm, ⟨13, _⟩ => ⟨S1x292x1024, .f32⟩
  | .hbm, ⟨14, _⟩ => ⟨S_, .f32⟩
  | .hbm, ⟨15, _⟩ => ⟨S1x292x1024, .f32⟩
  | .hbm, ⟨16, _⟩ => ⟨S1x292x1024, .f32⟩
  | .hbm, ⟨17, _⟩ => ⟨S_, .f32⟩
  | .hbm, ⟨18, _⟩ => ⟨S1x292x1024, .f32⟩
  | .hbm, ⟨19, _⟩ => ⟨S1x292x1024, .f32⟩
  | .hbm, ⟨20, _⟩ => ⟨S1x292x1024, .f32⟩
  | .hbm, ⟨21, _⟩ => ⟨S_, .f32⟩
  | .hbm, ⟨22, _⟩ => ⟨S1x292x1024, .f32⟩
  | .hbm, ⟨23, _⟩ => ⟨S1x292x1024, .f32⟩
  | .hbm, ⟨24, _⟩ => ⟨S1x292x1024, .f32⟩
  | .hbm, ⟨25, _⟩ => ⟨S_, .f32⟩
  | .hbm, ⟨26, _⟩ => ⟨S1x292x1024, .f32⟩
  | .hbm, ⟨27, _⟩ => ⟨S1x292x1024, .f32⟩
  | .hbm, ⟨28, _⟩ => ⟨S1x292x1024, .f32⟩
  | .hbm, ⟨29, _⟩ => ⟨S_, .f32⟩
  | .hbm, ⟨30, _⟩ => ⟨S1x292x1024, .f32⟩
  | .hbm, ⟨31, _⟩ => ⟨S1x292x1024, .f32⟩
  | .hbm, ⟨32, _⟩ => ⟨S_, .f32⟩
  | .hbm, ⟨33, _⟩ => ⟨S1x292x1024, .f32⟩
  | .hbm, ⟨34, _⟩ => ⟨S1x292x1024, .f32⟩
  | .hbm, ⟨35, _⟩ => ⟨S1x292x1024, .f32⟩
  | .hbm, ⟨36, _⟩ => ⟨S_, .f32⟩
  | .hbm, ⟨37, _⟩ => ⟨S1x292x1024, .f32⟩
  | .hbm, ⟨38, _⟩ => ⟨S1x292x1024, .f32⟩
  | .hbm, ⟨39, _⟩ => ⟨S1x292x1024, .f32⟩
  | .hbm, ⟨40, _⟩ => ⟨S_, .f32⟩
  | .hbm, ⟨41, _⟩ => ⟨S1x292x1024, .f32⟩
  | .hbm, ⟨42, _⟩ => ⟨S1x292x1024, .f32⟩
  | .hbm, ⟨43, _⟩ => ⟨S1x292x1024, .f32⟩
  | .hbm, ⟨44, _⟩ => ⟨S_, .f32⟩
  | .hbm, ⟨45, _⟩ => ⟨S1x292x1024, .f32⟩
  | .hbm, ⟨46, _⟩ => ⟨S1x292x1024, .f32⟩
  | _, _ => ⟨S1x292x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.Tables.lean ====
module

public import Idealize.ShloMosaic.PureOps.Ideal.Laws
public import Idealize.ShloMosaic.Lib.ValueIdxCore
public import Idealize.ShloMosaic.Lib.ValueLayout
public import Idealize.ShloMosaic.Lib.ValueLayoutCasts
public import Idealize.ShloMosaic.Lib.MatmulPlain
public import Idealize.ShloMosaic.Lib.Pipeline.Value
public import Mathlib.Tactic.NormNum
public import Mathlib.Tactic.Positivity

@[expose] public section

/-! Arrays of extended reals that hold tables of REAL numbers, and how each operation of a program acts on such
tables. A table is indexed by natural numbers, so a block of rows of an array is the same table read at shifted
row numbers. -/

noncomputable section

namespace Cert.Tables

open Idealize.ShloMosaic Idealize.ShloMosaic.ValueIdx
open scoped BigOperators

/-- An array of rank 2 holds the real table `X`: its entry at `(r, c)` is the real number `X r c`. -/
def Holds {m n : ℕ} (x : (⟨2, ![m, n]⟩ : Shape).Idx → EReal) (X : ℕ → ℕ → ℝ) : Prop :=
  ∀ i, x i = ((X (i 0).val (i 1).val : ℝ) : EReal)

/-- An array of rank 1 holds the real list `X`. -/
def Holds1 {m : ℕ} (x : (⟨1, ![m]⟩ : Shape).Idx → EReal) (X : ℕ → ℝ) : Prop :=
  ∀ i, x i = ((X (i 0).val : ℝ) : EReal)

/-- Two arrays holding the same table on the rows and columns they have are equal. -/
theorem Holds.unique {m n : ℕ} {x y : (⟨2, ![m, n]⟩ : Shape).Idx → EReal} {X Y : ℕ → ℕ → ℝ}
    (hx : Holds x X) (hy : Holds y Y) (h : ∀ r < m, ∀ c < n, X r c = Y r c) : x = y :=
  funext fun i => by rw [hx i, hy i, h _ (idx2_lt0 i) _ (idx2_lt1 i)]

/-- The table may be replaced by one equal to it on the array's rows and columns. -/
theorem Holds.congr {m n : ℕ} {x : (⟨2, ![m, n]⟩ : Shape).Idx → EReal} {X Y : ℕ → ℕ → ℝ}
    (hx : Holds x X) (h : ∀ r < m, ∀ c < n, X r c = Y r c) : Holds x Y :=
  fun i => by rw [hx i, h _ (idx2_lt0 i) _ (idx2_lt1 i)]

/-- It suffices to read the entries by row and column. -/
theorem Holds.of {m n : ℕ} {x : (⟨2, ![m, n]⟩ : Shape).Idx → EReal} {X : ℕ → ℕ → ℝ}
    (h : ∀ (r : Fin m) (c : Fin n), x (ix2 r c) = ((X r.val c.val : ℝ) : EReal)) : Holds x X :=
  fun i => (congrArg x (eq_ix2 i)).trans (h (i 0) (i 1))

/-- An entry by row and column. -/
theorem Holds.at {m n : ℕ} {x : (⟨2, ![m, n]⟩ : Shape).Idx → EReal} {X : ℕ → ℕ → ℝ} (hx : Holds x X)
    (r : Fin m) (c : Fin n) : x (ix2 r c) = ((X r.val c.val : ℝ) : EReal) := hx (ix2 r c)

section Elementwise
variable {m n : ℕ} {φ : FTy} {x y : FVec Ideal ⟨2, ![m, n]⟩ φ} {X Y : ℕ → ℕ → ℝ}

/-- A sum of arrays holds the sum of the tables. -/
theorem Holds.addf (hx : Holds x X) (hy : Holds y Y) : Holds (addf x y) fun r c => X r c + Y r c :=
  fun i => (congrArg₂ (· + ·) (hx i) (hy i)).trans (EReal.coe_add _ _).symm

/-- A difference of arrays holds the difference of the tables. -/
theorem Holds.subf (hx : Holds x X) (hy : Holds y Y) : Holds (subf x y) fun r c => X r c - Y r c :=
  fun i => (congrArg₂ (· - ·) (hx i) (hy i)).trans (EReal.coe_sub _ _).symm

/-- A product of arrays holds the product of the tables. -/
theorem Holds.mulf (hx : Holds x X) (hy : Holds y Y) : Holds (mulf x y) fun r c => X r c * Y r c :=
  fun i => (congrArg₂ (· * ·) (hx i) (hy i)).trans (EReal.coe_mul _ _).symm

/-- A quotient of real numbers, the divisor not zero, is the real quotient. -/
theorem div_real (a b : ℝ) (hb : b ≠ 0) : Ideal.div (a : EReal) (b : EReal) = ((a / b : ℝ) : EReal) := by
  rw [Ideal.div_coe hb, ← EReal.coe_mul, one_div, div_eq_mul_inv]

/-- The reciprocal square root of a positive real number. -/
theorem rsqrt_real (a : ℝ) (ha : 0 < a) : Ideal.rsqrt (a : EReal) = (((Real.sqrt a)⁻¹ : ℝ) : EReal) := by
  rw [Ideal.rsqrt_coe, if_neg ha.le.not_gt, if_neg ha.ne']

/-- A quotient of arrays holds the quotient of the tables where no divisor is zero. -/
theorem Holds.divf (hx : Holds x X) (hy : Holds y Y) (h : ∀ r c, Y r c ≠ 0) :
    Holds (divf x y) fun r c => X r c / Y r c :=
  fun i => (congrArg₂ Ideal.div (hx i) (hy i)).trans (div_real _ _ (h _ _))

/-- The exponential of an array holds the exponentials of the table. -/
theorem Holds.exp (hx : Holds x X) : Holds (exp x) fun r c => Real.exp (X r c) :=
  fun i => (congrArg Ideal.exp (hx i)).trans (Ideal.exp_coe _)

/-- The reciprocal square root of an array with positive entries. -/
theorem Holds.rsqrt (hx : Holds x X) (h : ∀ r c, 0 < X r c) : Holds (rsqrt x) fun r c => (Real.sqrt (X r c))⁻¹ :=
  fun i => (congrArg Ideal.rsqrt (hx i)).trans (rsqrt_real _ (h _ _))

/-- Narrowing the format changes no ideal value. -/
theorem Holds.truncf {ψ : FTy} (hx : Holds x X) (h : ψ.bits < φ.bits) : Holds (truncf ψ x h) X := fun i => hx i

/-- A splat of a real number holds the constant table. -/
theorem holds_broadcast {a : Ideal φ} {A : ℝ} (ha : a = (A : EReal)) :
    Holds (broadcast (⟨2, ![m, n]⟩ : Shape) a) fun _ _ => A := fun _ => ha

end Elementwise

/-! ### Layout -/

section Layout
variable {m n : ℕ} {X : ℕ → ℕ → ℝ}

/-- One row repeated along the rows. -/
theorem Holds.broadcastRow {x : (⟨2, ![1, n]⟩ : Shape).Idx → EReal} (hx : Holds x X)
    (h : (⟨2, ![1, n]⟩ : Shape).Broadcasts ⟨2, ![m, n]⟩) :
    Holds (broadcastTo (⟨2, ![m, n]⟩ : Shape) x h) fun _ c => X 0 c := fun i => by
  refine (broadcastTo_apply x h i (ix2 (0 : Fin 1) (i 1)) (fun a => match a with
    | ⟨0, _⟩ => (if_pos rfl).symm
    | ⟨1, _⟩ => ?_)).trans (hx _)
  show (i 1).val = if n = 1 then 0 else (i 1).val
  by_cases hn : n = 1
  · rw [if_pos hn]; have := idx2_lt1 i; omega
  · rw [if_neg hn]

/-- One column repeated along the columns. -/
theorem Holds.broadcastCol {x : (⟨2, ![m, 1]⟩ : Shape).Idx → EReal} (hx : Holds x X)
    (h : (⟨2, ![m, 1]⟩ : Shape).Broadcasts ⟨2, ![m, n]⟩) :
    Holds (broadcastTo (⟨2, ![m, n]⟩ : Shape) x h) fun r _ => X r 0 := fun i => by
  refine (broadcastTo_apply x h i (ix2 (i 0) (0 : Fin 1)) (fun a => match a with
    | ⟨0, _⟩ => ?_
    | ⟨1, _⟩ => (if_pos rfl).symm)).trans (hx _)
  show (i 0).val = if m = 1 then 0 else (i 0).val
  by_cases hn : m = 1
  · rw [if_pos hn]; have := idx2_lt0 i; omega
  · rw [if_neg hn]

/-- A cast to the same shape changes nothing. -/
theorem Holds.shapeCast {x : (⟨2, ![m, n]⟩ : Shape).Idx → EReal} (hx : Holds x X)
    (h : (⟨2, ![m, n]⟩ : Shape).ShapeCasts ⟨2, ![m, n]⟩) : Holds (shapeCast (⟨2, ![m, n]⟩ : Shape) x h) X := by
  rw [shapeCast_self]; exact hx

/-- A slice of `q` columns from column `o` on. -/
theorem Holds.columns {q : ℕ} {x : (⟨2, ![m, n]⟩ : Shape).Idx → EReal} (hx : Holds x X) (o : ℕ)
    (h : (⟨2, ![m, n]⟩ : Shape).Slices ![0, o] ⟨2, ![m, q]⟩) :
    Holds (extractStridedSlice (⟨2, ![m, q]⟩ : Shape) ![0, o] x h) fun r c => X r (o + c) := fun i => by
  have hq : o + q ≤ n := h.2 1
  refine (extractStridedSlice_apply ![0, o] x h i
    (ix2 (i 0) ⟨o + (i 1).val, by have := idx2_lt1 i; omega⟩) (fun a => match a with
    | ⟨0, _⟩ => (Nat.zero_add _).symm
    | ⟨1, _⟩ => rfl)).trans (hx _)

end Layout

/-! ### Sums -/

section Sums
variable {m n k : ℕ} {φ : FTy} {X Y : ℕ → ℕ → ℝ}

/-- A finite sum of real numbers inside the extended reals. -/
theorem sum_real (q : ℕ) (f : Fin q → EReal) (F : ℕ → ℝ) (h : ∀ j : Fin q, f j = ((F j.val : ℝ) : EReal)) :
    ∑ j : Fin q, f j = ((∑ j ∈ Finset.range q, F j : ℝ) : EReal) := by
  rw [Finset.sum_congr rfl fun j _ => h j, ← Fin.sum_univ_eq_sum_range]
  induction q with
  | zero => simp
  | succ q ih =>
    rw [Fin.sum_univ_castSucc, Fin.sum_univ_castSucc, EReal.coe_add]
    exact congrArg (· + _) (ih (fun j => f j.castSucc) fun j => h j.castSucc)

/-- The sum over each row, kept as a column. -/
theorem Holds.rowSum {x : FVec Ideal ⟨2, ![m, n]⟩ φ} (hx : Holds x X) (acc : BitVec φ.bits)
    (h : (⟨2, ![m, n]⟩ : Shape).Reduces [1] ⟨1, ![m]⟩) (hφ : FKind.Formats φ) (hacc : acc = FKind.add.neutral φ hφ)
    (h' : (⟨1, ![m]⟩ : Shape).ShapeCasts ⟨2, ![m, 1]⟩) :
    Holds (Idealize.ShloMosaic.shapeCast (⟨2, ![m, 1]⟩ : Shape) (multiReduction .add [1] ⟨1, ![m]⟩ x acc h hφ hacc) h')
      fun r _ => ∑ j ∈ Finset.range n, X r j := .of fun r c => by
  rw [shapeCast_a_a1_apply, Ideal.multiReduction_add_single]
  exact sum_real n _ (fun j => X r.val j) fun j => (hx _).trans rfl

/-- The sum over each column, kept as a row. -/
theorem Holds.colSum {x : FVec Ideal ⟨2, ![m, n]⟩ φ} (hx : Holds x X) (acc : BitVec φ.bits)
    (h : (⟨2, ![m, n]⟩ : Shape).Reduces [0] ⟨1, ![n]⟩) (hφ : FKind.Formats φ) (hacc : acc = FKind.add.neutral φ hφ)
    (h' : (⟨1, ![n]⟩ : Shape).ShapeCasts ⟨2, ![1, n]⟩) :
    Holds (Idealize.ShloMosaic.shapeCast (⟨2, ![1, n]⟩ : Shape) (multiReduction .add [0] ⟨1, ![n]⟩ x acc h hφ hacc) h')
      fun _ c => ∑ j ∈ Finset.range m, X j c := .of fun r c => by
  rw [shapeCast_a_1a_apply, Ideal.multiReduction_add_single]
  exact sum_real m _ (fun j => X j c.val) fun j => (hx _).trans rfl

/-- A product of an `m × k` and a `k × n` array, accumulated from zero. -/
theorem Holds.matmul {φ₁ φ₂ : FTy} {x : FVec Ideal ⟨2, ![m, k]⟩ φ₁} {y : FVec Ideal ⟨2, ![k, n]⟩ φ₂}
    (hx : Holds x X) (hy : Holds y Y) (prec : Option ContractPrecision) :
    Holds (FloatOps.matmul (DotDims.plain m k n) prec x y (constant ⟨2, ![m, n]⟩ .f32 0x00000000#32))
      fun r c => ∑ j ∈ Finset.range k, X r j * Y j c := .of fun r c => by
  rw [Ideal.matmul_plain_apply]
  show Ideal.ofBits .f32 0x00000000#32 + _ = _
  rw [Ideal.ofBits_zero_f32, zero_add]
  exact sum_real k _ (fun j => X r.val j * Y j c.val) fun j => by
    rw [hx.at, hy.at, ← EReal.coe_mul]

/-- A product of an `m × k` array and the transpose of an `n × k` one, accumulated from zero. -/
theorem Holds.matmulT {φ₁ φ₂ : FTy} {x : FVec Ideal ⟨2, ![m, k]⟩ φ₁} {y : FVec Ideal ⟨2, ![n, k]⟩ φ₂}
    (hx : Holds x X) (hy : Holds y Y) (prec : Option ContractPrecision) :
    Holds (FloatOps.matmul (DotDims.transposedRhs m k n) prec x y (constant ⟨2, ![m, n]⟩ .f32 0x00000000#32))
      fun r c => ∑ j ∈ Finset.range k, X r j * Y c j := .of fun r c => by
  rw [Ideal.matmul_transposedRhs_apply]
  show Ideal.ofBits .f32 0x00000000#32 + _ = _
  rw [Ideal.ofBits_zero_f32, zero_add]
  exact sum_real k _ (fun j => X r.val j * Y c.val j) fun j => by
    rw [hx.at, hy.at, ← EReal.coe_mul]

/-- The total over all rows and columns, read out of the unit box a kernel keeps it in. -/
theorem Holds.total {x : FVec Ideal ⟨2, ![m, n]⟩ φ} (hx : Holds x X) (acc : BitVec φ.bits)
    (h₁ : (⟨2, ![m, n]⟩ : Shape).ShapeCasts ⟨3, ![1, m, n]⟩)
    (h : (⟨3, ![1, m, n]⟩ : Shape).Reduces [1, 2] ⟨1, ![1]⟩) (hφ : FKind.Formats φ) (hacc : acc = FKind.add.neutral φ hφ)
    (h' : (⟨1, ![1]⟩ : Shape).ShapeCasts ⟨3, ![1, 1, 1]⟩) (hp : ∀ a, (![0, 0, 0] : Fin 3 → ℕ) a < (⟨3, ![1, 1, 1]⟩ : Shape).size a) :
    extractAt ![0, 0, 0] (Idealize.ShloMosaic.shapeCast (⟨3, ![1, 1, 1]⟩ : Shape)
        (multiReduction .add [1, 2] ⟨1, ![1]⟩ (Idealize.ShloMosaic.shapeCast (⟨3, ![1, m, n]⟩ : Shape) x h₁) acc h hφ hacc) h') hp
      = ((∑ r ∈ Finset.range m, ∑ c ∈ Finset.range n, X r c : ℝ) : EReal) := by
  have e : ∀ j, multiReduction .add [1, 2] ⟨1, ![1]⟩ (Idealize.ShloMosaic.shapeCast (⟨3, ![1, m, n]⟩ : Shape) x h₁) acc h hφ hacc j
      = ((∑ r ∈ Finset.range m, ∑ c ∈ Finset.range n, X r c : ℝ) : EReal) := fun j => by
    rw [Ideal.multiReduction_add_total _ _ _ (fun b => by match b with | ⟨0, _⟩ => rfl)]
    refine (Equiv.sum_comp (Shape.reshapeEquiv h₁) x).trans ?_
    rw [sum_idx2]
    exact sum_real m _ (fun r => ∑ c ∈ Finset.range n, X r c) fun r => sum_real n _ (fun c => X r.val c) fun c => hx.at r c
  exact e _

end Sums

/-! ### Constants -/

/-- The word of zero. -/
theorem word_zero : (Scalar.ofBits .f32 0x00000000#32 : Ideal .f32) = ((0 : ℝ) : EReal) := Ideal.ofBits_zero_f32
/-- The word of one. -/
theorem word_one : (Scalar.ofBits .f32 0x3F800000#32 : Ideal .f32) = ((1 : ℝ) : EReal) := by
  show Ideal.ofBits .f32 0x3F800000#32 = _
  simp [Ideal.ofBits, Ideal.ieee]
  rw [← EReal.coe_mul]
  norm_num
/-- The word of 1024. -/
theorem word_1024 : (Scalar.ofBits .f32 0x44800000#32 : Ideal .f32) = ((1024 : ℝ) : EReal) := by
  show Ideal.ofBits .f32 0x44800000#32 = _
  simp [Ideal.ofBits, Ideal.ieee]
  rw [← EReal.coe_mul]
  norm_num
/-- The word of 1 / 1024. -/
theorem word_inv1024 : (Scalar.ofBits .f32 0x3A800000#32 : Ideal .f32) = ((1 / 1024 : ℝ) : EReal) := by
  show Ideal.ofBits .f32 0x3A800000#32 = _
  simp [Ideal.ofBits, Ideal.ieee]
  rw [← EReal.coe_mul]
  norm_num
/-- The word of 1 / 2048. -/
theorem word_inv2048 : (Scalar.ofBits .f32 0x3A000000#32 : Ideal .f32) = ((1 / 2048 : ℝ) : EReal) := by
  show Ideal.ofBits .f32 0x3A000000#32 = _
  simp [Ideal.ofBits, Ideal.ieee]
  rw [← EReal.coe_mul]
  norm_num
/-- The real number the word of the norms' small constant denotes. -/
def eps : ℝ := 8796093 / 2 ^ 43
/-- It is what the word denotes. -/
theorem word_eps : (Scalar.ofBits .f32 0x358637BD#32 : Ideal .f32) = ((eps : ℝ) : EReal) := by
  show Ideal.ofBits .f32 0x358637BD#32 = _
  simp [Ideal.ofBits, Ideal.ieee, eps]
  rw [← EReal.coe_mul]
  norm_num
/-- It is positive. -/
theorem eps_pos : 0 < eps := by unfold eps; positivity

end Cert.Tables

end
-- ==== Proof.Model.lean ====
module

public import proofs.«01_k».proof.Proof.Tables

@[expose] public section

/-! The mathematics of the channel-mixing layer over the real numbers, one row at a time: the normalised row, the two
gates, the projection back, the error against the target, and the gradients of the loss. -/

noncomputable section

namespace Cert.Model

open Cert.Tables
open scoped BigOperators

/-- The mean of the squares of a row of 1024 numbers, with the small constant added. -/
def meanSq (x : ℕ → ℝ) : ℝ := (∑ j ∈ Finset.range 1024, x j * x j) / 1024 + eps

/-- It is positive. -/
theorem meanSq_pos (x : ℕ → ℝ) : 0 < meanSq x :=
  add_pos_of_nonneg_of_pos (div_nonneg (Finset.sum_nonneg fun _ _ => mul_self_nonneg _) (by norm_num)) eps_pos

/-- The reciprocal root mean square. -/
def inv (x : ℕ → ℝ) : ℝ := (Real.sqrt (meanSq x))⁻¹

/-- Its square is the reciprocal of the mean square. -/
theorem inv_mul_inv (x : ℕ → ℝ) : inv x * inv x = 1 / meanSq x := by
  unfold inv
  rw [← mul_inv, Real.mul_self_sqrt (meanSq_pos x).le, one_div]

/-- The normalised row. -/
def unit (x : ℕ → ℝ) (c : ℕ) : ℝ := x c * inv x

/-- The gradient of a row through its normalisation: from the gradient `d` of the normalised row. -/
def unitGrad (x d : ℕ → ℝ) (c : ℕ) : ℝ :=
  inv x * (d c - unit x c * ((∑ j ∈ Finset.range 1024, d j * unit x j) / 1024))

/-- What the layer is given besides the rows: the gain and shift of the first norm, the two factors of the gain of the
second, and the two weights. -/
structure Layer where
  gm : ℕ → ℝ
  sh : ℕ → ℝ
  gt : ℕ → ℝ
  g4 : ℕ → ℝ
  wi : ℕ → ℕ → ℝ
  wo : ℕ → ℕ → ℝ

variable (L : Layer) (x t : ℕ → ℝ)

namespace Layer

/-- The row entering the first projection. -/
def h (c : ℕ) : ℝ := unit x c * L.gm c + L.sh c
/-- The first projection. -/
def u (j : ℕ) : ℝ := ∑ c ∈ Finset.range 1024, L.h x c * L.wi c j
/-- The logistic function of the gate's half of it. -/
def sg (j : ℕ) : ℝ := 1 / (1 + Real.exp (0 - L.u x j))
/-- The gate. -/
def sl (j : ℕ) : ℝ := L.u x j * L.sg x j
/-- The gated row. -/
def act (j : ℕ) : ℝ := L.sl x j * L.u x (2816 + j)
/-- The projection back. -/
def f (c : ℕ) : ℝ := ∑ j ∈ Finset.range 2816, L.act x j * L.wo j c
/-- The error of the layer's output against the target. -/
def err (c : ℕ) : ℝ := x c + L.gt c * (unit (L.f x) c * L.g4 c) - t c
/-- The gradient of the loss at the layer's output. -/
def dout (c : ℕ) : ℝ := L.err x t c * (1 / 1024)
/-- The gradient at the projection back. -/
def df (c : ℕ) : ℝ := unitGrad (L.f x) (fun c => L.dout x t c * (L.gt c * L.g4 c)) c
/-- The gradient at the gated row. -/
def dact (j : ℕ) : ℝ := ∑ c ∈ Finset.range 1024, L.df x t c * L.wo j c
/-- The gradient at the gate's half of the first projection. -/
def dgate (j : ℕ) : ℝ := L.dact x t j * L.u x (2816 + j) * (L.sg x j * (1 + L.u x j * (1 - L.sg x j)))
/-- The gradient at its other half. -/
def dup (j : ℕ) : ℝ := L.dact x t j * L.sl x j
/-- The gradient at the first projection. -/
def du (j : ℕ) : ℝ := if j < 2816 then L.dgate x t j else L.dup x t (j - 2816)
/-- The gradient at the row entering it. -/
def dh (c : ℕ) : ℝ := ∑ j ∈ Finset.range 5632, L.du x t j * L.wi c j
/-- The gradient of the loss at the row. -/
def dx (c : ℕ) : ℝ := L.dout x t c + unitGrad x (fun c => L.dh x t c * L.gm c) c
/-- The row's part of the loss. -/
def loss : ℝ := (∑ c ∈ Finset.range 1024, L.err x t c * L.err x t c) * (1 / 2048)

end Layer

/-- The eight rows of sums over all rows `0 … 8191` of `X`, `T`: the gradients of the shift, of the first gain and of the
second gain, then zeros. -/
def sums (X T : ℕ → ℕ → ℝ) (N : ℕ) (r c : ℕ) : ℝ :=
  if r = 0 then ∑ n ∈ Finset.range N, L.dh (X n) (T n) c
  else if r = 1 then ∑ n ∈ Finset.range N, L.dh (X n) (T n) c * unit (X n) c
  else if r = 2 then ∑ n ∈ Finset.range N, L.dout (X n) (T n) c * unit (L.f (X n)) c
  else 0

/-- The loss over the first `N` rows. -/
def total (X T : ℕ → ℕ → ℝ) (N : ℕ) : ℝ := ∑ n ∈ Finset.range N, L.loss (X n) (T n)

end Cert.Model

end
-- ==== Proof.Payload.lean ====
module

public import proofs.«01_k».proof.Proof.Model
public import proofs.«01_k».proof.Proof.Gen.KernelIdeal.Skeleton

@[expose] public section

/-! What each value the kernel's body computes is, as a table of real numbers: for tiles holding the tables `X`, `T` of
rows, the row `r` of each is the layer's function of the row `X r` (and `T r`). -/

noncomputable section

namespace Cert.Payload

open Idealize.ShloMosaic Cert.Tables Cert.Model Cert.KernelIdeal Cert.KernelIdeal.Gen
open scoped BigOperators

/-- A tile of rows and the layer's vectors and weights as the kernel holds them (the first weight transposed). -/
structure Tile (L : Layer) (X T : ℕ → ℕ → ℝ) where
  x : Vec Ideal S256x1024 .f32
  t : Vec Ideal S256x1024 .f32
  gm : Vec Ideal S1x1024 .f32
  sh : Vec Ideal S1x1024 .f32
  gt : Vec Ideal S1x1024 .f32
  g4 : Vec Ideal S1x1024 .f32
  wi : Vec Ideal S5632x1024 .bf16
  wo : Vec Ideal S2816x1024 .bf16
  hx : Holds x X
  ht : Holds t T
  hgm : Holds gm fun _ c => L.gm c
  hsh : Holds sh fun _ c => L.sh c
  hgt : Holds gt fun _ c => L.gt c
  hg4 : Holds g4 fun _ c => L.g4 c
  hwi : Holds wi fun j c => L.wi c j
  hwo : Holds wo L.wo

variable {L : Layer} {X T : ℕ → ℕ → ℝ}

/-- The first product of the kernel contracts the last axes of both operands. -/
theorem dot_up : dot_S256x1024_S5632x1024_S256x5632_1_1_0_0_n_n = DotDims.transposedRhs 256 1024 5632 := rfl
/-- The second is a plain product. -/
theorem dot_down : dot_S256x2816_S2816x1024_S256x1024_1_0_0_1_n_n = DotDims.plain 256 2816 1024 := rfl
/-- The third contracts the last axes of both operands. -/
theorem dot_down' : dot_S256x1024_S2816x1024_S256x2816_1_1_0_0_n_n = DotDims.transposedRhs 256 1024 2816 := rfl
/-- The fourth is a plain product. -/
theorem dot_up' : dot_S256x5632_S5632x1024_S256x1024_1_0_0_1_n_n = DotDims.plain 256 5632 1024 := rfl

/-- The reciprocal root mean square of each row, as the kernel computes it for the rows and again for the projection. -/
theorem inv_col {x : FVec Ideal S256x1024 .f32} {Y : ℕ → ℕ → ℝ} (hx : Holds x Y) (h : S256x1024.Reduces [1] S256) (h' : S256.ShapeCasts S256x1) :
    Holds (rsqrt (addf (divf (shapeCast S256x1 (multiReduction (F := Ideal) .add [1] S256 (mulf x x) 0x00000000#32 h (.inl rfl) rfl) h')
        (broadcast S256x1 (Scalar.ofBits .f32 0x44800000#32))) (broadcast S256x1 (Scalar.ofBits .f32 0x358637BD#32)))) fun r _ => inv (Y r) :=
  ((((hx.mulf hx).rowSum _ h (.inl rfl) rfl h').divf (holds_broadcast word_1024) (fun _ _ => by norm_num)).addf
    (holds_broadcast word_eps)).rsqrt fun r _ => meanSq_pos (Y r)

/-- The gradient through a normalisation, as the kernel computes it twice. -/
theorem grad_tile {r : FVec Ideal S256x1 .f32} {u d : FVec Ideal S256x1024 .f32} {Y D : ℕ → ℕ → ℝ}
    (hr : Holds r fun r _ => inv (Y r)) (hu : Holds u fun r => unit (Y r)) (hd : Holds d D)
    (h : S256x1024.Reduces [1] S256) (h' : S256.ShapeCasts S256x1) (hb : S256x1.Broadcasts S256x1024) :
    Holds (mulf (broadcastTo S256x1024 r hb) (subf d (mulf u (broadcastTo S256x1024
      (divf (shapeCast S256x1 (multiReduction (F := Ideal) .add [1] S256 (mulf d u) 0x00000000#32 h (.inl rfl) rfl) h')
        (broadcast S256x1 (Scalar.ofBits .f32 0x44800000#32))) hb)))) fun r => unitGrad (Y r) (D r) :=
  (hr.broadcastCol hb).mulf (hd.subf (hu.mulf ((((hd.mulf hu).rowSum _ h (.inl rfl) rfl h').divf
    (holds_broadcast word_1024) (fun _ _ => by norm_num)).broadcastCol hb)))

namespace Tile
variable (t : Tile L X T)

theorem gm7 : Holds (k0_pay7 t.gm) fun _ c => L.gm c := t.hgm.shapeCast _
/-- The reciprocal root mean square of the rows. -/
theorem r8 : Holds (k0_pay8 t.x) fun r _ => inv (X r) := inv_col t.hx _ _
/-- The normalised rows. -/
theorem xh9 : Holds (k0_pay9 t.x) fun r => unit (X r) := t.hx.mulf (t.r8.broadcastCol _)
/-- The rows entering the first projection. -/
theorem h10 : Holds (k0_pay10 t.x t.gm t.sh) fun r => L.h (X r) :=
  ((t.xh9.mulf (t.gm7.broadcastRow _)).addf (t.hsh.broadcastRow _)).truncf _
/-- The first projection. -/
theorem u11 : Holds (k0_pay11 t.x t.gm t.sh t.wi) fun r => L.u (X r) := by
  unfold k0_pay11
  rw [dot_up]
  exact t.h10.matmulT t.hwi _
/-- The gate's half. -/
theorem g12 : Holds (k0_pay12 t.x t.gm t.sh t.wi) fun r => L.u (X r) :=
  (t.u11.columns 0 slices_S256x5632_o0_0_S256x2816).congr fun r _ c _ => by rw [Nat.zero_add]
/-- The other half. -/
theorem up13 : Holds (k0_pay13 t.x t.gm t.sh t.wi) fun r c => L.u (X r) (2816 + c) := t.u11.columns 2816 slices_S256x5632_o0_2816_S256x2816
/-- The logistic function of the gate's half. -/
theorem sg14 : Holds (k0_pay14 t.x t.gm t.sh t.wi) fun r => L.sg (X r) :=
  (holds_broadcast word_one).divf ((holds_broadcast word_one).addf (((holds_broadcast word_zero).subf t.g12).exp))
    fun r c => (by positivity : (0 : ℝ) < 1 + Real.exp (0 - L.u (X r) c)).ne'
/-- The gate. -/
theorem sl15 : Holds (k0_pay15 t.x t.gm t.sh t.wi) fun r => L.sl (X r) := t.g12.mulf t.sg14
/-- The gated rows, as the kernel computes them. -/
abbrev a : FVec Ideal S256x2816 .bf16 := k0_pay16 t.x t.gm t.sh t.wi
theorem act16 : Holds t.a fun r => L.act (X r) := (t.sl15.mulf t.up13).truncf _
/-- The projection back. -/
theorem f17 : Holds (k0_pay17 t.a t.wo) fun r => L.f (X r) := by
  unfold k0_pay17
  rw [dot_down]
  exact t.act16.matmul t.hwo _
/-- Its reciprocal root mean square. -/
theorem rf18 : Holds (k0_pay18 t.a t.wo) fun r _ => inv (L.f (X r)) := inv_col t.f17 _ _
/-- Its rows normalised. -/
theorem fh19 : Holds (k0_pay19 t.a t.wo) fun r => unit (L.f (X r)) := t.f17.mulf (t.rf18.broadcastCol _)
/-- The error. -/
theorem err20 : Holds (k0_pay20 t.x t.a t.wo t.gt t.g4 t.t) fun r => L.err (X r) (T r) :=
  (t.hx.addf ((t.hgt.broadcastRow _).mulf (t.fh19.mulf (t.hg4.broadcastRow _)))).subf t.ht
/-- The loss: what stood there plus the tile's part. -/
theorem loss21 {v : Vec Ideal S8x128 .f32} {V : ℕ → ℕ → ℝ} (hv : Holds v V) :
    Holds (k0_pay21 t.x t.a t.wo t.gt t.g4 t.t v) fun r c => V r c + ∑ i ∈ Finset.range 256, L.loss (X i) (T i) := by
  refine (hv.shapeCast _).addf (holds_broadcast ?_)
  refine (congrArg₂ (· * ·) ((t.err20.mulf t.err20).total _ _ _ (.inl rfl) rfl _ _) word_inv2048).trans ?_
  rw [← EReal.coe_mul, Finset.sum_mul]
  rfl
/-- The gradient at the output. -/
abbrev d : FVec Ideal S256x1024 .f32 := k0_pay22 t.x t.a t.wo t.gt t.g4 t.t
theorem dout22 : Holds t.d fun r => L.dout (X r) (T r) := t.err20.mulf (holds_broadcast word_inv1024)
/-- The gradient of the second gain: what stood there plus the tile's part. -/
theorem gain23 {v : Vec Ideal S1x1024 .f32} {V : ℕ → ℕ → ℝ} (hv : Holds v V) :
    Holds (k0_pay23 (k0_pay19 t.a t.wo) t.d v) fun r c => V r c + ∑ i ∈ Finset.range 256, L.dout (X i) (T i) c * unit (L.f (X i)) c :=
  (hv.shapeCast _).addf ((t.dout22.mulf t.fh19).colSum _ _ (.inl rfl) rfl _)
/-- The gradient at the projection back. -/
theorem df24 : Holds (k0_pay24 (k0_pay18 t.a t.wo) (k0_pay19 t.a t.wo) t.gt t.g4 t.d) fun r => L.df (X r) (T r) :=
  (grad_tile t.rf18 t.fh19 (t.dout22.mulf ((t.hgt.mulf t.hg4).broadcastRow _)) _ _ _).truncf _
/-- The gradient at the gated rows. -/
theorem dact25 : Holds (k0_pay25 (k0_pay18 t.a t.wo) (k0_pay19 t.a t.wo) t.gt t.g4 t.d t.wo) fun r => L.dact (X r) (T r) := by
  unfold k0_pay25
  rw [dot_down']
  exact t.df24.matmulT t.hwo _
/-- The gradient at the gate's half of the first projection. -/
theorem dgate26 : Holds (k0_pay26 (k0_pay12 t.x t.gm t.sh t.wi) (k0_pay13 t.x t.gm t.sh t.wi) (k0_pay14 t.x t.gm t.sh t.wi)
    (k0_pay18 t.a t.wo) (k0_pay19 t.a t.wo) t.gt t.g4 t.d t.wo) fun r => L.dgate (X r) (T r) :=
  ((t.dact25.mulf t.up13).mulf (t.sg14.mulf ((holds_broadcast word_one).addf (t.g12.mulf ((holds_broadcast word_one).subf t.sg14))))).truncf _
/-- The gradient at its other half. -/
theorem dup27 : Holds (k0_pay27 (k0_pay15 t.x t.gm t.sh t.wi) (k0_pay18 t.a t.wo) (k0_pay19 t.a t.wo) t.gt t.g4 t.d t.wo) fun r => L.dup (X r) (T r) :=
  (t.dact25.mulf t.sl15).truncf _

section Back
variable {e : FVec Ideal S256x5632 .bf16} (he : Holds e fun r => L.du (X r) (T r))
include he
/-- The gradient at the rows entering the first projection. -/
theorem dh1 : Holds (k0_pay1 e t.wi) fun r => L.dh (X r) (T r) := by
  unfold k0_pay1
  rw [dot_up']
  exact he.matmul t.hwi _
/-- The gradient of the shift: what stood there plus the tile's part. -/
theorem shift2 {v : Vec Ideal S1x1024 .f32} {V : ℕ → ℕ → ℝ} (hv : Holds v V) :
    Holds (k0_pay2 e t.wi v) fun r c => V r c + ∑ i ∈ Finset.range 256, L.dh (X i) (T i) c :=
  (hv.shapeCast _).addf ((t.dh1 he).colSum _ _ (.inl rfl) rfl _)
/-- The gradient of the first gain: what stood there plus the tile's part. -/
theorem gain3 {v : Vec Ideal S1x1024 .f32} {V : ℕ → ℕ → ℝ} (hv : Holds v V) :
    Holds (k0_pay3 (k0_pay9 t.x) e t.wi v) fun r c => V r c + ∑ i ∈ Finset.range 256, L.dh (X i) (T i) c * unit (X i) c :=
  (hv.shapeCast _).addf (((t.dh1 he).mulf t.xh9).colSum _ _ (.inl rfl) rfl _)
/-- The gradient at the rows. -/
theorem dx4 : Holds (k0_pay4 (k0_pay7 t.gm) (k0_pay8 t.x) (k0_pay9 t.x) t.d e t.wi) fun r => L.dx (X r) (T r) :=
  t.dout22.addf (grad_tile t.r8 t.xh9 ((t.dh1 he).mulf (t.gm7.broadcastRow _)) _ _ _)
end Back

end Tile

end Cert.Payload

end
-- ==== Proof.Pieces.lean ====
module

public import proofs.«01_k».proof.Proof.Tables
public import Idealize.ShloMosaic.Lib.Pipeline.ValueKit
public import Idealize.ShloMosaic.Lib.WritesUnit
public import Idealize.ShloMosaic.Lib.VecWindow

@[expose] public section

/-! Arrays written in pieces, and loads of them: whole rows of an array, and two halves of its columns; each as a table of
real numbers. -/

noncomputable section

namespace Cert.Pieces

open Idealize.ShloMosaic hiding ix2
open Idealize.ShloMosaic.ValueIdx Idealize.SL.Sem Cert.Tables

/-- The offset of a whole array. -/
theorem hz : (![0, 0] : Fin 2 → Nat) = fun _ => 0 := funext fun a => by fin_cases a <;> rfl

section Any
variable {sig : RefSig} {κ : Kind} {sp : Space} {e : EltTy} {Val : EltTy → Type} [∀ e, Nonempty (Val e)] {m n k : ℕ}

/-- The position of a rectangle's entry in the array. -/
theorem at_rect (o p q : ℕ) (inb : ∀ a, (![o, p] : Fin 2 → Nat) a + (![k, q] : Fin 2 → Nat) a ≤ (![m, n] : Fin 2 → Nat) a)
    (r : Fin k) (c : Fin q) (R : Fin m) (C : Fin n) (hR : R.val = o + r.val) (hC : C.val = p + c.val) :
    (Rect.unit (s := ⟨2, ![m, n]⟩) ![o, p] ![k, q] inb).idx (ix2 r c) = ix2 R C :=
  funext fun a => Fin.ext ((Rect.idx_unit_val _ _ _ _ _).trans (by fin_cases a; exacts [hR.symm, hC.symm]))

/-- A load of rows `o, o+1, …` of an array written in pieces reads those rows of its contents. -/
theorem load_rows (o : ℕ) (v : View sig κ sp ⟨2, ![m, n]⟩ e) (P : List (View.Piece Val ⟨2, ![m, n]⟩ e))
    (inb : ∀ a, (![o, 0] : Fin 2 → Nat) a + (![k, n] : Fin 2 → Nat) a ≤ (![m, n] : Fin 2 → Nat) a) (r : Fin k) (c : Fin n) :
    v.readCov P (Rect.unit (s := ⟨2, ![m, n]⟩) ![o, 0] ![k, n] inb).toLoadRect (ix2 r c)
      = View.canon P (ix2 (n0 := m) (n1 := n) ⟨o + r.val, Nat.lt_of_lt_of_le (Nat.add_lt_add_left r.isLt o) (inb 0)⟩ c) := by
  rw [View.readCov_eq_canon']
  exact congrArg (View.canon P) (at_rect o 0 n inb r c ⟨o + r.val, _⟩ c rfl (Nat.zero_add _).symm)

/-- What an array holds inside the rectangle of the last piece. -/
theorem canon_in (o p q : ℕ) (inb : ∀ a, (![o, p] : Fin 2 → Nat) a + (![k, q] : Fin 2 → Nat) a ≤ (![m, n] : Fin 2 → Nat) a)
    (w : (⟨2, ![k, q]⟩ : Shape).Idx → Val e) (P : List (View.Piece Val ⟨2, ![m, n]⟩ e)) (r : Fin m) (c : Fin n)
    (r' : Fin k) (c' : Fin q) (hr : r.val = o + r'.val) (hc : c.val = p + c'.val) :
    View.canon ((⟨Rect.unit (s := ⟨2, ![m, n]⟩) ![o, p] ![k, q] inb, w⟩ : View.Piece Val ⟨2, ![m, n]⟩ e) :: P) (ix2 r c) = w (ix2 r' c') := by
  have h := View.canon_cons_emb (Val := Val) (e := e) (Rect.unit (s := ⟨2, ![m, n]⟩) ![o, p] ![k, q] inb) w P (ix2 r' c')
  exact Eq.trans (congrArg (View.canon _) (at_rect o p q inb r' c' r c hr hc).symm) h

/-- What it holds outside that rectangle: what the earlier pieces left. -/
theorem canon_out (o p q : ℕ) (inb : ∀ a, (![o, p] : Fin 2 → Nat) a + (![k, q] : Fin 2 → Nat) a ≤ (![m, n] : Fin 2 → Nat) a)
    (w : (⟨2, ![k, q]⟩ : Shape).Idx → Val e) (P : List (View.Piece Val ⟨2, ![m, n]⟩ e)) (r : Fin m) (c : Fin n)
    (h : (r.val < o ∨ o + k ≤ r.val) ∨ (c.val < p ∨ p + q ≤ c.val)) :
    View.canon ((⟨Rect.unit (s := ⟨2, ![m, n]⟩) ![o, p] ![k, q] inb, w⟩ : View.Piece Val ⟨2, ![m, n]⟩ e) :: P) (ix2 r c) = View.canon P (ix2 r c) := by
  refine View.canon_cons_of_not_mem _ P fun hm => ?_
  have hm' := (Rect.mem_set_unit (inb := inb)).1 hm
  have h0 := hm' 0
  have h1 := hm' 1
  have e0 : o ≤ r.val ∧ r.val < o + k := h0
  have e1 : p ≤ c.val ∧ c.val < p + q := h1
  omega

/-- A load of a whole array written once, whole. -/
theorem load_whole (v : View sig κ sp ⟨2, ![m, n]⟩ e) (w : (⟨2, ![m, n]⟩ : Shape).Idx → Val e)
    (inb : ∀ a, (![0, 0] : Fin 2 → Nat) a + (![m, n] : Fin 2 → Nat) a ≤ (![m, n] : Fin 2 → Nat) a) :
    v.readCov [(⟨Rect.whole ⟨2, ![m, n]⟩, w⟩ : View.Piece Val ⟨2, ![m, n]⟩ e)] (Rect.unit (s := ⟨2, ![m, n]⟩) ![0, 0] ![m, n] inb).toLoadRect = w :=
  View.readCov_full v inb _ w []

end Any

variable {m n k : ℕ} {X Y W : ℕ → ℕ → ℝ}

/-- A row of a table, written over the rest of it. -/
def putRow (o : ℕ) (W Y : ℕ → ℕ → ℝ) (r c : ℕ) : ℝ := if r = o then W 0 c else Y r c

/-- The contents after one whole row was written last. -/
theorem canon_row (o : ℕ) (inb : ∀ a, (![o, 0] : Fin 2 → Nat) a + (![1, n] : Fin 2 → Nat) a ≤ (![m, n] : Fin 2 → Nat) a)
    {w : (⟨2, ![1, n]⟩ : Shape).Idx → Elt Ideal .f32} (hw : Holds w W)
    {P : List (View.Piece (Elt Ideal) ⟨2, ![m, n]⟩ .f32)} (hP : Holds (View.canon P) Y) :
    Holds (View.canon ((⟨Rect.unit (s := ⟨2, ![m, n]⟩) ![o, 0] ![1, n] inb, w⟩ : View.Piece (Elt Ideal) ⟨2, ![m, n]⟩ .f32) :: P)) (putRow o W Y) :=
  Holds.of fun r c => by
    unfold putRow
    split
    · next h => exact (canon_in o 0 n inb w P r c 0 c (by simpa using h) (Nat.zero_add _).symm).trans (hw.at 0 c)
    · next h => exact (canon_out o 0 n inb w P r c (by omega)).trans (hP.at r c)

/-- The same, over contents given otherwise than in pieces. -/
theorem writes_row {sig : RefSig} {κ : Kind} {sp : Space} (v : View sig κ sp ⟨2, ![m, n]⟩ .f32) (f : v.ty.Contents (Elt Ideal)) (o : ℕ)
    (inb : ∀ a, (![o, 0] : Fin 2 → Nat) a + (![1, n] : Fin 2 → Nat) a ≤ (![m, n] : Fin 2 → Nat) a)
    {w : (⟨2, ![1, n]⟩ : Shape).Idx → Elt Ideal .f32} (hw : Holds w W)
    {P : List (View.Piece (Elt Ideal) ⟨2, ![m, n]⟩ .f32)} (hP : Holds (v.read (Elt Ideal) (v.writes (Elt Ideal) f P)) Y) :
    Holds (v.read (Elt Ideal) (v.writes (Elt Ideal) f ((⟨Rect.unit (s := ⟨2, ![m, n]⟩) ![o, 0] ![1, n] inb, w⟩ : View.Piece (Elt Ideal) ⟨2, ![m, n]⟩ .f32) :: P)))
      (putRow o W Y) :=
  Holds.of fun r c => by
    unfold putRow
    split
    · next h =>
      exact (View.read_writes_cons_rows_of_mem v f inb w P (ix2 r c) (ix2 0 c) rfl (by simpa using h) rfl).trans (hw.at 0 c)
    · next h =>
      exact (View.read_writes_cons_rows_of_not_mem v f inb w P (ix2 r c) (W := 1) rfl rfl
        (by show r.val < o ∨ o + 1 ≤ r.val; omega)).trans (hP.at r c)

/-- A load of rows from `o` on. -/
theorem holds_load {sig : RefSig} {κ : Kind} {sp : Space} (v : View sig κ sp ⟨2, ![m, n]⟩ .f32) (o : ℕ)
    {P : List (View.Piece (Elt Ideal) ⟨2, ![m, n]⟩ .f32)} (hP : Holds (View.canon P) X)
    (inb : ∀ a, (![o, 0] : Fin 2 → Nat) a + (![k, n] : Fin 2 → Nat) a ≤ (![m, n] : Fin 2 → Nat) a) :
    Holds (m := k) (n := n) (v.readCov P (Rect.unit (s := ⟨2, ![m, n]⟩) ![o, 0] ![k, n] inb).toLoadRect) fun r c => X (o + r) c :=
  Holds.of fun r c => (load_rows o v P inb r c).trans (hP _)

/-- Rows from `o` on of a given array. -/
theorem holds_rows (o : ℕ) {x : (⟨2, ![m, n]⟩ : Shape).Idx → Elt Ideal .f32} (hx : Holds x X)
    (inb : ∀ a, (![o, 0] : Fin 2 → Nat) a + (![k, n] : Fin 2 → Nat) a ≤ (![m, n] : Fin 2 → Nat) a) :
    Holds (m := k) (n := n) (View.ld x (Rect.unit (s := ⟨2, ![m, n]⟩) ![o, 0] ![k, n] inb)) fun r c => X (o + r) c :=
  Holds.of fun r c => (congrArg x (at_rect o 0 n inb r c ⟨o + r.val, Nat.lt_of_lt_of_le (Nat.add_lt_add_left r.isLt o) (inb 0)⟩ c rfl (Nat.zero_add _).symm)).trans (hx _)

/-- The contents after the right and, before it, the left half of the columns were written. -/
theorem canon_halves {p q : ℕ} {A B : ℕ → ℕ → ℝ} (hn : n = p + q)
    (inbB : ∀ a, (![0, p] : Fin 2 → Nat) a + (![m, q] : Fin 2 → Nat) a ≤ (![m, n] : Fin 2 → Nat) a)
    (inbA : ∀ a, (![0, 0] : Fin 2 → Nat) a + (![m, p] : Fin 2 → Nat) a ≤ (![m, n] : Fin 2 → Nat) a)
    {a : (⟨2, ![m, p]⟩ : Shape).Idx → Elt Ideal .bf16} {b : (⟨2, ![m, q]⟩ : Shape).Idx → Elt Ideal .bf16} (ha : Holds a A) (hb : Holds b B) :
    Holds (View.canon [(⟨Rect.unit (s := ⟨2, ![m, n]⟩) ![0, p] ![m, q] inbB, b⟩ : View.Piece (Elt Ideal) ⟨2, ![m, n]⟩ .bf16),
      ⟨Rect.unit (s := ⟨2, ![m, n]⟩) ![0, 0] ![m, p] inbA, a⟩]) fun r c => if c < p then A r c else B r (c - p) :=
  Holds.of fun r c => by
    split
    · next h =>
      refine (canon_out 0 p q inbB b _ r c (by omega)).trans ?_
      exact (canon_in 0 0 p inbA a [] r c r ⟨c.val, h⟩ (Nat.zero_add _).symm (Nat.zero_add _).symm).trans (ha.at r ⟨c.val, h⟩)
    · next h =>
      have hc : c.val - p < q := by have := c.isLt; omega
      exact (canon_in 0 p q inbB b _ r c r ⟨c.val - p, hc⟩ (Nat.zero_add _).symm (by show c.val = p + (c.val - p); omega)).trans (hb.at r ⟨c.val - p, hc⟩)

/-- A load of the whole of an array written in pieces. -/
theorem holds_load_whole {sig : RefSig} {κ : Kind} {sp : Space} (v : View sig κ sp ⟨2, ![m, n]⟩ .bf16)
    {P : List (View.Piece (Elt Ideal) ⟨2, ![m, n]⟩ .bf16)} (hP : Holds (View.canon P) X)
    (inb : ∀ a, (![0, 0] : Fin 2 → Nat) a + (![m, n] : Fin 2 → Nat) a ≤ (![m, n] : Fin 2 → Nat) a) :
    Holds (m := m) (n := n) (v.readCov P (Rect.unit (s := ⟨2, ![m, n]⟩) ![0, 0] ![m, n] inb).toLoadRect) X :=
  Holds.of fun r c => (load_rows 0 v P inb r c).trans ((hP _).trans (by
    show ((X (0 + r.val) c.val : ℝ) : EReal) = _
    rw [Nat.zero_add]))

end Cert.Pieces

end
-- ==== Proof.Windows.lean ====
module

public import proofs.«01_k».proof.Proof.Payload
public import proofs.«01_k».proof.Proof.Pieces
public import proofs.«01_k».proof.Proof.Gen.KernelIdeal.Value

@[expose] public section

/-! What one grid point leaves in each output window, as a table of real numbers. At the first point (case A) the weights
are those just copied into the scratches and the two accumulators start from zero; at the later points (case B) the
scratches hold the weights and the accumulators hold what the points before left. -/

noncomputable section

namespace Cert.Windows

open Idealize.ShloMosaic hiding ix2
open Idealize.SL.Sem Cert.Tables Cert.Model Cert.Payload Cert.Pieces Cert.KernelIdeal Cert.KernelIdeal.Gen
open scoped BigOperators

/-- The sums over one tile's rows added to given rows. -/
def addSums (L : Layer) (X T : ℕ → ℕ → ℝ) (N : ℕ) (S : ℕ → ℕ → ℝ) (r c : ℕ) : ℝ := S r c + sums L X T N r c

/-- The three rows of sums written over the given ones. -/
theorem addSums_rows (L : Layer) (X T : ℕ → ℕ → ℝ) (S : ℕ → ℕ → ℝ) (r c : ℕ) :
    putRow 1 (fun r c => S (1 + r) c + ∑ i ∈ Finset.range 256, L.dh (X i) (T i) c * unit (X i) c)
      (putRow 0 (fun r c => S (0 + r) c + ∑ i ∈ Finset.range 256, L.dh (X i) (T i) c)
        (putRow 2 (fun r c => S (2 + r) c + ∑ i ∈ Finset.range 256, L.dout (X i) (T i) c * unit (L.f (X i)) c) S)) r c
      = addSums L X T 256 S r c := by
  unfold putRow addSums sums
  by_cases h1 : r = 1
  · subst h1; rfl
  by_cases h0 : r = 0
  · subst h0; rfl
  by_cases h2 : r = 2
  · subst h2; rfl
  · rw [if_neg h1, if_neg h0, if_neg h2, if_neg h0, if_neg h1, if_neg h2, add_zero]

/-- A row written over another table at another row is read through. -/
theorem putRow_ne {o r : ℕ} (W Y : ℕ → ℕ → ℝ) (h : r ≠ o) (c : ℕ) : putRow o W Y r c = Y r c := if_neg h

variable {L : Layer} {X T : ℕ → ℕ → ℝ} (t : Tile L X T)

/-- The gradient at the first projection, read back whole from its two halves. -/
theorem du_back {sig : RefSig} {κ : Kind} {sp : Space} (v : View sig κ sp S256x5632 .bf16) :
    Holds (k0_pay28 (v.readCov [(⟨Rect.unit (s := S256x5632) ![0, 2816] ![256, 2816] inb_S256x5632_S256x2816_0_2816,
        k0_pay27 (k0_pay15 t.x t.gm t.sh t.wi) (k0_pay18 t.a t.wo) (k0_pay19 t.a t.wo) t.gt t.g4 t.d t.wo⟩ : View.Piece (Elt Ideal) S256x5632 .bf16),
      ⟨Rect.unit (s := S256x5632) ![0, 0] ![256, 2816] inb_S256x5632_S256x2816_0_0,
        k0_pay26 (k0_pay12 t.x t.gm t.sh t.wi) (k0_pay13 t.x t.gm t.sh t.wi) (k0_pay14 t.x t.gm t.sh t.wi)
          (k0_pay18 t.a t.wo) (k0_pay19 t.a t.wo) t.gt t.g4 t.d t.wo⟩]
      (Rect.unit (s := S256x5632) ![0, 0] ![256, 5632] inb_S256x5632_S256x5632_0_0).toLoadRect)) fun r => L.du (X r) (T r) :=
  Holds.shapeCast (m := 256) (n := 5632) (holds_load_whole (m := 256) (n := 5632) v (canon_halves (m := 256) (p := 2816) (q := 2816) rfl _ _ t.dgate26 t.dup27) _) _

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg9 : Memref sig .tc .vmem S256x1024 .f32) (harg9 : arg9.IsWhole) (arg10 : Memref sig .tc .vmem S256x1024 .bf16) (harg10 : arg10.IsWhole) (arg11 : Memref sig .tc .vmem S256x5632 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S8x1024 .f32) (harg14 : arg14.IsWhole) (arg15 : Memref sig .tc .vmem S8x128 .f32) (harg15 : arg15.IsWhole) (arg16 : Memref sig .tc .vmem S5632x1024 .bf16) (harg16 : arg16.IsWhole) (arg17 : Memref sig .tc .vmem S2816x1024 .bf16) (harg17 : arg17.IsWhole)

/-- The gradient at the rows, at the first point. -/
theorem dx_A (hc0 : cond0_0 i) (fh0 : HbBuf0 (F := Ideal) c hbM0_0) (fh1 : HbBuf0 (F := Ideal) c hbM0_1)
    (hw0 : ReadAs.same.apply (View.read (Elt Ideal) (View.whole main_v4) fh0) = t.wi) (hw1 : ReadAs.same.apply (View.read (Elt Ideal) (View.whole main_v5) fh1) = t.wo) :
    Holds (out0_A_6 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 fh0 fh1) (fun r => L.dx (X r) (T r)) := by
  unfold out0_A_6
  rw [View.read_writes_eq_canon _ _ _ (cover0_A_6 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 fh0 fh1)]
  unfold kernelRun0_A
  dsimp only
  sl_unfold_words
  simp only [View.readAt_eq_ld, harg1.read_unread, harg2.read_unread, harg3.read_unread, harg4.read_unread, harg5.read_unread, harg6.read_unread, harg14.read_unread, harg15.read_unread, harg16.read_unread, harg17.read_unread,
    View.ld_unit_zero (S := S256x1024) hz, View.ld_unit_zero (S := S1x1024) hz, View.ld_unit_zero (S := S5632x1024) hz, View.ld_unit_zero (S := S2816x1024) hz, View.ld_unit_zero (S := S8x128) hz, View.ld_unit_zero (S := S256x5632) hz,
    hw0, hw1, load_whole (m := 5632) (n := 1024), load_whole (m := 2816) (n := 1024)]
  rw [View.canon_unit_zero hz]
  exact t.dx4 (du_back t _)

/-- The gradient at the rows, at a later point. -/
theorem dx_B (hc0 : ¬cond0_0 i) (xo11 : Vec Ideal S8x1024 .f32) (xo12 : Vec Ideal S8x128 .f32) (fh0 : HbBuf0 (F := Ideal) c hbM0_0) (fh1 : HbBuf0 (F := Ideal) c hbM0_1) :
    Holds (out0_B_6 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 xo11 xo12 t.wi t.wo fh0 fh1) (fun r => L.dx (X r) (T r)) := by
  unfold out0_B_6
  rw [View.read_writes_eq_canon _ _ _ (cover0_B_6 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 xo11 xo12 t.wi t.wo fh0 fh1)]
  unfold kernelRun0_B
  dsimp only
  sl_unfold_words
  simp only [View.readAt_eq_ld, harg1.read_unread, harg2.read_unread, harg3.read_unread, harg4.read_unread, harg5.read_unread, harg6.read_unread, harg14.read_unread, harg15.read_unread, harg16.read_unread, harg17.read_unread,
    View.ld_unit_zero (S := S256x1024) hz, View.ld_unit_zero (S := S1x1024) hz, View.ld_unit_zero (S := S5632x1024) hz, View.ld_unit_zero (S := S2816x1024) hz, View.ld_unit_zero (S := S8x128) hz, View.ld_unit_zero (S := S256x5632) hz]
  rw [View.canon_unit_zero hz]
  exact t.dx4 (du_back t _)

/-- The rows entering the first projection, at the first point. -/
theorem h_A (hc0 : cond0_0 i) (fh0 : HbBuf0 (F := Ideal) c hbM0_0) (fh1 : HbBuf0 (F := Ideal) c hbM0_1)
    (hw0 : ReadAs.same.apply (View.read (Elt Ideal) (View.whole main_v4) fh0) = t.wi) (hw1 : ReadAs.same.apply (View.read (Elt Ideal) (View.whole main_v5) fh1) = t.wo) :
    Holds (out0_A_7 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 fh0 fh1) (fun r => L.h (X r)) := by
  unfold out0_A_7
  rw [View.read_writes_eq_canon _ _ _ (cover0_A_7 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 fh0 fh1)]
  unfold kernelRun0_A
  dsimp only
  sl_unfold_words
  simp only [View.readAt_eq_ld, harg1.read_unread, harg2.read_unread, harg3.read_unread, harg4.read_unread, harg5.read_unread, harg6.read_unread, harg14.read_unread, harg15.read_unread, harg16.read_unread, harg17.read_unread,
    View.ld_unit_zero (S := S256x1024) hz, View.ld_unit_zero (S := S1x1024) hz, View.ld_unit_zero (S := S5632x1024) hz, View.ld_unit_zero (S := S2816x1024) hz, View.ld_unit_zero (S := S8x128) hz, View.ld_unit_zero (S := S256x5632) hz,
    hw0, hw1, load_whole (m := 5632) (n := 1024), load_whole (m := 2816) (n := 1024)]
  rw [View.canon_unit_zero hz]
  exact t.h10

/-- The rows entering the first projection, at a later point. -/
theorem h_B (hc0 : ¬cond0_0 i) (xo11 : Vec Ideal S8x1024 .f32) (xo12 : Vec Ideal S8x128 .f32) (fh0 : HbBuf0 (F := Ideal) c hbM0_0) (fh1 : HbBuf0 (F := Ideal) c hbM0_1) :
    Holds (out0_B_7 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 xo11 xo12 t.wi t.wo fh0 fh1) (fun r => L.h (X r)) := by
  unfold out0_B_7
  rw [View.read_writes_eq_canon _ _ _ (cover0_B_7 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 xo11 xo12 t.wi t.wo fh0 fh1)]
  unfold kernelRun0_B
  dsimp only
  sl_unfold_words
  simp only [View.readAt_eq_ld, harg1.read_unread, harg2.read_unread, harg3.read_unread, harg4.read_unread, harg5.read_unread, harg6.read_unread, harg14.read_unread, harg15.read_unread, harg16.read_unread, harg17.read_unread,
    View.ld_unit_zero (S := S256x1024) hz, View.ld_unit_zero (S := S1x1024) hz, View.ld_unit_zero (S := S5632x1024) hz, View.ld_unit_zero (S := S2816x1024) hz, View.ld_unit_zero (S := S8x128) hz, View.ld_unit_zero (S := S256x5632) hz]
  rw [View.canon_unit_zero hz]
  exact t.h10

/-- The gradient at the first projection, at the first point. -/
theorem du_A (hc0 : cond0_0 i) (fh0 : HbBuf0 (F := Ideal) c hbM0_0) (fh1 : HbBuf0 (F := Ideal) c hbM0_1)
    (hw0 : ReadAs.same.apply (View.read (Elt Ideal) (View.whole main_v4) fh0) = t.wi) (hw1 : ReadAs.same.apply (View.read (Elt Ideal) (View.whole main_v5) fh1) = t.wo) :
    Holds (out0_A_8 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 fh0 fh1) (fun r => L.du (X r) (T r)) := by
  unfold out0_A_8
  rw [View.read_writes_eq_canon _ _ _ (cover0_A_8 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 fh0 fh1)]
  unfold kernelRun0_A
  dsimp only
  sl_unfold_words
  simp only [View.readAt_eq_ld, harg1.read_unread, harg2.read_unread, harg3.read_unread, harg4.read_unread, harg5.read_unread, harg6.read_unread, harg14.read_unread, harg15.read_unread, harg16.read_unread, harg17.read_unread,
    View.ld_unit_zero (S := S256x1024) hz, View.ld_unit_zero (S := S1x1024) hz, View.ld_unit_zero (S := S5632x1024) hz, View.ld_unit_zero (S := S2816x1024) hz, View.ld_unit_zero (S := S8x128) hz, View.ld_unit_zero (S := S256x5632) hz,
    hw0, hw1, load_whole (m := 5632) (n := 1024), load_whole (m := 2816) (n := 1024)]
  exact canon_halves (m := 256) (n := 5632) (p := 2816) (q := 2816) rfl _ _ t.dgate26 t.dup27

/-- The gradient at the first projection, at a later point. -/
theorem du_B (hc0 : ¬cond0_0 i) (xo11 : Vec Ideal S8x1024 .f32) (xo12 : Vec Ideal S8x128 .f32) (fh0 : HbBuf0 (F := Ideal) c hbM0_0) (fh1 : HbBuf0 (F := Ideal) c hbM0_1) :
    Holds (out0_B_8 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 xo11 xo12 t.wi t.wo fh0 fh1) (fun r => L.du (X r) (T r)) := by
  unfold out0_B_8
  rw [View.read_writes_eq_canon _ _ _ (cover0_B_8 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 xo11 xo12 t.wi t.wo fh0 fh1)]
  unfold kernelRun0_B
  dsimp only
  sl_unfold_words
  simp only [View.readAt_eq_ld, harg1.read_unread, harg2.read_unread, harg3.read_unread, harg4.read_unread, harg5.read_unread, harg6.read_unread, harg14.read_unread, harg15.read_unread, harg16.read_unread, harg17.read_unread,
    View.ld_unit_zero (S := S256x1024) hz, View.ld_unit_zero (S := S1x1024) hz, View.ld_unit_zero (S := S5632x1024) hz, View.ld_unit_zero (S := S2816x1024) hz, View.ld_unit_zero (S := S8x128) hz, View.ld_unit_zero (S := S256x5632) hz]
  exact canon_halves (m := 256) (n := 5632) (p := 2816) (q := 2816) rfl _ _ t.dgate26 t.dup27

/-- The gated rows, at the first point. -/
theorem act_A (hc0 : cond0_0 i) (fh0 : HbBuf0 (F := Ideal) c hbM0_0) (fh1 : HbBuf0 (F := Ideal) c hbM0_1)
    (hw0 : ReadAs.same.apply (View.read (Elt Ideal) (View.whole main_v4) fh0) = t.wi) (hw1 : ReadAs.same.apply (View.read (Elt Ideal) (View.whole main_v5) fh1) = t.wo) :
    Holds (out0_A_9 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 fh0 fh1) (fun r => L.act (X r)) := by
  unfold out0_A_9
  rw [View.read_writes_eq_canon _ _ _ (cover0_A_9 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 fh0 fh1)]
  unfold kernelRun0_A
  dsimp only
  sl_unfold_words
  simp only [View.readAt_eq_ld, harg1.read_unread, harg2.read_unread, harg3.read_unread, harg4.read_unread, harg5.read_unread, harg6.read_unread, harg14.read_unread, harg15.read_unread, harg16.read_unread, harg17.read_unread,
    View.ld_unit_zero (S := S256x1024) hz, View.ld_unit_zero (S := S1x1024) hz, View.ld_unit_zero (S := S5632x1024) hz, View.ld_unit_zero (S := S2816x1024) hz, View.ld_unit_zero (S := S8x128) hz, View.ld_unit_zero (S := S256x5632) hz,
    hw0, hw1, load_whole (m := 5632) (n := 1024), load_whole (m := 2816) (n := 1024)]
  rw [View.canon_unit_zero hz]
  exact t.act16

/-- The gated rows, at a later point. -/
theorem act_B (hc0 : ¬cond0_0 i) (xo11 : Vec Ideal S8x1024 .f32) (xo12 : Vec Ideal S8x128 .f32) (fh0 : HbBuf0 (F := Ideal) c hbM0_0) (fh1 : HbBuf0 (F := Ideal) c hbM0_1) :
    Holds (out0_B_9 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 xo11 xo12 t.wi t.wo fh0 fh1) (fun r => L.act (X r)) := by
  unfold out0_B_9
  rw [View.read_writes_eq_canon _ _ _ (cover0_B_9 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 xo11 xo12 t.wi t.wo fh0 fh1)]
  unfold kernelRun0_B
  dsimp only
  sl_unfold_words
  simp only [View.readAt_eq_ld, harg1.read_unread, harg2.read_unread, harg3.read_unread, harg4.read_unread, harg5.read_unread, harg6.read_unread, harg14.read_unread, harg15.read_unread, harg16.read_unread, harg17.read_unread,
    View.ld_unit_zero (S := S256x1024) hz, View.ld_unit_zero (S := S1x1024) hz, View.ld_unit_zero (S := S5632x1024) hz, View.ld_unit_zero (S := S2816x1024) hz, View.ld_unit_zero (S := S8x128) hz, View.ld_unit_zero (S := S256x5632) hz]
  rw [View.canon_unit_zero hz]
  exact t.act16

/-- The gradient at the projection back, at the first point. -/
theorem df_A (hc0 : cond0_0 i) (fh0 : HbBuf0 (F := Ideal) c hbM0_0) (fh1 : HbBuf0 (F := Ideal) c hbM0_1)
    (hw0 : ReadAs.same.apply (View.read (Elt Ideal) (View.whole main_v4) fh0) = t.wi) (hw1 : ReadAs.same.apply (View.read (Elt Ideal) (View.whole main_v5) fh1) = t.wo) :
    Holds (out0_A_10 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 fh0 fh1) (fun r => L.df (X r) (T r)) := by
  unfold out0_A_10
  rw [View.read_writes_eq_canon _ _ _ (cover0_A_10 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 fh0 fh1)]
  unfold kernelRun0_A
  dsimp only
  sl_unfold_words
  simp only [View.readAt_eq_ld, harg1.read_unread, harg2.read_unread, harg3.read_unread, harg4.read_unread, harg5.read_unread, harg6.read_unread, harg14.read_unread, harg15.read_unread, harg16.read_unread, harg17.read_unread,
    View.ld_unit_zero (S := S256x1024) hz, View.ld_unit_zero (S := S1x1024) hz, View.ld_unit_zero (S := S5632x1024) hz, View.ld_unit_zero (S := S2816x1024) hz, View.ld_unit_zero (S := S8x128) hz, View.ld_unit_zero (S := S256x5632) hz,
    hw0, hw1, load_whole (m := 5632) (n := 1024), load_whole (m := 2816) (n := 1024)]
  rw [View.canon_unit_zero hz]
  exact t.df24

/-- The gradient at the projection back, at a later point. -/
theorem df_B (hc0 : ¬cond0_0 i) (xo11 : Vec Ideal S8x1024 .f32) (xo12 : Vec Ideal S8x128 .f32) (fh0 : HbBuf0 (F := Ideal) c hbM0_0) (fh1 : HbBuf0 (F := Ideal) c hbM0_1) :
    Holds (out0_B_10 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 xo11 xo12 t.wi t.wo fh0 fh1) (fun r => L.df (X r) (T r)) := by
  unfold out0_B_10
  rw [View.read_writes_eq_canon _ _ _ (cover0_B_10 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 xo11 xo12 t.wi t.wo fh0 fh1)]
  unfold kernelRun0_B
  dsimp only
  sl_unfold_words
  simp only [View.readAt_eq_ld, harg1.read_unread, harg2.read_unread, harg3.read_unread, harg4.read_unread, harg5.read_unread, harg6.read_unread, harg14.read_unread, harg15.read_unread, harg16.read_unread, harg17.read_unread,
    View.ld_unit_zero (S := S256x1024) hz, View.ld_unit_zero (S := S1x1024) hz, View.ld_unit_zero (S := S5632x1024) hz, View.ld_unit_zero (S := S2816x1024) hz, View.ld_unit_zero (S := S8x128) hz, View.ld_unit_zero (S := S256x5632) hz]
  rw [View.canon_unit_zero hz]
  exact t.df24

/-- The sums over the rows, at the first point. -/
theorem sums_A (hc0 : cond0_0 i) (fh0 : HbBuf0 (F := Ideal) c hbM0_0) (fh1 : HbBuf0 (F := Ideal) c hbM0_1)
    (hw0 : ReadAs.same.apply (View.read (Elt Ideal) (View.whole main_v4) fh0) = t.wi) (hw1 : ReadAs.same.apply (View.read (Elt Ideal) (View.whole main_v5) fh1) = t.wo) :
    Holds (out0_A_11 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 fh0 fh1) (addSums L X T 256 (fun _ _ => 0)) := by
  unfold out0_A_11
  rw [View.read_writes_eq_canon _ _ _ (cover0_A_11 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 fh0 fh1)]
  unfold kernelRun0_A
  dsimp only
  sl_unfold_words
  simp only [View.readAt_eq_ld, harg1.read_unread, harg2.read_unread, harg3.read_unread, harg4.read_unread, harg5.read_unread, harg6.read_unread, harg14.read_unread, harg15.read_unread, harg16.read_unread, harg17.read_unread,
    View.ld_unit_zero (S := S256x1024) hz, View.ld_unit_zero (S := S1x1024) hz, View.ld_unit_zero (S := S5632x1024) hz, View.ld_unit_zero (S := S2816x1024) hz, View.ld_unit_zero (S := S8x128) hz, View.ld_unit_zero (S := S256x5632) hz,
    hw0, hw1, load_whole (m := 5632) (n := 1024), load_whole (m := 2816) (n := 1024)]
  have h0 : Holds (View.canon [(⟨Rect.unit (s := S8x1024) ![0, 0] ![8, 1024] inb_S8x1024_S8x1024_0_0, k0_pay5 (F := Ideal)⟩ : View.Piece (Elt Ideal) S8x1024 .f32)])
      fun _ _ => 0 := by
    rw [View.canon_unit_zero (S := S8x1024) hz]
    exact holds_broadcast word_zero
  have h2 := canon_row (m := 8) (n := 1024) 2 inb_S8x1024_S1x1024_2_0 (t.gain23 (holds_load (m := 8) (k := 1) (n := 1024) arg14.view 2 h0 inb_S8x1024_S1x1024_2_0)) h0
  have h20 := canon_row (m := 8) (n := 1024) 0 inb_S8x1024_S1x1024_0_0 (t.shift2 (du_back t arg11.view) (holds_load (m := 8) (k := 1) (n := 1024) arg14.view 0 h2 inb_S8x1024_S1x1024_0_0)) h2
  have h201 := canon_row (m := 8) (n := 1024) 1 inb_S8x1024_S1x1024_1_0 (t.gain3 (du_back t arg11.view) (holds_load (m := 8) (k := 1) (n := 1024) arg14.view 1 h20 inb_S8x1024_S1x1024_1_0)) h20
  refine Holds.congr h201 fun r _ c _ => ?_
  rw [← addSums_rows]
  rfl

/-- The sums over the rows, at a later point. -/
theorem sums_B (hc0 : ¬cond0_0 i) (xo11 : Vec Ideal S8x1024 .f32) (xo12 : Vec Ideal S8x128 .f32) (fh0 : HbBuf0 (F := Ideal) c hbM0_0) (fh1 : HbBuf0 (F := Ideal) c hbM0_1) {S : ℕ → ℕ → ℝ} (hS : Holds xo11 S) :
    Holds (out0_B_11 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 xo11 xo12 t.wi t.wo fh0 fh1) (addSums L X T 256 S) := by
  unfold out0_B_11
  unfold kernelRun0_B
  dsimp only
  sl_unfold_words
  simp only [View.readAt_eq_ld, harg1.read_unread, harg2.read_unread, harg3.read_unread, harg4.read_unread, harg5.read_unread, harg6.read_unread, harg14.read_unread, harg15.read_unread, harg16.read_unread, harg17.read_unread,
    View.ld_unit_zero (S := S256x1024) hz, View.ld_unit_zero (S := S1x1024) hz, View.ld_unit_zero (S := S5632x1024) hz, View.ld_unit_zero (S := S2816x1024) hz, View.ld_unit_zero (S := S8x128) hz, View.ld_unit_zero (S := S256x5632) hz]
  refine Holds.congr (writes_row (m := 8) (n := 1024) _ _ 1 _ (t.gain3 (du_back t _) (holds_rows (m := 8) (k := 1) (n := 1024) 1 hS _))
    (writes_row (m := 8) (n := 1024) _ _ 0 _ (t.shift2 (du_back t _) (holds_rows (m := 8) (k := 1) (n := 1024) 0 hS _))
      (writes_row (m := 8) (n := 1024) _ _ 2 _ (t.gain23 (holds_rows (m := 8) (k := 1) (n := 1024) 2 hS _)) (Y := S) ?_))) fun r _ c _ => addSums_rows L X T S r c
  show Holds (View.read (Elt Ideal) arg14.view (harg14.unread xo11)) S
  rw [harg14.read_unread]
  exact hS

/-- The loss, at the first point. -/
theorem loss_A (hc0 : cond0_0 i) (fh0 : HbBuf0 (F := Ideal) c hbM0_0) (fh1 : HbBuf0 (F := Ideal) c hbM0_1)
    (hw0 : ReadAs.same.apply (View.read (Elt Ideal) (View.whole main_v4) fh0) = t.wi) (hw1 : ReadAs.same.apply (View.read (Elt Ideal) (View.whole main_v5) fh1) = t.wo) :
    Holds (out0_A_12 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 fh0 fh1) (fun r c => 0 + total L X T 256) := by
  unfold out0_A_12
  rw [View.read_writes_eq_canon _ _ _ (cover0_A_12 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 fh0 fh1)]
  unfold kernelRun0_A
  dsimp only
  sl_unfold_words
  simp only [View.readAt_eq_ld, harg1.read_unread, harg2.read_unread, harg3.read_unread, harg4.read_unread, harg5.read_unread, harg6.read_unread, harg14.read_unread, harg15.read_unread, harg16.read_unread, harg17.read_unread,
    View.ld_unit_zero (S := S256x1024) hz, View.ld_unit_zero (S := S1x1024) hz, View.ld_unit_zero (S := S5632x1024) hz, View.ld_unit_zero (S := S2816x1024) hz, View.ld_unit_zero (S := S8x128) hz, View.ld_unit_zero (S := S256x5632) hz,
    hw0, hw1, load_whole (m := 5632) (n := 1024), load_whole (m := 2816) (n := 1024)]
  rw [View.canon_cons_unit_zero (S := S8x128) hz]
  refine t.loss21 (V := fun _ _ => 0) ?_
  rw [View.readCov_unit_zero (S := S8x128) _ hz]
  exact holds_broadcast word_zero

/-- The loss, at a later point. -/
theorem loss_B (hc0 : ¬cond0_0 i) (xo11 : Vec Ideal S8x1024 .f32) (xo12 : Vec Ideal S8x128 .f32) (fh0 : HbBuf0 (F := Ideal) c hbM0_0) (fh1 : HbBuf0 (F := Ideal) c hbM0_1) {V : ℕ → ℕ → ℝ} (hV : Holds xo12 V) :
    Holds (out0_B_12 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 xo11 xo12 t.wi t.wo fh0 fh1) (fun r c => V r c + total L X T 256) := by
  unfold out0_B_12
  rw [View.read_writes_eq_canon _ _ _ (cover0_B_12 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 t.x t.t t.gm t.sh t.gt t.g4 xo11 xo12 t.wi t.wo fh0 fh1)]
  unfold kernelRun0_B
  dsimp only
  sl_unfold_words
  simp only [View.readAt_eq_ld, harg1.read_unread, harg2.read_unread, harg3.read_unread, harg4.read_unread, harg5.read_unread, harg6.read_unread, harg14.read_unread, harg15.read_unread, harg16.read_unread, harg17.read_unread,
    View.ld_unit_zero (S := S256x1024) hz, View.ld_unit_zero (S := S1x1024) hz, View.ld_unit_zero (S := S5632x1024) hz, View.ld_unit_zero (S := S2816x1024) hz, View.ld_unit_zero (S := S8x128) hz, View.ld_unit_zero (S := S256x5632) hz]
  rw [View.canon_unit_zero hz]
  exact t.loss21 hV

end

end Cert.Windows

end
-- ==== Proof.Entry.lean ====
module

public import proofs.«01_k».proof.Proof.Windows

@[expose] public section

/-! What the kernel finds at each grid point: the arrays the host prepared (the first gain, the transposed first weight,
the two weights rounded), and the blocks of the arguments, as real tables. -/

noncomputable section

namespace Cert.Entry

open Idealize.ShloMosaic hiding ix2
open Idealize.ShloMosaic.TcCoe
open Idealize.ShloMosaic.ValueIdx Idealize.SL.Sem Cert.Tables Cert.Model Cert.Payload Cert.KernelIdeal Cert.KernelIdeal.Gen
open scoped BigOperators

/-- The arguments as real tables: rows, targets, shift, scale, gate, the two gains and the two weights. -/
structure Args where
  X : ℕ → ℕ → ℝ
  T : ℕ → ℕ → ℝ
  sh : ℕ → ℝ
  sc : ℕ → ℝ
  gt : ℕ → ℝ
  g1 : ℕ → ℝ
  g4 : ℕ → ℝ
  wi : ℕ → ℕ → ℝ
  wo : ℕ → ℕ → ℝ

/-- The layer they make: the gain of the first norm is `g1 * (1 + sc)`. -/
def Args.layer (A : Args) : Layer := ⟨fun c => A.g1 c * (1 + A.sc c), A.sh, A.gt, A.g4, A.wi, A.wo⟩

variable (m : (ℓ : Loc nD τ sig) → Buf (Elt Ideal) ℓ)

/-- The arguments in memory hold these tables. -/
structure Given (c : Dev nD) (A : Args) : Prop where
  hX : Holds (m := 8192) (n := 1024) (m ((c : Thread nD τ).loc main_arg0)) A.X
  hT : Holds (m := 8192) (n := 1024) (m ((c : Thread nD τ).loc main_arg1)) A.T
  hsh : Holds (m := 1) (n := 1024) (m ((c : Thread nD τ).loc main_arg2)) fun _ => A.sh
  hsc : Holds (m := 1) (n := 1024) (m ((c : Thread nD τ).loc main_arg3)) fun _ => A.sc
  hgt : Holds (m := 1) (n := 1024) (m ((c : Thread nD τ).loc main_arg4)) fun _ => A.gt
  hg1 : Holds (m := 1) (n := 1024) (m ((c : Thread nD τ).loc main_arg5)) fun _ => A.g1
  hg4 : Holds (m := 1) (n := 1024) (m ((c : Thread nD τ).loc main_arg6)) fun _ => A.g4
  hwi : Holds (m := 1024) (n := 5632) (m ((c : Thread nD τ).loc main_arg7)) A.wi
  hwo : Holds (m := 2816) (n := 1024) (m ((c : Thread nD τ).loc main_arg8)) A.wo

variable (c : Dev nD)

/-- The arguments are untouched by the host's preparation. -/
theorem V_arg0 : V m c main_arg0 = m ((c : Thread nD τ).loc main_arg0) := by
  show StableHlo.after hostOps0 _ (Proc.devRef .tc main_arg0) = _
  after_results
theorem V_arg1 : V m c main_arg1 = m ((c : Thread nD τ).loc main_arg1) := by
  show StableHlo.after hostOps0 _ (Proc.devRef .tc main_arg1) = _
  after_results
theorem V_arg2 : V m c main_arg2 = m ((c : Thread nD τ).loc main_arg2) := by
  show StableHlo.after hostOps0 _ (Proc.devRef .tc main_arg2) = _
  after_results
theorem V_arg4 : V m c main_arg4 = m ((c : Thread nD τ).loc main_arg4) := by
  show StableHlo.after hostOps0 _ (Proc.devRef .tc main_arg4) = _
  after_results
theorem V_arg6 : V m c main_arg6 = m ((c : Thread nD τ).loc main_arg6) := by
  show StableHlo.after hostOps0 _ (Proc.devRef .tc main_arg6) = _
  after_results
/-- The gain of the first norm as the host prepares it. -/
theorem V_v2 : V m c main_v2 = mulf (F := Ideal) (s := S1x1024) (φ := .f32) (m ((c : Thread nD τ).loc main_arg5))
    (addf (broadcastInDim S1x1024 ![] bcast_S_S1x1024 (constant S_ .f32 0x3F800000#32)) (m ((c : Thread nD τ).loc main_arg3))) := by
  show StableHlo.after hostOps0 _ (Proc.devRef .tc main_v2) = _
  after_results
/-- The first weight, transposed and rounded. -/
theorem V_v4 : V m c main_v4 = truncf (F := Ideal) (φ := .f32) .bf16 (transpose S5632x1024 [1, 0] (m ((c : Thread nD τ).loc main_arg7)) transposes_S1024x5632_S5632x1024_1_0) bitsLt_bf16_f32 := by
  show StableHlo.after hostOps0 _ (Proc.devRef .tc main_v4) = _
  after_results
/-- The second weight, rounded. -/
theorem V_v5 : V m c main_v5 = truncf (F := Ideal) (φ := .f32) .bf16 (m ((c : Thread nD τ).loc main_arg8)) bitsLt_bf16_f32 := by
  show StableHlo.after hostOps0 _ (Proc.devRef .tc main_v5) = _
  after_results

variable {m c} {A : Args} (G : Given m c A)
include G

/-- The gain, as a table. -/
theorem holds_gain : Holds (m := 1) (n := 1024) (V m c main_v2) fun _ => A.layer.gm := by
  rw [V_v2]
  exact Holds.mulf (φ := .f32) G.hg1 (Holds.addf (φ := .f32) (holds_broadcast (φ := .f32) word_one) G.hsc)

/-- The first weight the kernel is given, as a table. -/
theorem holds_wi : Holds (m := 5632) (n := 1024) (V m c main_v4) fun j k => A.layer.wi k j := by
  rw [V_v4]
  refine Holds.truncf (φ := .f32) (m := 5632) (n := 1024) (Holds.of fun r k => ?_) _
  exact (transpose_apply _ _ _ (ix2 r k) (ix2 k r) (fun b => by fin_cases b <;> rfl)).trans (G.hwi.at k r)

/-- The second weight, as a table. -/
theorem holds_wo : Holds (m := 2816) (n := 1024) (V m c main_v5) A.layer.wo := by
  rw [V_v5]
  exact Holds.truncf (φ := .f32) G.hwo _

omit G in
/-- The block of rows a point takes. -/
theorem index_rows : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- The rows at a point. -/
theorem holds_x (t : Fin cfg0.N) : Holds (m := 256) (n := 1024) (iblk m c 0 t) fun r => A.X (256 * t.val + r) := by
  refine fun j => ?_
  unfold iblk
  rw [View.read_apply]
  show V m c main_arg0 _ = _
  rw [V_arg0]
  refine (G.hX _).trans ?_
  obtain ⟨h0, h1, -, -⟩ := index_rows t
  have e0 : win0_0.index t 0 * 256 + 1 * (j 0).val = 256 * t.val + (j 0).val := by rw [h0]; ring
  have e1 : win0_0.index t 1 * 1024 + 1 * (j 1).val = (j 1).val := by rw [h1]; ring
  exact congrArg _ (congrArg₂ A.X e0 e1)

/-- The targets at a point. -/
theorem holds_t (t : Fin cfg0.N) : Holds (m := 256) (n := 1024) (iblk m c 1 t) fun r => A.T (256 * t.val + r) := by
  refine fun j => ?_
  unfold iblk
  rw [View.read_apply]
  show V m c main_arg1 _ = _
  rw [V_arg1]
  refine (G.hT _).trans ?_
  obtain ⟨-, -, h0, h1⟩ := index_rows t
  have e0 : win0_1.index t 0 * 256 + 1 * (j 0).val = 256 * t.val + (j 0).val := by rw [h0]; ring
  have e1 : win0_1.index t 1 * 1024 + 1 * (j 1).val = (j 1).val := by rw [h1]; ring
  exact congrArg _ (congrArg₂ A.T e0 e1)

/-- The gain at a point. -/
theorem holds_gm (t : Fin cfg0.N) : Holds (m := 1) (n := 1024) (iblk m c 2 t) fun _ c => A.layer.gm c := by
  refine fun j => ?_
  unfold iblk
  rw [View.read_apply]
  show V m c main_v2 _ = _
  refine (holds_gain G _).trans ?_
  exact congrArg _ (congrArg A.layer.gm ((by ring : 0 * 1024 + 1 * (j 1).val = (j 1).val)))

/-- The shift at a point. -/
theorem holds_sh (t : Fin cfg0.N) : Holds (m := 1) (n := 1024) (iblk m c 3 t) fun _ c => A.layer.sh c := by
  refine fun j => ?_
  unfold iblk
  rw [View.read_apply]
  show V m c main_arg2 _ = _
  rw [V_arg2]
  refine (G.hsh _).trans ?_
  exact congrArg _ (congrArg A.sh ((by ring : 0 * 1024 + 1 * (j 1).val = (j 1).val)))

/-- The gate at a point. -/
theorem holds_gt (t : Fin cfg0.N) : Holds (m := 1) (n := 1024) (iblk m c 4 t) fun _ c => A.layer.gt c := by
  refine fun j => ?_
  unfold iblk
  rw [View.read_apply]
  show V m c main_arg4 _ = _
  rw [V_arg4]
  refine (G.hgt _).trans ?_
  exact congrArg _ (congrArg A.gt ((by ring : 0 * 1024 + 1 * (j 1).val = (j 1).val)))

/-- The gain of the second norm at a point. -/
theorem holds_g4 (t : Fin cfg0.N) : Holds (m := 1) (n := 1024) (iblk m c 5 t) fun _ c => A.layer.g4 c := by
  refine fun j => ?_
  unfold iblk
  rw [View.read_apply]
  show V m c main_arg6 _ = _
  rw [V_arg6]
  refine (G.hg4 _).trans ?_
  exact congrArg _ (congrArg A.g4 ((by ring : 0 * 1024 + 1 * (j 1).val = (j 1).val)))

/-- The tile of a grid point: rows `256 t, …, 256 t + 255`. -/
def tile (t : Fin cfg0.N) : Tile A.layer (fun r => A.X (256 * t.val + r)) (fun r => A.T (256 * t.val + r)) where
  x := iblk m c 0 t
  t := iblk m c 1 t
  gm := iblk m c 2 t
  sh := iblk m c 3 t
  gt := iblk m c 4 t
  g4 := iblk m c 5 t
  wi := V m c main_v4
  wo := V m c main_v5
  hx := holds_x G t
  ht := holds_t G t
  hgm := holds_gm G t
  hsh := holds_sh G t
  hgt := holds_gt G t
  hg4 := holds_g4 G t
  hwi := holds_wi G
  hwo := holds_wo G

end Cert.Entry

end
-- ==== Proof.Fold.lean ====
module

public import proofs.«01_k».proof.Proof.Entry
public import proofs.«01_k».proof.Proof.Gen.KernelIdeal.Value

@[expose] public section

/-! What the kernel leaves: at every grid point the scratches hold the weights, the accumulators the sums over the rows so
far, and the other windows the point's own rows; so each result array holds the layer's table. -/

noncomputable section

namespace Cert.Fold

open Idealize.ShloMosaic hiding ix2
open Idealize.ShloMosaic.TcCoe
open Idealize.ShloMosaic.ValueIdx Idealize.SL.Sem Cert.Tables Cert.Model Cert.Payload Cert.Entry Cert.KernelIdeal Cert.KernelIdeal.Gen
open Idealize.ShloMosaic.Pipeline (Dat)
open scoped BigOperators

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg9 : Memref sig .tc .vmem S256x1024 .f32) (harg9 : arg9.IsWhole) (arg10 : Memref sig .tc .vmem S256x1024 .bf16) (harg10 : arg10.IsWhole) (arg11 : Memref sig .tc .vmem S256x5632 .bf16) (harg11 : arg11.IsWhole) (arg12 : Memref sig .tc .vmem S256x2816 .bf16) (harg12 : arg12.IsWhole) (arg13 : Memref sig .tc .vmem S256x1024 .bf16) (harg13 : arg13.IsWhole) (arg14 : Memref sig .tc .vmem S8x1024 .f32) (harg14 : arg14.IsWhole) (arg15 : Memref sig .tc .vmem S8x128 .f32) (harg15 : arg15.IsWhole) (arg16 : Memref sig .tc .vmem S5632x1024 .bf16) (harg16 : arg16.IsWhole) (arg17 : Memref sig .tc .vmem S2816x1024 .bf16) (harg17 : arg17.IsWhole)

/-- The first scratch after the first point: the first weight, copied. -/
theorem copied_wi (hc0 : cond0_0 i) (x0 : Vec Ideal S256x1024 .f32) (x1 : Vec Ideal S256x1024 .f32) (x2 : Vec Ideal S1x1024 .f32) (x3 : Vec Ideal S1x1024 .f32) (x4 : Vec Ideal S1x1024 .f32) (x5 : Vec Ideal S1x1024 .f32) (fh0 : HbBuf0 (F := Ideal) c hbM0_0) (fh1 : HbBuf0 (F := Ideal) c hbM0_1) : sout0_A_0 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 x0 x1 x2 x3 x4 x5 fh0 fh1 = fh0 := by
  unfold sout0_A_0
  rw [View.read_writes_eq_canon _ _ _ (scover0_A_0 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 x0 x1 x2 x3 x4 x5 fh0 fh1)]
  unfold kernelRun0_A
  dsimp only
  sl_unfold_words
  exact View.canon_unit_zero (S := S5632x1024) rfl _ _

/-- The second scratch after the first point: the second weight, copied. -/
theorem copied_wo (hc0 : cond0_0 i) (x0 : Vec Ideal S256x1024 .f32) (x1 : Vec Ideal S256x1024 .f32) (x2 : Vec Ideal S1x1024 .f32) (x3 : Vec Ideal S1x1024 .f32) (x4 : Vec Ideal S1x1024 .f32) (x5 : Vec Ideal S1x1024 .f32) (fh0 : HbBuf0 (F := Ideal) c hbM0_0) (fh1 : HbBuf0 (F := Ideal) c hbM0_1) : sout0_A_1 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 x0 x1 x2 x3 x4 x5 fh0 fh1 = fh1 := by
  unfold sout0_A_1
  rw [View.read_writes_eq_canon _ _ _ (scover0_A_1 c i arg1 harg1 arg2 harg2 arg3 harg3 arg4 harg4 arg5 harg5 arg6 harg6 arg9 harg9 arg10 harg10 arg11 harg11 arg12 harg12 arg13 harg13 arg14 harg14 arg15 harg15 arg16 harg16 arg17 harg17 hc0 x0 x1 x2 x3 x4 x5 fh0 fh1)]
  unfold kernelRun0_A
  dsimp only
  sl_unfold_words
  exact View.canon_unit_zero (S := S2816x1024) rfl _ _
end

section
variable (m : (ℓ : Loc nD τ sig) → Buf (Elt Ideal) ℓ) (c : Dev nD)

/-- The weights stay in their scratches. -/
theorem scratches (n : ℕ) (h : n < cfg0.N) : (outsAt0 m c n h).2.2.2.2.2.2.2 = (V m c main_v4, V m c main_v5) := by
  induction n with
  | zero =>
    rw [outsAt0_A m c ⟨0, h⟩ rfl]
    dsimp only
    rw [copied_wi, copied_wo]
  | succ n ih =>
    have hN : cfg0.N = 32 := N_0
    have hB : ¬(⟨n + 1, h⟩ : Fin cfg0.N).val % 32 = 0 := by dsimp only; omega
    rw [outsAt0_B m c ⟨n + 1, h⟩ hB]
    dsimp only [sout0_B_0, sout0_B_1]
    exact ih (Nat.lt_of_succ_lt h)

/-- The first weight stays in its scratch. -/
theorem scratch_wi (n : ℕ) (h : n < cfg0.N) : (outsAt0 m c n h).2.2.2.2.2.2.2.1 = V m c main_v4 :=
  congrArg Prod.fst (scratches m c n h)
/-- The second weight stays in its scratch. -/
theorem scratch_wo (n : ℕ) (h : n < cfg0.N) : (outsAt0 m c n h).2.2.2.2.2.2.2.2 = V m c main_v5 :=
  congrArg Prod.snd (scratches m c n h)
end

variable {m : (ℓ : Loc nD τ sig) → Buf (Elt Ideal) ℓ} {c : Dev nD} {A : Args} (G : Given m c A)

/-- The sums over a longer run of rows, split at the end of the run before. -/
theorem sums_add (L : Layer) (X T : ℕ → ℕ → ℝ) (p q r c : ℕ) :
    sums L X T (p + q) r c = sums L X T p r c + sums L (fun i => X (p + i)) (fun i => T (p + i)) q r c := by
  unfold sums
  simp only [Finset.sum_range_add]
  split
  · rfl
  split
  · rfl
  split
  · rfl
  · exact (add_zero 0).symm

/-- The loss likewise. -/
theorem total_add (L : Layer) (X T : ℕ → ℕ → ℝ) (p q : ℕ) :
    total L X T (p + q) = total L X T p + total L (fun i => X (p + i)) (fun i => T (p + i)) q := by
  unfold total
  exact Finset.sum_range_add _ _ _
include G

/-- One point further than the first: the accumulators grow by the point's own rows. -/
theorem step (t : Fin cfg0.N) (hB : ¬t.val % 32 = 0) {S : ℕ → ℕ → ℝ} {v : ℝ}
    (hS : Holds (m := 8) (n := 1024) (outsAt0 m c (t.val - 1) (Nat.lt_of_le_of_lt (Nat.sub_le _ _) t.isLt)).2.2.2.2.2.1 S)
    (hv : Holds (m := 8) (n := 128) (outsAt0 m c (t.val - 1) (Nat.lt_of_le_of_lt (Nat.sub_le _ _) t.isLt)).2.2.2.2.2.2.1 fun _ _ => v) :
    Holds (m := 8) (n := 1024) (outsAt0 m c t.val t.isLt).2.2.2.2.2.1 (Windows.addSums A.layer (fun r => A.X (256 * t.val + r)) (fun r => A.T (256 * t.val + r)) 256 S)
      ∧ Holds (m := 8) (n := 128) (outsAt0 m c t.val t.isLt).2.2.2.2.2.2.1 fun _ _ => v + total A.layer (fun r => A.X (256 * t.val + r)) (fun r => A.T (256 * t.val + r)) 256 := by
  rw [outsAt0_B m c t hB]
  dsimp only
  rw [scratch_wi m c (t.val - 1), scratch_wo m c (t.val - 1)]
  exact ⟨Windows.sums_B (tile G t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun hc => hB ((hcond0_0 t).mp hc)) _ _ (V m c main_v4) (V m c main_v5) hS, Windows.loss_B (tile G t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun hc => hB ((hcond0_0 t).mp hc)) _ _ (V m c main_v4) (V m c main_v5) hv⟩

/-- The accumulators after point `n`: the sums and the loss over the rows before row `256 (n + 1)`. -/
theorem accumulated (n : ℕ) (h : n < cfg0.N) :
    Holds (m := 8) (n := 1024) (outsAt0 m c n h).2.2.2.2.2.1 (sums A.layer A.X A.T (256 * (n + 1)))
      ∧ Holds (m := 8) (n := 128) (outsAt0 m c n h).2.2.2.2.2.2.1 fun _ _ => total A.layer A.X A.T (256 * (n + 1)) := by
  induction n with
  | zero =>
    rw [outsAt0_A m c ⟨0, h⟩ rfl]
    dsimp only
    refine ⟨Holds.congr (Windows.sums_A (tile G ⟨0, h⟩) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) scM0_0 (Memref.isWhole_whole _) scM0_1 (Memref.isWhole_whole _) ((hcond0_0 ⟨0, h⟩).mpr rfl) (V m c main_v4) (V m c main_v5) rfl rfl) ?_, Holds.congr (Windows.loss_A (tile G ⟨0, h⟩) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) scM0_0 (Memref.isWhole_whole _) scM0_1 (Memref.isWhole_whole _) ((hcond0_0 ⟨0, h⟩).mpr rfl) (V m c main_v4) (V m c main_v5) rfl rfl) ?_⟩
    · intro r _ k _
      simp only [Windows.addSums, tile, Nat.mul_zero, Nat.zero_add, Nat.mul_one, zero_add]
    · intro r _ k _
      simp only [Nat.mul_zero, Nat.zero_add, Nat.mul_one, zero_add]
  | succ n ih =>
    have hN : cfg0.N = 32 := N_0
    have hB : ¬(⟨n + 1, h⟩ : Fin cfg0.N).val % 32 = 0 := by dsimp only; omega
    have ih := ih (Nat.lt_of_succ_lt h)
    have e := step G ⟨n + 1, h⟩ hB ih.1 ih.2
    refine ⟨Holds.congr e.1 ?_, Holds.congr e.2 ?_⟩
    · exact fun r _ k _ => (sums_add A.layer A.X A.T (256 * (n + 1)) 256 r k).symm
    · exact fun r _ k _ => (total_add A.layer A.X A.T (256 * (n + 1)) 256).symm

/-- Window 6 after a point: the gradients of the layer inputs, the point's own. -/
theorem point_6 (t : Fin cfg0.N) : Holds (m := 256) (n := 1024) (outsAt0 m c t.val t.isLt).1 (fun r => A.layer.dx (A.X (256 * t.val + r)) (A.T (256 * t.val + r))) := by
  by_cases h0 : t.val % 32 = 0
  · rw [outsAt0_A m c t h0]
    dsimp only
    exact Windows.dx_A (tile G t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (V m c main_v4) (V m c main_v5) rfl rfl
  · rw [outsAt0_B m c t h0]
    dsimp only
    rw [scratch_wi m c (t.val - 1), scratch_wo m c (t.val - 1)]
    exact Windows.dx_B (tile G t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun hc => h0 ((hcond0_0 t).mp hc)) _ _ (V m c main_v4) (V m c main_v5)

/-- Window 7 after a point: the rows that enter the first product, the point's own. -/
theorem point_7 (t : Fin cfg0.N) : Holds (m := 256) (n := 1024) (outsAt0 m c t.val t.isLt).2.1 (fun r => A.layer.h (A.X (256 * t.val + r))) := by
  by_cases h0 : t.val % 32 = 0
  · rw [outsAt0_A m c t h0]
    dsimp only
    exact Windows.h_A (tile G t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (V m c main_v4) (V m c main_v5) rfl rfl
  · rw [outsAt0_B m c t h0]
    dsimp only
    rw [scratch_wi m c (t.val - 1), scratch_wo m c (t.val - 1)]
    exact Windows.h_B (tile G t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun hc => h0 ((hcond0_0 t).mp hc)) _ _ (V m c main_v4) (V m c main_v5)

/-- Window 8 after a point: the gradients of the first product, the point's own. -/
theorem point_8 (t : Fin cfg0.N) : Holds (m := 256) (n := 5632) (outsAt0 m c t.val t.isLt).2.2.1 (fun r => A.layer.du (A.X (256 * t.val + r)) (A.T (256 * t.val + r))) := by
  by_cases h0 : t.val % 32 = 0
  · rw [outsAt0_A m c t h0]
    dsimp only
    exact Windows.du_A (tile G t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (V m c main_v4) (V m c main_v5) rfl rfl
  · rw [outsAt0_B m c t h0]
    dsimp only
    rw [scratch_wi m c (t.val - 1), scratch_wo m c (t.val - 1)]
    exact Windows.du_B (tile G t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun hc => h0 ((hcond0_0 t).mp hc)) _ _ (V m c main_v4) (V m c main_v5)

/-- Window 9 after a point: the gated rows, the point's own. -/
theorem point_9 (t : Fin cfg0.N) : Holds (m := 256) (n := 2816) (outsAt0 m c t.val t.isLt).2.2.2.1 (fun r => A.layer.act (A.X (256 * t.val + r))) := by
  by_cases h0 : t.val % 32 = 0
  · rw [outsAt0_A m c t h0]
    dsimp only
    exact Windows.act_A (tile G t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (V m c main_v4) (V m c main_v5) rfl rfl
  · rw [outsAt0_B m c t h0]
    dsimp only
    rw [scratch_wi m c (t.val - 1), scratch_wo m c (t.val - 1)]
    exact Windows.act_B (tile G t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun hc => h0 ((hcond0_0 t).mp hc)) _ _ (V m c main_v4) (V m c main_v5)

/-- Window 10 after a point: the gradients of the second product, the point's own. -/
theorem point_10 (t : Fin cfg0.N) : Holds (m := 256) (n := 1024) (outsAt0 m c t.val t.isLt).2.2.2.2.1 (fun r => A.layer.df (A.X (256 * t.val + r)) (A.T (256 * t.val + r))) := by
  by_cases h0 : t.val % 32 = 0
  · rw [outsAt0_A m c t h0]
    dsimp only
    exact Windows.df_A (tile G t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr h0) (V m c main_v4) (V m c main_v5) rfl rfl
  · rw [outsAt0_B m c t h0]
    dsimp only
    rw [scratch_wi m c (t.val - 1), scratch_wo m c (t.val - 1)]
    exact Windows.df_B (tile G t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun hc => h0 ((hcond0_0 t).mp hc)) _ _ (V m c main_v4) (V m c main_v5)

end Cert.Fold
end
-- ==== Proof.Final.lean ====
module

public import proofs.«01_k».proof.Proof.Fold
public import proofs.«01_k».proof.Proof.Gen.KernelIdeal.Value

@[expose] public section

/-! The kernel's result arrays: each holds the layer's table over the whole sequence. -/

noncomputable section

namespace Cert.Final

open Idealize.ShloMosaic hiding ix2
open Idealize.ShloMosaic.TcCoe
open Idealize.ShloMosaic.ValueIdx Idealize.SL.Sem Cert.Tables Cert.Model Cert.Payload Cert.Entry Cert.Fold Cert.KernelIdeal Cert.KernelIdeal.Gen
open Idealize.ShloMosaic.Pipeline (Dat)
open scoped BigOperators

variable {m : (ℓ : Loc nD τ sig) → Buf (Elt Ideal) ℓ} {c : Dev nD} {A : Args} (G : Given m c A)
include G

omit G in
/-- The blocks of the row windows, by point. -/
theorem index_out : ∀ t : Fin cfg0.N, win0_6.index t 0 = t.val ∧ win0_6.index t 1 = 0 ∧ win0_7.index t 0 = t.val ∧ win0_7.index t 1 = 0
    ∧ win0_8.index t 0 = t.val ∧ win0_8.index t 1 = 0 ∧ win0_9.index t 0 = t.val ∧ win0_9.index t 1 = 0 ∧ win0_10.index t 0 = t.val ∧ win0_10.index t 1 = 0 :=
  (by decide +kernel : ∀ t : Fin grid0.N, win0_6.index t 0 = t.val ∧ win0_6.index t 1 = 0 ∧ win0_7.index t 0 = t.val ∧ win0_7.index t 1 = 0
    ∧ win0_8.index t 0 = t.val ∧ win0_8.index t 1 = 0 ∧ win0_9.index t 0 = t.val ∧ win0_9.index t 1 = 0 ∧ win0_10.index t 0 = t.val ∧ win0_10.index t 1 = 0)

/-- Result 0: the gradients of the layer inputs. -/
theorem array_6 : Holds (m := 8192) (n := 1024) ((dats m 0 c).arrAt 6 cfg0.N) (fun r => A.layer.dx (A.X r) (A.T r)) := by
  refine Holds.of fun r k => ?_
  have hN : cfg0.N = 32 := N_0
  have hr : r.val / 256 < cfg0.N := by have := r.isLt; omega
  obtain ⟨h0, h1⟩ : win0_6.index ⟨r.val / 256, hr⟩ 0 = r.val / 256 ∧ win0_6.index ⟨r.val / 256, hr⟩ 1 = 0 := by
    have e := index_out ⟨r.val / 256, hr⟩
    exact ⟨e.1, e.2.1⟩
  have b := congrFun (Value.blocks6 m c ⟨r.val / 256, hr⟩ (flush0_6 _)) (ix2 (n0 := 256) (n1 := 1024) ⟨r.val % 256, Nat.mod_lt _ (by norm_num)⟩ k)
  rw [View.read_apply, Value.flushed6] at b
  have e : ((cfg0.win 6).blk ⟨r.val / 256, hr⟩).view.emb (ix2 (n0 := 256) (n1 := 1024) ⟨r.val % 256, Nat.mod_lt _ (by norm_num)⟩ k) = ix2 r k :=
    funext fun a => Fin.ext (match a with
      | ⟨0, _⟩ => by
        show win0_6.index ⟨r.val / 256, hr⟩ 0 * 256 + 1 * (r.val % 256) = r.val
        rw [h0]; omega
      | ⟨1, _⟩ => by
        show win0_6.index ⟨r.val / 256, hr⟩ 1 * 1024 + 1 * k.val = k.val
        rw [h1]; omega)
  rw [e] at b
  refine Eq.trans b (Eq.trans (point_6 G ⟨r.val / 256, hr⟩ (ix2 (n0 := 256) (n1 := 1024) ⟨r.val % 256, Nat.mod_lt _ (by norm_num)⟩ k)) ?_)
  show ((((fun r => A.layer.dx (A.X r) (A.T r)) : ℕ → ℕ → ℝ) (256 * (r.val / 256) + r.val % 256) k.val : ℝ) : EReal) = _
  rw [Nat.div_add_mod]

/-- Result 1: the rows that enter the first product. -/
theorem array_7 : Holds (m := 8192) (n := 1024) ((dats m 0 c).arrAt 7 cfg0.N) (fun r => A.layer.h (A.X r)) := by
  refine Holds.of fun r k => ?_
  have hN : cfg0.N = 32 := N_0
  have hr : r.val / 256 < cfg0.N := by have := r.isLt; omega
  obtain ⟨h0, h1⟩ : win0_7.index ⟨r.val / 256, hr⟩ 0 = r.val / 256 ∧ win0_7.index ⟨r.val / 256, hr⟩ 1 = 0 := by
    have e := index_out ⟨r.val / 256, hr⟩
    exact ⟨e.2.2.1, e.2.2.2.1⟩
  have b := congrFun (Value.blocks7 m c ⟨r.val / 256, hr⟩ (flush0_7 _)) (ix2 (n0 := 256) (n1 := 1024) ⟨r.val % 256, Nat.mod_lt _ (by norm_num)⟩ k)
  rw [View.read_apply, Value.flushed7] at b
  have e : ((cfg0.win 7).blk ⟨r.val / 256, hr⟩).view.emb (ix2 (n0 := 256) (n1 := 1024) ⟨r.val % 256, Nat.mod_lt _ (by norm_num)⟩ k) = ix2 r k :=
    funext fun a => Fin.ext (match a with
      | ⟨0, _⟩ => by
        show win0_7.index ⟨r.val / 256, hr⟩ 0 * 256 + 1 * (r.val % 256) = r.val
        rw [h0]; omega
      | ⟨1, _⟩ => by
        show win0_7.index ⟨r.val / 256, hr⟩ 1 * 1024 + 1 * k.val = k.val
        rw [h1]; omega)
  rw [e] at b
  refine Eq.trans b (Eq.trans (point_7 G ⟨r.val / 256, hr⟩ (ix2 (n0 := 256) (n1 := 1024) ⟨r.val % 256, Nat.mod_lt _ (by norm_num)⟩ k)) ?_)
  show ((((fun r => A.layer.h (A.X r)) : ℕ → ℕ → ℝ) (256 * (r.val / 256) + r.val % 256) k.val : ℝ) : EReal) = _
  rw [Nat.div_add_mod]

set_option maxRecDepth 20000 in
/-- Result 2: the gradients of the first product. -/
theorem array_8 : Holds (m := 8192) (n := 5632) ((dats m 0 c).arrAt 8 cfg0.N) (fun r => A.layer.du (A.X r) (A.T r)) := by
  refine Holds.of fun r k => ?_
  have hN : cfg0.N = 32 := N_0
  have hr : r.val / 256 < cfg0.N := by have := r.isLt; omega
  obtain ⟨h0, h1⟩ : win0_8.index ⟨r.val / 256, hr⟩ 0 = r.val / 256 ∧ win0_8.index ⟨r.val / 256, hr⟩ 1 = 0 := by
    have e := index_out ⟨r.val / 256, hr⟩
    exact ⟨e.2.2.2.2.1, e.2.2.2.2.2.1⟩
  have b := congrFun (Value.blocks8 m c ⟨r.val / 256, hr⟩ (flush0_8 _)) (ix2 (n0 := 256) (n1 := 5632) ⟨r.val % 256, Nat.mod_lt _ (by norm_num)⟩ k)
  rw [View.read_apply, Value.flushed8] at b
  have e : ((cfg0.win 8).blk ⟨r.val / 256, hr⟩).view.emb (ix2 (n0 := 256) (n1 := 5632) ⟨r.val % 256, Nat.mod_lt _ (by norm_num)⟩ k) = ix2 r k :=
    funext fun a => Fin.ext (match a with
      | ⟨0, _⟩ => by
        show win0_8.index ⟨r.val / 256, hr⟩ 0 * 256 + 1 * (r.val % 256) = r.val
        rw [h0]; omega
      | ⟨1, _⟩ => by
        show win0_8.index ⟨r.val / 256, hr⟩ 1 * 5632 + 1 * k.val = k.val
        rw [h1]; omega)
  rw [e] at b
  refine Eq.trans b (Eq.trans (point_8 G ⟨r.val / 256, hr⟩ (ix2 (n0 := 256) (n1 := 5632) ⟨r.val % 256, Nat.mod_lt _ (by norm_num)⟩ k)) ?_)
  show ((((fun r => A.layer.du (A.X r) (A.T r)) : ℕ → ℕ → ℝ) (256 * (r.val / 256) + r.val % 256) k.val : ℝ) : EReal) = _
  rw [Nat.div_add_mod]

/-- Result 3: the gated rows. -/
theorem array_9 : Holds (m := 8192) (n := 2816) ((dats m 0 c).arrAt 9 cfg0.N) (fun r => A.layer.act (A.X r)) := by
  refine Holds.of fun r k => ?_
  have hN : cfg0.N = 32 := N_0
  have hr : r.val / 256 < cfg0.N := by have := r.isLt; omega
  obtain ⟨h0, h1⟩ : win0_9.index ⟨r.val / 256, hr⟩ 0 = r.val / 256 ∧ win0_9.index ⟨r.val / 256, hr⟩ 1 = 0 := by
    have e := index_out ⟨r.val / 256, hr⟩
    exact ⟨e.2.2.2.2.2.2.1, e.2.2.2.2.2.2.2.1⟩
  have b := congrFun (Value.blocks9 m c ⟨r.val / 256, hr⟩ (flush0_9 _)) (ix2 (n0 := 256) (n1 := 2816) ⟨r.val % 256, Nat.mod_lt _ (by norm_num)⟩ k)
  rw [View.read_apply, Value.flushed9] at b
  have e : ((cfg0.win 9).blk ⟨r.val / 256, hr⟩).view.emb (ix2 (n0 := 256) (n1 := 2816) ⟨r.val % 256, Nat.mod_lt _ (by norm_num)⟩ k) = ix2 r k :=
    funext fun a => Fin.ext (match a with
      | ⟨0, _⟩ => by
        show win0_9.index ⟨r.val / 256, hr⟩ 0 * 256 + 1 * (r.val % 256) = r.val
        rw [h0]; omega
      | ⟨1, _⟩ => by
        show win0_9.index ⟨r.val / 256, hr⟩ 1 * 2816 + 1 * k.val = k.val
        rw [h1]; omega)
  rw [e] at b
  refine Eq.trans b (Eq.trans (point_9 G ⟨r.val / 256, hr⟩ (ix2 (n0 := 256) (n1 := 2816) ⟨r.val % 256, Nat.mod_lt _ (by norm_num)⟩ k)) ?_)
  show ((((fun r => A.layer.act (A.X r)) : ℕ → ℕ → ℝ) (256 * (r.val / 256) + r.val % 256) k.val : ℝ) : EReal) = _
  rw [Nat.div_add_mod]

/-- Result 4: the gradients of the second product. -/
theorem array_10 : Holds (m := 8192) (n := 1024) ((dats m 0 c).arrAt 10 cfg0.N) (fun r => A.layer.df (A.X r) (A.T r)) := by
  refine Holds.of fun r k => ?_
  have hN : cfg0.N = 32 := N_0
  have hr : r.val / 256 < cfg0.N := by have := r.isLt; omega
  obtain ⟨h0, h1⟩ : win0_10.index ⟨r.val / 256, hr⟩ 0 = r.val / 256 ∧ win0_10.index ⟨r.val / 256, hr⟩ 1 = 0 := by
    have e := index_out ⟨r.val / 256, hr⟩
    exact ⟨e.2.2.2.2.2.2.2.2.1, e.2.2.2.2.2.2.2.2.2⟩
  have b := congrFun (Value.blocks10 m c ⟨r.val / 256, hr⟩ (flush0_10 _)) (ix2 (n0 := 256) (n1 := 1024) ⟨r.val % 256, Nat.mod_lt _ (by norm_num)⟩ k)
  rw [View.read_apply, Value.flushed10] at b
  have e : ((cfg0.win 10).blk ⟨r.val / 256, hr⟩).view.emb (ix2 (n0 := 256) (n1 := 1024) ⟨r.val % 256, Nat.mod_lt _ (by norm_num)⟩ k) = ix2 r k :=
    funext fun a => Fin.ext (match a with
      | ⟨0, _⟩ => by
        show win0_10.index ⟨r.val / 256, hr⟩ 0 * 256 + 1 * (r.val % 256) = r.val
        rw [h0]; omega
      | ⟨1, _⟩ => by
        show win0_10.index ⟨r.val / 256, hr⟩ 1 * 1024 + 1 * k.val = k.val
        rw [h1]; omega)
  rw [e] at b
  refine Eq.trans b (Eq.trans (point_10 G ⟨r.val / 256, hr⟩ (ix2 (n0 := 256) (n1 := 1024) ⟨r.val % 256, Nat.mod_lt _ (by norm_num)⟩ k)) ?_)
  show ((((fun r => A.layer.df (A.X r) (A.T r)) : ℕ → ℕ → ℝ) (256 * (r.val / 256) + r.val % 256) k.val : ℝ) : EReal) = _
  rw [Nat.div_add_mod]

omit G in
/-- The last point. -/
def last : Fin cfg0.N := ⟨31, by rw [show cfg0.N = 32 from N_0]; norm_num⟩

omit G in
/-- The last point is the one that writes window 11 back. -/
theorem last_11 (t : Fin cfg0.N) (hf : (cfg0.win 11).flush t = true) : t = last := by
  have h := (flush0_11 t).mp hf
  have hN : cfg0.N = 32 := N_0
  have := t.isLt
  exact Fin.ext (by show t.val = 31; omega)

/-- Result 5: the three rows of sums. -/
theorem array_11 : Holds (m := 8) (n := 1024) ((dats m 0 c).arrAt 11 cfg0.N) (sums A.layer A.X A.T 8192) := by
  have hN : cfg0.N = 32 := N_0
  have hz : ∀ a, win0_11.index last a * main_v6_5.ty.shape.size a = 0 := fun a => by fin_cases a <;> decide +kernel
  have key : (dats m 0 c).arrAt 11 cfg0.N = (outsAt0 m c last.val last.isLt).2.2.2.2.2.1 := by
    refine (dats m 0 c).arrAt_eq_of_cover 11 _ (fun t hf => ?_) fun i => ⟨last, (flush0_11 _).mpr rfl, ?_⟩
    · obtain rfl := last_11 t hf
      show (cfg0.win 11).cut (grid0.coords last) ((dats m 0 c).after 11 last) = _
      rw [after0_11]
      exact (Memref.read_access_unit_zero (Elt Ideal) main_v6_5 (funext hz) (fun a => by rw [hz a]; simp) _).symm
    · show i ∈ ((View.whole main_v6_5).slice (win0_11.rect last)).set
      rw [View.set_slice_whole, Rect.mem_set_unit]
      intro a
      have h0 : (i 0 : Nat) < 8 := (i 0).isLt
      have h1 : (i 1 : Nat) < 1024 := (i 1).isLt
      match a with
      | ⟨0, _⟩ =>
        show win0_11.index last 0 * win0_11.size 0 ≤ (i 0 : Nat) ∧ (i 0 : Nat) < win0_11.index last 0 * win0_11.size 0 + win0_11.xsize (grid0.coords last) 0
        rw [show win0_11.index last 0 * win0_11.size 0 = 0 from by decide +kernel, show win0_11.xsize (grid0.coords last) 0 = 8 from by decide +kernel]; omega
      | ⟨1, _⟩ =>
        show win0_11.index last 1 * win0_11.size 1 ≤ (i 1 : Nat) ∧ (i 1 : Nat) < win0_11.index last 1 * win0_11.size 1 + win0_11.xsize (grid0.coords last) 1
        rw [show win0_11.index last 1 * win0_11.size 1 = 0 from by decide +kernel, show win0_11.xsize (grid0.coords last) 1 = 1024 from by decide +kernel]; omega
  rw [key]
  exact (accumulated G last.val last.isLt).1

omit G in
/-- The last point is the one that writes window 12 back. -/
theorem last_12 (t : Fin cfg0.N) (hf : (cfg0.win 12).flush t = true) : t = last := by
  have h := (flush0_12 t).mp hf
  have hN : cfg0.N = 32 := N_0
  have := t.isLt
  exact Fin.ext (by show t.val = 31; omega)

/-- Result 6: the loss, repeated. -/
theorem array_12 : Holds (m := 8) (n := 128) ((dats m 0 c).arrAt 12 cfg0.N) (fun _ _ => total A.layer A.X A.T 8192) := by
  have hN : cfg0.N = 32 := N_0
  have hz : ∀ a, win0_12.index last a * main_v6_6.ty.shape.size a = 0 := fun a => by fin_cases a <;> decide +kernel
  have key : (dats m 0 c).arrAt 12 cfg0.N = (outsAt0 m c last.val last.isLt).2.2.2.2.2.2.1 := by
    refine (dats m 0 c).arrAt_eq_of_cover 12 _ (fun t hf => ?_) fun i => ⟨last, (flush0_12 _).mpr rfl, ?_⟩
    · obtain rfl := last_12 t hf
      show (cfg0.win 12).cut (grid0.coords last) ((dats m 0 c).after 12 last) = _
      rw [after0_12]
      exact (Memref.read_access_unit_zero (Elt Ideal) main_v6_6 (funext hz) (fun a => by rw [hz a]; simp) _).symm
    · show i ∈ ((View.whole main_v6_6).slice (win0_12.rect last)).set
      rw [View.set_slice_whole, Rect.mem_set_unit]
      intro a
      have h0 : (i 0 : Nat) < 8 := (i 0).isLt
      have h1 : (i 1 : Nat) < 128 := (i 1).isLt
      match a with
      | ⟨0, _⟩ =>
        show win0_12.index last 0 * win0_12.size 0 ≤ (i 0 : Nat) ∧ (i 0 : Nat) < win0_12.index last 0 * win0_12.size 0 + win0_12.xsize (grid0.coords last) 0
        rw [show win0_12.index last 0 * win0_12.size 0 = 0 from by decide +kernel, show win0_12.xsize (grid0.coords last) 0 = 8 from by decide +kernel]; omega
      | ⟨1, _⟩ =>
        show win0_12.index last 1 * win0_12.size 1 ≤ (i 1 : Nat) ∧ (i 1 : Nat) < win0_12.index last 1 * win0_12.size 1 + win0_12.xsize (grid0.coords last) 1
        rw [show win0_12.index last 1 * win0_12.size 1 = 0 from by decide +kernel, show win0_12.xsize (grid0.coords last) 1 = 128 from by decide +kernel]; omega
  rw [key]
  exact (accumulated G last.val last.isLt).2

end Cert.Final
end
-- ==== Proof.RefOps.lean ====
module

public import proofs.«01_k».proof.Proof.Entry

@[expose] public section

/-! Single entries of the reference's operations on real numbers, and the identities of real numbers by which the
gradients the reference takes term by term are those of the layer. -/

noncomputable section

namespace Cert.RefOps

open Idealize.ShloMosaic hiding ix2
open Idealize.ShloMosaic.ValueIdx Cert.Tables Cert.Model Cert.Entry
open scoped BigOperators

section Entries
variable {φ : FTy} {a b : Ideal φ} {x y : ℝ}

/-- A sum of two real numbers. -/
theorem real_add (ha : a = (x : EReal)) (hb : b = (y : EReal)) : FloatOps.addf a b = ((x + y : ℝ) : EReal) :=
  (congrArg₂ (· + ·) ha hb).trans (EReal.coe_add _ _).symm
/-- A difference. -/
theorem real_sub (ha : a = (x : EReal)) (hb : b = (y : EReal)) : FloatOps.subf a b = ((x - y : ℝ) : EReal) :=
  (congrArg₂ (· - ·) ha hb).trans (EReal.coe_sub _ _).symm
/-- A product. -/
theorem real_mul (ha : a = (x : EReal)) (hb : b = (y : EReal)) : FloatOps.mulf a b = ((x * y : ℝ) : EReal) :=
  (congrArg₂ (· * ·) ha hb).trans (EReal.coe_mul _ _).symm
/-- A quotient. -/
theorem real_div (ha : a = (x : EReal)) (hb : b = (y : EReal)) (h : y ≠ 0) : FloatOps.hostDivf a b = ((x / y : ℝ) : EReal) :=
  (congrArg₂ Ideal.div ha hb).trans (div_real _ _ h)
/-- A negation. -/
theorem real_neg (ha : a = (x : EReal)) : FloatOps.hostNegf a = ((0 - x : ℝ) : EReal) := by
  subst ha
  rw [zero_sub]
  rfl
/-- An exponential. -/
theorem real_exp (ha : a = (x : EReal)) : FloatOps.hostUnary .exp a = ((Real.exp x : ℝ) : EReal) :=
  (congrArg Ideal.exp ha).trans (Ideal.exp_coe _)
/-- A reciprocal square root. -/
theorem real_rsqrt (ha : a = (x : EReal)) (h : 0 < x) : FloatOps.hostUnary .rsqrt a = (((Real.sqrt x)⁻¹ : ℝ) : EReal) :=
  (congrArg Ideal.rsqrt ha).trans (rsqrt_real _ h)
end Entries

/-- The word of minus one half. -/
theorem word_minus_half : (Scalar.ofBits .f32 0xBF000000#32 : Ideal .f32) = ((-(1 / 2) : ℝ) : EReal) := by
  show Ideal.ofBits .f32 0xBF000000#32 = _
  simp [Ideal.ofBits, Ideal.ieee]
  rw [← EReal.coe_mul]
  norm_num
/-- The word of one half. -/
theorem word_half : (Scalar.ofBits .f32 0x3F000000#32 : Ideal .f32) = ((1 / 2 : ℝ) : EReal) := by
  show Ideal.ofBits .f32 0x3F000000#32 = _
  simp [Ideal.ofBits, Ideal.ieee]
  rw [← EReal.coe_mul]
  norm_num
/-- The word of two. -/
theorem word_two : (Scalar.ofBits .f32 0x40000000#32 : Ideal .f32) = ((2 : ℝ) : EReal) := by
  show Ideal.ofBits .f32 0x40000000#32 = _
  simp [Ideal.ofBits, Ideal.ieee]
  rw [← EReal.coe_mul]
  norm_num

/-- A sum of real numbers on top of a zero. -/
theorem real_sum (q : ℕ) (f : Fin q → EReal) (F : ℕ → ℝ) (h : ∀ j : Fin q, f j = ((F j.val : ℝ) : EReal)) :
    (Scalar.ofBits .f32 0x00000000#32 : Ideal .f32) + ∑ j : Fin q, f j = ((∑ j ∈ Finset.range q, F j : ℝ) : EReal) := by
  rw [sum_real q f F h, word_zero, ← EReal.coe_add, zero_add]

/-- Such a sum of one number. -/
theorem real_sum_one (f : Fin 1 → EReal) (x : ℝ) (h : ∀ j : Fin 1, f j = ((x : ℝ) : EReal)) :
    (Scalar.ofBits .f32 0x00000000#32 : Ideal .f32) + ∑ j : Fin 1, f j = ((x : ℝ) : EReal) := by
  rw [real_sum 1 f (fun _ => x) h, Finset.sum_range_one]

/-- Such a sum over the indices of a list. -/
theorem real_sum1 (q : ℕ) (f : (⟨1, ![q]⟩ : Shape).Idx → EReal) (F : ℕ → ℝ) (h : Holds1 f F) :
    (Scalar.ofBits .f32 0x00000000#32 : Ideal .f32) + ∑ j : (⟨1, ![q]⟩ : Shape).Idx, f j = ((∑ j ∈ Finset.range q, F j : ℝ) : EReal) := by
  let e : Fin q ≃ (⟨1, ![q]⟩ : Shape).Idx :=
    ⟨fun k a => match a with | ⟨0, _⟩ => k, fun j => j 0, fun _ => rfl, fun j => funext fun a => match a with | ⟨0, _⟩ => rfl⟩
  rw [← Equiv.sum_comp e f]
  exact real_sum q _ F fun k => h _

/-- Two arrays side by side. -/
theorem beside {m n k : ℕ} {x : (⟨2, ![m, n]⟩ : Shape).Idx → EReal} {y : (⟨2, ![m, k]⟩ : Shape).Idx → EReal} {X Y : ℕ → ℕ → ℝ}
    (hx : Holds x X) (hy : Holds y Y)
    (h : Shape.Concatenates [(⟨2, ![m, n]⟩ : Shape), ⟨2, ![m, k]⟩] ⟨2, ![m, n + k]⟩ 1) :
    Holds (concatenate (⟨2, ![m, n + k]⟩ : Shape) 1 [⟨⟨2, ![m, n]⟩, x⟩, ⟨⟨2, ![m, k]⟩, y⟩] h) fun r c => if c < n then X r c else Y r (c - n) := by
  refine Holds.of fun r c => ?_
  by_cases hc : c.val < n
  · rw [if_pos hc]
    exact (concatenate_apply_piece 1 [⟨⟨2, ![m, n]⟩, x⟩, ⟨⟨2, ![m, k]⟩, y⟩] h (ix2 r c) 0 (by simp) _ x rfl rfl 0 rfl (ix2 r ⟨c.val, hc⟩)
      (fun b hb => match b with
        | ⟨0, _⟩ => rfl
        | ⟨1, _⟩ => absurd rfl hb) (Nat.zero_add _)).trans (hx _)
  · rw [if_neg hc]
    exact (concatenate_apply_piece 1 [⟨⟨2, ![m, n]⟩, x⟩, ⟨⟨2, ![m, k]⟩, y⟩] h (ix2 r c) 1 (by simp) _ y rfl rfl n (by simp) (ix2 r ⟨c.val - n, by have := c.isLt; omega⟩)
      (fun b hb => match b with
        | ⟨0, _⟩ => rfl
        | ⟨1, _⟩ => absurd rfl hb) (by show n + (c.val - n) = c.val; omega)).trans (hy _)

/-- Three rows and five more, one below the other. -/
theorem stacked {x y z : (⟨2, ![1, 1024]⟩ : Shape).Idx → EReal} {w : (⟨2, ![5, 1024]⟩ : Shape).Idx → EReal} {X Y Z : ℕ → ℝ}
    (hx : Holds x fun _ => X) (hy : Holds y fun _ => Y) (hz : Holds z fun _ => Z) (hw : Holds w fun _ _ => 0)
    (h : Shape.Concatenates [(⟨2, ![1, 1024]⟩ : Shape), ⟨2, ![1, 1024]⟩, ⟨2, ![1, 1024]⟩, ⟨2, ![5, 1024]⟩] ⟨2, ![8, 1024]⟩ 0) :
    Holds (concatenate (⟨2, ![8, 1024]⟩ : Shape) 0 [⟨⟨2, ![1, 1024]⟩, x⟩, ⟨⟨2, ![1, 1024]⟩, y⟩, ⟨⟨2, ![1, 1024]⟩, z⟩, ⟨⟨2, ![5, 1024]⟩, w⟩] h)
      fun r c => if r = 0 then X c else if r = 1 then Y c else if r = 2 then Z c else 0 := by
  refine Holds.of fun r c => ?_
  have hb (s : ℕ) (q : Fin s) : ∀ b : Fin 2, b ≠ (0 : Fin 2) → ((ix2 q c : (⟨2, ![s, 1024]⟩ : Shape).Idx) b).val = ((ix2 r c : (⟨2, ![8, 1024]⟩ : Shape).Idx) b).val :=
    fun b hb => match b with
      | ⟨0, _⟩ => absurd rfl hb
      | ⟨1, _⟩ => rfl
  by_cases h0 : r.val = 0
  · rw [if_pos h0]
    exact (concatenate_apply_piece 0 [⟨⟨2, ![1, 1024]⟩, x⟩, ⟨⟨2, ![1, 1024]⟩, y⟩, ⟨⟨2, ![1, 1024]⟩, z⟩, ⟨⟨2, ![5, 1024]⟩, w⟩] h (ix2 r c) 0 (by simp) _ x rfl rfl 0 rfl (ix2 0 c) (hb 1 0) (by show 0 + 0 = r.val; omega)).trans (hx _)
  rw [if_neg h0]
  by_cases h1 : r.val = 1
  · rw [if_pos h1]
    exact (concatenate_apply_piece 0 [⟨⟨2, ![1, 1024]⟩, x⟩, ⟨⟨2, ![1, 1024]⟩, y⟩, ⟨⟨2, ![1, 1024]⟩, z⟩, ⟨⟨2, ![5, 1024]⟩, w⟩] h (ix2 r c) 1 (by simp) _ y rfl rfl 1 (by simp) (ix2 0 c) (hb 1 0) (by show 1 + 0 = r.val; omega)).trans (hy _)
  rw [if_neg h1]
  by_cases h2 : r.val = 2
  · rw [if_pos h2]
    exact (concatenate_apply_piece 0 [⟨⟨2, ![1, 1024]⟩, x⟩, ⟨⟨2, ![1, 1024]⟩, y⟩, ⟨⟨2, ![1, 1024]⟩, z⟩, ⟨⟨2, ![5, 1024]⟩, w⟩] h (ix2 r c) 2 (by simp) _ z rfl rfl 2 (by simp) (ix2 0 c) (hb 1 0) (by show 2 + 0 = r.val; omega)).trans (hz _)
  rw [if_neg h2]
  exact (concatenate_apply_piece 0 [⟨⟨2, ![1, 1024]⟩, x⟩, ⟨⟨2, ![1, 1024]⟩, y⟩, ⟨⟨2, ![1, 1024]⟩, z⟩, ⟨⟨2, ![5, 1024]⟩, w⟩] h (ix2 r c) 3 (by simp) _ w rfl rfl 3 (by simp) (ix2 ⟨r.val - 3, by have := r.isLt; omega⟩ c) (hb 5 _)
    (by show 3 + (r.val - 3) = r.val; omega)).trans (hw _)

section Identities
variable (A : Args) (x t : ℕ → ℝ) (c : ℕ)

/-- The error, with the two factors of the gain taken together. -/
theorem err_eq : x c + unit (A.layer.f x) c * (A.gt c * A.g4 c) - t c = A.layer.err x t c := by
  unfold Layer.err
  show _ = x c + A.gt c * (unit (A.layer.f x) c * A.g4 c) - t c
  ring
/-- The gradient at the output, from the square's. -/
theorem dout_eq : 1 / 2 * 1 / 1024 * (2 * A.layer.err x t c) = A.layer.dout x t c := by
  unfold Layer.dout
  ring
/-- The loss, halved after the sum. -/
theorem total_eq : 1 / 2 * ∑ r ∈ Finset.range 8192, (∑ c ∈ Finset.range 1024, A.layer.err (A.X r) (A.T r) c * A.layer.err (A.X r) (A.T r) c) / 1024
    = total A.layer A.X A.T 8192 := by
  unfold total Layer.loss
  rw [Finset.mul_sum]
  refine Finset.sum_congr rfl fun r _ => ?_
  ring
/-- The gradient at the gate, from the two factors' gradients. -/
theorem dgate_eq : A.layer.dact x t c * A.layer.u x (2816 + c) * A.layer.sg x c
      + A.layer.u x c * (A.layer.dact x t c * A.layer.u x (2816 + c)) * (A.layer.sg x c * (1 - A.layer.sg x c)) = A.layer.dgate x t c := by
  unfold Layer.dgate
  ring
/-- The gradient through a norm, from the two factors' gradients. -/
theorem unitGrad_eq (d : ℕ → ℝ) : d c * inv x
      + x c * ((∑ j ∈ Finset.range 1024, x j * d j) * (-(1 / 2) * (inv x / meanSq x)) / 1024)
      + (∑ j ∈ Finset.range 1024, x j * d j) * (-(1 / 2) * (inv x / meanSq x)) / 1024 * x c = unitGrad x d c := by
  have e : inv x / meanSq x = inv x * (inv x * inv x) := by rw [inv_mul_inv]; ring
  have s : ∑ j ∈ Finset.range 1024, d j * unit x j = (∑ j ∈ Finset.range 1024, x j * d j) * inv x := by
    rw [Finset.sum_mul]
    refine Finset.sum_congr rfl fun j _ => ?_
    unfold unit
    ring
  unfold unitGrad
  rw [s, e]
  unfold unit
  ring
end Identities

end Cert.RefOps
end
-- ==== Proof.RefValue.lean ====
module

public import proofs.«01_k».proof.Proof.RefOps
public import proofs.«01_k».proof.Proof.Gen.ReferenceIdeal.Read

@[expose] public section

set_option maxRecDepth 20000

/-! The reference, operation by operation, on arrays that hold real tables: each stage holds the layer's table of the
same meaning. -/

noncomputable section

namespace Cert.RefValue

open Idealize.ShloMosaic hiding ix2
open Idealize.ShloMosaic.ValueIdx Cert.Tables Cert.Model Cert.Entry Cert.RefOps Cert.ReferenceIdeal Cert.ReferenceIdeal.Gen Cert.ReferenceIdeal.Read
open scoped BigOperators

/-- The nine arguments hold the tables. -/
structure Inputs (x0 x1 : (⟨S8192x1024, .f32⟩ : BufTy).Contents (Elt Ideal)) (x2 x3 x4 x5 x6 : (⟨S1x1024, .f32⟩ : BufTy).Contents (Elt Ideal))
    (x7 : (⟨S1024x5632, .f32⟩ : BufTy).Contents (Elt Ideal)) (x8 : (⟨S2816x1024, .f32⟩ : BufTy).Contents (Elt Ideal)) (A : Args) : Prop where
  h0 : Holds (m := 8192) (n := 1024) x0 A.X
  h1 : Holds (m := 8192) (n := 1024) x1 A.T
  h2 : Holds (m := 1) (n := 1024) x2 fun _ => A.sh
  h3 : Holds (m := 1) (n := 1024) x3 fun _ => A.sc
  h4 : Holds (m := 1) (n := 1024) x4 fun _ => A.gt
  h5 : Holds (m := 1) (n := 1024) x5 fun _ => A.g1
  h6 : Holds (m := 1) (n := 1024) x6 fun _ => A.g4
  h7 : Holds (m := 1024) (n := 5632) x7 A.wi
  h8 : Holds (m := 2816) (n := 1024) x8 A.wo

variable {x0 x1 : (⟨S8192x1024, .f32⟩ : BufTy).Contents (Elt Ideal)} {x2 x3 x4 x5 x6 : (⟨S1x1024, .f32⟩ : BufTy).Contents (Elt Ideal)}
  {x7 : (⟨S1024x5632, .f32⟩ : BufTy).Contents (Elt Ideal)} {x8 : (⟨S2816x1024, .f32⟩ : BufTy).Contents (Elt Ideal)} {A : Args}
  (H : Inputs x0 x1 x2 x3 x4 x5 x6 x7 x8 A)

include H in
theorem s_v0 : Holds (m := 1) (n := 1024) (val_main_v0 (F := Ideal)) (fun _ _ => 1) :=
  fun i => (val_main_v0_apply i).trans word_one

include H in
theorem s_v1 : Holds (m := 1) (n := 1024) (val_main_v1 (F := Ideal) x3) (fun _ c => 1 + A.sc c) :=
  fun i => (val_main_v1_apply x3 i).trans (real_add ((s_v0 H) i) (H.h3 i))

include H in
/-- The gain of the first norm. -/
theorem s_v2 : Holds (m := 1) (n := 1024) (val_main_v2 (F := Ideal) x3 x5) (fun _ c => A.layer.gm c) :=
  fun i => (val_main_v2_apply x3 x5 i).trans (real_mul (H.h5 i) ((s_v1 H) i))

include H in
theorem s_v3 : Holds (m := 8192) (n := 1024) (val_main_v3 (F := Ideal) x0) (fun r c => (A.X r) c * (A.X r) c) :=
  fun i => (val_main_v3_apply x0 i).trans (real_mul (H.h0 i) (H.h0 i))

include H in
theorem s_v4 : Holds1 (m := 8192) (val_main_v4 (F := Ideal) x0) (fun r => ∑ j ∈ Finset.range 1024, (A.X r) j * (A.X r) j) :=
  fun i => (val_main_v4_apply x0 i).trans (real_sum 1024 _ (fun j => (A.X (i 0).val) j * (A.X (i 0).val) j) fun k => (s_v3 H) _)

include H in
theorem s_v5 : Holds (m := 8192) (n := 1) (val_main_v5 (F := Ideal) x0) (fun r _ => ∑ j ∈ Finset.range 1024, (A.X r) j * (A.X r) j) :=
  fun i => (val_main_v5_apply x0 i).trans ((s_v4 H) _)

include H in
theorem s_v6 : Holds (m := 8192) (n := 1) (val_main_v6 (F := Ideal)) (fun _ _ => 1024) :=
  fun i => (val_main_v6_apply i).trans word_1024

include H in
theorem s_v7 : Holds (m := 8192) (n := 1) (val_main_v7 (F := Ideal) x0) (fun r _ => (∑ j ∈ Finset.range 1024, (A.X r) j * (A.X r) j) / 1024) :=
  fun i => (val_main_v7_apply x0 i).trans (real_div ((s_v5 H) i) ((s_v6 H) i) (by norm_num))

include H in
theorem s_v8 : Holds (m := 8192) (n := 1) (val_main_v8 (F := Ideal)) (fun _ _ => eps) :=
  fun i => (val_main_v8_apply i).trans word_eps

include H in
/-- The mean of the squares of a row. -/
theorem s_v9 : Holds (m := 8192) (n := 1) (val_main_v9 (F := Ideal) x0) (fun r _ => meanSq (A.X r)) :=
  fun i => (val_main_v9_apply x0 i).trans (real_add ((s_v7 H) i) ((s_v8 H) i))

include H in
/-- Its reciprocal root. -/
theorem s_v10 : Holds (m := 8192) (n := 1) (val_main_v10 (F := Ideal) x0) (fun r _ => inv (A.X r)) :=
  fun i => (val_main_v10_apply x0 i).trans (real_rsqrt ((s_v9 H) i) (meanSq_pos _))

include H in
theorem s_v11 : Holds (m := 8192) (n := 1) (val_main_v11 (F := Ideal) x0) (fun r _ => inv (A.X r) / meanSq (A.X r)) :=
  fun i => (val_main_v11_apply x0 i).trans (real_div ((s_v10 H) i) ((s_v9 H) i) (meanSq_pos _).ne')

include H in
theorem s_v12 : Holds (m := 8192) (n := 1) (val_main_v12 (F := Ideal)) (fun _ _ => -(1 / 2)) :=
  fun i => (val_main_v12_apply i).trans word_minus_half

include H in
theorem s_v13 : Holds (m := 8192) (n := 1) (val_main_v13 (F := Ideal) x0) (fun r _ => -(1 / 2) * (inv (A.X r) / meanSq (A.X r))) :=
  fun i => (val_main_v13_apply x0 i).trans (real_mul ((s_v12 H) i) ((s_v11 H) i))

include H in
theorem s_v14 : Holds (m := 8192) (n := 1024) (val_main_v14 (F := Ideal) x0) (fun r _ => inv (A.X r)) :=
  fun i => (val_main_v14_apply x0 i).trans ((s_v10 H) _)

include H in
/-- The normalised rows. -/
theorem s_v15 : Holds (m := 8192) (n := 1024) (val_main_v15 (F := Ideal) x0) (fun r c => unit (A.X r) c) :=
  fun i => (val_main_v15_apply x0 i).trans (real_mul (H.h0 i) ((s_v14 H) i))

include H in
theorem s_v16 : Holds (m := 8192) (n := 1024) (val_main_v16 (F := Ideal) x3 x5) (fun _ c => A.layer.gm c) :=
  fun i => (val_main_v16_apply x3 x5 i).trans ((s_v2 H) _)

include H in
theorem s_v17 : Holds (m := 8192) (n := 1024) (val_main_v17 (F := Ideal) x0 x3 x5) (fun r c => unit (A.X r) c * A.layer.gm c) :=
  fun i => (val_main_v17_apply x0 x3 x5 i).trans (real_mul ((s_v15 H) i) ((s_v16 H) i))

include H in
theorem s_v18 : Holds (m := 8192) (n := 1024) (val_main_v18 (F := Ideal) x2) (fun _ c => A.sh c) :=
  fun i => (val_main_v18_apply x2 i).trans (H.h2 _)

include H in
/-- The rows entering the first product. -/
theorem s_v19 : Holds (m := 8192) (n := 1024) (val_main_v19 (F := Ideal) x0 x2 x3 x5) (fun r c => A.layer.h (A.X r) c) :=
  fun i => (val_main_v19_apply x0 x2 x3 x5 i).trans (real_add ((s_v17 H) i) ((s_v18 H) i))

include H in
/-- The first product. -/
theorem s_v20 : Holds (m := 8192) (n := 5632) (val_main_v20 (F := Ideal) x0 x2 x3 x5 x7) (fun r c => A.layer.u (A.X r) c) :=
  fun i => (val_main_v20_apply x0 x2 x3 x5 x7 i).trans (sum_real 1024 _ (fun j => A.layer.h (A.X (i 0).val) j * A.wi j (i 1).val) fun k => (congrArg₂ (· * ·) ((s_v19 H) _) (H.h7 _)).trans (EReal.coe_mul _ _).symm)

include H in
theorem s_v21 : Holds (m := 8192) (n := 2816) (val_main_v21 (F := Ideal) x0 x2 x3 x5 x7) (fun r c => A.layer.u (A.X r) c) :=
  fun i => (val_main_v21_apply x0 x2 x3 x5 x7 i).trans ((s_v20 H) _)

include H in
theorem s_v22 : Holds (m := 8192) (n := 2816) (val_main_v22 (F := Ideal) x0 x2 x3 x5 x7) (fun r c => A.layer.u (A.X r) (2816 + c)) :=
  fun i => (val_main_v22_apply x0 x2 x3 x5 x7 i).trans ((s_v20 H) _)

include H in
theorem s_call0_v0 : Holds (m := 8192) (n := 2816) (val_main_call0_v0 (F := Ideal) x0 x2 x3 x5 x7) (fun r c => 0 - A.layer.u (A.X r) c) :=
  fun i => (val_main_call0_v0_apply x0 x2 x3 x5 x7 i).trans (real_neg ((s_v21 H) i))

include H in
theorem s_call0_v1 : Holds (m := 8192) (n := 2816) (val_main_call0_v1 (F := Ideal) x0 x2 x3 x5 x7) (fun r c => Real.exp (0 - A.layer.u (A.X r) c)) :=
  fun i => (val_main_call0_v1_apply x0 x2 x3 x5 x7 i).trans (real_exp ((s_call0_v0 H) i))

include H in
theorem s_call0_v2 : Holds (m := 8192) (n := 2816) (val_main_call0_v2 (F := Ideal)) (fun _ _ => 1) :=
  fun i => (val_main_call0_v2_apply i).trans word_one

include H in
theorem s_call0_v3 : Holds (m := 8192) (n := 2816) (val_main_call0_v3 (F := Ideal) x0 x2 x3 x5 x7) (fun r c => 1 + Real.exp (0 - A.layer.u (A.X r) c)) :=
  fun i => (val_main_call0_v3_apply x0 x2 x3 x5 x7 i).trans (real_add ((s_call0_v2 H) i) ((s_call0_v1 H) i))

include H in
theorem s_call0_v4 : Holds (m := 8192) (n := 2816) (val_main_call0_v4 (F := Ideal)) (fun _ _ => 1) :=
  fun i => (val_main_call0_v4_apply i).trans word_one

include H in
/-- The logistic function of the gate. -/
theorem s_v23_2 : Holds (m := 8192) (n := 2816) (val_main_v23_2 (F := Ideal) x0 x2 x3 x5 x7) (fun r c => A.layer.sg (A.X r) c) :=
  fun i => (val_main_v23_2_apply x0 x2 x3 x5 x7 i).trans (real_div ((s_call0_v4 H) i) ((s_call0_v3 H) i) (add_pos one_pos (Real.exp_pos _)).ne')

include H in
theorem s_call0_v6 : Holds (m := 8192) (n := 2816) (val_main_call0_v6 (F := Ideal)) (fun _ _ => 1) :=
  fun i => (val_main_call0_v6_apply i).trans word_one

include H in
theorem s_call0_v7 : Holds (m := 8192) (n := 2816) (val_main_call0_v7 (F := Ideal) x0 x2 x3 x5 x7) (fun r c => 1 - A.layer.sg (A.X r) c) :=
  fun i => (val_main_call0_v7_apply x0 x2 x3 x5 x7 i).trans (real_sub ((s_call0_v6 H) i) ((s_v23_2 H) i))

include H in
theorem s_v23_1 : Holds (m := 8192) (n := 2816) (val_main_v23_1 (F := Ideal) x0 x2 x3 x5 x7) (fun r c => A.layer.sg (A.X r) c * (1 - A.layer.sg (A.X r) c)) :=
  fun i => (val_main_v23_1_apply x0 x2 x3 x5 x7 i).trans (real_mul ((s_v23_2 H) i) ((s_call0_v7 H) i))

include H in
/-- The gate. -/
theorem s_v23_0 : Holds (m := 8192) (n := 2816) (val_main_v23_0 (F := Ideal) x0 x2 x3 x5 x7) (fun r c => A.layer.sl (A.X r) c) :=
  fun i => (val_main_v23_0_apply x0 x2 x3 x5 x7 i).trans (real_mul ((s_v21 H) i) ((s_v23_2 H) i))

include H in
/-- The gated rows. -/
theorem s_v24 : Holds (m := 8192) (n := 2816) (val_main_v24 (F := Ideal) x0 x2 x3 x5 x7) (fun r c => A.layer.act (A.X r) c) :=
  fun i => (val_main_v24_apply x0 x2 x3 x5 x7 i).trans (real_mul ((s_v23_0 H) i) ((s_v22 H) i))

include H in
/-- The product back. -/
theorem s_v25 : Holds (m := 8192) (n := 1024) (val_main_v25 (F := Ideal) x0 x2 x3 x5 x7 x8) (fun r c => A.layer.f (A.X r) c) :=
  fun i => (val_main_v25_apply x0 x2 x3 x5 x7 x8 i).trans (sum_real 2816 _ (fun j => A.layer.act (A.X (i 0).val) j * A.wo j (i 1).val) fun k => (congrArg₂ (· * ·) ((s_v24 H) _) (H.h8 _)).trans (EReal.coe_mul _ _).symm)

include H in
theorem s_v26 : Holds (m := 1) (n := 1024) (val_main_v26 (F := Ideal) x4 x6) (fun _ c => A.gt c * A.g4 c) :=
  fun i => (val_main_v26_apply x4 x6 i).trans (real_mul (H.h4 i) (H.h6 i))

include H in
theorem s_v27 : Holds (m := 8192) (n := 1024) (val_main_v27 (F := Ideal) x0 x2 x3 x5 x7 x8) (fun r c => (A.layer.f (A.X r)) c * (A.layer.f (A.X r)) c) :=
  fun i => (val_main_v27_apply x0 x2 x3 x5 x7 x8 i).trans (real_mul ((s_v25 H) i) ((s_v25 H) i))

include H in
theorem s_v28 : Holds1 (m := 8192) (val_main_v28 (F := Ideal) x0 x2 x3 x5 x7 x8) (fun r => ∑ j ∈ Finset.range 1024, (A.layer.f (A.X r)) j * (A.layer.f (A.X r)) j) :=
  fun i => (val_main_v28_apply x0 x2 x3 x5 x7 x8 i).trans (real_sum 1024 _ (fun j => (A.layer.f (A.X (i 0).val)) j * (A.layer.f (A.X (i 0).val)) j) fun k => (s_v27 H) _)

include H in
theorem s_v29 : Holds (m := 8192) (n := 1) (val_main_v29 (F := Ideal) x0 x2 x3 x5 x7 x8) (fun r _ => ∑ j ∈ Finset.range 1024, (A.layer.f (A.X r)) j * (A.layer.f (A.X r)) j) :=
  fun i => (val_main_v29_apply x0 x2 x3 x5 x7 x8 i).trans ((s_v28 H) _)

include H in
theorem s_v30 : Holds (m := 8192) (n := 1) (val_main_v30 (F := Ideal)) (fun _ _ => 1024) :=
  fun i => (val_main_v30_apply i).trans word_1024

include H in
theorem s_v31 : Holds (m := 8192) (n := 1) (val_main_v31 (F := Ideal) x0 x2 x3 x5 x7 x8) (fun r _ => (∑ j ∈ Finset.range 1024, (A.layer.f (A.X r)) j * (A.layer.f (A.X r)) j) / 1024) :=
  fun i => (val_main_v31_apply x0 x2 x3 x5 x7 x8 i).trans (real_div ((s_v29 H) i) ((s_v30 H) i) (by norm_num))

include H in
theorem s_v32 : Holds (m := 8192) (n := 1) (val_main_v32 (F := Ideal)) (fun _ _ => eps) :=
  fun i => (val_main_v32_apply i).trans word_eps

include H in
/-- The mean of the squares of a row. -/
theorem s_v33 : Holds (m := 8192) (n := 1) (val_main_v33 (F := Ideal) x0 x2 x3 x5 x7 x8) (fun r _ => meanSq (A.layer.f (A.X r))) :=
  fun i => (val_main_v33_apply x0 x2 x3 x5 x7 x8 i).trans (real_add ((s_v31 H) i) ((s_v32 H) i))

include H in
/-- Its reciprocal root. -/
theorem s_v34 : Holds (m := 8192) (n := 1) (val_main_v34 (F := Ideal) x0 x2 x3 x5 x7 x8) (fun r _ => inv (A.layer.f (A.X r))) :=
  fun i => (val_main_v34_apply x0 x2 x3 x5 x7 x8 i).trans (real_rsqrt ((s_v33 H) i) (meanSq_pos _))

include H in
theorem s_v35 : Holds (m := 8192) (n := 1) (val_main_v35 (F := Ideal) x0 x2 x3 x5 x7 x8) (fun r _ => inv (A.layer.f (A.X r)) / meanSq (A.layer.f (A.X r))) :=
  fun i => (val_main_v35_apply x0 x2 x3 x5 x7 x8 i).trans (real_div ((s_v34 H) i) ((s_v33 H) i) (meanSq_pos _).ne')

include H in
theorem s_v36 : Holds (m := 8192) (n := 1) (val_main_v36 (F := Ideal)) (fun _ _ => -(1 / 2)) :=
  fun i => (val_main_v36_apply i).trans word_minus_half

include H in
theorem s_v37 : Holds (m := 8192) (n := 1) (val_main_v37 (F := Ideal) x0 x2 x3 x5 x7 x8) (fun r _ => -(1 / 2) * (inv (A.layer.f (A.X r)) / meanSq (A.layer.f (A.X r)))) :=
  fun i => (val_main_v37_apply x0 x2 x3 x5 x7 x8 i).trans (real_mul ((s_v36 H) i) ((s_v35 H) i))

include H in
theorem s_v38 : Holds (m := 8192) (n := 1024) (val_main_v38 (F := Ideal) x0 x2 x3 x5 x7 x8) (fun r _ => inv (A.layer.f (A.X r))) :=
  fun i => (val_main_v38_apply x0 x2 x3 x5 x7 x8 i).trans ((s_v34 H) _)

include H in
/-- The second norm. -/
theorem s_v39 : Holds (m := 8192) (n := 1024) (val_main_v39 (F := Ideal) x0 x2 x3 x5 x7 x8) (fun r c => unit (A.layer.f (A.X r)) c) :=
  fun i => (val_main_v39_apply x0 x2 x3 x5 x7 x8 i).trans (real_mul ((s_v25 H) i) ((s_v38 H) i))

include H in
theorem s_v40 : Holds (m := 8192) (n := 1024) (val_main_v40 (F := Ideal) x4 x6) (fun _ c => A.gt c * A.g4 c) :=
  fun i => (val_main_v40_apply x4 x6 i).trans ((s_v26 H) _)

include H in
theorem s_v41 : Holds (m := 8192) (n := 1024) (val_main_v41 (F := Ideal) x0 x2 x3 x4 x5 x6 x7 x8) (fun r c => unit (A.layer.f (A.X r)) c * (A.gt c * A.g4 c)) :=
  fun i => (val_main_v41_apply x0 x2 x3 x4 x5 x6 x7 x8 i).trans (real_mul ((s_v39 H) i) ((s_v40 H) i))

include H in
theorem s_v42 : Holds (m := 8192) (n := 1024) (val_main_v42 (F := Ideal) x0 x2 x3 x4 x5 x6 x7 x8) (fun r c => A.X r c + unit (A.layer.f (A.X r)) c * (A.gt c * A.g4 c)) :=
  fun i => (val_main_v42_apply x0 x2 x3 x4 x5 x6 x7 x8 i).trans (real_add (H.h0 i) ((s_v41 H) i))

include H in
/-- The error of the output. -/
theorem s_v43 : Holds (m := 8192) (n := 1024) (val_main_v43 (F := Ideal) x0 x1 x2 x3 x4 x5 x6 x7 x8) (fun r c => A.layer.err (A.X r) (A.T r) c) :=
  Holds.congr (X := fun r c => A.X r c + unit (A.layer.f (A.X r)) c * (A.gt c * A.g4 c) - A.T r c) (fun i => (val_main_v43_apply x0 x1 x2 x3 x4 x5 x6 x7 x8 i).trans (real_sub ((s_v42 H) i) (H.h1 i))) fun r hr c hc => err_eq A (A.X r) (A.T r) c

include H in
theorem s_v44 : Holds (m := 8192) (n := 1024) (val_main_v44 (F := Ideal) x0 x1 x2 x3 x4 x5 x6 x7 x8) (fun r c => A.layer.err (A.X r) (A.T r) c * A.layer.err (A.X r) (A.T r) c) :=
  fun i => (val_main_v44_apply x0 x1 x2 x3 x4 x5 x6 x7 x8 i).trans (real_mul ((s_v43 H) i) ((s_v43 H) i))

include H in
theorem s_v45 : Holds (m := 8192) (n := 1024) (val_main_v45 (F := Ideal)) (fun _ _ => 2) :=
  fun i => (val_main_v45_apply i).trans word_two

include H in
theorem s_v46 : Holds (m := 8192) (n := 1024) (val_main_v46 (F := Ideal) x0 x1 x2 x3 x4 x5 x6 x7 x8) (fun r c => 2 * A.layer.err (A.X r) (A.T r) c) :=
  fun i => (val_main_v46_apply x0 x1 x2 x3 x4 x5 x6 x7 x8 i).trans (real_mul ((s_v45 H) i) ((s_v43 H) i))

include H in
theorem s_v47 : Holds1 (m := 8192) (val_main_v47 (F := Ideal) x0 x1 x2 x3 x4 x5 x6 x7 x8) (fun r => ∑ c ∈ Finset.range 1024, A.layer.err (A.X r) (A.T r) c * A.layer.err (A.X r) (A.T r) c) :=
  fun i => (val_main_v47_apply x0 x1 x2 x3 x4 x5 x6 x7 x8 i).trans (real_sum 1024 _ (fun c => A.layer.err (A.X (i 0).val) (A.T (i 0).val) c * A.layer.err (A.X (i 0).val) (A.T (i 0).val) c) fun k => (s_v44 H) _)

include H in
theorem s_v48 : Holds1 (m := 8192) (val_main_v48 (F := Ideal)) (fun _ => 1024) :=
  fun i => (val_main_v48_apply i).trans word_1024

include H in
theorem s_v49 : Holds1 (m := 8192) (val_main_v49 (F := Ideal) x0 x1 x2 x3 x4 x5 x6 x7 x8) (fun r => (∑ c ∈ Finset.range 1024, A.layer.err (A.X r) (A.T r) c * A.layer.err (A.X r) (A.T r) c) / 1024) :=
  fun i => (val_main_v49_apply x0 x1 x2 x3 x4 x5 x6 x7 x8 i).trans (real_div ((s_v47 H) i) ((s_v48 H) i) (by norm_num))

include H in
theorem s_v50 (i : S_.Idx) : (val_main_v50 (F := Ideal) x0 x1 x2 x3 x4 x5 x6 x7 x8) i = ((∑ r ∈ Finset.range 8192, (∑ c ∈ Finset.range 1024, A.layer.err (A.X r) (A.T r) c * A.layer.err (A.X r) (A.T r) c) / 1024 : ℝ) : EReal) :=
  (val_main_v50_apply x0 x1 x2 x3 x4 x5 x6 x7 x8 i).trans (real_sum1 8192 _ _ (s_v49 H))

include H in
/-- The loss. -/
theorem s_v51 (i : S_.Idx) : (val_main_v51 (F := Ideal) x0 x1 x2 x3 x4 x5 x6 x7 x8) i = ((total A.layer A.X A.T 8192 : ℝ) : EReal) :=
  (val_main_v51_apply x0 x1 x2 x3 x4 x5 x6 x7 x8 i).trans ((real_mul word_half (s_v50 H i)).trans (congrArg _ (total_eq A)))

include H in
theorem s_v52 (i : S_.Idx) : (val_main_v52 (F := Ideal)) i = ((1 / 2 * 1 : ℝ) : EReal) :=
  (val_main_v52_apply i).trans (real_mul word_half word_one)

include H in
theorem s_v53 : Holds1 (m := 8192) (val_main_v53 (F := Ideal)) (fun _ => 1 / 2 * 1) :=
  fun i => (val_main_v53_apply i).trans ((s_v52 H) _)

include H in
theorem s_v54 : Holds1 (m := 8192) (val_main_v54 (F := Ideal)) (fun _ => 1024) :=
  fun i => (val_main_v54_apply i).trans word_1024

include H in
theorem s_v55 : Holds1 (m := 8192) (val_main_v55 (F := Ideal)) (fun _ => 1 / 2 * 1 / 1024) :=
  fun i => (val_main_v55_apply i).trans (real_div ((s_v53 H) i) ((s_v54 H) i) (by norm_num))

include H in
theorem s_v56 : Holds (m := 8192) (n := 1024) (val_main_v56 (F := Ideal)) (fun _ _ => 1 / 2 * 1 / 1024) :=
  fun i => (val_main_v56_apply i).trans ((s_v55 H) _)

include H in
/-- The gradient at the output. -/
theorem s_v57 : Holds (m := 8192) (n := 1024) (val_main_v57 (F := Ideal) x0 x1 x2 x3 x4 x5 x6 x7 x8) (fun r c => A.layer.dout (A.X r) (A.T r) c) :=
  Holds.congr (X := fun r c => 1 / 2 * 1 / 1024 * (2 * A.layer.err (A.X r) (A.T r) c)) (fun i => (val_main_v57_apply x0 x1 x2 x3 x4 x5 x6 x7 x8 i).trans (real_mul ((s_v56 H) i) ((s_v46 H) i))) fun r hr c hc => dout_eq A (A.X r) (A.T r) c

include H in
theorem s_v58 : Holds (m := 8192) (n := 1024) (val_main_v58 (F := Ideal) x0 x1 x2 x3 x4 x5 x6 x7 x8) (fun r c => unit (A.layer.f (A.X r)) c * A.layer.dout (A.X r) (A.T r) c) :=
  fun i => (val_main_v58_apply x0 x1 x2 x3 x4 x5 x6 x7 x8 i).trans (real_mul ((s_v39 H) i) ((s_v57 H) i))

include H in
theorem s_v59 : Holds1 (m := 1024) (val_main_v59 (F := Ideal) x0 x1 x2 x3 x4 x5 x6 x7 x8) (fun c => ∑ r ∈ Finset.range 8192, unit (A.layer.f (A.X r)) c * A.layer.dout (A.X r) (A.T r) c) :=
  fun i => (val_main_v59_apply x0 x1 x2 x3 x4 x5 x6 x7 x8 i).trans (real_sum 8192 _ (fun r => unit (A.layer.f (A.X r)) (i 0).val * A.layer.dout (A.X r) (A.T r) (i 0).val) fun k => (s_v58 H) _)

include H in
theorem s_v60 : Holds (m := 1) (n := 1024) (val_main_v60 (F := Ideal) x0 x1 x2 x3 x4 x5 x6 x7 x8) (fun _ c => ∑ r ∈ Finset.range 8192, unit (A.layer.f (A.X r)) c * A.layer.dout (A.X r) (A.T r) c) :=
  fun i => (val_main_v60_apply x0 x1 x2 x3 x4 x5 x6 x7 x8 i).trans (((s_v59 H) _).trans (congrArg (fun k => (((fun c => ∑ r ∈ Finset.range 8192, unit (A.layer.f (A.X r)) c * A.layer.dout (A.X r) (A.T r) c) k : ℝ) : EReal)) (show (i 0).val * 1024 + (i 1).val = (i 1).val from by have := idx2_lt0 i; omega)))

include H in
theorem s_v61 : Holds (m := 8192) (n := 1024) (val_main_v61 (F := Ideal) x4 x6) (fun _ c => A.gt c * A.g4 c) :=
  fun i => (val_main_v61_apply x4 x6 i).trans ((s_v26 H) _)

include H in
theorem s_v62 : Holds (m := 8192) (n := 1024) (val_main_v62 (F := Ideal) x0 x1 x2 x3 x4 x5 x6 x7 x8) (fun r c => A.layer.dout (A.X r) (A.T r) c * (A.gt c * A.g4 c)) :=
  fun i => (val_main_v62_apply x0 x1 x2 x3 x4 x5 x6 x7 x8 i).trans (real_mul ((s_v57 H) i) ((s_v61 H) i))

include H in
theorem s_v63 : Holds (m := 8192) (n := 1024) (val_main_v63 (F := Ideal) x0 x1 x2 x3 x4 x5 x6 x7 x8) (fun r c => (A.layer.f (A.X r)) c * (A.layer.dout (A.X r) (A.T r) c * (A.gt c * A.g4 c))) :=
  fun i => (val_main_v63_apply x0 x1 x2 x3 x4 x5 x6 x7 x8 i).trans (real_mul ((s_v25 H) i) ((s_v62 H) i))

include H in
theorem s_v64 : Holds1 (m := 8192) (val_main_v64 (F := Ideal) x0 x1 x2 x3 x4 x5 x6 x7 x8) (fun r => (∑ j ∈ Finset.range 1024, (A.layer.f (A.X r)) j * (A.layer.dout (A.X r) (A.T r) j * (A.gt j * A.g4 j)))) :=
  fun i => (val_main_v64_apply x0 x1 x2 x3 x4 x5 x6 x7 x8 i).trans (real_sum 1024 _ (fun j => (A.layer.f (A.X (i 0).val)) j * (A.layer.dout (A.X (i 0).val) (A.T (i 0).val) j * (A.gt j * A.g4 j))) fun k => (s_v63 H) _)

include H in
theorem s_v65 : Holds (m := 8192) (n := 1) (val_main_v65 (F := Ideal) x0 x1 x2 x3 x4 x5 x6 x7 x8) (fun r _ => (∑ j ∈ Finset.range 1024, (A.layer.f (A.X r)) j * (A.layer.dout (A.X r) (A.T r) j * (A.gt j * A.g4 j)))) :=
  fun i => (val_main_v65_apply x0 x1 x2 x3 x4 x5 x6 x7 x8 i).trans (((s_v64 H) _).trans (congrArg (fun k => (((fun r => (∑ j ∈ Finset.range 1024, (A.layer.f (A.X r)) j * (A.layer.dout (A.X r) (A.T r) j * (A.gt j * A.g4 j)))) k : ℝ) : EReal)) (show (i 0).val * 1 + (i 1).val = (i 0).val from by have := idx2_lt1 i; omega)))

include H in
theorem s_v66 : Holds (m := 8192) (n := 1024) (val_main_v66 (F := Ideal) x0 x2 x3 x5 x7 x8) (fun r _ => inv (A.layer.f (A.X r))) :=
  fun i => (val_main_v66_apply x0 x2 x3 x5 x7 x8 i).trans ((s_v34 H) _)

include H in
theorem s_v67 : Holds (m := 8192) (n := 1024) (val_main_v67 (F := Ideal) x0 x1 x2 x3 x4 x5 x6 x7 x8) (fun r c => (A.layer.dout (A.X r) (A.T r) c * (A.gt c * A.g4 c)) * inv (A.layer.f (A.X r))) :=
  fun i => (val_main_v67_apply x0 x1 x2 x3 x4 x5 x6 x7 x8 i).trans (real_mul ((s_v62 H) i) ((s_v66 H) i))

include H in
theorem s_v68 : Holds (m := 8192) (n := 1) (val_main_v68 (F := Ideal) x0 x1 x2 x3 x4 x5 x6 x7 x8) (fun r _ => (∑ j ∈ Finset.range 1024, (A.layer.f (A.X r)) j * (A.layer.dout (A.X r) (A.T r) j * (A.gt j * A.g4 j))) * (-(1 / 2) * (inv (A.layer.f (A.X r)) / meanSq (A.layer.f (A.X r))))) :=
  fun i => (val_main_v68_apply x0 x1 x2 x3 x4 x5 x6 x7 x8 i).trans (real_mul ((s_v65 H) i) ((s_v37 H) i))

include H in
theorem s_v69 : Holds (m := 8192) (n := 1) (val_main_v69 (F := Ideal)) (fun _ _ => 1024) :=
  fun i => (val_main_v69_apply i).trans word_1024

include H in
theorem s_v70 : Holds (m := 8192) (n := 1) (val_main_v70 (F := Ideal) x0 x1 x2 x3 x4 x5 x6 x7 x8) (fun r _ => ((∑ j ∈ Finset.range 1024, (A.layer.f (A.X r)) j * (A.layer.dout (A.X r) (A.T r) j * (A.gt j * A.g4 j))) * (-(1 / 2) * (inv (A.layer.f (A.X r)) / meanSq (A.layer.f (A.X r)))) / 1024)) :=
  fun i => (val_main_v70_apply x0 x1 x2 x3 x4 x5 x6 x7 x8 i).trans (real_div ((s_v68 H) i) ((s_v69 H) i) (by norm_num))

include H in
theorem s_v71 : Holds1 (m := 8192) (val_main_v71 (F := Ideal) x0 x1 x2 x3 x4 x5 x6 x7 x8) (fun r => ((∑ j ∈ Finset.range 1024, (A.layer.f (A.X r)) j * (A.layer.dout (A.X r) (A.T r) j * (A.gt j * A.g4 j))) * (-(1 / 2) * (inv (A.layer.f (A.X r)) / meanSq (A.layer.f (A.X r)))) / 1024)) :=
  fun i => (val_main_v71_apply x0 x1 x2 x3 x4 x5 x6 x7 x8 i).trans (real_sum_one _ _ fun k => (s_v70 H) _)

include H in
theorem s_v72 : Holds (m := 8192) (n := 1024) (val_main_v72 (F := Ideal) x0 x1 x2 x3 x4 x5 x6 x7 x8) (fun r _ => ((∑ j ∈ Finset.range 1024, (A.layer.f (A.X r)) j * (A.layer.dout (A.X r) (A.T r) j * (A.gt j * A.g4 j))) * (-(1 / 2) * (inv (A.layer.f (A.X r)) / meanSq (A.layer.f (A.X r)))) / 1024)) :=
  fun i => (val_main_v72_apply x0 x1 x2 x3 x4 x5 x6 x7 x8 i).trans ((s_v71 H) _)

include H in
theorem s_v73 : Holds (m := 8192) (n := 1024) (val_main_v73 (F := Ideal) x0 x1 x2 x3 x4 x5 x6 x7 x8) (fun r c => (A.layer.f (A.X r)) c * ((∑ j ∈ Finset.range 1024, (A.layer.f (A.X r)) j * (A.layer.dout (A.X r) (A.T r) j * (A.gt j * A.g4 j))) * (-(1 / 2) * (inv (A.layer.f (A.X r)) / meanSq (A.layer.f (A.X r)))) / 1024)) :=
  fun i => (val_main_v73_apply x0 x1 x2 x3 x4 x5 x6 x7 x8 i).trans (real_mul ((s_v25 H) i) ((s_v72 H) i))

include H in
theorem s_v74 : Holds (m := 8192) (n := 1024) (val_main_v74 (F := Ideal) x0 x1 x2 x3 x4 x5 x6 x7 x8) (fun r c => (A.layer.dout (A.X r) (A.T r) c * (A.gt c * A.g4 c)) * inv (A.layer.f (A.X r)) + (A.layer.f (A.X r)) c * ((∑ j ∈ Finset.range 1024, (A.layer.f (A.X r)) j * (A.layer.dout (A.X r) (A.T r) j * (A.gt j * A.g4 j))) * (-(1 / 2) * (inv (A.layer.f (A.X r)) / meanSq (A.layer.f (A.X r)))) / 1024)) :=
  fun i => (val_main_v74_apply x0 x1 x2 x3 x4 x5 x6 x7 x8 i).trans (real_add ((s_v67 H) i) ((s_v73 H) i))

include H in
theorem s_v75 : Holds (m := 8192) (n := 1024) (val_main_v75 (F := Ideal) x0 x1 x2 x3 x4 x5 x6 x7 x8) (fun r c => ((∑ j ∈ Finset.range 1024, (A.layer.f (A.X r)) j * (A.layer.dout (A.X r) (A.T r) j * (A.gt j * A.g4 j))) * (-(1 / 2) * (inv (A.layer.f (A.X r)) / meanSq (A.layer.f (A.X r)))) / 1024) * (A.layer.f (A.X r)) c) :=
  fun i => (val_main_v75_apply x0 x1 x2 x3 x4 x5 x6 x7 x8 i).trans (real_mul ((s_v72 H) i) ((s_v25 H) i))

include H in
/-- The gradient at the product back. -/
theorem s_v76 : Holds (m := 8192) (n := 1024) (val_main_v76 (F := Ideal) x0 x1 x2 x3 x4 x5 x6 x7 x8) (fun r c => A.layer.df (A.X r) (A.T r) c) :=
  Holds.congr (X := fun r c => (A.layer.dout (A.X r) (A.T r) c * (A.gt c * A.g4 c)) * inv (A.layer.f (A.X r)) + (A.layer.f (A.X r)) c * ((∑ j ∈ Finset.range 1024, (A.layer.f (A.X r)) j * (A.layer.dout (A.X r) (A.T r) j * (A.gt j * A.g4 j))) * (-(1 / 2) * (inv (A.layer.f (A.X r)) / meanSq (A.layer.f (A.X r)))) / 1024) + ((∑ j ∈ Finset.range 1024, (A.layer.f (A.X r)) j * (A.layer.dout (A.X r) (A.T r) j * (A.gt j * A.g4 j))) * (-(1 / 2) * (inv (A.layer.f (A.X r)) / meanSq (A.layer.f (A.X r)))) / 1024) * (A.layer.f (A.X r)) c) (fun i => (val_main_v76_apply x0 x1 x2 x3 x4 x5 x6 x7 x8 i).trans (real_add ((s_v74 H) i) ((s_v75 H) i))) fun r hr c hc => unitGrad_eq (A.layer.f (A.X r)) c (fun c => (A.layer.dout (A.X r) (A.T r) c * (A.gt c * A.g4 c)))

include H in
/-- The gradient at the gated rows. -/
theorem s_v77 : Holds (m := 8192) (n := 2816) (val_main_v77 (F := Ideal) x0 x1 x2 x3 x4 x5 x6 x7 x8) (fun r c => A.layer.dact (A.X r) (A.T r) c) :=
  fun i => (val_main_v77_apply x0 x1 x2 x3 x4 x5 x6 x7 x8 i).trans (sum_real 1024 _ (fun j => A.layer.df (A.X (i 0).val) (A.T (i 0).val) j * A.wo (i 1).val j) fun k => (congrArg₂ (· * ·) ((s_v76 H) _) (H.h8 _)).trans (EReal.coe_mul _ _).symm)

include H in
theorem s_v78 : Holds (m := 8192) (n := 2816) (val_main_v78 (F := Ideal) x0 x1 x2 x3 x4 x5 x6 x7 x8) (fun r c => A.layer.dup (A.X r) (A.T r) c) :=
  Holds.congr (X := fun r c => A.layer.sl (A.X r) c * A.layer.dact (A.X r) (A.T r) c) (fun i => (val_main_v78_apply x0 x1 x2 x3 x4 x5 x6 x7 x8 i).trans (real_mul ((s_v23_0 H) i) ((s_v77 H) i))) fun r hr c hc => mul_comm _ _

include H in
theorem s_v79 : Holds (m := 8192) (n := 2816) (val_main_v79 (F := Ideal) x0 x1 x2 x3 x4 x5 x6 x7 x8) (fun r c => A.layer.dact (A.X r) (A.T r) c * A.layer.u (A.X r) (2816 + c)) :=
  fun i => (val_main_v79_apply x0 x1 x2 x3 x4 x5 x6 x7 x8 i).trans (real_mul ((s_v77 H) i) ((s_v22 H) i))

include H in
theorem s_call1_v0 : Holds (m := 8192) (n := 2816) (val_main_call1_v0 (F := Ideal) x0 x1 x2 x3 x4 x5 x6 x7 x8) (fun r c => A.layer.u (A.X r) c * (A.layer.dact (A.X r) (A.T r) c * A.layer.u (A.X r) (2816 + c))) :=
  fun i => (val_main_call1_v0_apply x0 x1 x2 x3 x4 x5 x6 x7 x8 i).trans (real_mul ((s_v21 H) i) ((s_v79 H) i))

include H in
theorem s_call1_v1 : Holds (m := 8192) (n := 2816) (val_main_call1_v1 (F := Ideal) x0 x1 x2 x3 x4 x5 x6 x7 x8) (fun r c => (A.layer.dact (A.X r) (A.T r) c * A.layer.u (A.X r) (2816 + c)) * A.layer.sg (A.X r) c) :=
  fun i => (val_main_call1_v1_apply x0 x1 x2 x3 x4 x5 x6 x7 x8 i).trans (real_mul ((s_v79 H) i) ((s_v23_2 H) i))

include H in
theorem s_call1_v2 : Holds (m := 8192) (n := 2816) (val_main_call1_v2 (F := Ideal) x0 x1 x2 x3 x4 x5 x6 x7 x8) (fun r c => A.layer.u (A.X r) c * (A.layer.dact (A.X r) (A.T r) c * A.layer.u (A.X r) (2816 + c)) * (A.layer.sg (A.X r) c * (1 - A.layer.sg (A.X r) c))) :=
  fun i => (val_main_call1_v2_apply x0 x1 x2 x3 x4 x5 x6 x7 x8 i).trans (real_mul ((s_call1_v0 H) i) ((s_v23_1 H) i))

include H in
/-- The gradient at the gate. -/
theorem s_v80 : Holds (m := 8192) (n := 2816) (val_main_v80 (F := Ideal) x0 x1 x2 x3 x4 x5 x6 x7 x8) (fun r c => A.layer.dgate (A.X r) (A.T r) c) :=
  Holds.congr (X := fun r c => (A.layer.dact (A.X r) (A.T r) c * A.layer.u (A.X r) (2816 + c)) * A.layer.sg (A.X r) c + A.layer.u (A.X r) c * (A.layer.dact (A.X r) (A.T r) c * A.layer.u (A.X r) (2816 + c)) * (A.layer.sg (A.X r) c * (1 - A.layer.sg (A.X r) c))) (fun i => (val_main_v80_apply x0 x1 x2 x3 x4 x5 x6 x7 x8 i).trans (real_add ((s_call1_v1 H) i) ((s_call1_v2 H) i))) fun r hr c hc => dgate_eq A (A.X r) (A.T r) c

include H in
/-- The gradient at the first product: its two halves side by side. -/
theorem s_v81 : Holds (m := 8192) (n := 5632) (val_main_v81 (F := Ideal) x0 x1 x2 x3 x4 x5 x6 x7 x8) (fun r c => A.layer.du (A.X r) (A.T r) c) :=
  beside (s_v80 H) (s_v78 H) concatenates_S8192x2816_S8192x2816_S8192x5632_d1

include H in
/-- The gradient at the rows entering the first product. -/
theorem s_v82 : Holds (m := 8192) (n := 1024) (val_main_v82 (F := Ideal) x0 x1 x2 x3 x4 x5 x6 x7 x8) (fun r c => A.layer.dh (A.X r) (A.T r) c) :=
  fun i => (val_main_v82_apply x0 x1 x2 x3 x4 x5 x6 x7 x8 i).trans (sum_real 5632 _ (fun j => A.layer.du (A.X (i 0).val) (A.T (i 0).val) j * A.wi (i 1).val j) fun k => (congrArg₂ (· * ·) ((s_v81 H) _) (H.h7 _)).trans (EReal.coe_mul _ _).symm)

include H in
theorem s_v83 : Holds1 (m := 1024) (val_main_v83 (F := Ideal) x0 x1 x2 x3 x4 x5 x6 x7 x8) (fun c => ∑ r ∈ Finset.range 8192, A.layer.dh (A.X r) (A.T r) c) :=
  fun i => (val_main_v83_apply x0 x1 x2 x3 x4 x5 x6 x7 x8 i).trans (real_sum 8192 _ (fun r => A.layer.dh (A.X r) (A.T r) (i 0).val) fun k => (s_v82 H) _)

include H in
theorem s_v84 : Holds (m := 1) (n := 1024) (val_main_v84 (F := Ideal) x0 x1 x2 x3 x4 x5 x6 x7 x8) (fun _ c => ∑ r ∈ Finset.range 8192, A.layer.dh (A.X r) (A.T r) c) :=
  fun i => (val_main_v84_apply x0 x1 x2 x3 x4 x5 x6 x7 x8 i).trans (((s_v83 H) _).trans (congrArg (fun k => (((fun c => ∑ r ∈ Finset.range 8192, A.layer.dh (A.X r) (A.T r) c) k : ℝ) : EReal)) (show (i 0).val * 1024 + (i 1).val = (i 1).val from by have := idx2_lt0 i; omega)))

include H in
theorem s_v85 : Holds (m := 8192) (n := 1024) (val_main_v85 (F := Ideal) x0 x1 x2 x3 x4 x5 x6 x7 x8) (fun r c => unit (A.X r) c * A.layer.dh (A.X r) (A.T r) c) :=
  fun i => (val_main_v85_apply x0 x1 x2 x3 x4 x5 x6 x7 x8 i).trans (real_mul ((s_v15 H) i) ((s_v82 H) i))

include H in
theorem s_v86 : Holds1 (m := 1024) (val_main_v86 (F := Ideal) x0 x1 x2 x3 x4 x5 x6 x7 x8) (fun c => ∑ r ∈ Finset.range 8192, unit (A.X r) c * A.layer.dh (A.X r) (A.T r) c) :=
  fun i => (val_main_v86_apply x0 x1 x2 x3 x4 x5 x6 x7 x8 i).trans (real_sum 8192 _ (fun r => unit (A.X r) (i 0).val * A.layer.dh (A.X r) (A.T r) (i 0).val) fun k => (s_v85 H) _)

include H in
theorem s_v87 : Holds (m := 1) (n := 1024) (val_main_v87 (F := Ideal) x0 x1 x2 x3 x4 x5 x6 x7 x8) (fun _ c => ∑ r ∈ Finset.range 8192, unit (A.X r) c * A.layer.dh (A.X r) (A.T r) c) :=
  fun i => (val_main_v87_apply x0 x1 x2 x3 x4 x5 x6 x7 x8 i).trans (((s_v86 H) _).trans (congrArg (fun k => (((fun c => ∑ r ∈ Finset.range 8192, unit (A.X r) c * A.layer.dh (A.X r) (A.T r) c) k : ℝ) : EReal)) (show (i 0).val * 1024 + (i 1).val = (i 1).val from by have := idx2_lt0 i; omega)))

include H in
theorem s_v88 : Holds (m := 8192) (n := 1024) (val_main_v88 (F := Ideal) x3 x5) (fun _ c => A.layer.gm c) :=
  fun i => (val_main_v88_apply x3 x5 i).trans ((s_v2 H) _)

include H in
theorem s_v89 : Holds (m := 8192) (n := 1024) (val_main_v89 (F := Ideal) x0 x1 x2 x3 x4 x5 x6 x7 x8) (fun r c => A.layer.dh (A.X r) (A.T r) c * A.layer.gm c) :=
  fun i => (val_main_v89_apply x0 x1 x2 x3 x4 x5 x6 x7 x8 i).trans (real_mul ((s_v82 H) i) ((s_v88 H) i))

include H in
theorem s_v90 : Holds (m := 8192) (n := 1024) (val_main_v90 (F := Ideal) x0 x1 x2 x3 x4 x5 x6 x7 x8) (fun r c => (A.X r) c * (A.layer.dh (A.X r) (A.T r) c * A.layer.gm c)) :=
  fun i => (val_main_v90_apply x0 x1 x2 x3 x4 x5 x6 x7 x8 i).trans (real_mul (H.h0 i) ((s_v89 H) i))

include H in
theorem s_v91 : Holds1 (m := 8192) (val_main_v91 (F := Ideal) x0 x1 x2 x3 x4 x5 x6 x7 x8) (fun r => (∑ j ∈ Finset.range 1024, (A.X r) j * (A.layer.dh (A.X r) (A.T r) j * A.layer.gm j))) :=
  fun i => (val_main_v91_apply x0 x1 x2 x3 x4 x5 x6 x7 x8 i).trans (real_sum 1024 _ (fun j => (A.X (i 0).val) j * (A.layer.dh (A.X (i 0).val) (A.T (i 0).val) j * A.layer.gm j)) fun k => (s_v90 H) _)

include H in
theorem s_v92 : Holds (m := 8192) (n := 1) (val_main_v92 (F := Ideal) x0 x1 x2 x3 x4 x5 x6 x7 x8) (fun r _ => (∑ j ∈ Finset.range 1024, (A.X r) j * (A.layer.dh (A.X r) (A.T r) j * A.layer.gm j))) :=
  fun i => (val_main_v92_apply x0 x1 x2 x3 x4 x5 x6 x7 x8 i).trans (((s_v91 H) _).trans (congrArg (fun k => (((fun r => (∑ j ∈ Finset.range 1024, (A.X r) j * (A.layer.dh (A.X r) (A.T r) j * A.layer.gm j))) k : ℝ) : EReal)) (show (i 0).val * 1 + (i 1).val = (i 0).val from by have := idx2_lt1 i; omega)))

include H in
theorem s_v93 : Holds (m := 8192) (n := 1024) (val_main_v93 (F := Ideal) x0) (fun r _ => inv (A.X r)) :=
  fun i => (val_main_v93_apply x0 i).trans ((s_v10 H) _)

include H in
theorem s_v94 : Holds (m := 8192) (n := 1024) (val_main_v94 (F := Ideal) x0 x1 x2 x3 x4 x5 x6 x7 x8) (fun r c => (A.layer.dh (A.X r) (A.T r) c * A.layer.gm c) * inv (A.X r)) :=
  fun i => (val_main_v94_apply x0 x1 x2 x3 x4 x5 x6 x7 x8 i).trans (real_mul ((s_v89 H) i) ((s_v93 H) i))

include H in
theorem s_v95 : Holds (m := 8192) (n := 1) (val_main_v95 (F := Ideal) x0 x1 x2 x3 x4 x5 x6 x7 x8) (fun r _ => (∑ j ∈ Finset.range 1024, (A.X r) j * (A.layer.dh (A.X r) (A.T r) j * A.layer.gm j)) * (-(1 / 2) * (inv (A.X r) / meanSq (A.X r)))) :=
  fun i => (val_main_v95_apply x0 x1 x2 x3 x4 x5 x6 x7 x8 i).trans (real_mul ((s_v92 H) i) ((s_v13 H) i))

include H in
theorem s_v96 : Holds (m := 8192) (n := 1) (val_main_v96 (F := Ideal)) (fun _ _ => 1024) :=
  fun i => (val_main_v96_apply i).trans word_1024

include H in
theorem s_v97 : Holds (m := 8192) (n := 1) (val_main_v97 (F := Ideal) x0 x1 x2 x3 x4 x5 x6 x7 x8) (fun r _ => ((∑ j ∈ Finset.range 1024, (A.X r) j * (A.layer.dh (A.X r) (A.T r) j * A.layer.gm j)) * (-(1 / 2) * (inv (A.X r) / meanSq (A.X r))) / 1024)) :=
  fun i => (val_main_v97_apply x0 x1 x2 x3 x4 x5 x6 x7 x8 i).trans (real_div ((s_v95 H) i) ((s_v96 H) i) (by norm_num))

include H in
theorem s_v98 : Holds1 (m := 8192) (val_main_v98 (F := Ideal) x0 x1 x2 x3 x4 x5 x6 x7 x8) (fun r => ((∑ j ∈ Finset.range 1024, (A.X r) j * (A.layer.dh (A.X r) (A.T r) j * A.layer.gm j)) * (-(1 / 2) * (inv (A.X r) / meanSq (A.X r))) / 1024)) :=
  fun i => (val_main_v98_apply x0 x1 x2 x3 x4 x5 x6 x7 x8 i).trans (real_sum_one _ _ fun k => (s_v97 H) _)

include H in
theorem s_v99 : Holds (m := 8192) (n := 1024) (val_main_v99 (F := Ideal) x0 x1 x2 x3 x4 x5 x6 x7 x8) (fun r _ => ((∑ j ∈ Finset.range 1024, (A.X r) j * (A.layer.dh (A.X r) (A.T r) j * A.layer.gm j)) * (-(1 / 2) * (inv (A.X r) / meanSq (A.X r))) / 1024)) :=
  fun i => (val_main_v99_apply x0 x1 x2 x3 x4 x5 x6 x7 x8 i).trans ((s_v98 H) _)

include H in
theorem s_v100 : Holds (m := 8192) (n := 1024) (val_main_v100 (F := Ideal) x0 x1 x2 x3 x4 x5 x6 x7 x8) (fun r c => (A.X r) c * ((∑ j ∈ Finset.range 1024, (A.X r) j * (A.layer.dh (A.X r) (A.T r) j * A.layer.gm j)) * (-(1 / 2) * (inv (A.X r) / meanSq (A.X r))) / 1024)) :=
  fun i => (val_main_v100_apply x0 x1 x2 x3 x4 x5 x6 x7 x8 i).trans (real_mul (H.h0 i) ((s_v99 H) i))

include H in
theorem s_v101 : Holds (m := 8192) (n := 1024) (val_main_v101 (F := Ideal) x0 x1 x2 x3 x4 x5 x6 x7 x8) (fun r c => (A.layer.dh (A.X r) (A.T r) c * A.layer.gm c) * inv (A.X r) + (A.X r) c * ((∑ j ∈ Finset.range 1024, (A.X r) j * (A.layer.dh (A.X r) (A.T r) j * A.layer.gm j)) * (-(1 / 2) * (inv (A.X r) / meanSq (A.X r))) / 1024)) :=
  fun i => (val_main_v101_apply x0 x1 x2 x3 x4 x5 x6 x7 x8 i).trans (real_add ((s_v94 H) i) ((s_v100 H) i))

include H in
theorem s_v102 : Holds (m := 8192) (n := 1024) (val_main_v102 (F := Ideal) x0 x1 x2 x3 x4 x5 x6 x7 x8) (fun r c => ((∑ j ∈ Finset.range 1024, (A.X r) j * (A.layer.dh (A.X r) (A.T r) j * A.layer.gm j)) * (-(1 / 2) * (inv (A.X r) / meanSq (A.X r))) / 1024) * (A.X r) c) :=
  fun i => (val_main_v102_apply x0 x1 x2 x3 x4 x5 x6 x7 x8 i).trans (real_mul ((s_v99 H) i) (H.h0 i))

include H in
/-- The gradient through the first norm. -/
theorem s_v103 : Holds (m := 8192) (n := 1024) (val_main_v103 (F := Ideal) x0 x1 x2 x3 x4 x5 x6 x7 x8) (fun r c => unitGrad (A.X r) (fun c => A.layer.dh (A.X r) (A.T r) c * A.layer.gm c) c) :=
  Holds.congr (X := fun r c => (A.layer.dh (A.X r) (A.T r) c * A.layer.gm c) * inv (A.X r) + (A.X r) c * ((∑ j ∈ Finset.range 1024, (A.X r) j * (A.layer.dh (A.X r) (A.T r) j * A.layer.gm j)) * (-(1 / 2) * (inv (A.X r) / meanSq (A.X r))) / 1024) + ((∑ j ∈ Finset.range 1024, (A.X r) j * (A.layer.dh (A.X r) (A.T r) j * A.layer.gm j)) * (-(1 / 2) * (inv (A.X r) / meanSq (A.X r))) / 1024) * (A.X r) c) (fun i => (val_main_v103_apply x0 x1 x2 x3 x4 x5 x6 x7 x8 i).trans (real_add ((s_v101 H) i) ((s_v102 H) i))) fun r hr c hc => unitGrad_eq (A.X r) c (fun c => (A.layer.dh (A.X r) (A.T r) c * A.layer.gm c))

include H in
theorem s_v104 : Holds (m := 5) (n := 1024) (val_main_v104 (F := Ideal)) (fun _ _ => 0) :=
  fun i => (val_main_v104_apply i).trans word_zero

include H in
/-- The three rows of sums, then zeros. -/
theorem s_v105 : Holds (m := 8) (n := 1024) (val_main_v105 (F := Ideal) x0 x1 x2 x3 x4 x5 x6 x7 x8) (sums A.layer A.X A.T 8192) :=
  Holds.congr (stacked (s_v84 H) (s_v87 H) (s_v60 H) (s_v104 H) concatenates_S1x1024_S1x1024_S1x1024_S5x1024_S8x1024_d0)
    fun r _ c _ => by simp only [sums, mul_comm (unit _ _)]

include H in
/-- The gradient at the rows. -/
theorem s_v106 : Holds (m := 8192) (n := 1024) (val_main_v106 (F := Ideal) x0 x1 x2 x3 x4 x5 x6 x7 x8) (fun r c => A.layer.dx (A.X r) (A.T r) c) :=
  fun i => (val_main_v106_apply x0 x1 x2 x3 x4 x5 x6 x7 x8 i).trans (real_add ((s_v57 H) i) ((s_v103 H) i))

include H in
/-- The entering rows, rounded. -/
theorem s_v107 : Holds (m := 8192) (n := 1024) (val_main_v107 (F := Ideal) x0 x2 x3 x5) (fun r c => A.layer.h (A.X r) c) :=
  fun i => s_v19 H i

include H in
/-- The gradient at the first product, rounded. -/
theorem s_v108 : Holds (m := 8192) (n := 5632) (val_main_v108 (F := Ideal) x0 x1 x2 x3 x4 x5 x6 x7 x8) (fun r c => A.layer.du (A.X r) (A.T r) c) :=
  fun i => s_v81 H i

include H in
/-- The gated rows, rounded. -/
theorem s_v109 : Holds (m := 8192) (n := 2816) (val_main_v109 (F := Ideal) x0 x2 x3 x5 x7) (fun r c => A.layer.act (A.X r) c) :=
  fun i => s_v24 H i

include H in
/-- The gradient at the product back, rounded. -/
theorem s_v110 : Holds (m := 8192) (n := 1024) (val_main_v110 (F := Ideal) x0 x1 x2 x3 x4 x5 x6 x7 x8) (fun r c => A.layer.df (A.X r) (A.T r) c) :=
  fun i => s_v76 H i

include H in
/-- The loss, repeated. -/
theorem s_v111 : Holds (m := 8) (n := 128) (val_main_v111 (F := Ideal) x0 x1 x2 x3 x4 x5 x6 x7 x8) (fun _ _ => total A.layer A.X A.T 8192) :=
  fun i => (val_main_v111_apply x0 x1 x2 x3 x4 x5 x6 x7 x8 i).trans ((s_v51 H) _)

end Cert.RefValue
end
-- ==== Proof.Finite.lean ====
module

public import proofs.«01_k».proof.Defs
public import proofs.«01_k».proof.Proof.Final
public import proofs.«01_k».proof.Proof.RefValue

@[expose] public section

/-! The precondition: an array of extended reals whose absolute values all compare below infinity holds a table of
real numbers. So the kernel's arguments, and the reference's equal to them, hold tables. -/

noncomputable section

namespace Cert.Finite

open Idealize.ShloMosaic hiding ix2
open Idealize.ShloMosaic.TcCoe
open Idealize.ShloMosaic.ValueIdx Idealize.SL.Sem Cert.Tables Cert.Model Cert.Entry Cert.KernelIdeal

/-- The word of positive infinity. -/
theorem word_top : Ideal.ofBits .f32 0x7F800000#32 = ⊤ := by simp [Ideal.ofBits, Ideal.ieee]

/-- An extended real whose absolute value compares below infinity is a real number. -/
theorem real_of_lt {a : EReal} (h : Ideal.cmp .olt (max a (-a)) (Ideal.ofBits .f32 0x7F800000#32) = 1#1) :
    a = ((a.toReal : ℝ) : EReal) := by
  rw [word_top] at h
  have hlt : max a (-a) < ⊤ := by
    by_contra hn
    simp [Ideal.cmp, hn] at h
  refine (EReal.coe_toReal ?_ ?_).symm
  · rintro rfl
    simp at hlt
  · rintro rfl
    simp at hlt

/-- The real table of an array, zero outside it. -/
def table {m n : ℕ} (x : (⟨2, ![m, n]⟩ : Shape).Idx → EReal) (r c : ℕ) : ℝ :=
  if h : r < m ∧ c < n then (x (ix2 ⟨r, h.1⟩ ⟨c, h.2⟩)).toReal else 0

/-- An array of real numbers holds its table. -/
theorem holds_table {m n : ℕ} {x : (⟨2, ![m, n]⟩ : Shape).Idx → EReal} (h : ∀ i, x i = ((x i).toReal : EReal)) :
    Holds x (table x) :=
  Holds.of fun r c => by
    rw [h (ix2 r c), table, dif_pos ⟨r.isLt, c.isLt⟩]

/-- An array of one row of real numbers holds that row. -/
theorem holds_row {n : ℕ} {x : (⟨2, ![1, n]⟩ : Shape).Idx → EReal} (h : ∀ i, x i = ((x i).toReal : EReal)) :
    Holds x fun _ => table x 0 :=
  (holds_table h).congr fun r hr c _ => by rw [Nat.lt_one_iff.mp hr]

variable (m : (ℓ : Loc nD τ sig) → Buf (Elt Ideal) ℓ) (c : Dev nD)

/-- The tables of the kernel's nine arguments on a device. -/
def args : Args where
  X := table (m := 8192) (n := 1024) (m ((c : Thread nD τ).loc main_arg0))
  T := table (m := 8192) (n := 1024) (m ((c : Thread nD τ).loc main_arg1))
  sh := table (m := 1) (n := 1024) (m ((c : Thread nD τ).loc main_arg2)) 0
  sc := table (m := 1) (n := 1024) (m ((c : Thread nD τ).loc main_arg3)) 0
  gt := table (m := 1) (n := 1024) (m ((c : Thread nD τ).loc main_arg4)) 0
  g1 := table (m := 1) (n := 1024) (m ((c : Thread nD τ).loc main_arg5)) 0
  g4 := table (m := 1) (n := 1024) (m ((c : Thread nD τ).loc main_arg6)) 0
  wi := table (m := 1024) (n := 5632) (m ((c : Thread nD τ).loc main_arg7))
  wo := table (m := 2816) (n := 1024) (m ((c : Thread nD τ).loc main_arg8))

variable [hPre : Cert.Pre_finite.Facts]
variable {m}

/-- Under the precondition the kernel's arguments hold their tables. -/
theorem given (h : Cert.Pre_KernelIdeal_finite m) : Given m c (args m c) := by
  obtain ⟨h0, h1, h2, h3, h4, h5, h6, h7, h8⟩ := h c
  exact {
    hX := holds_table fun i => real_of_lt (congrFun h0 i)
    hT := holds_table fun i => real_of_lt (congrFun h1 i)
    hsh := holds_row fun i => real_of_lt (congrFun h2 i)
    hsc := holds_row fun i => real_of_lt (congrFun h3 i)
    hgt := holds_row fun i => real_of_lt (congrFun h4 i)
    hg1 := holds_row fun i => real_of_lt (congrFun h5 i)
    hg4 := holds_row fun i => real_of_lt (congrFun h6 i)
    hwi := holds_table fun i => real_of_lt (congrFun h7 i)
    hwo := holds_table fun i => real_of_lt (congrFun h8 i) }

variable {m' : (ℓ : Loc Cert.ReferenceIdeal.nD Cert.ReferenceIdeal.τ Cert.ReferenceIdeal.sig) → Buf (Elt Ideal) ℓ}

/-- The reference's arguments, equal to the kernel's, hold the same tables. -/
theorem inputs {A : Args} (G : Given m c A)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)) :
    RefValue.Inputs (StableHlo.launchContents m' c (Proc.devRef .tc Cert.ReferenceIdeal.main_arg0))
      (StableHlo.launchContents m' c (Proc.devRef .tc Cert.ReferenceIdeal.main_arg1))
      (StableHlo.launchContents m' c (Proc.devRef .tc Cert.ReferenceIdeal.main_arg2))
      (StableHlo.launchContents m' c (Proc.devRef .tc Cert.ReferenceIdeal.main_arg3))
      (StableHlo.launchContents m' c (Proc.devRef .tc Cert.ReferenceIdeal.main_arg4))
      (StableHlo.launchContents m' c (Proc.devRef .tc Cert.ReferenceIdeal.main_arg5))
      (StableHlo.launchContents m' c (Proc.devRef .tc Cert.ReferenceIdeal.main_arg6))
      (StableHlo.launchContents m' c (Proc.devRef .tc Cert.ReferenceIdeal.main_arg7))
      (StableHlo.launchContents m' c (Proc.devRef .tc Cert.ReferenceIdeal.main_arg8)) A := by
  obtain ⟨h0, h1, h2, h3, h4, h5, h6, h7, h8⟩ := h
  exact {
    h0 := fun i => (congrFun h0 i).trans (G.hX i)
    h1 := fun i => (congrFun h1 i).trans (G.hT i)
    h2 := fun i => (congrFun h2 i).trans (G.hsh i)
    h3 := fun i => (congrFun h3 i).trans (G.hsc i)
    h4 := fun i => (congrFun h4 i).trans (G.hgt i)
    h5 := fun i => (congrFun h5 i).trans (G.hg1 i)
    h6 := fun i => (congrFun h6 i).trans (G.hg4 i)
    h7 := fun i => (congrFun h7 i).trans (G.hwi i)
    h8 := fun i => (congrFun h8 i).trans (G.hwo i) }

end Cert.Finite
-- ==== Proof.Products.lean ====
module

public import proofs.«01_k».proof.Proof.Pieces

@[expose] public section

/-! Products of a transposed array with another, `aᵀ b`, taken a block of rows at a time. The entries are extended reals,
whose addition is commutative and associative without any condition, so the partial sums need no bound. -/

noncomputable section

namespace Cert.Products

open Idealize.ShloMosaic hiding ix2
open Idealize.ShloMosaic.ValueIdx Idealize.SL.Sem
open scoped BigOperators

/-- An array's entries, read off a table of extended reals. -/
def Reads {m n : ℕ} (x : (⟨2, ![m, n]⟩ : Shape).Idx → EReal) (X : ℕ → ℕ → EReal) : Prop :=
  ∀ i, x i = X (i 0).val (i 1).val

/-- The table of an array, zero outside it. -/
def table {m n : ℕ} (x : (⟨2, ![m, n]⟩ : Shape).Idx → EReal) (r c : ℕ) : EReal :=
  if h : r < m ∧ c < n then x (ix2 ⟨r, h.1⟩ ⟨c, h.2⟩) else 0

section
variable {m n k : ℕ} {φ : FTy} {X Y A B : ℕ → ℕ → EReal}

/-- It suffices to read the entries by row and column. -/
theorem Reads.of {x : (⟨2, ![m, n]⟩ : Shape).Idx → EReal}
    (h : ∀ (r : Fin m) (c : Fin n), x (ix2 r c) = X r.val c.val) : Reads x X :=
  fun i => (congrArg x (ValueIdx.eq_ix2 i)).trans (h (i 0) (i 1))

/-- An entry by row and column. -/
theorem Reads.at {x : (⟨2, ![m, n]⟩ : Shape).Idx → EReal} (hx : Reads x X) (r : Fin m) (c : Fin n) :
    x (ix2 r c) = X r.val c.val := hx (ix2 r c)

/-- Two arrays read off one table are equal. -/
theorem Reads.unique {x y : (⟨2, ![m, n]⟩ : Shape).Idx → EReal} (hx : Reads x X) (hy : Reads y X) : x = y :=
  funext fun i => (hx i).trans (hy i).symm

/-- An array is read off its own table. -/
theorem reads_table (x : (⟨2, ![m, n]⟩ : Shape).Idx → EReal) : Reads x (table x) := .of fun r c => by
  unfold table
  rw [dif_pos ⟨r.isLt, c.isLt⟩]

/-- Row `r` and column `c` of the product over the first `K` rows. -/
def rowsProduct (A B : ℕ → ℕ → EReal) (K r c : ℕ) : EReal := ∑ j ∈ Finset.range K, A j r * B j c

/-- The product over `p + q` rows is that over the first `p` and that over the `q` after them. -/
theorem rowsProduct_add (p q r c : ℕ) :
    rowsProduct A B (p + q) r c = rowsProduct A B p r c + rowsProduct (fun j => A (p + j)) (fun j => B (p + j)) q r c := by
  unfold rowsProduct
  exact Finset.sum_range_add _ p q

/-- Contraction of the rows of both operands. -/
abbrev rowDims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- A product that contracts the rows, accumulated from zero. -/
theorem Reads.matmul {K M N : ℕ} {φ₁ φ₂ : FTy} {x : FVec Ideal ⟨2, ![K, M]⟩ φ₁} {y : FVec Ideal ⟨2, ![K, N]⟩ φ₂}
    (hx : Reads x A) (hy : Reads y B) (prec : Option ContractPrecision) :
    Reads (FloatOps.matmul (rowDims K M N) prec x y (constant ⟨2, ![M, N]⟩ .f32 0x00000000#32)) (rowsProduct A B K) := .of fun r c => by
  have e1 : (rowDims K M N).contr.rank = 1 := rfl
  rw [Ideal.matmul_apply, ← Equiv.sum_comp (contrEquiv1 (rowDims K M N) K e1 rfl).symm]
  show Ideal.ofBits .f32 0x00000000#32 + _ = _
  rw [Ideal.ofBits_zero_f32, zero_add]
  unfold rowsProduct
  rw [Finset.sum_range]
  refine Finset.sum_congr rfl fun j _ => ?_
  have hk := contrEquiv1_symm_val (rowDims K M N) K e1 rfl j
  refine congrArg₂ (· * ·) ((hx _).trans ?_) ((hy _).trans ?_)
  · exact congrArg₂ A hk rfl
  · exact congrArg₂ B hk rfl

/-- The zero block. -/
theorem reads_zero (h : (⟨2, ![m, n]⟩ : Shape).ShapeCasts ⟨2, ![m, n]⟩) :
    Reads (Idealize.ShloMosaic.shapeCast (⟨2, ![m, n]⟩ : Shape) (broadcast (⟨2, ![m, n]⟩ : Shape) (Scalar.ofBits (F := Ideal) .f32 0x00000000#32)) h)
      (rowsProduct A B 0) := fun i => by
  rw [shapeCast_self]
  exact Ideal.ofBits_zero_f32.trans (Finset.sum_range_zero _).symm

/-- One step: the product over `q` more rows added to that over the first `p`. -/
theorem Reads.step {p q M N : ℕ} {φ₁ φ₂ : FTy} {s : FVec Ideal ⟨2, ![M, N]⟩ .f32} {x : FVec Ideal ⟨2, ![q, M]⟩ φ₁} {y : FVec Ideal ⟨2, ![q, N]⟩ φ₂}
    (hs : Reads s (rowsProduct A B p)) (hx : Reads x fun j => A (p + j)) (hy : Reads y fun j => B (p + j))
    (prec : Option ContractPrecision) (h : (⟨2, ![M, N]⟩ : Shape).ShapeCasts ⟨2, ![M, N]⟩) :
    Reads (Idealize.ShloMosaic.shapeCast (⟨2, ![M, N]⟩ : Shape)
      (addf s (FloatOps.matmul (rowDims q M N) prec x y (constant ⟨2, ![M, N]⟩ .f32 0x00000000#32))) h) (rowsProduct A B (p + q)) := fun i => by
  rw [shapeCast_self, rowsProduct_add]
  exact congrArg₂ (· + ·) (hs i) (Reads.matmul hx hy prec i)

/-- A run of points, `d` of them to a block of `M` columns of the first operand, each taking the next `q` rows: what the
    sum holds after a point is the product over the rows taken since the block began. -/
theorem reads_run {N d q M P : ℕ} {φ₁ φ₂ : FTy} (hd : 0 < d) (hz : (⟨2, ![M, P]⟩ : Shape).ShapeCasts ⟨2, ![M, P]⟩)
    (s : ∀ t : ℕ, t < N → FVec Ideal ⟨2, ![M, P]⟩ .f32) (x : ∀ t : ℕ, t < N → FVec Ideal ⟨2, ![q, M]⟩ φ₁) (y : ∀ t : ℕ, t < N → FVec Ideal ⟨2, ![q, P]⟩ φ₂)
    (h0 : ∀ t h, t % d = 0 → s t h = Idealize.ShloMosaic.shapeCast (⟨2, ![M, P]⟩ : Shape) (addf
      (Idealize.ShloMosaic.shapeCast (⟨2, ![M, P]⟩ : Shape) (broadcast (⟨2, ![M, P]⟩ : Shape) (Scalar.ofBits (F := Ideal) .f32 0x00000000#32)) hz)
      (FloatOps.matmul (rowDims q M P) none (x t h) (y t h) (constant ⟨2, ![M, P]⟩ .f32 0x00000000#32))) hz)
    (h1 : ∀ t h, ¬t % d = 0 → s t h = Idealize.ShloMosaic.shapeCast (⟨2, ![M, P]⟩ : Shape) (addf (s (t - 1) (Nat.lt_of_le_of_lt (Nat.sub_le _ _) h))
      (FloatOps.matmul (rowDims q M P) none (x t h) (y t h) (constant ⟨2, ![M, P]⟩ .f32 0x00000000#32))) hz)
    (hx : ∀ t h, Reads (x t h) fun j r => A (q * (t % d) + j) (M * (t / d) + r))
    (hy : ∀ t h, Reads (y t h) fun j => B (q * (t % d) + j)) :
    ∀ t h, Reads (s t h) (rowsProduct (fun j r => A j (M * (t / d) + r)) B (q * (t % d + 1))) := by
  intro t
  induction t with
  | zero =>
    intro h
    rw [h0 0 h (Nat.zero_mod d), Nat.zero_mod, Nat.mul_add, Nat.mul_one]
    refine Reads.step (p := q * 0) (A := fun j r => A j (M * (0 / d) + r)) (B := B) (reads_zero hz) ?_ ?_ none hz
    · have e := hx 0 h; rwa [Nat.zero_mod] at e
    · have e := hy 0 h; rwa [Nat.zero_mod] at e
  | succ t ih =>
    intro h
    by_cases e0 : (t + 1) % d = 0
    · rw [h0 (t + 1) h e0, e0, Nat.mul_add, Nat.mul_one]
      refine Reads.step (p := q * 0) (A := fun j r => A j (M * ((t + 1) / d) + r)) (B := B) (reads_zero hz) ?_ ?_ none hz
      · have e := hx (t + 1) h; rwa [e0] at e
      · have e := hy (t + 1) h; rwa [e0] at e
    · have em : t % d + 1 = (t + 1) % d := by
        have h2 := Nat.div_add_mod t d
        have h3 := Nat.mod_lt t hd
        have h4 : t + 1 = d * (t / d) + (t % d + 1) := by omega
        have h5 : (t + 1) % d = (t % d + 1) % d := by conv_lhs => rw [h4, Nat.mul_add_mod]
        rcases Nat.lt_or_ge (t % d + 1) d with h6 | h6
        · rw [h5, Nat.mod_eq_of_lt h6]
        · exact absurd (by rw [h5, (Nat.le_antisymm h3 h6 : t % d + 1 = d), Nat.mod_self]) e0
      have ed : t / d = (t + 1) / d := by
        have h2 := Nat.div_add_mod t d
        have h3 := Nat.div_add_mod (t + 1) d
        rw [← em] at h3
        exact Nat.eq_of_mul_eq_mul_left hd (by omega)
      have hs := ih (Nat.lt_of_succ_lt h)
      rw [em, ed] at hs
      rw [h1 (t + 1) h e0, Nat.mul_add, Nat.mul_one]
      exact Reads.step (p := q * ((t + 1) % d)) (A := fun j r => A j (M * ((t + 1) / d) + r)) (B := B) hs (hx (t + 1) h) (hy (t + 1) h) none hz

/-- The product of the host, its factors in the other order. -/
theorem rowsProduct_host {K : ℕ} (r c : ℕ) : ∑ j : Fin K, B j.val c * A j.val r = rowsProduct A B K r c := by
  unfold rowsProduct
  rw [Finset.sum_range]
  exact Finset.sum_congr rfl fun j _ => mul_comm _ _

end

end Cert.Products

end
-- ==== Proof.ProductFfnIn.lean ====
module

public import proofs.«01_k».proof.Defs
public import Idealize.ShloMosaic.Adequacy
public import proofs.«01_k».proof.Proof.Products
public import proofs.«01_k».proof.Proof.Gen.Kernel2Ideal.Value
public import proofs.«01_k».proof.Proof.Gen.Reference2Ideal.Run
public import proofs.«01_k».proof.Proof.Gen.Reference2Ideal.Read

@[expose] public section

/-! The gradient of the first feed-forward weight: the kernel's array is the reference's. -/

noncomputable section

namespace Cert.ProductFfnIn

open Idealize.ShloMosaic hiding ix2
open Idealize.ShloMosaic.TcCoe
open Idealize.ShloMosaic.ValueIdx Idealize.SL.Sem Cert.Pieces Cert.Products Cert.Kernel2Ideal Cert.Kernel2Ideal.Gen
open scoped BigOperators

section
variable (c : Dev nD) (i : grid0.Coords) (arg2 : Memref sig .tc .vmem S512x512 .bf16) (harg2 : arg2.IsWhole) (arg3 : Memref sig .tc .vmem S512x5632 .bf16) (harg3 : arg3.IsWhole)
  (arg4 : Memref sig .tc .vmem S5632x512 .bf16) (harg4 : arg4.IsWhole) (arg5 : Memref sig .tc .vmem S512x5632 .f32) (harg5 : arg5.IsWhole)
  (x0 : Vec Ideal S512x512 .bf16) (x1 : Vec Ideal S512x5632 .bf16)

/-- The sum after the first point of a block: the zero block and the first product. -/
theorem sum_A (hc0 : cond0_0 i) (hc1 : ¬cond0_1 i) :
    sout0_A_0 (F := Ideal) c i arg2 harg2 arg3 harg3 arg4 harg4 arg5 harg5 hc0 hc1 x0 x1 = k0_pay2 k0_pay1 x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x5632) hz, View.readCov_unit_zero (S := S512x5632) _ hz]
  simp only [View.readAt_eq_ld, harg2.read_unread, harg3.read_unread, View.ld_unit_zero (S := S512x512) hz, View.ld_unit_zero (S := S512x5632) hz]

/-- The sum after a point inside a block: one product more. -/
theorem sum_B (hc0 : ¬cond0_0 i) (hc1 : ¬cond0_1 i) (s : Vec Ideal S512x5632 .f32) :
    sout0_B_0 (F := Ideal) c i arg2 harg2 arg3 harg3 arg4 harg4 arg5 harg5 hc0 hc1 x0 x1 s = k0_pay2 s x0 x1 := by
  unfold sout0_B_0
  rw [View.read_writes_eq_canon _ _ _ (scover0_B_0 c i arg2 harg2 arg3 harg3 arg4 harg4 arg5 harg5 hc0 hc1 x0 x1 s)]
  unfold kernelRun0_B
  dsimp only
  sl_unfold_words
  rw [View.canon_unit_zero hz]
  simp only [View.readAt_eq_ld, harg2.read_unread, harg3.read_unread, harg5.read_unread, View.ld_unit_zero (S := S512x512) hz, View.ld_unit_zero (S := S512x5632) hz]

/-- The sum after the last point of a block: one product more. -/
theorem sum_C (hc0 : ¬cond0_0 i) (hc1 : cond0_1 i) (s : Vec Ideal S512x5632 .f32) :
    sout0_C_0 (F := Ideal) c i arg2 harg2 arg3 harg3 arg4 harg4 arg5 harg5 hc0 hc1 x0 x1 s = k0_pay2 s x0 x1 := by
  unfold sout0_C_0
  rw [View.read_writes_eq_canon _ _ _ (scover0_C_0 c i arg2 harg2 arg3 harg3 arg4 harg4 arg5 harg5 hc0 hc1 x0 x1 s)]
  unfold kernelRun0_C
  dsimp only
  sl_unfold_words
  rw [View.canon_unit_zero hz]
  simp only [View.readAt_eq_ld, harg2.read_unread, harg3.read_unread, harg5.read_unread, View.ld_unit_zero (S := S512x512) hz, View.ld_unit_zero (S := S512x5632) hz]

/-- The block written at the last point: the sum, transposed and rounded. -/
theorem out_C (hc0 : ¬cond0_0 i) (hc1 : cond0_1 i) (s : Vec Ideal S512x5632 .f32) :
    out0_C_2 (F := Ideal) c i arg2 harg2 arg3 harg3 arg4 harg4 arg5 harg5 hc0 hc1 x0 x1 s = k0_pay3 (k0_pay2 s x0 x1) := by
  unfold out0_C_2
  rw [View.read_writes_eq_canon _ _ _ (cover0_C_2 c i arg2 harg2 arg3 harg3 arg4 harg4 arg5 harg5 hc0 hc1 x0 x1 s)]
  unfold kernelRun0_C
  dsimp only
  sl_unfold_words
  rw [View.canon_unit_zero hz, View.readCov_unit_zero (S := S512x5632) _ hz]
  simp only [View.readAt_eq_ld, harg2.read_unread, harg3.read_unread, harg5.read_unread, View.ld_unit_zero (S := S512x512) hz, View.ld_unit_zero (S := S512x5632) hz]

end

variable (m : (ℓ : Loc nD τ sig) → Buf (Elt Ideal) ℓ) (c : Dev nD)

/-- The table of the rows that entered the product. -/
abbrev rows : ℕ → ℕ → EReal := table (m := 8192) (n := 1024) (m ((c : Thread nD τ).loc main_arg0))
/-- The table of the gradients at its results. -/
abbrev grads : ℕ → ℕ → EReal := table (m := 8192) (n := 5632) (m ((c : Thread nD τ).loc main_arg1))

/-- The blocks a point takes and gives. -/
theorem index_points : ∀ t : Fin cfg0.N, win0_0.index t 0 = t.val % 16 ∧ win0_0.index t 1 = t.val / 16 ∧ win0_1.index t 0 = t.val % 16 ∧ win0_1.index t 1 = 0 :=
  (by decide +kernel : ∀ t : Fin grid0.N, win0_0.index t 0 = t.val % 16 ∧ win0_0.index t 1 = t.val / 16 ∧ win0_1.index t 0 = t.val % 16 ∧ win0_1.index t 1 = 0)

/-- The rows at a point. -/
theorem reads_rows (t : Fin cfg0.N) : Reads (m := 512) (n := 512) (iblk m c 0 t) fun j r => rows m c (512 * (t.val % 16) + j) (512 * (t.val / 16) + r) := by
  refine fun j => ?_
  unfold iblk
  rw [View.read_apply]
  refine (reads_table (m := 8192) (n := 1024) (m ((c : Thread nD τ).loc main_arg0)) _).trans ?_
  obtain ⟨h0, h1, -, -⟩ := index_points t
  have e0 : win0_0.index t 0 * 512 + 1 * (j 0).val = 512 * (t.val % 16) + (j 0).val := by rw [h0]; ring
  have e1 : win0_0.index t 1 * 512 + 1 * (j 1).val = 512 * (t.val / 16) + (j 1).val := by rw [h1]; ring
  exact congrArg₂ (rows m c) e0 e1

/-- The gradients at a point. -/
theorem reads_grads (t : Fin cfg0.N) : Reads (m := 512) (n := 5632) (iblk m c 1 t) fun j => grads m c (512 * (t.val % 16) + j) := by
  refine fun j => ?_
  unfold iblk
  rw [View.read_apply]
  refine (reads_table (m := 8192) (n := 5632) (m ((c : Thread nD τ).loc main_arg1)) _).trans ?_
  obtain ⟨-, -, h0, h1⟩ := index_points t
  have e0 : win0_1.index t 0 * 512 + 1 * (j 0).val = 512 * (t.val % 16) + (j 0).val := by rw [h0]; ring
  have e1 : win0_1.index t 1 * 5632 + 1 * (j 1).val = (j 1).val := by rw [h1]; ring
  exact congrArg₂ (grads m c) e0 e1

/-- The sum at the first point of a block. -/
theorem point_A (t : Fin cfg0.N) (h0 : t.val % 16 = 0) : (outsAt0 m c t.val t.isLt).2 = k0_pay2 k0_pay1 (iblk m c 0 t) (iblk m c 1 t) := by
  rw [outsAt0_A m c t h0 (by omega)]
  dsimp only
  exact sum_A ..

/-- The sum at a later point of a block. -/
theorem point_B (t : Fin cfg0.N) (h0 : ¬t.val % 16 = 0) : (outsAt0 m c t.val t.isLt).2
    = k0_pay2 (outsAt0 m c (t.val - 1) (Nat.lt_of_le_of_lt (Nat.sub_le _ _) t.isLt)).2 (iblk m c 0 t) (iblk m c 1 t) := by
  by_cases h1 : t.val % 16 = 15
  · rw [outsAt0_C m c t h0 h1]
    dsimp only
    exact sum_C ..
  · rw [outsAt0_B m c t h0 h1]
    dsimp only
    exact sum_B ..

/-- The block written at the last point of a block: the sum there, transposed and rounded. -/
theorem point_C (t : Fin cfg0.N) (h1 : t.val % 16 = 15) : (outsAt0 m c t.val t.isLt).1 = k0_pay3 (outsAt0 m c t.val t.isLt).2 := by
  rw [point_B m c t (by omega), outsAt0_C m c t (by omega) h1]
  dsimp only
  exact out_C ..

/-- The sum after each point. -/
theorem reads_sum : ∀ t (h : t < cfg0.N), Reads (m := 512) (n := 5632) (outsAt0 m c t h).2
    (rowsProduct (fun j r => rows m c j (512 * (t / 16) + r)) (grads m c) (512 * (t % 16 + 1))) :=
  reads_run (N := cfg0.N) (d := 16) (q := 512) (M := 512) (P := 5632) (φ₁ := .bf16) (φ₂ := .bf16) (by norm_num) shapeCasts_S512x5632_S512x5632
    (fun t h => (outsAt0 m c t h).2) (fun t h => iblk m c 0 ⟨t, h⟩) (fun t h => iblk m c 1 ⟨t, h⟩)
    (fun t h e => point_A m c ⟨t, h⟩ e) (fun t h e => point_B m c ⟨t, h⟩ e) (fun t h => reads_rows m c ⟨t, h⟩) (fun t h => reads_grads m c ⟨t, h⟩)

omit m c in
/-- An entry of the transposed and rounded sum. -/
theorem back (s : Vec Ideal S512x5632 .f32) (a : Fin 5632) (b : Fin 512) : k0_pay3 s (ix2 (n0 := 5632) (n1 := 512) a b) = s (ix2 b a) :=
  transpose_apply _ _ _ (ix2 a b) (ix2 b a) fun e => by fin_cases e <;> rfl

/-- The kernel's array. -/
theorem reads_kernel : Reads (m := 5632) (n := 1024) (Value.G2 m c) fun r k => rowsProduct (rows m c) (grads m c) 8192 k r := by
  refine Reads.of fun r k => ?_
  have hN : cfg0.N = 32 := N_0
  have ht : 16 * (k.val / 512) + 15 < cfg0.N := by have := k.isLt; omega
  have hp : Value.pt2Of (ix2 (n0 := 5632) (n1 := 1024) r k) = 16 * (k.val / 512) + 15 := by
    show 16 * (2 * (r.val / 5632 - 0) + 1 * (k.val / 512 - 0)) + 15 = _
    have := r.isLt
    omega
  unfold Value.G2
  rw [dif_pos (by rw [hp]; exact ht), ← Value.outsAt0_sweep m c _ (by rw [hp]; exact ht)]
  simp only [hp]
  rw [point_C m c ⟨16 * (k.val / 512) + 15, ht⟩ (by show (16 * (k.val / 512) + 15) % 16 = 15; omega)]
  refine (congrArg _ (ValueIdx.eq_ix2 _)).trans ((back _ _ _).trans ((reads_sum m c (16 * (k.val / 512) + 15) ht _).trans ?_))
  show rowsProduct (fun j r => rows m c j (512 * ((16 * (k.val / 512) + 15) / 16) + r)) (grads m c) (512 * ((16 * (k.val / 512) + 15) % 16 + 1)) (k.val % 512) (r.val % 5632) = _
  have e1 : (16 * (k.val / 512) + 15) / 16 = k.val / 512 := by omega
  have e2 : 512 * ((16 * (k.val / 512) + 15) % 16 + 1) = 8192 := by omega
  have e3 : r.val % 5632 = r.val := Nat.mod_eq_of_lt r.isLt
  rw [e1, e2, e3]
  unfold rowsProduct
  dsimp only
  rw [Nat.div_add_mod]

/-- The reference's array. -/
theorem reads_reference : Reads (m := 5632) (n := 1024) (Reference2Ideal.Read.val_main_v5 (F := Ideal) (m ((c : Thread nD τ).loc main_arg0)) (m ((c : Thread nD τ).loc main_arg1)))
    fun r k => rowsProduct (rows m c) (grads m c) 8192 k r := by
  refine Reads.of fun r k => ?_
  rw [Reference2Ideal.Read.val_main_v5_apply]
  show Reference2Ideal.Read.val_main_v4 (F := Ideal) _ _ _ = _
  rw [Reference2Ideal.Read.val_main_v4_apply, Reference2Ideal.Read.val_main_v3_apply, Reference2Ideal.Read.val_main_v2_apply]
  refine Eq.trans (Finset.sum_congr rfl fun j _ => ?_) (rowsProduct_host k.val r.val)
  exact congrArg₂ (· * ·) (reads_table (m := 8192) (n := 5632) (m ((c : Thread nD τ).loc main_arg1)) _) (reads_table (m := 8192) (n := 1024) (m ((c : Thread nD τ).loc main_arg0)) _)

/-- The reference runs, its arguments unchanged; it declares no semaphore. -/
theorem frame_reference : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- From equal arguments the kernel's result and the reference's are equal. -/
theorem algebraic : Cert.algebraic_Kernel2Ideal_Reference2Ideal (hKernel2Ideal := Cert.Kernel2Ideal.Gen.facts)
    (hReference2Ideal := Cert.Reference2Ideal.Gen.facts) := by
  intro m ρ m' ρ' hpre hagree
  refine ⟨fun c => Value.G2 m c, Value.run m ρ, ?_⟩
  refine (θ_run Cert.Reference2Ideal.defs _ _).mono (fun r h c => ?_) (Cert.Reference2Ideal.Value.run (F := Ideal) m' ρ')
  obtain ⟨a0, a1⟩ := hagree c
  refine ⟨((h c).1.trans (Reference2Ideal.Read.val_main_v5_eq _ _)).trans ?_, (h c).2⟩
  rw [a0, a1]
  exact (reads_reference m c).unique (reads_kernel m c)

end Cert.ProductFfnIn

end
-- ==== Proof.ProductFfnOut.lean ====
module

public import proofs.«01_k».proof.Defs
public import Idealize.ShloMosaic.Adequacy
public import proofs.«01_k».proof.Proof.Products
public import proofs.«01_k».proof.Proof.Gen.Kernel3Ideal.Value
public import proofs.«01_k».proof.Proof.Gen.Reference3Ideal.Run
public import proofs.«01_k».proof.Proof.Gen.Reference3Ideal.Read

@[expose] public section

/-! The gradient of the second feed-forward weight: the kernel's array is the reference's. -/

noncomputable section

namespace Cert.ProductFfnOut

open Idealize.ShloMosaic hiding ix2
open Idealize.ShloMosaic.TcCoe
open Idealize.ShloMosaic.ValueIdx Idealize.SL.Sem Cert.Pieces Cert.Products Cert.Kernel3Ideal Cert.Kernel3Ideal.Gen
open scoped BigOperators

section
variable (c : Dev nD) (i : grid0.Coords) (arg2 : Memref sig .tc .vmem S1024x2816 .bf16) (harg2 : arg2.IsWhole) (arg3 : Memref sig .tc .vmem S1024x1024 .bf16) (harg3 : arg3.IsWhole)
  (arg4 : Memref sig .tc .vmem S2816x1024 .bf16) (harg4 : arg4.IsWhole) (arg5 : Memref sig .tc .vmem S2816x1024 .f32) (harg5 : arg5.IsWhole)
  (x0 : Vec Ideal S1024x2816 .bf16) (x1 : Vec Ideal S1024x1024 .bf16)

/-- The sum after the first point of a block: the zero block and the first product. -/
theorem sum_A (hc0 : cond0_0 i) (hc1 : ¬cond0_1 i) :
    sout0_A_0 (F := Ideal) c i arg2 harg2 arg3 harg3 arg4 harg4 arg5 harg5 hc0 hc1 x0 x1 = k0_pay2 k0_pay1 x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S2816x1024) hz, View.readCov_unit_zero (S := S2816x1024) _ hz]
  simp only [View.readAt_eq_ld, harg2.read_unread, harg3.read_unread, View.ld_unit_zero (S := S1024x2816) hz, View.ld_unit_zero (S := S1024x1024) hz, View.ld_unit_zero (S := S2816x1024) hz]

/-- The sum after a point inside a block: one product more. -/
theorem sum_B (hc0 : ¬cond0_0 i) (hc1 : ¬cond0_1 i) (s : Vec Ideal S2816x1024 .f32) :
    sout0_B_0 (F := Ideal) c i arg2 harg2 arg3 harg3 arg4 harg4 arg5 harg5 hc0 hc1 x0 x1 s = k0_pay2 s x0 x1 := by
  unfold sout0_B_0
  rw [View.read_writes_eq_canon _ _ _ (scover0_B_0 c i arg2 harg2 arg3 harg3 arg4 harg4 arg5 harg5 hc0 hc1 x0 x1 s)]
  unfold kernelRun0_B
  dsimp only
  sl_unfold_words
  rw [View.canon_unit_zero hz]
  simp only [View.readAt_eq_ld, harg2.read_unread, harg3.read_unread, harg5.read_unread, View.ld_unit_zero (S := S1024x2816) hz, View.ld_unit_zero (S := S1024x1024) hz, View.ld_unit_zero (S := S2816x1024) hz]

/-- The sum after the last point of a block: one product more. -/
theorem sum_C (hc0 : ¬cond0_0 i) (hc1 : cond0_1 i) (s : Vec Ideal S2816x1024 .f32) :
    sout0_C_0 (F := Ideal) c i arg2 harg2 arg3 harg3 arg4 harg4 arg5 harg5 hc0 hc1 x0 x1 s = k0_pay2 s x0 x1 := by
  unfold sout0_C_0
  rw [View.read_writes_eq_canon _ _ _ (scover0_C_0 c i arg2 harg2 arg3 harg3 arg4 harg4 arg5 harg5 hc0 hc1 x0 x1 s)]
  unfold kernelRun0_C
  dsimp only
  sl_unfold_words
  rw [View.canon_unit_zero hz]
  simp only [View.readAt_eq_ld, harg2.read_unread, harg3.read_unread, harg5.read_unread, View.ld_unit_zero (S := S1024x2816) hz, View.ld_unit_zero (S := S1024x1024) hz, View.ld_unit_zero (S := S2816x1024) hz]

/-- The block written at the last point: the sum, rounded. -/
theorem out_C (hc0 : ¬cond0_0 i) (hc1 : cond0_1 i) (s : Vec Ideal S2816x1024 .f32) :
    out0_C_2 (F := Ideal) c i arg2 harg2 arg3 harg3 arg4 harg4 arg5 harg5 hc0 hc1 x0 x1 s = k0_pay3 (k0_pay2 s x0 x1) := by
  unfold out0_C_2
  rw [View.read_writes_eq_canon _ _ _ (cover0_C_2 c i arg2 harg2 arg3 harg3 arg4 harg4 arg5 harg5 hc0 hc1 x0 x1 s)]
  unfold kernelRun0_C
  dsimp only
  sl_unfold_words
  rw [View.canon_unit_zero hz, View.readCov_unit_zero (S := S2816x1024) _ hz]
  simp only [View.readAt_eq_ld, harg2.read_unread, harg3.read_unread, harg5.read_unread, View.ld_unit_zero (S := S1024x2816) hz, View.ld_unit_zero (S := S1024x1024) hz, View.ld_unit_zero (S := S2816x1024) hz]

end

variable (m : (ℓ : Loc nD τ sig) → Buf (Elt Ideal) ℓ) (c : Dev nD)

/-- The table of the rows that entered the product. -/
abbrev rows : ℕ → ℕ → EReal := table (m := 8192) (n := 2816) (m ((c : Thread nD τ).loc main_arg0))
/-- The table of the gradients at its results. -/
abbrev grads : ℕ → ℕ → EReal := table (m := 8192) (n := 1024) (m ((c : Thread nD τ).loc main_arg1))

/-- The blocks a point takes and gives. -/
theorem index_points : ∀ t : Fin cfg0.N, win0_0.index t 0 = t.val % 8 ∧ win0_0.index t 1 = t.val / 8 ∧ win0_1.index t 0 = t.val % 8 ∧ win0_1.index t 1 = 0 :=
  (by decide +kernel : ∀ t : Fin grid0.N, win0_0.index t 0 = t.val % 8 ∧ win0_0.index t 1 = t.val / 8 ∧ win0_1.index t 0 = t.val % 8 ∧ win0_1.index t 1 = 0)

/-- The rows at a point. -/
theorem reads_rows (t : Fin cfg0.N) : Reads (m := 1024) (n := 2816) (iblk m c 0 t) fun j r => rows m c (1024 * (t.val % 8) + j) (2816 * (t.val / 8) + r) := by
  refine fun j => ?_
  unfold iblk
  rw [View.read_apply]
  refine (reads_table (m := 8192) (n := 2816) (m ((c : Thread nD τ).loc main_arg0)) _).trans ?_
  obtain ⟨h0, h1, -, -⟩ := index_points t
  have e0 : win0_0.index t 0 * 1024 + 1 * (j 0).val = 1024 * (t.val % 8) + (j 0).val := by rw [h0]; ring
  have e1 : win0_0.index t 1 * 2816 + 1 * (j 1).val = 2816 * (t.val / 8) + (j 1).val := by rw [h1]; ring
  exact congrArg₂ (rows m c) e0 e1

/-- The gradients at a point. -/
theorem reads_grads (t : Fin cfg0.N) : Reads (m := 1024) (n := 1024) (iblk m c 1 t) fun j => grads m c (1024 * (t.val % 8) + j) := by
  refine fun j => ?_
  unfold iblk
  rw [View.read_apply]
  refine (reads_table (m := 8192) (n := 1024) (m ((c : Thread nD τ).loc main_arg1)) _).trans ?_
  obtain ⟨-, -, h0, h1⟩ := index_points t
  have e0 : win0_1.index t 0 * 1024 + 1 * (j 0).val = 1024 * (t.val % 8) + (j 0).val := by rw [h0]; ring
  have e1 : win0_1.index t 1 * 1024 + 1 * (j 1).val = (j 1).val := by rw [h1]; ring
  exact congrArg₂ (grads m c) e0 e1

/-- The sum at the first point of a block. -/
theorem point_A (t : Fin cfg0.N) (h0 : t.val % 8 = 0) : (outsAt0 m c t.val t.isLt).2 = k0_pay2 k0_pay1 (iblk m c 0 t) (iblk m c 1 t) := by
  rw [outsAt0_A m c t h0 (by omega)]
  dsimp only
  exact sum_A ..

/-- The sum at a later point of a block. -/
theorem point_B (t : Fin cfg0.N) (h0 : ¬t.val % 8 = 0) : (outsAt0 m c t.val t.isLt).2
    = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    exact sum_C ..
  · rw [outsAt0_B m c t h0 h1]
    dsimp only
    exact sum_B ..

/-- The block written at the last point of a block: the sum there, rounded. -/
theorem point_C (t : Fin cfg0.N) (h1 : t.val % 8 = 7) : (outsAt0 m c t.val t.isLt).1 = k0_pay3 (outsAt0 m c t.val t.isLt).2 := by
  rw [point_B m c t (by omega), outsAt0_C m c t (by omega) h1]
  dsimp only
  exact out_C ..

/-- The sum after each point. -/
theorem reads_sum : ∀ t (h : t < cfg0.N), Reads (m := 2816) (n := 1024) (outsAt0 m c t h).2
    (rowsProduct (fun j r => rows m c j (2816 * (t / 8) + r)) (grads m c) (1024 * (t % 8 + 1))) :=
  reads_run (N := cfg0.N) (d := 8) (q := 1024) (M := 2816) (P := 1024) (φ₁ := .bf16) (φ₂ := .bf16) (by norm_num) shapeCasts_S2816x1024_S2816x1024
    (fun t h => (outsAt0 m c t h).2) (fun t h => iblk m c 0 ⟨t, h⟩) (fun t h => iblk m c 1 ⟨t, h⟩)
    (fun t h e => point_A m c ⟨t, h⟩ e) (fun t h e => point_B m c ⟨t, h⟩ e) (fun t h => reads_rows m c ⟨t, h⟩) (fun t h => reads_grads m c ⟨t, h⟩)

/-- The kernel's array. -/
theorem reads_kernel : Reads (m := 2816) (n := 1024) (Value.G2 m c) (rowsProduct (rows m c) (grads m c) 8192) := by
  refine Reads.of fun r k => ?_
  have hN : cfg0.N = 8 := N_0
  have ht : 7 < cfg0.N := by omega
  have hp : Value.pt2Of (ix2 (n0 := 2816) (n1 := 1024) r k) = 7 := by
    show 8 * (1 * (r.val / 2816 - 0) + 1 * (k.val / 1024 - 0)) + 7 = 7
    have := r.isLt
    have := k.isLt
    omega
  unfold Value.G2
  rw [dif_pos (by rw [hp]; exact ht), ← Value.outsAt0_sweep m c _ (by rw [hp]; exact ht)]
  simp only [hp]
  rw [point_C m c ⟨7, ht⟩ rfl]
  refine Eq.trans (reads_sum m c 7 ht _) ?_
  show rowsProduct (fun j r => rows m c j (2816 * (7 / 8) + r)) (grads m c) (1024 * (7 % 8 + 1)) (r.val % 2816) (k.val % 1024) = _
  rw [Nat.mod_eq_of_lt r.isLt, Nat.mod_eq_of_lt k.isLt]
  unfold rowsProduct
  refine Finset.sum_congr rfl fun j _ => ?_
  show rows m c j (2816 * 0 + r.val) * _ = _
  rw [Nat.mul_zero, Nat.zero_add]

/-- The reference's array. -/
theorem reads_reference : Reads (m := 2816) (n := 1024) (Reference3Ideal.Read.val_main_v4 (F := Ideal) (m ((c : Thread nD τ).loc main_arg0)) (m ((c : Thread nD τ).loc main_arg1)))
    (rowsProduct (rows m c) (grads m c) 8192) := by
  refine Reads.of fun r k => ?_
  rw [Reference3Ideal.Read.val_main_v4_apply]
  show Reference3Ideal.Read.val_main_v3 (F := Ideal) _ _ _ = _
  rw [Reference3Ideal.Read.val_main_v3_apply, Reference3Ideal.Read.val_main_v2_apply]
  refine Eq.trans (Finset.sum_congr rfl fun j _ => ?_) (rowsProduct_host r.val k.val)
  exact congrArg₂ (· * ·) (reads_table (m := 8192) (n := 1024) (m ((c : Thread nD τ).loc main_arg1)) _) (reads_table (m := 8192) (n := 2816) (m ((c : Thread nD τ).loc main_arg0)) _)

/-- The reference runs, its arguments unchanged; it declares no semaphore. -/
theorem frame_reference : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- From equal arguments the kernel's result and the reference's are equal. -/
theorem algebraic : Cert.algebraic_Kernel3Ideal_Reference3Ideal (hKernel3Ideal := Cert.Kernel3Ideal.Gen.facts)
    (hReference3Ideal := Cert.Reference3Ideal.Gen.facts) := by
  intro m ρ m' ρ' hpre hagree
  refine ⟨fun c => Value.G2 m c, Value.run m ρ, ?_⟩
  refine (θ_run Cert.Reference3Ideal.defs _ _).mono (fun r h c => ?_) (Cert.Reference3Ideal.Value.run (F := Ideal) m' ρ')
  obtain ⟨a0, a1⟩ := hagree c
  refine ⟨((h c).1.trans (Reference3Ideal.Read.val_main_v4_eq _ _)).trans ?_, (h c).2⟩
  rw [a0, a1]
  exact (reads_reference m c).unique (reads_kernel m c)

end Cert.ProductFfnOut

end
-- ==== Proof.ProductOut.lean ====
module

public import proofs.«01_k».proof.Defs
public import Idealize.ShloMosaic.Adequacy
public import proofs.«01_k».proof.Proof.Products
public import proofs.«01_k».proof.Proof.Gen.Kernel4Ideal.Value
public import proofs.«01_k».proof.Proof.Gen.Reference4Ideal.Run
public import proofs.«01_k».proof.Proof.Gen.Reference4Ideal.Read

@[expose] public section

/-! The gradient of the mixer's output weight: the kernel's array is the reference's. -/

noncomputable section

namespace Cert.ProductOut

open Idealize.ShloMosaic hiding ix2
open Idealize.ShloMosaic.TcCoe
open Idealize.ShloMosaic.ValueIdx Idealize.SL.Sem Cert.Pieces Cert.Products Cert.Kernel4Ideal Cert.Kernel4Ideal.Gen
open scoped BigOperators

section
variable (c : Dev nD) (i : grid0.Coords) (arg2 : Memref sig .tc .vmem S1024x1024 .bf16) (harg2 : arg2.IsWhole) (arg3 : Memref sig .tc .vmem S1024x1024 .bf16) (harg3 : arg3.IsWhole)
  (arg4 : Memref sig .tc .vmem S1024x1024 .bf16) (harg4 : arg4.IsWhole) (arg5 : Memref sig .tc .vmem S1024x1024 .f32) (harg5 : arg5.IsWhole)
  (x0 : Vec Ideal S1024x1024 .bf16) (x1 : Vec Ideal S1024x1024 .bf16)

/-- The sum after the first point of a block: the zero block and the first product. -/
theorem sum_A (hc0 : cond0_0 i) (hc1 : ¬cond0_1 i) :
    sout0_A_0 (F := Ideal) c i arg2 harg2 arg3 harg3 arg4 harg4 arg5 harg5 hc0 hc1 x0 x1 = k0_pay2 k0_pay1 x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1024) hz, View.readCov_unit_zero (S := S1024x1024) _ hz]
  simp only [View.readAt_eq_ld, harg2.read_unread, harg3.read_unread, View.ld_unit_zero (S := S1024x1024) hz, View.ld_unit_zero (S := S1024x1024) hz, View.ld_unit_zero (S := S1024x1024) hz]

/-- The sum after a point inside a block: one product more. -/
theorem sum_B (hc0 : ¬cond0_0 i) (hc1 : ¬cond0_1 i) (s : Vec Ideal S1024x1024 .f32) :
    sout0_B_0 (F := Ideal) c i arg2 harg2 arg3 harg3 arg4 harg4 arg5 harg5 hc0 hc1 x0 x1 s = k0_pay2 s x0 x1 := by
  unfold sout0_B_0
  rw [View.read_writes_eq_canon _ _ _ (scover0_B_0 c i arg2 harg2 arg3 harg3 arg4 harg4 arg5 harg5 hc0 hc1 x0 x1 s)]
  unfold kernelRun0_B
  dsimp only
  sl_unfold_words
  rw [View.canon_unit_zero hz]
  simp only [View.readAt_eq_ld, harg2.read_unread, harg3.read_unread, harg5.read_unread, View.ld_unit_zero (S := S1024x1024) hz, View.ld_unit_zero (S := S1024x1024) hz, View.ld_unit_zero (S := S1024x1024) hz]

/-- The sum after the last point of a block: one product more. -/
theorem sum_C (hc0 : ¬cond0_0 i) (hc1 : cond0_1 i) (s : Vec Ideal S1024x1024 .f32) :
    sout0_C_0 (F := Ideal) c i arg2 harg2 arg3 harg3 arg4 harg4 arg5 harg5 hc0 hc1 x0 x1 s = k0_pay2 s x0 x1 := by
  unfold sout0_C_0
  rw [View.read_writes_eq_canon _ _ _ (scover0_C_0 c i arg2 harg2 arg3 harg3 arg4 harg4 arg5 harg5 hc0 hc1 x0 x1 s)]
  unfold kernelRun0_C
  dsimp only
  sl_unfold_words
  rw [View.canon_unit_zero hz]
  simp only [View.readAt_eq_ld, harg2.read_unread, harg3.read_unread, harg5.read_unread, View.ld_unit_zero (S := S1024x1024) hz, View.ld_unit_zero (S := S1024x1024) hz, View.ld_unit_zero (S := S1024x1024) hz]

/-- The block written at the last point: the sum, rounded. -/
theorem out_C (hc0 : ¬cond0_0 i) (hc1 : cond0_1 i) (s : Vec Ideal S1024x1024 .f32) :
    out0_C_2 (F := Ideal) c i arg2 harg2 arg3 harg3 arg4 harg4 arg5 harg5 hc0 hc1 x0 x1 s = k0_pay3 (k0_pay2 s x0 x1) := by
  unfold out0_C_2
  rw [View.read_writes_eq_canon _ _ _ (cover0_C_2 c i arg2 harg2 arg3 harg3 arg4 harg4 arg5 harg5 hc0 hc1 x0 x1 s)]
  unfold kernelRun0_C
  dsimp only
  sl_unfold_words
  rw [View.canon_unit_zero hz, View.readCov_unit_zero (S := S1024x1024) _ hz]
  simp only [View.readAt_eq_ld, harg2.read_unread, harg3.read_unread, harg5.read_unread, View.ld_unit_zero (S := S1024x1024) hz, View.ld_unit_zero (S := S1024x1024) hz, View.ld_unit_zero (S := S1024x1024) hz]

end

variable (m : (ℓ : Loc nD τ sig) → Buf (Elt Ideal) ℓ) (c : Dev nD)

/-- The table of the rows that entered the product. -/
abbrev rows : ℕ → ℕ → EReal := table (m := 8192) (n := 1024) (m ((c : Thread nD τ).loc main_arg0))
/-- The table of the gradients at its results. -/
abbrev grads : ℕ → ℕ → EReal := table (m := 8192) (n := 1024) (m ((c : Thread nD τ).loc main_arg1))

/-- The blocks a point takes and gives. -/
theorem index_points : ∀ t : Fin cfg0.N, win0_0.index t 0 = t.val % 8 ∧ win0_0.index t 1 = t.val / 8 ∧ win0_1.index t 0 = t.val % 8 ∧ win0_1.index t 1 = 0 :=
  (by decide +kernel : ∀ t : Fin grid0.N, win0_0.index t 0 = t.val % 8 ∧ win0_0.index t 1 = t.val / 8 ∧ win0_1.index t 0 = t.val % 8 ∧ win0_1.index t 1 = 0)

/-- The rows at a point. -/
theorem reads_rows (t : Fin cfg0.N) : Reads (m := 1024) (n := 1024) (iblk m c 0 t) fun j r => rows m c (1024 * (t.val % 8) + j) (1024 * (t.val / 8) + r) := by
  refine fun j => ?_
  unfold iblk
  rw [View.read_apply]
  refine (reads_table (m := 8192) (n := 1024) (m ((c : Thread nD τ).loc main_arg0)) _).trans ?_
  obtain ⟨h0, h1, -, -⟩ := index_points t
  have e0 : win0_0.index t 0 * 1024 + 1 * (j 0).val = 1024 * (t.val % 8) + (j 0).val := by rw [h0]; ring
  have e1 : win0_0.index t 1 * 1024 + 1 * (j 1).val = 1024 * (t.val / 8) + (j 1).val := by rw [h1]; ring
  exact congrArg₂ (rows m c) e0 e1

/-- The gradients at a point. -/
theorem reads_grads (t : Fin cfg0.N) : Reads (m := 1024) (n := 1024) (iblk m c 1 t) fun j => grads m c (1024 * (t.val % 8) + j) := by
  refine fun j => ?_
  unfold iblk
  rw [View.read_apply]
  refine (reads_table (m := 8192) (n := 1024) (m ((c : Thread nD τ).loc main_arg1)) _).trans ?_
  obtain ⟨-, -, h0, h1⟩ := index_points t
  have e0 : win0_1.index t 0 * 1024 + 1 * (j 0).val = 1024 * (t.val % 8) + (j 0).val := by rw [h0]; ring
  have e1 : win0_1.index t 1 * 1024 + 1 * (j 1).val = (j 1).val := by rw [h1]; ring
  exact congrArg₂ (grads m c) e0 e1

/-- The sum at the first point of a block. -/
theorem point_A (t : Fin cfg0.N) (h0 : t.val % 8 = 0) : (outsAt0 m c t.val t.isLt).2 = k0_pay2 k0_pay1 (iblk m c 0 t) (iblk m c 1 t) := by
  rw [outsAt0_A m c t h0 (by omega)]
  dsimp only
  exact sum_A ..

/-- The sum at a later point of a block. -/
theorem point_B (t : Fin cfg0.N) (h0 : ¬t.val % 8 = 0) : (outsAt0 m c t.val t.isLt).2
    = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    exact sum_C ..
  · rw [outsAt0_B m c t h0 h1]
    dsimp only
    exact sum_B ..

/-- The block written at the last point of a block: the sum there, rounded. -/
theorem point_C (t : Fin cfg0.N) (h1 : t.val % 8 = 7) : (outsAt0 m c t.val t.isLt).1 = k0_pay3 (outsAt0 m c t.val t.isLt).2 := by
  rw [point_B m c t (by omega), outsAt0_C m c t (by omega) h1]
  dsimp only
  exact out_C ..

/-- The sum after each point. -/
theorem reads_sum : ∀ t (h : t < cfg0.N), Reads (m := 1024) (n := 1024) (outsAt0 m c t h).2
    (rowsProduct (fun j r => rows m c j (1024 * (t / 8) + r)) (grads m c) (1024 * (t % 8 + 1))) :=
  reads_run (N := cfg0.N) (d := 8) (q := 1024) (M := 1024) (P := 1024) (φ₁ := .bf16) (φ₂ := .bf16) (by norm_num) shapeCasts_S1024x1024_S1024x1024
    (fun t h => (outsAt0 m c t h).2) (fun t h => iblk m c 0 ⟨t, h⟩) (fun t h => iblk m c 1 ⟨t, h⟩)
    (fun t h e => point_A m c ⟨t, h⟩ e) (fun t h e => point_B m c ⟨t, h⟩ e) (fun t h => reads_rows m c ⟨t, h⟩) (fun t h => reads_grads m c ⟨t, h⟩)

/-- The kernel's array. -/
theorem reads_kernel : Reads (m := 1024) (n := 1024) (Value.G2 m c) (rowsProduct (rows m c) (grads m c) 8192) := by
  refine Reads.of fun r k => ?_
  have hN : cfg0.N = 8 := N_0
  have ht : 7 < cfg0.N := by omega
  have hp : Value.pt2Of (ix2 (n0 := 1024) (n1 := 1024) r k) = 7 := by
    show 8 * (1 * (r.val / 1024 - 0) + 1 * (k.val / 1024 - 0)) + 7 = 7
    have := r.isLt
    have := k.isLt
    omega
  unfold Value.G2
  rw [dif_pos (by rw [hp]; exact ht), ← Value.outsAt0_sweep m c _ (by rw [hp]; exact ht)]
  simp only [hp]
  rw [point_C m c ⟨7, ht⟩ rfl]
  refine Eq.trans (reads_sum m c 7 ht _) ?_
  show rowsProduct (fun j r => rows m c j (1024 * (7 / 8) + r)) (grads m c) (1024 * (7 % 8 + 1)) (r.val % 1024) (k.val % 1024) = _
  rw [Nat.mod_eq_of_lt r.isLt, Nat.mod_eq_of_lt k.isLt]
  unfold rowsProduct
  refine Finset.sum_congr rfl fun j _ => ?_
  show rows m c j (1024 * 0 + r.val) * _ = _
  rw [Nat.mul_zero, Nat.zero_add]

/-- The reference's array. -/
theorem reads_reference : Reads (m := 1024) (n := 1024) (Reference4Ideal.Read.val_main_v4 (F := Ideal) (m ((c : Thread nD τ).loc main_arg0)) (m ((c : Thread nD τ).loc main_arg1)))
    (rowsProduct (rows m c) (grads m c) 8192) := by
  refine Reads.of fun r k => ?_
  rw [Reference4Ideal.Read.val_main_v4_apply]
  show Reference4Ideal.Read.val_main_v3 (F := Ideal) _ _ _ = _
  rw [Reference4Ideal.Read.val_main_v3_apply, Reference4Ideal.Read.val_main_v2_apply]
  refine Eq.trans (Finset.sum_congr rfl fun j _ => ?_) (rowsProduct_host r.val k.val)
  exact congrArg₂ (· * ·) (reads_table (m := 8192) (n := 1024) (m ((c : Thread nD τ).loc main_arg1)) _) (reads_table (m := 8192) (n := 1024) (m ((c : Thread nD τ).loc main_arg0)) _)

/-- The reference runs, its arguments unchanged; it declares no semaphore. -/
theorem frame_reference : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- From equal arguments the kernel's result and the reference's are equal. -/
theorem algebraic : Cert.algebraic_Kernel4Ideal_Reference4Ideal (hKernel4Ideal := Cert.Kernel4Ideal.Gen.facts)
    (hReference4Ideal := Cert.Reference4Ideal.Gen.facts) := by
  intro m ρ m' ρ' hpre hagree
  refine ⟨fun c => Value.G2 m c, Value.run m ρ, ?_⟩
  refine (θ_run Cert.Reference4Ideal.defs _ _).mono (fun r h c => ?_) (Cert.Reference4Ideal.Value.run (F := Ideal) m' ρ')
  obtain ⟨a0, a1⟩ := hagree c
  refine ⟨((h c).1.trans (Reference4Ideal.Read.val_main_v4_eq _ _)).trans ?_, (h c).2⟩
  rw [a0, a1]
  exact (reads_reference m c).unique (reads_kernel m c)

end Cert.ProductOut

end
-- ==== Proof.ProductInFirst.lean ====
module

public import proofs.«01_k».proof.Defs
public import Idealize.ShloMosaic.Adequacy
public import proofs.«01_k».proof.Proof.Products
public import proofs.«01_k».proof.Proof.Gen.Kernel5Ideal.Value
public import proofs.«01_k».proof.Proof.Gen.Reference5Ideal.Run
public import proofs.«01_k».proof.Proof.Gen.Reference5Ideal.Read

@[expose] public section

/-! The gradient of the input projection's weight, its first 512 rows: the kernel's array is the reference's. -/

noncomputable section

namespace Cert.ProductInFirst

open Idealize.ShloMosaic hiding ix2
open Idealize.ShloMosaic.TcCoe
open Idealize.ShloMosaic.ValueIdx Idealize.SL.Sem Cert.Pieces Cert.Products Cert.Kernel5Ideal Cert.Kernel5Ideal.Gen
open scoped BigOperators

section
variable (c : Dev nD) (i : grid0.Coords) (arg2 : Memref sig .tc .vmem S1408x512 .bf16) (harg2 : arg2.IsWhole) (arg3 : Memref sig .tc .vmem S1408x2432 .bf16) (harg3 : arg3.IsWhole)
  (arg4 : Memref sig .tc .vmem S2432x512 .bf16) (harg4 : arg4.IsWhole) (arg5 : Memref sig .tc .vmem S512x2432 .f32) (harg5 : arg5.IsWhole)
  (x0 : Vec Ideal S1408x512 .bf16) (x1 : Vec Ideal S1408x2432 .bf16)

/-- The sum after the first point of a block: the zero block and the first product. -/
theorem sum_A (hc0 : cond0_0 i) (hc1 : ¬cond0_1 i) :
    sout0_A_0 (F := Ideal) c i arg2 harg2 arg3 harg3 arg4 harg4 arg5 harg5 hc0 hc1 x0 x1 = k0_pay2 k0_pay1 x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x2432) hz, View.readCov_unit_zero (S := S512x2432) _ hz]
  simp only [View.readAt_eq_ld, harg2.read_unread, harg3.read_unread, View.ld_unit_zero (S := S1408x512) hz, View.ld_unit_zero (S := S1408x2432) hz, View.ld_unit_zero (S := S512x2432) hz]

/-- The sum after a point inside a block: one product more. -/
theorem sum_B (hc0 : ¬cond0_0 i) (hc1 : ¬cond0_1 i) (s : Vec Ideal S512x2432 .f32) :
    sout0_B_0 (F := Ideal) c i arg2 harg2 arg3 harg3 arg4 harg4 arg5 harg5 hc0 hc1 x0 x1 s = k0_pay2 s x0 x1 := by
  unfold sout0_B_0
  rw [View.read_writes_eq_canon _ _ _ (scover0_B_0 c i arg2 harg2 arg3 harg3 arg4 harg4 arg5 harg5 hc0 hc1 x0 x1 s)]
  unfold kernelRun0_B
  dsimp only
  sl_unfold_words
  rw [View.canon_unit_zero hz]
  simp only [View.readAt_eq_ld, harg2.read_unread, harg3.read_unread, harg5.read_unread, View.ld_unit_zero (S := S1408x512) hz, View.ld_unit_zero (S := S1408x2432) hz, View.ld_unit_zero (S := S512x2432) hz]

/-- The sum after the last point of a block: one product more. -/
theorem sum_C (hc0 : ¬cond0_0 i) (hc1 : cond0_1 i) (s : Vec Ideal S512x2432 .f32) :
    sout0_C_0 (F := Ideal) c i arg2 harg2 arg3 harg3 arg4 harg4 arg5 harg5 hc0 hc1 x0 x1 s = k0_pay2 s x0 x1 := by
  unfold sout0_C_0
  rw [View.read_writes_eq_canon _ _ _ (scover0_C_0 c i arg2 harg2 arg3 harg3 arg4 harg4 arg5 harg5 hc0 hc1 x0 x1 s)]
  unfold kernelRun0_C
  dsimp only
  sl_unfold_words
  rw [View.canon_unit_zero hz]
  simp only [View.readAt_eq_ld, harg2.read_unread, harg3.read_unread, harg5.read_unread, View.ld_unit_zero (S := S1408x512) hz, View.ld_unit_zero (S := S1408x2432) hz, View.ld_unit_zero (S := S512x2432) hz]

/-- The block written at the last point: the sum, transposed and rounded. -/
theorem out_C (hc0 : ¬cond0_0 i) (hc1 : cond0_1 i) (s : Vec Ideal S512x2432 .f32) :
    out0_C_2 (F := Ideal) c i arg2 harg2 arg3 harg3 arg4 harg4 arg5 harg5 hc0 hc1 x0 x1 s = k0_pay3 (k0_pay2 s x0 x1) := by
  unfold out0_C_2
  rw [View.read_writes_eq_canon _ _ _ (cover0_C_2 c i arg2 harg2 arg3 harg3 arg4 harg4 arg5 harg5 hc0 hc1 x0 x1 s)]
  unfold kernelRun0_C
  dsimp only
  sl_unfold_words
  rw [View.canon_unit_zero hz, View.readCov_unit_zero (S := S512x2432) _ hz]
  simp only [View.readAt_eq_ld, harg2.read_unread, harg3.read_unread, harg5.read_unread, View.ld_unit_zero (S := S1408x512) hz, View.ld_unit_zero (S := S1408x2432) hz, View.ld_unit_zero (S := S512x2432) hz]

end

variable (m : (ℓ : Loc nD τ sig) → Buf (Elt Ideal) ℓ) (c : Dev nD)

/-- The table of the rows that entered the product, its columns from 0 on. -/
abbrev rows : ℕ → ℕ → EReal := fun r k => table (m := 8448) (n := 1024) (m ((c : Thread nD τ).loc main_arg0)) r (0 + k)
/-- The table of the gradients at its results. -/
abbrev grads : ℕ → ℕ → EReal := table (m := 8448) (n := 2432) (m ((c : Thread nD τ).loc main_arg1))

/-- The blocks a point takes and gives. -/
theorem index_points : ∀ t : Fin cfg0.N, win0_0.index t 0 = t.val % 6 ∧ win0_0.index t 1 = 0 + t.val / 6 ∧ win0_1.index t 0 = t.val % 6 ∧ win0_1.index t 1 = 0 :=
  (by decide +kernel : ∀ t : Fin grid0.N, win0_0.index t 0 = t.val % 6 ∧ win0_0.index t 1 = 0 + t.val / 6 ∧ win0_1.index t 0 = t.val % 6 ∧ win0_1.index t 1 = 0)

/-- The rows at a point. -/
theorem reads_rows (t : Fin cfg0.N) : Reads (m := 1408) (n := 512) (iblk m c 0 t) fun j r => rows m c (1408 * (t.val % 6) + j) (512 * (t.val / 6) + r) := by
  refine fun j => ?_
  unfold iblk
  rw [View.read_apply]
  refine (reads_table (m := 8448) (n := 1024) (m ((c : Thread nD τ).loc main_arg0)) _).trans ?_
  obtain ⟨h0, h1, -, -⟩ := index_points t
  have e0 : win0_0.index t 0 * 1408 + 1 * (j 0).val = 1408 * (t.val % 6) + (j 0).val := by rw [h0]; ring
  have e1 : win0_0.index t 1 * 512 + 1 * (j 1).val = 0 + (512 * (t.val / 6) + (j 1).val) := by rw [h1]; ring
  exact congrArg₂ (table (m := 8448) (n := 1024) (m ((c : Thread nD τ).loc main_arg0))) e0 e1

/-- The gradients at a point. -/
theorem reads_grads (t : Fin cfg0.N) : Reads (m := 1408) (n := 2432) (iblk m c 1 t) fun j => grads m c (1408 * (t.val % 6) + j) := by
  refine fun j => ?_
  unfold iblk
  rw [View.read_apply]
  refine (reads_table (m := 8448) (n := 2432) (m ((c : Thread nD τ).loc main_arg1)) _).trans ?_
  obtain ⟨-, -, h0, h1⟩ := index_points t
  have e0 : win0_1.index t 0 * 1408 + 1 * (j 0).val = 1408 * (t.val % 6) + (j 0).val := by rw [h0]; ring
  have e1 : win0_1.index t 1 * 2432 + 1 * (j 1).val = (j 1).val := by rw [h1]; ring
  exact congrArg₂ (grads m c) e0 e1

/-- The sum at the first point of a block. -/
theorem point_A (t : Fin cfg0.N) (h0 : t.val % 6 = 0) : (outsAt0 m c t.val t.isLt).2 = k0_pay2 k0_pay1 (iblk m c 0 t) (iblk m c 1 t) := by
  rw [outsAt0_A m c t h0 (by omega)]
  dsimp only
  exact sum_A ..

/-- The sum at a later point of a block. -/
theorem point_B (t : Fin cfg0.N) (h0 : ¬t.val % 6 = 0) : (outsAt0 m c t.val t.isLt).2
    = k0_pay2 (outsAt0 m c (t.val - 1) (Nat.lt_of_le_of_lt (Nat.sub_le _ _) t.isLt)).2 (iblk m c 0 t) (iblk m c 1 t) := by
  by_cases h1 : t.val % 6 = 5
  · rw [outsAt0_C m c t h0 h1]
    dsimp only
    exact sum_C ..
  · rw [outsAt0_B m c t h0 h1]
    dsimp only
    exact sum_B ..

/-- The block written at the last point of a block: the sum there, transposed and rounded. -/
theorem point_C (t : Fin cfg0.N) (h1 : t.val % 6 = 5) : (outsAt0 m c t.val t.isLt).1 = k0_pay3 (outsAt0 m c t.val t.isLt).2 := by
  rw [point_B m c t (by omega), outsAt0_C m c t (by omega) h1]
  dsimp only
  exact out_C ..

/-- The sum after each point. -/
theorem reads_sum : ∀ t (h : t < cfg0.N), Reads (m := 512) (n := 2432) (outsAt0 m c t h).2
    (rowsProduct (fun j r => rows m c j (512 * (t / 6) + r)) (grads m c) (1408 * (t % 6 + 1))) :=
  reads_run (N := cfg0.N) (d := 6) (q := 1408) (M := 512) (P := 2432) (φ₁ := .bf16) (φ₂ := .bf16) (by norm_num) shapeCasts_S512x2432_S512x2432
    (fun t h => (outsAt0 m c t h).2) (fun t h => iblk m c 0 ⟨t, h⟩) (fun t h => iblk m c 1 ⟨t, h⟩)
    (fun t h e => point_A m c ⟨t, h⟩ e) (fun t h e => point_B m c ⟨t, h⟩ e) (fun t h => reads_rows m c ⟨t, h⟩) (fun t h => reads_grads m c ⟨t, h⟩)

omit m c in
/-- An entry of the transposed and rounded sum. -/
theorem back (s : Vec Ideal S512x2432 .f32) (a : Fin 2432) (b : Fin 512) : k0_pay3 s (ix2 (n0 := 2432) (n1 := 512) a b) = s (ix2 b a) :=
  transpose_apply _ _ _ (ix2 a b) (ix2 b a) fun e => by fin_cases e <;> rfl

/-- The kernel's array. -/
theorem reads_kernel : Reads (m := 2432) (n := 512) (Value.G2 m c) fun r k => rowsProduct (rows m c) (grads m c) 8448 k r := by
  refine Reads.of fun r k => ?_
  have hN : cfg0.N = 6 := N_0
  have ht : 5 < cfg0.N := by omega
  have hp : Value.pt2Of (ix2 (n0 := 2432) (n1 := 512) r k) = 5 := by
    show 6 * (1 * (r.val / 2432 - 0) + 1 * (k.val / 512 - 0)) + 5 = 5
    have := r.isLt
    have := k.isLt
    omega
  unfold Value.G2
  rw [dif_pos (by rw [hp]; exact ht), ← Value.outsAt0_sweep m c _ (by rw [hp]; exact ht)]
  simp only [hp]
  rw [point_C m c ⟨5, ht⟩ rfl]
  refine (congrArg _ (ValueIdx.eq_ix2 _)).trans ((back _ _ _).trans ((reads_sum m c 5 ht _).trans ?_))
  show rowsProduct (fun j r => rows m c j (512 * (5 / 6) + r)) (grads m c) (1408 * (5 % 6 + 1)) (k.val % 512) (r.val % 2432) = _
  rw [Nat.mod_eq_of_lt r.isLt, Nat.mod_eq_of_lt k.isLt]
  unfold rowsProduct
  refine Finset.sum_congr rfl fun j _ => ?_
  show rows m c j (512 * 0 + k.val) * _ = _
  rw [Nat.mul_zero, Nat.zero_add]

/-- The reference's array. -/
theorem reads_reference : Reads (m := 2432) (n := 512) (Reference5Ideal.Read.val_main_v6 (F := Ideal) (m ((c : Thread nD τ).loc main_arg0)) (m ((c : Thread nD τ).loc main_arg1)))
    fun r k => rowsProduct (rows m c) (grads m c) 8448 k r := by
  refine Reads.of fun r k => ?_
  rw [Reference5Ideal.Read.val_main_v6_apply]
  show Reference5Ideal.Read.val_main_v5 (F := Ideal) _ _ _ = _
  rw [Reference5Ideal.Read.val_main_v5_apply, Reference5Ideal.Read.val_main_v4_apply, Reference5Ideal.Read.val_main_v3_apply, Reference5Ideal.Read.val_main_v2_apply]
  refine Eq.trans (Finset.sum_congr rfl fun j _ => ?_) (rowsProduct_host k.val r.val)
  exact congrArg₂ (· * ·) (reads_table (m := 8448) (n := 2432) (m ((c : Thread nD τ).loc main_arg1)) _)
    ((reads_table (m := 8448) (n := 1024) (m ((c : Thread nD τ).loc main_arg0)) _).trans (congrArg (table (m := 8448) (n := 1024) (m ((c : Thread nD τ).loc main_arg0)) _) (Nat.zero_add _).symm))

/-- The reference runs, its arguments unchanged; it declares no semaphore. -/
theorem frame_reference : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- From equal arguments the kernel's result and the reference's are equal. -/
theorem algebraic : Cert.algebraic_Kernel5Ideal_Reference5Ideal (hKernel5Ideal := Cert.Kernel5Ideal.Gen.facts)
    (hReference5Ideal := Cert.Reference5Ideal.Gen.facts) := by
  intro m ρ m' ρ' hpre hagree
  refine ⟨fun c => Value.G2 m c, Value.run m ρ, ?_⟩
  refine (θ_run Cert.Reference5Ideal.defs _ _).mono (fun r h c => ?_) (Cert.Reference5Ideal.Value.run (F := Ideal) m' ρ')
  obtain ⟨a0, a1⟩ := hagree c
  refine ⟨((h c).1.trans (Reference5Ideal.Read.val_main_v6_eq _ _)).trans ?_, (h c).2⟩
  rw [a0, a1]
  exact (reads_reference m c).unique (reads_kernel m c)

end Cert.ProductInFirst

end
-- ==== Proof.ProductInSecond.lean ====
module

public import proofs.«01_k».proof.Defs
public import Idealize.ShloMosaic.Adequacy
public import proofs.«01_k».proof.Proof.Products
public import proofs.«01_k».proof.Proof.Gen.Kernel6Ideal.Value
public import proofs.«01_k».proof.Proof.Gen.Reference6Ideal.Run
public import proofs.«01_k».proof.Proof.Gen.Reference6Ideal.Read

@[expose] public section

/-! The gradient of the input projection's weight, its last 512 rows: the kernel's array is the reference's. -/

noncomputable section

namespace Cert.ProductInSecond

open Idealize.ShloMosaic hiding ix2
open Idealize.ShloMosaic.TcCoe
open Idealize.ShloMosaic.ValueIdx Idealize.SL.Sem Cert.Pieces Cert.Products Cert.Kernel6Ideal Cert.Kernel6Ideal.Gen
open scoped BigOperators

section
variable (c : Dev nD) (i : grid0.Coords) (arg2 : Memref sig .tc .vmem S1408x512 .bf16) (harg2 : arg2.IsWhole) (arg3 : Memref sig .tc .vmem S1408x2432 .bf16) (harg3 : arg3.IsWhole)
  (arg4 : Memref sig .tc .vmem S2432x512 .bf16) (harg4 : arg4.IsWhole) (arg5 : Memref sig .tc .vmem S512x2432 .f32) (harg5 : arg5.IsWhole)
  (x0 : Vec Ideal S1408x512 .bf16) (x1 : Vec Ideal S1408x2432 .bf16)

/-- The sum after the first point of a block: the zero block and the first product. -/
theorem sum_A (hc0 : cond0_0 i) (hc1 : ¬cond0_1 i) :
    sout0_A_0 (F := Ideal) c i arg2 harg2 arg3 harg3 arg4 harg4 arg5 harg5 hc0 hc1 x0 x1 = k0_pay2 k0_pay1 x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x2432) hz, View.readCov_unit_zero (S := S512x2432) _ hz]
  simp only [View.readAt_eq_ld, harg2.read_unread, harg3.read_unread, View.ld_unit_zero (S := S1408x512) hz, View.ld_unit_zero (S := S1408x2432) hz, View.ld_unit_zero (S := S512x2432) hz]

/-- The sum after a point inside a block: one product more. -/
theorem sum_B (hc0 : ¬cond0_0 i) (hc1 : ¬cond0_1 i) (s : Vec Ideal S512x2432 .f32) :
    sout0_B_0 (F := Ideal) c i arg2 harg2 arg3 harg3 arg4 harg4 arg5 harg5 hc0 hc1 x0 x1 s = k0_pay2 s x0 x1 := by
  unfold sout0_B_0
  rw [View.read_writes_eq_canon _ _ _ (scover0_B_0 c i arg2 harg2 arg3 harg3 arg4 harg4 arg5 harg5 hc0 hc1 x0 x1 s)]
  unfold kernelRun0_B
  dsimp only
  sl_unfold_words
  rw [View.canon_unit_zero hz]
  simp only [View.readAt_eq_ld, harg2.read_unread, harg3.read_unread, harg5.read_unread, View.ld_unit_zero (S := S1408x512) hz, View.ld_unit_zero (S := S1408x2432) hz, View.ld_unit_zero (S := S512x2432) hz]

/-- The sum after the last point of a block: one product more. -/
theorem sum_C (hc0 : ¬cond0_0 i) (hc1 : cond0_1 i) (s : Vec Ideal S512x2432 .f32) :
    sout0_C_0 (F := Ideal) c i arg2 harg2 arg3 harg3 arg4 harg4 arg5 harg5 hc0 hc1 x0 x1 s = k0_pay2 s x0 x1 := by
  unfold sout0_C_0
  rw [View.read_writes_eq_canon _ _ _ (scover0_C_0 c i arg2 harg2 arg3 harg3 arg4 harg4 arg5 harg5 hc0 hc1 x0 x1 s)]
  unfold kernelRun0_C
  dsimp only
  sl_unfold_words
  rw [View.canon_unit_zero hz]
  simp only [View.readAt_eq_ld, harg2.read_unread, harg3.read_unread, harg5.read_unread, View.ld_unit_zero (S := S1408x512) hz, View.ld_unit_zero (S := S1408x2432) hz, View.ld_unit_zero (S := S512x2432) hz]

/-- The block written at the last point: the sum, transposed and rounded. -/
theorem out_C (hc0 : ¬cond0_0 i) (hc1 : cond0_1 i) (s : Vec Ideal S512x2432 .f32) :
    out0_C_2 (F := Ideal) c i arg2 harg2 arg3 harg3 arg4 harg4 arg5 harg5 hc0 hc1 x0 x1 s = k0_pay3 (k0_pay2 s x0 x1) := by
  unfold out0_C_2
  rw [View.read_writes_eq_canon _ _ _ (cover0_C_2 c i arg2 harg2 arg3 harg3 arg4 harg4 arg5 harg5 hc0 hc1 x0 x1 s)]
  unfold kernelRun0_C
  dsimp only
  sl_unfold_words
  rw [View.canon_unit_zero hz, View.readCov_unit_zero (S := S512x2432) _ hz]
  simp only [View.readAt_eq_ld, harg2.read_unread, harg3.read_unread, harg5.read_unread, View.ld_unit_zero (S := S1408x512) hz, View.ld_unit_zero (S := S1408x2432) hz, View.ld_unit_zero (S := S512x2432) hz]

end

variable (m : (ℓ : Loc nD τ sig) → Buf (Elt Ideal) ℓ) (c : Dev nD)

/-- The table of the rows that entered the product, its columns from 512 on. -/
abbrev rows : ℕ → ℕ → EReal := fun r k => table (m := 8448) (n := 1024) (m ((c : Thread nD τ).loc main_arg0)) r (512 + k)
/-- The table of the gradients at its results. -/
abbrev grads : ℕ → ℕ → EReal := table (m := 8448) (n := 2432) (m ((c : Thread nD τ).loc main_arg1))

/-- The blocks a point takes and gives. -/
theorem index_points : ∀ t : Fin cfg0.N, win0_0.index t 0 = t.val % 6 ∧ win0_0.index t 1 = 1 + t.val / 6 ∧ win0_1.index t 0 = t.val % 6 ∧ win0_1.index t 1 = 0 :=
  (by decide +kernel : ∀ t : Fin grid0.N, win0_0.index t 0 = t.val % 6 ∧ win0_0.index t 1 = 1 + t.val / 6 ∧ win0_1.index t 0 = t.val % 6 ∧ win0_1.index t 1 = 0)

/-- The rows at a point. -/
theorem reads_rows (t : Fin cfg0.N) : Reads (m := 1408) (n := 512) (iblk m c 0 t) fun j r => rows m c (1408 * (t.val % 6) + j) (512 * (t.val / 6) + r) := by
  refine fun j => ?_
  unfold iblk
  rw [View.read_apply]
  refine (reads_table (m := 8448) (n := 1024) (m ((c : Thread nD τ).loc main_arg0)) _).trans ?_
  obtain ⟨h0, h1, -, -⟩ := index_points t
  have e0 : win0_0.index t 0 * 1408 + 1 * (j 0).val = 1408 * (t.val % 6) + (j 0).val := by rw [h0]; ring
  have e1 : win0_0.index t 1 * 512 + 1 * (j 1).val = 512 + (512 * (t.val / 6) + (j 1).val) := by rw [h1]; ring
  exact congrArg₂ (table (m := 8448) (n := 1024) (m ((c : Thread nD τ).loc main_arg0))) e0 e1

/-- The gradients at a point. -/
theorem reads_grads (t : Fin cfg0.N) : Reads (m := 1408) (n := 2432) (iblk m c 1 t) fun j => grads m c (1408 * (t.val % 6) + j) := by
  refine fun j => ?_
  unfold iblk
  rw [View.read_apply]
  refine (reads_table (m := 8448) (n := 2432) (m ((c : Thread nD τ).loc main_arg1)) _).trans ?_
  obtain ⟨-, -, h0, h1⟩ := index_points t
  have e0 : win0_1.index t 0 * 1408 + 1 * (j 0).val = 1408 * (t.val % 6) + (j 0).val := by rw [h0]; ring
  have e1 : win0_1.index t 1 * 2432 + 1 * (j 1).val = (j 1).val := by rw [h1]; ring
  exact congrArg₂ (grads m c) e0 e1

/-- The sum at the first point of a block. -/
theorem point_A (t : Fin cfg0.N) (h0 : t.val % 6 = 0) : (outsAt0 m c t.val t.isLt).2 = k0_pay2 k0_pay1 (iblk m c 0 t) (iblk m c 1 t) := by
  rw [outsAt0_A m c t h0 (by omega)]
  dsimp only
  exact sum_A ..

/-- The sum at a later point of a block. -/
theorem point_B (t : Fin cfg0.N) (h0 : ¬t.val % 6 = 0) : (outsAt0 m c t.val t.isLt).2
    = k0_pay2 (outsAt0 m c (t.val - 1) (Nat.lt_of_le_of_lt (Nat.sub_le _ _) t.isLt)).2 (iblk m c 0 t) (iblk m c 1 t) := by
  by_cases h1 : t.val % 6 = 5
  · rw [outsAt0_C m c t h0 h1]
    dsimp only
    exact sum_C ..
  · rw [outsAt0_B m c t h0 h1]
    dsimp only
    exact sum_B ..

/-- The block written at the last point of a block: the sum there, transposed and rounded. -/
theorem point_C (t : Fin cfg0.N) (h1 : t.val % 6 = 5) : (outsAt0 m c t.val t.isLt).1 = k0_pay3 (outsAt0 m c t.val t.isLt).2 := by
  rw [point_B m c t (by omega), outsAt0_C m c t (by omega) h1]
  dsimp only
  exact out_C ..

/-- The sum after each point. -/
theorem reads_sum : ∀ t (h : t < cfg0.N), Reads (m := 512) (n := 2432) (outsAt0 m c t h).2
    (rowsProduct (fun j r => rows m c j (512 * (t / 6) + r)) (grads m c) (1408 * (t % 6 + 1))) :=
  reads_run (N := cfg0.N) (d := 6) (q := 1408) (M := 512) (P := 2432) (φ₁ := .bf16) (φ₂ := .bf16) (by norm_num) shapeCasts_S512x2432_S512x2432
    (fun t h => (outsAt0 m c t h).2) (fun t h => iblk m c 0 ⟨t, h⟩) (fun t h => iblk m c 1 ⟨t, h⟩)
    (fun t h e => point_A m c ⟨t, h⟩ e) (fun t h e => point_B m c ⟨t, h⟩ e) (fun t h => reads_rows m c ⟨t, h⟩) (fun t h => reads_grads m c ⟨t, h⟩)

omit m c in
/-- An entry of the transposed and rounded sum. -/
theorem back (s : Vec Ideal S512x2432 .f32) (a : Fin 2432) (b : Fin 512) : k0_pay3 s (ix2 (n0 := 2432) (n1 := 512) a b) = s (ix2 b a) :=
  transpose_apply _ _ _ (ix2 a b) (ix2 b a) fun e => by fin_cases e <;> rfl

/-- The kernel's array. -/
theorem reads_kernel : Reads (m := 2432) (n := 512) (Value.G2 m c) fun r k => rowsProduct (rows m c) (grads m c) 8448 k r := by
  refine Reads.of fun r k => ?_
  have hN : cfg0.N = 6 := N_0
  have ht : 5 < cfg0.N := by omega
  have hp : Value.pt2Of (ix2 (n0 := 2432) (n1 := 512) r k) = 5 := by
    show 6 * (1 * (r.val / 2432 - 0) + 1 * (k.val / 512 - 0)) + 5 = 5
    have := r.isLt
    have := k.isLt
    omega
  unfold Value.G2
  rw [dif_pos (by rw [hp]; exact ht), ← Value.outsAt0_sweep m c _ (by rw [hp]; exact ht)]
  simp only [hp]
  rw [point_C m c ⟨5, ht⟩ rfl]
  refine (congrArg _ (ValueIdx.eq_ix2 _)).trans ((back _ _ _).trans ((reads_sum m c 5 ht _).trans ?_))
  show rowsProduct (fun j r => rows m c j (512 * (5 / 6) + r)) (grads m c) (1408 * (5 % 6 + 1)) (k.val % 512) (r.val % 2432) = _
  rw [Nat.mod_eq_of_lt r.isLt, Nat.mod_eq_of_lt k.isLt]
  unfold rowsProduct
  refine Finset.sum_congr rfl fun j _ => ?_
  show rows m c j (512 * 0 + k.val) * _ = _
  rw [Nat.mul_zero, Nat.zero_add]

/-- The reference's array. -/
theorem reads_reference : Reads (m := 2432) (n := 512) (Reference6Ideal.Read.val_main_v6 (F := Ideal) (m ((c : Thread nD τ).loc main_arg0)) (m ((c : Thread nD τ).loc main_arg1)))
    fun r k => rowsProduct (rows m c) (grads m c) 8448 k r := by
  refine Reads.of fun r k => ?_
  rw [Reference6Ideal.Read.val_main_v6_apply]
  show Reference6Ideal.Read.val_main_v5 (F := Ideal) _ _ _ = _
  rw [Reference6Ideal.Read.val_main_v5_apply, Reference6Ideal.Read.val_main_v4_apply, Reference6Ideal.Read.val_main_v3_apply, Reference6Ideal.Read.val_main_v2_apply]
  refine Eq.trans (Finset.sum_congr rfl fun j _ => ?_) (rowsProduct_host k.val r.val)
  exact congrArg₂ (· * ·) (reads_table (m := 8448) (n := 2432) (m ((c : Thread nD τ).loc main_arg1)) _)
    ((reads_table (m := 8448) (n := 1024) (m ((c : Thread nD τ).loc main_arg0)) _).trans rfl)

/-- The reference runs, its arguments unchanged; it declares no semaphore. -/
theorem frame_reference : Cert.quiescent_Reference6Ideal (hReference6Ideal := Cert.Reference6Ideal.Gen.facts) := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- From equal arguments the kernel's result and the reference's are equal. -/
theorem algebraic : Cert.algebraic_Kernel6Ideal_Reference6Ideal (hKernel6Ideal := Cert.Kernel6Ideal.Gen.facts)
    (hReference6Ideal := Cert.Reference6Ideal.Gen.facts) := by
  intro m ρ m' ρ' hpre hagree
  refine ⟨fun c => Value.G2 m c, Value.run m ρ, ?_⟩
  refine (θ_run Cert.Reference6Ideal.defs _ _).mono (fun r h c => ?_) (Cert.Reference6Ideal.Value.run (F := Ideal) m' ρ')
  obtain ⟨a0, a1⟩ := hagree c
  refine ⟨((h c).1.trans (Reference6Ideal.Read.val_main_v6_eq _ _)).trans ?_, (h c).2⟩
  rw [a0, a1]
  exact (reads_reference m c).unique (reads_kernel m c)

end Cert.ProductInSecond

end
-- ==== Proof.Mix.lean ====
module

public import proofs.«01_k».proof.Proof.Products

@[expose] public section

/-! The last lines of the token-mixing half: the heads of the linear attention, each divided by its root mean square and
gated; the two groups of heads side by side; their product with the output weight; the gated residual. Tables of extended
reals, but for the heads themselves, which are real. -/

noncomputable section

namespace Cert.Mix

open Idealize.ShloMosaic hiding ix2
open Idealize.ShloMosaic.ValueIdx Idealize.SL.Sem Cert.Tables Cert.Products Cert.Pieces
open scoped BigOperators

/-- The mean square of one head of a row. -/
def mean (O : ℕ → ℕ → ℝ) (r k : ℕ) : ℝ := (∑ j ∈ Finset.range 64, O r (64 * k + j) * O r (64 * k + j)) / 64

/-- The gate. -/
def gate (g : EReal) : EReal := g * Ideal.div 1 (1 + Ideal.exp (-g))

/-- The gated heads. -/
def heads (O : ℕ → ℕ → ℝ) (N G : ℕ → ℕ → EReal) (r c : ℕ) : EReal :=
  ((O r c : ℝ) : EReal) * Ideal.rsqrt ((mean O r (c / 64) + eps : ℝ) : EReal) * N 0 (c % 64) * gate (G r c)

/-- Two tables side by side, the first 512 columns wide. -/
def mixed (A H : ℕ → ℕ → EReal) (r c : ℕ) : EReal := if c < 512 then A r c else H r (c - 512)

/-- A product with a weight of 1024 rows. -/
def product (X W : ℕ → ℕ → EReal) (r c : ℕ) : EReal := ∑ k ∈ Finset.range 1024, X r k * W k c

/-- One over the root mean square of a row. -/
def inverse (Y : ℕ → ℕ → EReal) (r : ℕ) : EReal :=
  Ideal.rsqrt (Ideal.div (∑ k ∈ Finset.range 1024, Y r k * Y r k) ((1024 : ℝ) : EReal) + ((eps : ℝ) : EReal))

/-- The residual and, gated, the normalised row. -/
def residual (X Y T S : ℕ → ℕ → EReal) (r c : ℕ) : EReal := X r c + T 0 c * (Y r c * inverse Y r * S 0 c)

/-- The matrix that averages each run of 64. -/
def average (i c : ℕ) : ℝ := if i / 64 = c / 64 then 1 / 64 else 0

/-- A row times that matrix: the mean of the run the column is in. -/
theorem sum_average (S : ℕ → ℝ) (c : ℕ) (hc : c < 512) :
    ∑ i ∈ Finset.range 512, S i * average i c = (∑ j ∈ Finset.range 64, S (64 * (c / 64) + j)) / 64 := by
  rw [Finset.sum_div]
  have e : ∀ i, S i * average i c = if i / 64 = c / 64 then S i / 64 else 0 := fun i => by
    unfold average
    split
    · ring
    · ring
  rw [Finset.sum_congr rfl fun i _ => e i, ← Finset.sum_filter]
  refine Finset.sum_nbij' (fun i => i % 64) (fun j => 64 * (c / 64) + j) ?_ ?_ ?_ ?_ ?_
  · intro i _
    exact Finset.mem_range.2 (Nat.mod_lt _ (by norm_num))
  · intro j hj
    have := Finset.mem_range.1 hj
    refine Finset.mem_filter.2 ⟨Finset.mem_range.2 ?_, ?_⟩ <;> omega
  · intro i hi
    have := (Finset.mem_filter.1 hi).2
    omega
  · intro j hj
    have := Finset.mem_range.1 hj
    omega
  · intro i hi
    have h := (Finset.mem_filter.1 hi).2
    refine congrArg (fun i => S i / 64) ?_
    omega

/-! ### Arrays read off tables -/

section
variable {m n k : ℕ} {φ : FTy} {X Y : ℕ → ℕ → EReal} {R : ℕ → ℕ → ℝ}

/-- A table of real numbers. -/
theorem reads_real {x : (⟨2, ![m, n]⟩ : Shape).Idx → EReal} (hx : Holds x R) : Reads x fun r c => ((R r c : ℝ) : EReal) := hx

/-- A product of arrays. -/
theorem reads_mulf {x y : FVec Ideal ⟨2, ![m, n]⟩ φ} (hx : Reads x X) (hy : Reads y Y) : Reads (mulf x y) fun r c => X r c * Y r c :=
  fun i => congrArg₂ (· * ·) (hx i) (hy i)

/-- A sum of arrays. -/
theorem reads_addf {x y : FVec Ideal ⟨2, ![m, n]⟩ φ} (hx : Reads x X) (hy : Reads y Y) : Reads (addf x y) fun r c => X r c + Y r c :=
  fun i => congrArg₂ (· + ·) (hx i) (hy i)

/-- A quotient of arrays. -/
theorem reads_divf {x y : FVec Ideal ⟨2, ![m, n]⟩ φ} (hx : Reads x X) (hy : Reads y Y) : Reads (divf x y) fun r c => Ideal.div (X r c) (Y r c) :=
  fun i => congrArg₂ Ideal.div (hx i) (hy i)

/-- The reciprocal square roots of an array. -/
theorem reads_rsqrt {x : FVec Ideal ⟨2, ![m, n]⟩ φ} (hx : Reads x X) : Reads (rsqrt x) fun r c => Ideal.rsqrt (X r c) :=
  fun i => congrArg Ideal.rsqrt (hx i)

/-- One row repeated along the rows. -/
theorem reads_broadcastRow {x : (⟨2, ![1, n]⟩ : Shape).Idx → EReal} (hx : Reads x X)
    (h : (⟨2, ![1, n]⟩ : Shape).Broadcasts ⟨2, ![m, n]⟩) : Reads (broadcastTo (⟨2, ![m, n]⟩ : Shape) x h) fun _ c => X 0 c := fun i => by
  refine (broadcastTo_apply x h i (ix2 (0 : Fin 1) (i 1)) (fun a => match a with
    | ⟨0, _⟩ => (if_pos rfl).symm
    | ⟨1, _⟩ => ?_)).trans (hx _)
  show (i 1).val = if n = 1 then 0 else (i 1).val
  by_cases hn : n = 1
  · rw [if_pos hn]; have := idx2_lt1 i; omega
  · rw [if_neg hn]

/-- One column repeated along the columns. -/
theorem reads_broadcastCol {x : (⟨2, ![m, 1]⟩ : Shape).Idx → EReal} (hx : Reads x X)
    (h : (⟨2, ![m, 1]⟩ : Shape).Broadcasts ⟨2, ![m, n]⟩) : Reads (broadcastTo (⟨2, ![m, n]⟩ : Shape) x h) fun r _ => X r 0 := fun i => by
  refine (broadcastTo_apply x h i (ix2 (i 0) (0 : Fin 1)) (fun a => match a with
    | ⟨0, _⟩ => ?_
    | ⟨1, _⟩ => (if_pos rfl).symm)).trans (hx _)
  show (i 0).val = if m = 1 then 0 else (i 0).val
  by_cases hn : m = 1
  · rw [if_pos hn]; have := idx2_lt0 i; omega
  · rw [if_neg hn]

/-- The sum over each row, kept as a column. -/
theorem reads_rowSum {x : FVec Ideal ⟨2, ![m, n]⟩ φ} (hx : Reads x X) (acc : BitVec φ.bits)
    (h : (⟨2, ![m, n]⟩ : Shape).Reduces [1] ⟨1, ![m]⟩) (hφ : FKind.Formats φ) (hacc : acc = FKind.add.neutral φ hφ)
    (h' : (⟨1, ![m]⟩ : Shape).ShapeCasts ⟨2, ![m, 1]⟩) :
    Reads (Idealize.ShloMosaic.shapeCast (⟨2, ![m, 1]⟩ : Shape) (multiReduction .add [1] ⟨1, ![m]⟩ x acc h hφ hacc) h')
      fun r _ => ∑ j ∈ Finset.range n, X r j := .of fun r c => by
  rw [shapeCast_a_a1_apply, Ideal.multiReduction_add_single, Finset.sum_range]
  exact Finset.sum_congr rfl fun j _ => (hx _).trans rfl

/-- A product of an `m × k` and a `k × n` array, accumulated from zero. -/
theorem reads_matmul {φ₁ φ₂ : FTy} {x : FVec Ideal ⟨2, ![m, k]⟩ φ₁} {y : FVec Ideal ⟨2, ![k, n]⟩ φ₂}
    (hx : Reads x X) (hy : Reads y Y) (prec : Option ContractPrecision) :
    Reads (FloatOps.matmul (DotDims.plain m k n) prec x y (constant ⟨2, ![m, n]⟩ .f32 0x00000000#32))
      fun r c => ∑ j ∈ Finset.range k, X r j * Y j c := .of fun r c => by
  rw [Ideal.matmul_plain_apply]
  show Ideal.ofBits .f32 0x00000000#32 + _ = _
  rw [Ideal.ofBits_zero_f32, zero_add, Finset.sum_range]
  exact Finset.sum_congr rfl fun j _ => by rw [hx.at, hy.at]

/-- Two arrays side by side. -/
theorem reads_beside {x : (⟨2, ![m, 512]⟩ : Shape).Idx → EReal} {y : (⟨2, ![m, 512]⟩ : Shape).Idx → EReal}
    (hx : Reads x X) (hy : Reads y Y)
    (h : Shape.Concatenates [(⟨2, ![m, 512]⟩ : Shape), ⟨2, ![m, 512]⟩] ⟨2, ![m, 1024]⟩ 1) :
    Reads (concatenate (⟨2, ![m, 1024]⟩ : Shape) 1 [⟨⟨2, ![m, 512]⟩, x⟩, ⟨⟨2, ![m, 512]⟩, y⟩] h) (mixed X Y) := by
  refine Reads.of fun r c => ?_
  unfold mixed
  split
  · next hc =>
    exact (concatenate_apply_piece 1 [⟨⟨2, ![m, 512]⟩, x⟩, ⟨⟨2, ![m, 512]⟩, y⟩] h (ix2 r c) 0 (by simp) _ x rfl rfl 0 rfl (ix2 r ⟨c.val, hc⟩)
      (fun b hb => match b with
        | ⟨0, _⟩ => rfl
        | ⟨1, _⟩ => absurd rfl hb) (Nat.zero_add _)).trans (hx _)
  · next hc =>
    exact (concatenate_apply_piece 1 [⟨⟨2, ![m, 512]⟩, x⟩, ⟨⟨2, ![m, 512]⟩, y⟩] h (ix2 r c) 1 (by simp) _ y rfl rfl 512 (by simp) (ix2 r ⟨c.val - 512, by have := c.isLt; omega⟩)
      (fun b hb => match b with
        | ⟨0, _⟩ => rfl
        | ⟨1, _⟩ => absurd rfl hb) (by show 512 + (c.val - 512) = c.val; omega)).trans (hy _)

/-- The contents after the right and, before it, the left half of the columns were written. -/
theorem reads_halves
    (inbB : ∀ a, (![0, 512] : Fin 2 → Nat) a + (![m, 512] : Fin 2 → Nat) a ≤ (![m, 1024] : Fin 2 → Nat) a)
    (inbA : ∀ a, (![0, 0] : Fin 2 → Nat) a + (![m, 512] : Fin 2 → Nat) a ≤ (![m, 1024] : Fin 2 → Nat) a)
    {a b : (⟨2, ![m, 512]⟩ : Shape).Idx → Elt Ideal .bf16} (ha : Reads a X) (hb : Reads b Y) :
    Reads (View.canon [(⟨Rect.unit (s := ⟨2, ![m, 1024]⟩) ![0, 512] ![m, 512] inbB, b⟩ : View.Piece (Elt Ideal) ⟨2, ![m, 1024]⟩ .bf16),
      ⟨Rect.unit (s := ⟨2, ![m, 1024]⟩) ![0, 0] ![m, 512] inbA, a⟩]) (mixed X Y) :=
  Reads.of fun r c => by
    unfold mixed
    split
    · next h =>
      refine (canon_out 0 512 512 inbB b _ r c (by omega)).trans ?_
      exact (canon_in 0 0 512 inbA a [] r c r ⟨c.val, h⟩ (Nat.zero_add _).symm (Nat.zero_add _).symm).trans (ha.at r ⟨c.val, h⟩)
    · next h =>
      have hc : c.val - 512 < 512 := by have := c.isLt; omega
      exact (canon_in 0 512 512 inbB b _ r c r ⟨c.val - 512, hc⟩ (Nat.zero_add _).symm (by show c.val = 512 + (c.val - 512); omega)).trans (hb.at r ⟨c.val - 512, hc⟩)

/-- Two arrays of real numbers, one below the other. -/
theorem holds_below {P Q : ℕ → ℕ → ℝ} {x y : (⟨2, ![512, n]⟩ : Shape).Idx → EReal} (hx : Holds x P) (hy : Holds y Q)
    (h : Shape.Concatenates [(⟨2, ![512, n]⟩ : Shape), ⟨2, ![512, n]⟩] ⟨2, ![1024, n]⟩ 0) :
    Holds (concatenate (⟨2, ![1024, n]⟩ : Shape) 0 [⟨⟨2, ![512, n]⟩, x⟩, ⟨⟨2, ![512, n]⟩, y⟩] h) fun r c => if r < 512 then P r c else Q (r - 512) c := by
  refine Holds.of fun r c => ?_
  split
  · next hr =>
    exact (concatenate_apply_piece 0 [⟨⟨2, ![512, n]⟩, x⟩, ⟨⟨2, ![512, n]⟩, y⟩] h (ix2 r c) 0 (by simp) _ x rfl rfl 0 rfl (ix2 ⟨r.val, hr⟩ c)
      (fun b hb => match b with
        | ⟨0, _⟩ => absurd rfl hb
        | ⟨1, _⟩ => rfl) (Nat.zero_add _)).trans (hx _)
  · next hr =>
    exact (concatenate_apply_piece 0 [⟨⟨2, ![512, n]⟩, x⟩, ⟨⟨2, ![512, n]⟩, y⟩] h (ix2 r c) 1 (by simp) _ y rfl rfl 512 (by simp) (ix2 ⟨r.val - 512, by have := r.isLt; omega⟩ c)
      (fun b hb => match b with
        | ⟨0, _⟩ => absurd rfl hb
        | ⟨1, _⟩ => rfl) (by show 512 + (r.val - 512) = r.val; omega)).trans (hy _)

/-- Rows `o, o+1, …` of an array of real numbers. -/
theorem holds_slice {q : ℕ} {x : (⟨2, ![m, n]⟩ : Shape).Idx → EReal} (hx : Holds x R) (o : ℕ)
    (h : (⟨2, ![m, n]⟩ : Shape).Slices ![o, 0] ⟨2, ![q, n]⟩) :
    Holds (extractStridedSlice (⟨2, ![q, n]⟩ : Shape) ![o, 0] x h) fun r c => R (o + r) c := fun i => by
  have hq : o + q ≤ m := h.2 0
  refine (extractStridedSlice_apply ![o, 0] x h i
    (ix2 ⟨o + (i 0).val, by have := idx2_lt0 i; omega⟩ (i 1)) (fun a => match a with
    | ⟨0, _⟩ => rfl
    | ⟨1, _⟩ => (Nat.zero_add _).symm)).trans (hx _)

end

end Cert.Mix

end
-- ==== Proof.MixBlocks.lean ====
module

public import proofs.«01_k».proof.Proof.Mix
public import proofs.«01_k».proof.Proof.Gen.Kernel7Ideal.Value

@[expose] public section

/-! What one point of the mixing kernel writes, from the blocks it is given: the two groups of heads side by side, and the
gated residual. -/

noncomputable section

namespace Cert.MixBlocks

open Idealize.ShloMosaic hiding ix2
open Idealize.ShloMosaic.TcCoe
open Idealize.ShloMosaic.ValueIdx Idealize.SL.Sem Cert.Tables Cert.Pieces Cert.Products Cert.Mix Cert.Kernel7Ideal Cert.Kernel7Ideal.Gen
open scoped BigOperators

/-- A load of a whole block written in pieces reads its contents. -/
theorem whole_back {s : RefSig} {κ : Kind} {sp : Space} (v : View s κ sp S512x1024 .bf16) (P : List (View.Piece (Elt Ideal) S512x1024 .bf16))
    (inb : ∀ a, (![0, 0] : Fin 2 → Nat) a + (![512, 1024] : Fin 2 → Nat) a ≤ (![512, 1024] : Fin 2 → Nat) a) :
    v.readCov P (Rect.unit (s := S512x1024) ![0, 0] ![512, 1024] inb).toLoadRect = View.canon P := funext fun i =>
  (congrArg _ (ValueIdx.eq_ix2 i)).trans ((load_rows (m := 512) (n := 1024) 0 v P inb (i 0) (i 1)).trans
    (congrArg (View.canon P) ((congrArg (fun r : Fin 512 => ix2 (n0 := 512) (n1 := 1024) r (i 1)) (Fin.ext (Nat.zero_add _))).trans (ValueIdx.eq_ix2 i).symm)))

/-- The product with the averaging matrix contracts columns with rows. -/
theorem dot_average : dot_S1024x512_S512x512_S1024x512_1_0_0_1_n_n = DotDims.plain 1024 512 512 := rfl
/-- So does the product with the output weight. -/
theorem dot_weight : dot_S512x1024_S1024x1024_S512x1024_1_0_0_1_n_n = DotDims.plain 512 1024 1024 := rfl

section
variable {O : ℕ → ℕ → ℝ} {A N G M W X T S : ℕ → ℕ → EReal}

/-- The squares of the heads and, below them, what rounding took off them, times the averaging matrix, the two halves
    added: the mean square of each head, at each of its columns. -/
theorem holds_mean {o : FVec Ideal S512x512 .f32} {v : Vec Ideal S512x512 .bf16} (ho : Holds o O) (hv : Holds v average) :
    let s := mulf o o
    let t := truncf .bf16 s bitsLt_bf16_f32
    let p := FloatOps.matmul (F := Ideal) (φ₁ := .bf16) (φ₂ := .bf16) dot_S1024x512_S512x512_S1024x512_1_0_0_1_n_n none
      (concatenate S1024x512 0 [⟨S512x512, t⟩, ⟨S512x512, truncf .bf16 (subf s (extf .f32 t bitsLt_bf16_f32)) bitsLt_bf16_f32⟩] concatenates_S512x512_S512x512_S1024x512_d0)
      (shapeCast S512x512 v shapeCasts_S512x512_S512x512) (constant S1024x512 .f32 0x00000000#32)
    Holds (m := 512) (n := 512) (addf (extractStridedSlice S512x512 ![0, 0] p slices_S1024x512_o0_0_S512x512 : FVec Ideal S512x512 .f32)
      (extractStridedSlice S512x512 ![512, 0] p slices_S1024x512_o512_0_S512x512)) fun r c => mean O r (c / 64) := by
  intro s t p
  have hs : Holds (m := 512) (n := 512) s fun r c => O r c * O r c := ho.mulf ho
  have ht : Holds (m := 512) (n := 512) t fun r c => O r c * O r c := hs
  have hd : Holds (m := 512) (n := 512) (truncf .bf16 (subf s (extf .f32 t bitsLt_bf16_f32)) bitsLt_bf16_f32) fun r c => O r c * O r c - O r c * O r c :=
    Holds.subf (φ := .f32) hs ht
  have hp : Holds (m := 1024) (n := 512) p fun r c => ∑ j ∈ Finset.range 512,
      (if r < 512 then O r j * O r j else O (r - 512) j * O (r - 512) j - O (r - 512) j * O (r - 512) j) * average j c := by
    unfold p
    rw [dot_average]
    exact Holds.matmul (holds_below ht hd _) (hv.shapeCast _) none
  refine Holds.congr (Holds.addf (φ := .f32) (holds_slice (q := 512) hp 0 slices_S1024x512_o0_0_S512x512) (holds_slice (q := 512) hp 512 slices_S1024x512_o512_0_S512x512))
    fun r hr c hc => ?_
  have e0 : ∀ j, (if 0 + r < 512 then O (0 + r) j * O (0 + r) j else O (0 + r - 512) j * O (0 + r - 512) j - O (0 + r - 512) j * O (0 + r - 512) j)
      = O r j * O r j := fun j => by rw [Nat.zero_add, if_pos hr]
  have e1 : ∀ j, (if 512 + r < 512 then O (512 + r) j * O (512 + r) j else O (512 + r - 512) j * O (512 + r - 512) j - O (512 + r - 512) j * O (512 + r - 512) j)
      = 0 := fun j => by rw [if_neg (by omega), sub_self]
  simp only [e0, e1, zero_mul, Finset.sum_const_zero, add_zero]
  exact sum_average (fun j => O r j * O r j) c hc

/-- The heads: normalised, scaled and gated. -/
theorem reads_heads {v0 v1 v2 : Vec Ideal S512x512 .f32} {v4 : Vec Ideal S512x512 .bf16} {v29 : Vec Ideal S1x512 .f32}
    (hg : Reads v0 G) (ho : Holds (m := 512) (n := 512) (addf (F := Ideal) (φ := .f32) v1 v2) O) (hm : Holds v4 average) (hn : Reads v29 fun _ c => N 0 (c % 64)) :
    Reads (m := 512) (n := 512) (k0_pay2 v0 v1 v2 v4 v29) (heads O N G) := by
  unfold k0_pay2
  dsimp only
  intro i
  refine congrArg₂ (· * ·) (congrArg₂ (· * ·) (congrArg₂ (· * ·) (ho i) (congrArg Ideal.rsqrt ?_)) (reads_broadcastRow hn _ i)) (congrArg₂ (· * ·) (hg i) ?_)
  · exact (congrArg₂ (· + ·) (holds_mean ho hm i) word_eps).trans (EReal.coe_add _ _).symm
  · refine congrArg₂ Ideal.div (word_one.trans EReal.coe_one) (congrArg₂ (· + ·) (word_one.trans EReal.coe_one) (congrArg Ideal.exp ?_))
    refine (congrArg₂ (· - ·) Ideal.ofBits_zero_f32 (hg i)).trans ?_
    rw [zero_sub]

/-- The gated residual of a block. -/
theorem reads_residual {v36 : Vec Ideal S512x1024 .bf16} {v38 : Vec Ideal S1024x1024 .bf16} {v49 : Vec Ideal S512x1024 .f32} {v50 v53 : Vec Ideal S1x1024 .f32}
    (hx : Reads v49 X) (hm : Reads v36 M) (hw : Reads v38 W) (ht : Reads v50 T) (hs : Reads v53 S) :
    Reads (m := 512) (n := 1024) (k0_pay1 v36 v38 v49 v50 v53) (residual X (product M W) T S) := by
  have hy : Reads (m := 512) (n := 1024) (FloatOps.matmul (F := Ideal) (φ₁ := .bf16) (φ₂ := .bf16) dot_S512x1024_S1024x1024_S512x1024_1_0_0_1_n_n none
      (shapeCast S512x1024 v36 shapeCasts_S512x1024_S512x1024) (shapeCast S1024x1024 v38 shapeCasts_S1024x1024_S1024x1024) (constant S512x1024 .f32 0x00000000#32)) (product M W) := by
    rw [dot_weight, shapeCast_self, shapeCast_self]
    exact reads_matmul hm hw none
  unfold k0_pay1
  dsimp only
  intro i
  refine congrArg₂ (· + ·) (hx i) (congrArg₂ (· * ·) (reads_broadcastRow (m := 512) (n := 1024) ht _ i)
    (congrArg₂ (· * ·) (congrArg₂ (· * ·) (hy i) ?_) (reads_broadcastRow (m := 512) (n := 1024) hs _ i)))
  refine reads_broadcastCol (m := 512) (n := 1024) (X := fun r _ => inverse (product M W) r) (fun j => ?_) _ i
  exact congrArg Ideal.rsqrt (congrArg₂ (· + ·) (congrArg₂ Ideal.div (reads_rowSum (m := 512) (n := 1024) (φ := .f32)
    (X := fun r c => product M W r c * product M W r c) (reads_mulf (φ := .f32) hy hy) _ reduces_S512x1024_S512 (.inl rfl) rfl shapeCasts_S512_S512x1 j) word_1024) word_eps)

end

section
variable (c : Dev nD) (i : grid0.Coords) (arg1 : Memref sig .tc .vmem S512x1024 .f32) (harg1 : arg1.IsWhole) (arg2 : Memref sig .tc .vmem S512x512 .bf16) (harg2 : arg2.IsWhole)
  (arg3 : Memref sig .tc .vmem S512x512 .f32) (harg3 : arg3.IsWhole) (arg4 : Memref sig .tc .vmem S512x512 .f32) (harg4 : arg4.IsWhole)
  (arg5 : Memref sig .tc .vmem S512x512 .f32) (harg5 : arg5.IsWhole) (arg6 : Memref sig .tc .vmem S1x512 .f32) (harg6 : arg6.IsWhole)
  (arg7 : Memref sig .tc .vmem S512x512 .bf16) (harg7 : arg7.IsWhole) (arg8 : Memref sig .tc .vmem S1024x1024 .bf16) (harg8 : arg8.IsWhole)
  (arg9 : Memref sig .tc .vmem S1x1024 .f32) (harg9 : arg9.IsWhole) (arg10 : Memref sig .tc .vmem S1x1024 .f32) (harg10 : arg10.IsWhole)
  (arg11 : Memref sig .tc .vmem S512x1024 .f32) (harg11 : arg11.IsWhole) (arg12 : Memref sig .tc .vmem S512x1024 .bf16) (harg12 : arg12.IsWhole)
  (x0 : Vec Ideal S512x1024 .f32) (x1 : Vec Ideal S512x512 .bf16) (x2 x3 x4 : Vec Ideal S512x512 .f32) (x5 : Vec Ideal S1x512 .f32)
  (x6 : Vec Ideal S512x512 .bf16) (x7 : Vec Ideal S1024x1024 .bf16) (x8 x9 : Vec Ideal S1x1024 .f32)

/-- The two pieces of the mixed rows, as a point writes them. -/
abbrev pieces : List (View.Piece (Elt Ideal) S512x1024 .bf16) :=
  [⟨Rect.unit (s := S512x1024) ![0, 512] ![512, 512] inb_S512x1024_S512x512_0_512, k0_pay2 x4 x2 x3 x6 x5⟩,
    ⟨Rect.unit (s := S512x1024) ![0, 0] ![512, 512] inb_S512x1024_S512x512_0_0, x1⟩]

/-- The block of mixed rows a point writes. -/
theorem out_mix : out0_A_11 (F := Ideal) c i arg1 harg1 arg2 harg2 arg3 harg3 arg4 harg4 arg5 harg5 arg6 harg6 arg7 harg7 arg8 harg8 arg9 harg9 arg10 harg10 arg11 harg11 arg12 harg12
    x0 x1 x2 x3 x4 x5 x6 x7 x8 x9 = View.canon (pieces x1 x2 x3 x4 x5 x6) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12
    x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread,
    View.ld_unit_zero (S := S512x512) hz, View.ld_unit_zero (S := S1x512) hz]

/-- The block of results a point writes. -/
theorem out_residual : out0_A_10 (F := Ideal) c i arg1 harg1 arg2 harg2 arg3 harg3 arg4 harg4 arg5 harg5 arg6 harg6 arg7 harg7 arg8 harg8 arg9 harg9 arg10 harg10 arg11 harg11 arg12 harg12
    x0 x1 x2 x3 x4 x5 x6 x7 x8 x9 = k0_pay1 (View.canon (pieces x1 x2 x3 x4 x5 x6)) x7 x0 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12
    x0 x1 x2 x3 x4 x5 x6 x7 x8 x9)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread,
    harg9.read_unread, harg10.read_unread,
    View.ld_unit_zero (S := S512x512) hz, View.ld_unit_zero (S := S1x512) hz, View.ld_unit_zero (S := S1024x1024) hz, View.ld_unit_zero (S := S512x1024) hz, View.ld_unit_zero (S := S1x1024) hz]
  exact congrArg (k0_pay1 · x7 x0 x8 x9) (whole_back arg12.view _ _)

end

end Cert.MixBlocks

end
-- ==== Proof.MixEntry.lean ====
module

public import proofs.«01_k».proof.Proof.MixBlocks

@[expose] public section

/-! What the mixing kernel finds at each grid point: the arrays the host prepared (the gain of the heads repeated, the
averaging matrix, the output weight rounded), and the blocks of the arguments. -/

noncomputable section

namespace Cert.MixEntry

open Idealize.ShloMosaic hiding ix2 ix4
open Idealize.ShloMosaic.TcCoe
open Idealize.ShloMosaic.ValueIdx Idealize.SL.Sem Cert.Tables Cert.Products Cert.Mix Cert.Kernel7Ideal Cert.Kernel7Ideal.Gen
open scoped BigOperators

/-- The word of one sixty-fourth. -/
theorem word_inv64 : (Scalar.ofBits .f32 0x3C800000#32 : Ideal .f32) = ((1 / 64 : ℝ) : EReal) := by
  show Ideal.ofBits .f32 0x3C800000#32 = _
  simp [Ideal.ofBits, Ideal.ieee]
  rw [← EReal.coe_mul]
  norm_num

/-- The comparison of two counters below eight. -/
theorem compared : ∀ a b : Fin 8, (IntOp.cmpi .eq (IntOp.addi (BitVec.ofNat 32 a.val) 0#32) (BitVec.ofNat 32 b.val)).toNat = if a = b then 1 else 0 := by
  decide

section
variable {m n p q : ℕ} {X : ℕ → ℕ → EReal}

/-- A block of whole rows of an array. -/
theorem reads_block {x : (⟨2, ![m, n]⟩ : Shape).Idx → EReal} (hx : Reads x X) (o : ℕ) (f : (⟨2, ![p, q]⟩ : Shape).Idx → (⟨2, ![m, n]⟩ : Shape).Idx)
    (h0 : ∀ j, (f j 0).val = o + (j 0).val) (h1 : ∀ j, (f j 1).val = (j 1).val) : Reads (fun j => x (f j)) fun r => X (o + r) := fun j => by
  refine (hx (f j)).trans ?_
  rw [h0 j, h1 j]

/-- A block that is the whole of an array. -/
theorem reads_whole {x : (⟨2, ![m, n]⟩ : Shape).Idx → EReal} (hx : Reads x X) (f : (⟨2, ![p, q]⟩ : Shape).Idx → (⟨2, ![m, n]⟩ : Shape).Idx)
    (h0 : ∀ j, (f j 0).val = (j 0).val) (h1 : ∀ j, (f j 1).val = (j 1).val) : Reads (fun j => x (f j)) X := fun j => by
  refine (hx (f j)).trans ?_
  rw [h0 j, h1 j]

end

variable (m : (ℓ : Loc nD τ sig) → Buf (Elt Ideal) ℓ) (c : Dev nD)

/-- The gain of the heads as the host prepares it: one row, repeated for each head. -/
theorem V_v2 : V m c main_v2 = Idealize.ShloMosaic.shapeCast S1x512 (broadcastInDim S1x1x8x64 ![0, 1, 2, 3] bcast_S1x1x1x64_S1x1x8x64_0_1_2_3
    (Idealize.ShloMosaic.shapeCast S1x1x1x64 (m ((c : Thread nD τ).loc main_arg5)) shapeCasts_S1x64_S1x1x1x64)) shapeCasts_S1x1x8x64_S1x512 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

/-- The averaging matrix as the host prepares it: the unit matrix of eight rows, each entry made a block. -/
theorem V_v11 : V m c main_v11 = truncf (F := Ideal) (φ := .f32) .bf16 (Idealize.ShloMosaic.shapeCast S512x512
    (mulf (F := Ideal) (s := S8x64x8x64) (φ := .f32)
      (broadcastInDim S8x64x8x64 ![0, 1, 2, 3] bcast_S8x1x8x1_S8x64x8x64_0_1_2_3 (broadcastInDim S8x1x8x1 ![0, 2] bcast_S8x8_S8x1x8x1_0_2
        (uitofp .f32 (cmpi .eq (addi (iotaInDim S8x8 32 0) (broadcastInDim S8x8 ![] bcast_S_S8x8 (constantI S_ 32 0#32))) (iotaInDim S8x8 32 1)))))
      (broadcastInDim S8x64x8x64 ![0, 1, 2, 3] bcast_S1x64x1x64_S8x64x8x64_0_1_2_3 (broadcastInDim S1x64x1x64 ![1, 3] bcast_S64x64_S1x64x1x64_1_3
        (broadcastInDim S64x64 ![] bcast_S_S64x64 (constant S_ .f32 0x3C800000#32)))))
    shapeCasts_S8x64x8x64_S512x512) bitsLt_bf16_f32 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

/-- The output weight, rounded. -/
theorem V_v12 : V m c main_v12 = truncf (F := Ideal) (φ := .f32) .bf16 (m ((c : Thread nD τ).loc main_arg6)) bitsLt_bf16_f32 := by
  show StableHlo.after (List.flatten [hostOps0, hostOps0_1, hostOps0_2]) _ _ = _
  simp only [hostOps0, hostOps0_1, hostOps0_2, List.flatten_cons, List.flatten_nil, List.append_nil, List.cons_append, List.nil_append]
  after_results

/-- The repeated gain, as a table. -/
theorem reads_gain : Reads (m := 1) (n := 512) (V m c main_v2) fun _ k => table (m := 1) (n := 64) (m ((c : Thread nD τ).loc main_arg5)) 0 (k % 64) := by
  refine Reads.of fun r k => ?_
  have hk := k.isLt
  have hr : r.val = 0 := Nat.lt_one_iff.mp r.isLt
  rw [V_v2]
  refine (shapeCast_apply _ _ (ix2 r k) (ix4 (0 : Fin 1) (0 : Fin 1) (⟨k.val / 64, by omega⟩ : Fin 8) (⟨k.val % 64, by omega⟩ : Fin 64)) ?_).trans ?_
  · rw [Shape.rowMajor_val_two, Shape.rowMajor_val_four]
    show ((0 * 1 + 0) * 8 + k.val / 64) * 64 + k.val % 64 = r.val * 512 + k.val
    omega
  refine (broadcastInDim_apply _ _ _ _ (ix4 (0 : Fin 1) (0 : Fin 1) (0 : Fin 1) (⟨k.val % 64, by omega⟩ : Fin 64)) fun a => by fin_cases a <;> rfl).trans ?_
  refine (shapeCast_apply _ _ _ (ix2 (0 : Fin 1) (⟨k.val % 64, by omega⟩ : Fin 64)) ?_).trans (reads_table (m := 1) (n := 64) _ _)
  rw [Shape.rowMajor_val_two, Shape.rowMajor_val_four]
  show 0 * 64 + k.val % 64 = ((0 * 1 + 0) * 1 + 0) * 64 + k.val % 64
  omega

/-- The averaging matrix, as a table. -/
theorem holds_average : Holds (m := 512) (n := 512) (V m c main_v11) average := by
  rw [V_v11]
  refine Holds.truncf (φ := .f32) (m := 512) (n := 512) (Holds.of fun i k => ?_) _
  have hi := i.isLt
  have hk := k.isLt
  refine (shapeCast_apply _ _ (ix2 i k) (ix4 (⟨i.val / 64, by omega⟩ : Fin 8) (⟨i.val % 64, by omega⟩ : Fin 64) (⟨k.val / 64, by omega⟩ : Fin 8) (⟨k.val % 64, by omega⟩ : Fin 64)) ?_).trans ?_
  · rw [Shape.rowMajor_val_two, Shape.rowMajor_val_four]
    show ((i.val / 64 * 64 + i.val % 64) * 8 + k.val / 64) * 64 + k.val % 64 = i.val * 512 + k.val
    omega
  refine (congrArg₂ (· * ·) ((broadcastInDim_apply _ _ _ _ (ix4 (⟨i.val / 64, by omega⟩ : Fin 8) (0 : Fin 1) (⟨k.val / 64, by omega⟩ : Fin 8) (0 : Fin 1)) fun a => by fin_cases a <;> rfl).trans
    (broadcastInDim_apply _ _ _ _ (ix2 (⟨i.val / 64, by omega⟩ : Fin 8) (⟨k.val / 64, by omega⟩ : Fin 8)) fun a => by fin_cases a <;> rfl)) word_inv64).trans ?_
  refine (congrArg (fun w : ℕ => ((w : ℝ) : EReal) * ((1 / 64 : ℝ) : EReal)) (compared (⟨i.val / 64, by omega⟩ : Fin 8) (⟨k.val / 64, by omega⟩ : Fin 8))).trans ?_
  rw [← EReal.coe_mul]
  refine congrArg _ ?_
  unfold average
  by_cases h : i.val / 64 = k.val / 64
  · rw [if_pos (Fin.ext h), if_pos h]; norm_num
  · rw [if_neg fun e => h (congrArg Fin.val e), if_neg h]; norm_num

/-- The output weight, as a table. -/
theorem reads_weight : Reads (m := 1024) (n := 1024) (V m c main_v12) (table (m := 1024) (n := 1024) (m ((c : Thread nD τ).loc main_arg6))) := by
  rw [V_v12]
  exact reads_table (m := 1024) (n := 1024) (m ((c : Thread nD τ).loc main_arg6))

/-- Rows `512 t` onwards: where the row windows' blocks lie. -/
theorem index_rows : ∀ t : Fin cfg0.N, ((win0_0.index t 0 = t.val ∧ win0_0.index t 1 = 0) ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)) ∧ (win0_10.index t 0 = t.val ∧ win0_10.index t 1 = 0) ∧ (win0_11.index t 0 = t.val ∧ win0_11.index t 1 = 0) :=
  (by decide +kernel : ∀ t : Fin grid0.N, ((win0_0.index t 0 = t.val ∧ win0_0.index t 1 = 0) ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)) ∧ (win0_10.index t 0 = t.val ∧ win0_10.index t 1 = 0) ∧ (win0_11.index t 0 = t.val ∧ win0_11.index t 1 = 0))

/-- The other windows' block is the whole array. -/
theorem index_whole : ∀ t : Fin cfg0.N, (win0_5.index t 0 = 0 ∧ win0_5.index t 1 = 0) ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) :=
  (by decide +kernel : ∀ t : Fin grid0.N, (win0_5.index t 0 = 0 ∧ win0_5.index t 1 = 0) ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0))

omit m c in
/-- The row a block's row is. -/
theorem at_rows {p q : ℕ} {i t : ℕ} (h : i = t) (j : (⟨2, ![p, q]⟩ : Shape).Idx) : i * 512 + 1 * (j 0).val = 512 * t + (j 0).val := by rw [h]; ring
omit m c in
/-- A coordinate of a block that starts at zero. -/
theorem at_start {s : Shape} {a : Fin s.rank} {i n : ℕ} (h : i = 0) (j : s.Idx) : i * n + 1 * (j a).val = (j a).val := by rw [h]; ring

/-- Window 0: a block of rows. -/
theorem rows0 {X : ℕ → ℕ → EReal} (hx : Reads (m := 8192) (n := 1024) (V m c main_arg0) X) (t : Fin cfg0.N) :
    Reads (m := 512) (n := 1024) (iblk m c 0 t) fun r => X (512 * t.val + r) := by
  obtain ⟨h0, h1⟩ := (index_rows t).1.1
  intro j
  unfold iblk
  rw [View.read_apply]
  exact reads_block (m := 8192) (n := 1024) (p := 512) (q := 1024) hx (512 * t.val) (fun j => ((cfg0.win 0).blk t).view.emb j) (at_rows h0) (at_start h1) j

/-- Window 1: a block of rows. -/
theorem rows1 {X : ℕ → ℕ → EReal} (hx : Reads (m := 8192) (n := 512) (V m c main_arg1) X) (t : Fin cfg0.N) :
    Reads (m := 512) (n := 512) (iblk m c 1 t) fun r => X (512 * t.val + r) := by
  obtain ⟨h0, h1⟩ := (index_rows t).1.2.1
  intro j
  unfold iblk
  rw [View.read_apply]
  exact reads_block (m := 8192) (n := 512) (p := 512) (q := 512) hx (512 * t.val) (fun j => ((cfg0.win 1).blk t).view.emb j) (at_rows h0) (at_start h1) j

/-- Window 2: a block of rows. -/
theorem rows2 {X : ℕ → ℕ → EReal} (hx : Reads (m := 8192) (n := 512) (V m c main_arg2) X) (t : Fin cfg0.N) :
    Reads (m := 512) (n := 512) (iblk m c 2 t) fun r => X (512 * t.val + r) := by
  obtain ⟨h0, h1⟩ := (index_rows t).1.2.2.1
  intro j
  unfold iblk
  rw [View.read_apply]
  exact reads_block (m := 8192) (n := 512) (p := 512) (q := 512) hx (512 * t.val) (fun j => ((cfg0.win 2).blk t).view.emb j) (at_rows h0) (at_start h1) j

/-- Window 3: a block of rows. -/
theorem rows3 {X : ℕ → ℕ → EReal} (hx : Reads (m := 8192) (n := 512) (V m c main_arg3) X) (t : Fin cfg0.N) :
    Reads (m := 512) (n := 512) (iblk m c 3 t) fun r => X (512 * t.val + r) := by
  obtain ⟨h0, h1⟩ := (index_rows t).1.2.2.2.1
  intro j
  unfold iblk
  rw [View.read_apply]
  exact reads_block (m := 8192) (n := 512) (p := 512) (q := 512) hx (512 * t.val) (fun j => ((cfg0.win 3).blk t).view.emb j) (at_rows h0) (at_start h1) j

/-- Window 4: a block of rows. -/
theorem rows4 {X : ℕ → ℕ → EReal} (hx : Reads (m := 8192) (n := 512) (V m c main_arg4) X) (t : Fin cfg0.N) :
    Reads (m := 512) (n := 512) (iblk m c 4 t) fun r => X (512 * t.val + r) := by
  obtain ⟨h0, h1⟩ := (index_rows t).1.2.2.2.2
  intro j
  unfold iblk
  rw [View.read_apply]
  exact reads_block (m := 8192) (n := 512) (p := 512) (q := 512) hx (512 * t.val) (fun j => ((cfg0.win 4).blk t).view.emb j) (at_rows h0) (at_start h1) j

/-- Window 5: the whole array. -/
theorem whole5 {X : ℕ → ℕ → EReal} (hx : Reads (m := 1) (n := 512) (V m c main_v2) X) (t : Fin cfg0.N) : Reads (m := 1) (n := 512) (iblk m c 5 t) X := by
  obtain ⟨h0, h1⟩ := (index_whole t).1
  intro j
  unfold iblk
  rw [View.read_apply]
  exact reads_whole (m := 1) (n := 512) (p := 1) (q := 512) hx (fun j => ((cfg0.win 5).blk t).view.emb j) (at_start h0) (at_start h1) j

/-- Window 6: the whole array. -/
theorem whole6 {X : ℕ → ℕ → EReal} (hx : Reads (m := 512) (n := 512) (V m c main_v11) X) (t : Fin cfg0.N) : Reads (m := 512) (n := 512) (iblk m c 6 t) X := by
  obtain ⟨h0, h1⟩ := (index_whole t).2.1
  intro j
  unfold iblk
  rw [View.read_apply]
  exact reads_whole (m := 512) (n := 512) (p := 512) (q := 512) hx (fun j => ((cfg0.win 6).blk t).view.emb j) (at_start h0) (at_start h1) j

/-- Window 7: the whole array. -/
theorem whole7 {X : ℕ → ℕ → EReal} (hx : Reads (m := 1024) (n := 1024) (V m c main_v12) X) (t : Fin cfg0.N) : Reads (m := 1024) (n := 1024) (iblk m c 7 t) X := by
  obtain ⟨h0, h1⟩ := (index_whole t).2.2.1
  intro j
  unfold iblk
  rw [View.read_apply]
  exact reads_whole (m := 1024) (n := 1024) (p := 1024) (q := 1024) hx (fun j => ((cfg0.win 7).blk t).view.emb j) (at_start h0) (at_start h1) j

/-- Window 8: the whole array. -/
theorem whole8 {X : ℕ → ℕ → EReal} (hx : Reads (m := 1) (n := 1024) (V m c main_arg7) X) (t : Fin cfg0.N) : Reads (m := 1) (n := 1024) (iblk m c 8 t) X := by
  obtain ⟨h0, h1⟩ := (index_whole t).2.2.2.1
  intro j
  unfold iblk
  rw [View.read_apply]
  exact reads_whole (m := 1) (n := 1024) (p := 1) (q := 1024) hx (fun j => ((cfg0.win 8).blk t).view.emb j) (at_start h0) (at_start h1) j

/-- Window 9: the whole array. -/
theorem whole9 {X : ℕ → ℕ → EReal} (hx : Reads (m := 1) (n := 1024) (V m c main_arg8) X) (t : Fin cfg0.N) : Reads (m := 1) (n := 1024) (iblk m c 9 t) X := by
  obtain ⟨h0, h1⟩ := (index_whole t).2.2.2.2
  intro j
  unfold iblk
  rw [View.read_apply]
  exact reads_whole (m := 1) (n := 1024) (p := 1) (q := 1024) hx (fun j => ((cfg0.win 9).blk t).view.emb j) (at_start h0) (at_start h1) j

end Cert.MixEntry

end
-- ==== Proof.MixFinal.lean ====
module

public import proofs.«01_k».proof.Proof.MixEntry

@[expose] public section

/-! The mixing kernel's result arrays: the mixed rows and the gated residual, over the whole sequence. -/

noncomputable section

namespace Cert.MixFinal

open Idealize.ShloMosaic hiding ix2
open Idealize.ShloMosaic.TcCoe
open Idealize.ShloMosaic.ValueIdx Idealize.SL.Sem Cert.Tables Cert.Products Cert.Mix Cert.MixBlocks Cert.MixEntry Cert.Kernel7Ideal Cert.Kernel7Ideal.Gen
open scoped BigOperators

section
variable (m : (ℓ : Loc nD τ sig) → Buf (Elt Ideal) ℓ) (c : Dev nD)

/-- The table of the rows. -/
abbrev tX : ℕ → ℕ → EReal := table (m := 8192) (n := 1024) (m ((c : Thread nD τ).loc main_arg0))
/-- The table of the attention heads. -/
abbrev tA : ℕ → ℕ → EReal := table (m := 8192) (n := 512) (m ((c : Thread nD τ).loc main_arg1))
/-- The table of the gates of the other heads. -/
abbrev tG : ℕ → ℕ → EReal := table (m := 8192) (n := 512) (m ((c : Thread nD τ).loc main_arg4))
/-- The gain of a head. -/
abbrev tN : ℕ → ℕ → EReal := table (m := 1) (n := 64) (m ((c : Thread nD τ).loc main_arg5))
/-- The table of the output weight. -/
abbrev tW : ℕ → ℕ → EReal := table (m := 1024) (n := 1024) (m ((c : Thread nD τ).loc main_arg6))
/-- The gate of the residual. -/
abbrev tT : ℕ → ℕ → EReal := table (m := 1) (n := 1024) (m ((c : Thread nD τ).loc main_arg7))
/-- The gain of the norm. -/
abbrev tS : ℕ → ℕ → EReal := table (m := 1) (n := 1024) (m ((c : Thread nD τ).loc main_arg8))
/-- The mixed rows, over the two halves of the other heads. -/
abbrev mix (P Q : ℕ → ℕ → ℝ) : ℕ → ℕ → EReal := mixed (tA m c) (heads (fun r k => P r k + Q r k) (tN m c) (tG m c))
/-- The results. -/
abbrev result (P Q : ℕ → ℕ → ℝ) : ℕ → ℕ → EReal := residual (tX m c) (product (mix m c P Q) (tW m c)) (tT m c) (tS m c)
end

section
variable {m : (ℓ : Loc nD τ sig) → Buf (Elt Ideal) ℓ} {c : Dev nD} {P Q : ℕ → ℕ → ℝ}
  (hP : Holds (m := 8192) (n := 512) (m ((c : Thread nD τ).loc main_arg2)) P) (hQ : Holds (m := 8192) (n := 512) (m ((c : Thread nD τ).loc main_arg3)) Q)
include hP hQ

/-- The mixed rows at a point. -/
theorem point_mix (t : Fin cfg0.N) : Reads (m := 512) (n := 1024) (View.canon (pieces (iblk m c 1 t) (iblk m c 2 t) (iblk m c 3 t) (iblk m c 4 t) (iblk m c 5 t) (iblk m c 6 t)))
    fun r => mix m c P Q (512 * t.val + r) := by
  have h1 := rows1 m c (X := tA m c) (by rw [V_main_arg1]; exact reads_table _) t
  have h2 := rows2 m c (X := fun r k => ((P r k : ℝ) : EReal)) (by rw [V_main_arg2]; exact hP) t
  have h3 := rows3 m c (X := fun r k => ((Q r k : ℝ) : EReal)) (by rw [V_main_arg3]; exact hQ) t
  have h4 := rows4 m c (X := tG m c) (by rw [V_main_arg4]; exact reads_table _) t
  have ho : Holds (m := 512) (n := 512) (addf (F := Ideal) (φ := .f32) (iblk m c 2 t) (iblk m c 3 t)) fun r k => P (512 * t.val + r) k + Q (512 * t.val + r) k :=
    Holds.addf (φ := .f32) (m := 512) (n := 512) (X := fun r => P (512 * t.val + r)) (Y := fun r => Q (512 * t.val + r)) h2 h3
  exact reads_halves (m := 512) _ _ h1 (reads_heads (N := tN m c) h4 ho (whole6 m c (X := fun i k => ((average i k : ℝ) : EReal)) (holds_average m c) t) (whole5 m c (reads_gain m c) t))

/-- The results at a point. -/
theorem point_residual (t : Fin cfg0.N) : Reads (m := 512) (n := 1024) (outsAt0 m c t).1 fun r => result m c P Q (512 * t.val + r) := by
  have h0 := rows0 m c (X := tX m c) (by rw [V_main_arg0]; exact reads_table _) t
  have h7 := whole7 m c (reads_weight m c) t
  have h8 := whole8 m c (X := tT m c) (by rw [V_main_arg7]; exact reads_table _) t
  have h9 := whole9 m c (X := tS m c) (by rw [V_main_arg8]; exact reads_table _) t
  unfold outsAt0
  dsimp only
  rw [out_residual]
  exact reads_residual h0 (point_mix hP hQ t) h7 h8 h9

/-- The mixed rows a point writes. -/
theorem point_mixed (t : Fin cfg0.N) : Reads (m := 512) (n := 1024) (outsAt0 m c t).2 fun r => mix m c P Q (512 * t.val + r) := by
  unfold outsAt0
  dsimp only
  rw [out_mix]
  exact point_mix hP hQ t

/-- Result 0: the gated residual. -/
theorem array_10 : Reads (m := 8192) (n := 1024) ((dats m 0 c).arrAt 10 cfg0.N) (result m c P Q) := by
  refine Reads.of fun r k => ?_
  have hN : cfg0.N = 16 := N_0
  have hr : r.val / 512 < cfg0.N := by have := r.isLt; omega
  obtain ⟨h0, h1⟩ := (index_rows ⟨r.val / 512, hr⟩).2.1
  have b := congrFun (Value.blocks10 m c ⟨r.val / 512, hr⟩ (flush0_10 _)) (ix2 (n0 := 512) (n1 := 1024) ⟨r.val % 512, Nat.mod_lt _ (by norm_num)⟩ k)
  rw [View.read_apply, Value.flushed10] at b
  have e : ((cfg0.win 10).blk ⟨r.val / 512, hr⟩).view.emb (ix2 (n0 := 512) (n1 := 1024) ⟨r.val % 512, Nat.mod_lt _ (by norm_num)⟩ k) = ix2 r k :=
    funext fun a => Fin.ext (match a with
      | ⟨0, _⟩ => by
        show win0_10.index ⟨r.val / 512, hr⟩ 0 * 512 + 1 * (r.val % 512) = r.val
        rw [h0]; show r.val / 512 * 512 + 1 * (r.val % 512) = r.val; omega
      | ⟨1, _⟩ => by
        show win0_10.index ⟨r.val / 512, hr⟩ 1 * 1024 + 1 * k.val = k.val
        rw [h1]; omega)
  rw [e] at b
  refine Eq.trans b (Eq.trans (point_residual hP hQ ⟨r.val / 512, hr⟩ (ix2 (n0 := 512) (n1 := 1024) ⟨r.val % 512, Nat.mod_lt _ (by norm_num)⟩ k)) ?_)
  show result m c P Q (512 * (r.val / 512) + r.val % 512) k.val = _
  rw [Nat.div_add_mod]

/-- Result 1: the mixed rows. -/
theorem array_11 : Reads (m := 8192) (n := 1024) ((dats m 0 c).arrAt 11 cfg0.N) (mix m c P Q) := by
  refine Reads.of fun r k => ?_
  have hN : cfg0.N = 16 := N_0
  have hr : r.val / 512 < cfg0.N := by have := r.isLt; omega
  obtain ⟨h0, h1⟩ := (index_rows ⟨r.val / 512, hr⟩).2.2
  have b := congrFun (Value.blocks11 m c ⟨r.val / 512, hr⟩ (flush0_11 _)) (ix2 (n0 := 512) (n1 := 1024) ⟨r.val % 512, Nat.mod_lt _ (by norm_num)⟩ k)
  rw [View.read_apply, Value.flushed11] at b
  have e : ((cfg0.win 11).blk ⟨r.val / 512, hr⟩).view.emb (ix2 (n0 := 512) (n1 := 1024) ⟨r.val % 512, Nat.mod_lt _ (by norm_num)⟩ k) = ix2 r k :=
    funext fun a => Fin.ext (match a with
      | ⟨0, _⟩ => by
        show win0_11.index ⟨r.val / 512, hr⟩ 0 * 512 + 1 * (r.val % 512) = r.val
        rw [h0]; show r.val / 512 * 512 + 1 * (r.val % 512) = r.val; omega
      | ⟨1, _⟩ => by
        show win0_11.index ⟨r.val / 512, hr⟩ 1 * 1024 + 1 * k.val = k.val
        rw [h1]; omega)
  rw [e] at b
  refine Eq.trans b (Eq.trans (point_mixed hP hQ ⟨r.val / 512, hr⟩ (ix2 (n0 := 512) (n1 := 1024) ⟨r.val % 512, Nat.mod_lt _ (by norm_num)⟩ k)) ?_)
  show mix m c P Q (512 * (r.val / 512) + r.val % 512) k.val = _
  rw [Nat.div_add_mod]

end

end Cert.MixFinal

end
-- ==== Proof.MixReference.lean ====
module

public import proofs.«01_k».proof.Proof.RefOps
public import proofs.«01_k».proof.Proof.Mix
public import proofs.«01_k».proof.Proof.Gen.Reference7Ideal.Read

@[expose] public section

/-! The reference of the mixing call computes the same tables, operation by operation. -/

noncomputable section

namespace Cert.MixReference

open Idealize.ShloMosaic hiding ix2
open Idealize.ShloMosaic.TcCoe
open Idealize.ShloMosaic.ValueIdx Idealize.SL.Sem Cert.Tables Cert.Products Cert.Mix Cert.RefOps Cert.Reference7Ideal Cert.Reference7Ideal.Read
open scoped BigOperators

/-- The word of sixty-four. -/
theorem word_64 : (Scalar.ofBits .f32 0x42800000#32 : Ideal .f32) = ((64 : ℝ) : EReal) := by
  show Ideal.ofBits .f32 0x42800000#32 = _
  simp [Ideal.ofBits, Ideal.ieee]
  rw [← EReal.coe_mul]
  norm_num

variable {x0 : (⟨S8192x1024, .f32⟩ : BufTy).Contents (Elt Ideal)} {x1 : (⟨S8192x512, .bf16⟩ : BufTy).Contents (Elt Ideal)}
  {x2 x3 x4 : (⟨S8192x512, .f32⟩ : BufTy).Contents (Elt Ideal)} {x5 : (⟨S1x64, .f32⟩ : BufTy).Contents (Elt Ideal)}
  {x6 : (⟨S1024x1024, .f32⟩ : BufTy).Contents (Elt Ideal)} {x7 x8 : (⟨S1x1024, .f32⟩ : BufTy).Contents (Elt Ideal)}
  {O : ℕ → ℕ → ℝ} {X A N G W T S M : ℕ → ℕ → EReal}

/-- One row for each head. -/
theorem head_rows (hO : Holds (m := 8192) (n := 512) (val_main_v0 (F := Ideal) x2 x3) O) :
    Holds (m := 65536) (n := 64) (val_main_v1 (F := Ideal) x2 x3) fun q j => O ((q * 64 + j) / 512) ((q * 64 + j) % 512) := fun i => by
  rw [val_main_v1_apply]
  exact hO _

/-- One over the root mean square of a head. -/
theorem head_inverse (hO : Holds (m := 8192) (n := 512) (val_main_v0 (F := Ideal) x2 x3) O) (i : S65536x1.Idx) : val_main_v9 (F := Ideal) x2 x3 i
    = Ideal.rsqrt (((∑ j ∈ Finset.range 64, O (((i 0).val * 64 + j) / 512) (((i 0).val * 64 + j) % 512) * O (((i 0).val * 64 + j) / 512) (((i 0).val * 64 + j) % 512)) / 64 + eps : ℝ) : EReal) := by
  rw [val_main_v9_apply, val_main_v8_apply, val_main_v7_apply, val_main_v6_apply, val_main_v5_apply, val_main_v4_apply, val_main_v3_apply]
  refine congrArg Ideal.rsqrt (real_add (real_div (real_sum 64 _
    (fun j => O (((i 0).val * 64 + j) / 512) (((i 0).val * 64 + j) % 512) * O (((i 0).val * 64 + j) / 512) (((i 0).val * 64 + j) % 512)) fun j => ?_) word_64 (by norm_num)) word_eps)
  rw [val_main_v2_apply]
  exact real_mul (head_rows hO _) (head_rows hO _)

/-- The gated heads. -/
theorem gated (hO : Holds (m := 8192) (n := 512) (val_main_v0 (F := Ideal) x2 x3) O) (hG : Reads (m := 8192) (n := 512) x4 G) (hN : Reads (m := 1) (n := 64) x5 N) :
    Reads (m := 8192) (n := 512) (val_main_v16 (F := Ideal) x2 x3 x4 x5) (heads O N G) := by
  intro i
  have h1 := idx2_lt1 i
  have e0 : ((i 0).val * 512 + (i 1).val) / 64 * 64 + ((i 0).val * 512 + (i 1).val) % 64 = (i 0).val * 512 + (i 1).val := by omega
  rw [val_main_v16_apply, val_main_v14_apply, val_main_v13_apply, val_main_v12_apply, val_main_v11_apply, val_main_v10_apply, head_inverse hO, val_main_v15_apply,
    val_main_call0_v5_apply, val_main_call0_v4_apply, val_main_call0_v3_apply, val_main_call0_v2_apply, val_main_call0_v1_apply, val_main_call0_v0_apply]
  refine congrArg₂ (· * ·) (congrArg₂ (· * ·) (congrArg₂ (· * ·) ((head_rows hO _).trans ?_) (congrArg (fun r : ℝ => Ideal.rsqrt ((r + eps : ℝ) : EReal)) ?_)) ((hN _).trans ?_))
    (congrArg₂ (· * ·) (hG i) (congrArg₂ Ideal.div (word_one.trans EReal.coe_one) (congrArg₂ (· + ·) (word_one.trans EReal.coe_one) (congrArg Ideal.exp (congrArg (- ·) (hG i))))))
  · show ((O ((((i 0).val * 512 + (i 1).val) / 64 * 64 + ((i 0).val * 512 + (i 1).val) % 64) / 512) ((((i 0).val * 512 + (i 1).val) / 64 * 64 + ((i 0).val * 512 + (i 1).val) % 64) % 512) : ℝ) : EReal) = _
    rw [e0, show ((i 0).val * 512 + (i 1).val) / 512 = (i 0).val by omega, show ((i 0).val * 512 + (i 1).val) % 512 = (i 1).val by omega]
  · refine congrArg (· / 64) (Finset.sum_congr rfl fun j hj => ?_)
    have hj := Finset.mem_range.mp hj
    show O ((((i 0).val * 512 + (i 1).val) / 64 * 64 + j) / 512) ((((i 0).val * 512 + (i 1).val) / 64 * 64 + j) % 512) * O ((((i 0).val * 512 + (i 1).val) / 64 * 64 + j) / 512) ((((i 0).val * 512 + (i 1).val) / 64 * 64 + j) % 512) = _
    rw [show (((i 0).val * 512 + (i 1).val) / 64 * 64 + j) / 512 = (i 0).val by omega, show (((i 0).val * 512 + (i 1).val) / 64 * 64 + j) % 512 = 64 * ((i 1).val / 64) + j by omega]
  · show N 0 (((i 0).val * 512 + (i 1).val) % 64) = _
    rw [show ((i 0).val * 512 + (i 1).val) % 64 = (i 1).val % 64 by omega]

/-- The mixed rows. -/
theorem mixes (hO : Holds (m := 8192) (n := 512) (val_main_v0 (F := Ideal) x2 x3) O) (hG : Reads (m := 8192) (n := 512) x4 G) (hN : Reads (m := 1) (n := 64) x5 N)
    (hA : Reads (m := 8192) (n := 512) x1 A) : Reads (m := 8192) (n := 1024) (val_main_v18 (F := Ideal) x1 x2 x3 x4 x5) (mixed A (heads O N G)) :=
  reads_beside (m := 8192) (x := val_main_v17 (F := Ideal) x1) hA (gated hO hG hN) _

/-- Their product with the output weight. -/
theorem multiplies (hM : Reads (m := 8192) (n := 1024) (val_main_v18 (F := Ideal) x1 x2 x3 x4 x5) M) (hW : Reads (m := 1024) (n := 1024) x6 W) :
    Reads (m := 8192) (n := 1024) (val_main_v19 (F := Ideal) x1 x2 x3 x4 x5 x6) (product M W) := fun i => by
  rw [val_main_v19_apply]
  unfold product
  rw [Finset.sum_range]
  exact Finset.sum_congr rfl fun j _ => congrArg₂ (· * ·) (hM _) (hW _)

/-- The gated residual. -/
theorem results (hM : Reads (m := 8192) (n := 1024) (val_main_v18 (F := Ideal) x1 x2 x3 x4 x5) M) (hW : Reads (m := 1024) (n := 1024) x6 W)
    (hX : Reads (m := 8192) (n := 1024) x0 X) (hT : Reads (m := 1) (n := 1024) x7 T) (hS : Reads (m := 1) (n := 1024) x8 S) :
    Reads (m := 8192) (n := 1024) (val_main_v34 (F := Ideal) x0 x1 x2 x3 x4 x5 x6 x7 x8) (residual X (product M W) T S) := fun i => by
  have hY := multiplies hM hW
  rw [val_main_v34_apply, val_main_v33_apply, val_main_v32_apply, val_main_v31_apply, val_main_v30_apply, val_main_v29_apply, val_main_v28_apply, val_main_v27_apply,
    val_main_v26_apply, val_main_v25_apply, val_main_v24_apply, val_main_v23_apply, val_main_v22_apply, val_main_v21_apply]
  refine congrArg₂ (· + ·) (hX i) (congrArg₂ (· * ·) (hT _) (congrArg₂ (· * ·) (congrArg₂ (· * ·) (hY i) (congrArg Ideal.rsqrt (congrArg₂ (· + ·) (congrArg₂ Ideal.div ?_ word_1024) word_eps))) (hS _)))
  refine (congrArg₂ (· + ·) Ideal.ofBits_zero_f32 rfl).trans ((zero_add _).trans ?_)
  rw [Finset.sum_range]
  exact Finset.sum_congr rfl fun j _ => congrArg₂ (· * ·) (hY _) (hY _)

end Cert.MixReference

end
-- ==== Proof.MixClaim.lean ====
module

public import proofs.«01_k».proof.Defs
public import Idealize.ShloMosaic.Adequacy
public import proofs.«01_k».proof.Proof.Finite
public import proofs.«01_k».proof.Proof.MixFinal
public import proofs.«01_k».proof.Proof.MixReference
public import proofs.«01_k».proof.Proof.Gen.Pre_finite_heads
public import proofs.«01_k».proof.Proof.Gen.Reference7Ideal.Run

@[expose] public section

/-! The mixing call: from equal arguments, the linear attention's heads finite, the kernel's two arrays are the
reference's. -/

noncomputable section

namespace Cert.MixClaim

open Idealize.ShloMosaic Idealize.ShloMosaic.TcCoe Idealize.SL.Sem Cert.Tables Cert.Products

/-- The reference runs, its arguments unchanged; it declares no semaphore. -/
theorem frame_reference : Cert.quiescent_Reference7Ideal (hReference7Ideal := Cert.Reference7Ideal.Gen.facts) := fun m ρ _ =>
  (θ_run Cert.Reference7Ideal.defs _ _).mono
    (fun r h => ⟨fun c => (h c).2.2, sem_eq_zero_of_no_sems (by decide) r.2⟩)
    (Cert.Reference7Ideal.Value.run (F := Ideal) m ρ)

/-- From equal arguments, the heads finite, the kernel's results and the reference's are equal. -/
theorem algebraic : Cert.algebraic_Kernel7Ideal_Reference7Ideal_pre_finite_heads (hKernel7Ideal := Cert.Kernel7Ideal.Gen.facts)
    (hReference7Ideal := Cert.Reference7Ideal.Gen.facts) (hPre_finite_heads := Cert.Pre_finite_heads.Gen.facts) := by
  intro m ρ m' ρ' hpre hagree
  refine ⟨fun c => (Cert.Kernel7Ideal.Gen.dats m 0 c).arrAt 10 Cert.Kernel7Ideal.cfg0.N,
    fun c => (Cert.Kernel7Ideal.Gen.dats m 0 c).arrAt 11 Cert.Kernel7Ideal.cfg0.N,
    Cert.Kernel7Ideal.Value.run_blocks m ρ, ?_⟩
  refine (θ_run Cert.Reference7Ideal.defs _ _).mono (fun r h c => ?_) (Cert.Reference7Ideal.Value.run (F := Ideal) m' ρ')
  obtain ⟨f2, f3⟩ := hpre c
  have hP := Finite.holds_table (m := 8192) (n := 512) fun i => Finite.real_of_lt (congrFun f2 i)
  have hQ := Finite.holds_table (m := 8192) (n := 512) fun i => Finite.real_of_lt (congrFun f3 i)
  obtain ⟨a0, a1, a2, a3, a4, a5, a6, a7, a8⟩ := hagree c
  obtain ⟨h0, h1, hargs⟩ := h c
  have hO : Holds (m := 8192) (n := 512) (Cert.Reference7Ideal.Read.val_main_v0 (F := Ideal) (m ((c.tc : Thread Cert.Kernel7Ideal.nD Cert.Kernel7Ideal.τ).loc Cert.Kernel7Ideal.main_arg2))
      (m ((c.tc : Thread Cert.Kernel7Ideal.nD Cert.Kernel7Ideal.τ).loc Cert.Kernel7Ideal.main_arg3))) _ := Holds.addf (φ := .f32) hP hQ
  have hM := MixReference.mixes (A := MixFinal.tA m c) (G := MixFinal.tG m c) (N := MixFinal.tN m c) hO (reads_table (m := 8192) (n := 512) _) (reads_table (m := 1) (n := 64) _) (reads_table (m := 8192) (n := 512) _)
  have hR := MixReference.results (X := MixFinal.tX m c) (W := MixFinal.tW m c) (T := MixFinal.tT m c) (S := MixFinal.tS m c) hM (reads_table (m := 1024) (n := 1024) _)
    (reads_table (m := 8192) (n := 1024) _) (reads_table (m := 1) (n := 1024) _) (reads_table (m := 1) (n := 1024) _)
  refine ⟨(h0.trans (Cert.Reference7Ideal.Read.val_main_v34_eq _ _)).trans ?_, (h1.trans (Cert.Reference7Ideal.Read.val_main_v35_eq ..)).trans ?_, hargs⟩
  · rw [a0, a1, a2, a3, a4, a5, a6, a7, a8]
    exact Reads.unique (m := 8192) (n := 1024) hR (MixFinal.array_10 hP hQ)
  · rw [a1, a2, a3, a4, a5]
    exact Reads.unique (m := 8192) (n := 1024) hM (MixFinal.array_11 hP hQ)

end Cert.MixClaim

end
-- ==== Proof.InprojFrame.lean ====
module

public import proofs.«01_k».proof.Proof.Gen.Kernel8Ideal.Launch
public import proofs.«01_k».proof.Proof.Gen.Kernel8Ideal.Skeleton
public import proofs.«01_k».proof.Proof.Gen.Kernel8Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

/-! The run of the input projection: its region, its twenty-two windows, what a point leaves in each, and the launch. As
produced for the program, with a larger budget for the obligation of the body. -/

namespace Cert.InprojFrame

open Cert.Kernel8Ideal Cert.Kernel8Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1320000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel8Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's accesses -/

abbrev r0_0 : Rect S1x1024 := Rect.unit (s := S1x1024) ![0, 0] S1x1024.size inb_S1x1024_S1x1024_0_0
abbrev r0_1 : Rect S256x1024 := Rect.unit (s := S256x1024) ![0, 0] S256x1024.size inb_S256x1024_S256x1024_0_0
abbrev r0_2 : Rect S2432x1024 := Rect.unit (s := S2432x1024) ![0, 0] S2432x1024.size inb_S2432x1024_S2432x1024_0_0
abbrev r0_3 : Rect S256x128 := Rect.unit (s := S256x128) ![0, 0] S256x128.size inb_S256x128_S256x128_0_0
abbrev r0_4 : Rect S256x512 := Rect.unit (s := S256x512) ![0, 0] S256x512.size inb_S256x512_S256x512_0_0
abbrev r0_5 : Rect S256x256 := Rect.unit (s := S256x256) ![0, 0] S256x256.size inb_S256x256_S256x256_0_0
abbrev r0_6 : Rect S128x512 := Rect.unit (s := S128x512) ![0, 0] S128x512.size inb_S128x512_S128x512_0_0
abbrev r0_7 : Rect S1x512 := Rect.unit (s := S1x512) ![0, 0] S1x512.size inb_S1x512_S1x512_0_0

/-! ## What the body leaves in each output window's buffer -/

/-! ### Values of the body that the stores' payloads, spelt out, would write more than once

    Each is a vector the body binds (often a part call's result), stated over the input windows' blocks and
    numbered on from the skeleton's payload functions (`k0_pay15` …, after `k0_pay14`), so that
    `out0_W` and the values after it name it instead of spelling it out (`unfold_out out0_W` opens a canon
    with them, `unfold_payloads` opens them with the payloads); the comment after each is the printed function's
    name for the value (a count appended where that name is bound again). -/

def k0_pay15 (i : grid0.Coords) (x0 : Vec F S256x1024 .f32) (x1 : Vec F S256x1024 .f32) (x2 : Vec F S1x1024 .f32) (x3 : Vec F S1x1024 .f32) (x4 : Vec F S1x1024 .f32) (x5 : Vec F S1x1024 .f32) (x6 : Vec F S2432x1024 .bf16) (x7 : Vec F S128x512 .bf16) (x8 : Vec F S1x512 .f32) (x9 : Vec F S256x128 .f32) (x10 : Vec F S256x128 .f32) (x11 : Vec F S256x128 .f32) : FVec F S256x2432 .f32 :=
  k0_pay6 i (View.ld x4 r0_0) (View.ld x2 r0_0) (View.ld x5 r0_0) (View.ld x3 r0_0) (View.ld x1 r0_1) (View.ld x0 r0_1) (View.ld x6 r0_2) -- `v30`
def k0_pay16 (i : grid0.Coords) (x0 : Vec F S256x1024 .f32) (x1 : Vec F S256x1024 .f32) (x2 : Vec F S1x1024 .f32) (x3 : Vec F S1x1024 .f32) (x4 : Vec F S1x1024 .f32) (x5 : Vec F S1x1024 .f32) (x6 : Vec F S2432x1024 .bf16) (x7 : Vec F S128x512 .bf16) (x8 : Vec F S1x512 .f32) (x9 : Vec F S256x128 .f32) (x10 : Vec F S256x128 .f32) (x11 : Vec F S256x128 .f32) : FVec F S256x128 .f32 :=
  k0_pay7 (View.ld x9 r0_3) -- `v32`

/-- Window 12's staging buffer after the body, from the input windows' blocks: its 1 store as pieces, LAST
    FIRST (Lib/Pipeline/FrameBody.lean `View.canon`; the payloads are the skeleton's and the values stated above). -/
def out0_12 (i : grid0.Coords) (x0 : Vec F S256x1024 .f32) (x1 : Vec F S256x1024 .f32) (x2 : Vec F S1x1024 .f32) (x3 : Vec F S1x1024 .f32) (x4 : Vec F S1x1024 .f32) (x5 : Vec F S1x1024 .f32) (x6 : Vec F S2432x1024 .bf16) (x7 : Vec F S128x512 .bf16) (x8 : Vec F S1x512 .f32) (x9 : Vec F S256x128 .f32) (x10 : Vec F S256x128 .f32) (x11 : Vec F S256x128 .f32) : Vec F S256x1024 .bf16 :=
  View.canon [⟨r0_1, k0_pay5 i (View.ld x4 r0_0) (View.ld x2 r0_0) (View.ld x5 r0_0) (View.ld x3 r0_0) (View.ld x1 r0_1) (View.ld x0 r0_1)⟩]

/-- Its stores tile the buffer (checked by evaluation), so they cover it. -/
theorem cover0_12 (p0 : Vec F S256x1024 .bf16) (y : S256x1024.Idx) :
    ∃ pc ∈ ([⟨r0_1, p0⟩] : List (View.Piece (Elt F) S256x1024 .bf16)), y ∈ pc.1.set :=
  View.cover_of_tiled [⟨r0_1, p0⟩] S256x1024.size (by rfl) y

/-- Window 13's staging buffer after the body, from the input windows' blocks: its 1 store as pieces, LAST
    FIRST (Lib/Pipeline/FrameBody.lean `View.canon`; the payloads are the skeleton's and the values stated above). -/
def out0_13 (i : grid0.Coords) (x0 : Vec F S256x1024 .f32) (x1 : Vec F S256x1024 .f32) (x2 : Vec F S1x1024 .f32) (x3 : Vec F S1x1024 .f32) (x4 : Vec F S1x1024 .f32) (x5 : Vec F S1x1024 .f32) (x6 : Vec F S2432x1024 .bf16) (x7 : Vec F S128x512 .bf16) (x8 : Vec F S1x512 .f32) (x9 : Vec F S256x128 .f32) (x10 : Vec F S256x128 .f32) (x11 : Vec F S256x128 .f32) : Vec F S256x512 .bf16 :=
  View.canon [⟨r0_4, k0_pay10 (k0_pay15 i x0 x1 x2 x3 x4 x5 x6 x7 x8 x9 x10 x11) (k0_pay16 i x0 x1 x2 x3 x4 x5 x6 x7 x8 x9 x10 x11) (View.ld x10 r0_3) (View.ld x11 r0_3)⟩]

/-- Its stores tile the buffer (checked by evaluation), so they cover it. -/
theorem cover0_13 (p0 : Vec F S256x512 .bf16) (y : S256x512.Idx) :
    ∃ pc ∈ ([⟨r0_4, p0⟩] : List (View.Piece (Elt F) S256x512 .bf16)), y ∈ pc.1.set :=
  View.cover_of_tiled [⟨r0_4, p0⟩] S256x512.size (by rfl) y

/-- Window 14's staging buffer after the body, from the input windows' blocks: its 1 store as pieces, LAST
    FIRST (Lib/Pipeline/FrameBody.lean `View.canon`; the payloads are the skeleton's and the values stated above). -/
def out0_14 (i : grid0.Coords) (x0 : Vec F S256x1024 .f32) (x1 : Vec F S256x1024 .f32) (x2 : Vec F S1x1024 .f32) (x3 : Vec F S1x1024 .f32) (x4 : Vec F S1x1024 .f32) (x5 : Vec F S1x1024 .f32) (x6 : Vec F S2432x1024 .bf16) (x7 : Vec F S128x512 .bf16) (x8 : Vec F S1x512 .f32) (x9 : Vec F S256x128 .f32) (x10 : Vec F S256x128 .f32) (x11 : Vec F S256x128 .f32) : Vec F S256x128 .bf16 :=
  View.canon [⟨r0_3, k0_pay11 (k0_pay15 i x0 x1 x2 x3 x4 x5 x6 x7 x8 x9 x10 x11) (k0_pay16 i x0 x1 x2 x3 x4 x5 x6 x7 x8 x9 x10 x11) (View.ld x10 r0_3) (View.ld x11 r0_3)⟩]

/-- Its stores tile the buffer (checked by evaluation), so they cover it. -/
theorem cover0_14 (p0 : Vec F S256x128 .bf16) (y : S256x128.Idx) :
    ∃ pc ∈ ([⟨r0_3, p0⟩] : List (View.Piece (Elt F) S256x128 .bf16)), y ∈ pc.1.set :=
  View.cover_of_tiled [⟨r0_3, p0⟩] S256x128.size (by rfl) y

/-- Window 15's staging buffer after the body, from the input windows' blocks: its 1 store as pieces, LAST
    FIRST (Lib/Pipeline/FrameBody.lean `View.canon`; the payloads are the skeleton's and the values stated above). -/
def out0_15 (i : grid0.Coords) (x0 : Vec F S256x1024 .f32) (x1 : Vec F S256x1024 .f32) (x2 : Vec F S1x1024 .f32) (x3 : Vec F S1x1024 .f32) (x4 : Vec F S1x1024 .f32) (x5 : Vec F S1x1024 .f32) (x6 : Vec F S2432x1024 .bf16) (x7 : Vec F S128x512 .bf16) (x8 : Vec F S1x512 .f32) (x9 : Vec F S256x128 .f32) (x10 : Vec F S256x128 .f32) (x11 : Vec F S256x128 .f32) : Vec F S256x128 .bf16 :=
  View.canon [⟨r0_3, k0_pay12 (k0_pay15 i x0 x1 x2 x3 x4 x5 x6 x7 x8 x9 x10 x11)⟩]

/-- Its stores tile the buffer (checked by evaluation), so they cover it. -/
theorem cover0_15 (p0 : Vec F S256x128 .bf16) (y : S256x128.Idx) :
    ∃ pc ∈ ([⟨r0_3, p0⟩] : List (View.Piece (Elt F) S256x128 .bf16)), y ∈ pc.1.set :=
  View.cover_of_tiled [⟨r0_3, p0⟩] S256x128.size (by rfl) y

/-- Window 16's staging buffer after the body, from the input windows' blocks: its 1 store as pieces, LAST
    FIRST (Lib/Pipeline/FrameBody.lean `View.canon`; the payloads are the skeleton's and the values stated above). -/
def out0_16 (i : grid0.Coords) (x0 : Vec F S256x1024 .f32) (x1 : Vec F S256x1024 .f32) (x2 : Vec F S1x1024 .f32) (x3 : Vec F S1x1024 .f32) (x4 : Vec F S1x1024 .f32) (x5 : Vec F S1x1024 .f32) (x6 : Vec F S2432x1024 .bf16) (x7 : Vec F S128x512 .bf16) (x8 : Vec F S1x512 .f32) (x9 : Vec F S256x128 .f32) (x10 : Vec F S256x128 .f32) (x11 : Vec F S256x128 .f32) : Vec F S256x256 .f32 :=
  View.canon [⟨r0_5, k0_pay13 (k0_pay15 i x0 x1 x2 x3 x4 x5 x6 x7 x8 x9 x10 x11)⟩]

/-- Its stores tile the buffer (checked by evaluation), so they cover it. -/
theorem cover0_16 (p0 : Vec F S256x256 .f32) (y : S256x256.Idx) :
    ∃ pc ∈ ([⟨r0_5, p0⟩] : List (View.Piece (Elt F) S256x256 .f32)), y ∈ pc.1.set :=
  View.cover_of_tiled [⟨r0_5, p0⟩] S256x256.size (by rfl) y

/-- Window 17's staging buffer after the body, from the input windows' blocks: its 1 store as pieces, LAST
    FIRST (Lib/Pipeline/FrameBody.lean `View.canon`; the payloads are the skeleton's and the values stated above). -/
def out0_17 (i : grid0.Coords) (x0 : Vec F S256x1024 .f32) (x1 : Vec F S256x1024 .f32) (x2 : Vec F S1x1024 .f32) (x3 : Vec F S1x1024 .f32) (x4 : Vec F S1x1024 .f32) (x5 : Vec F S1x1024 .f32) (x6 : Vec F S2432x1024 .bf16) (x7 : Vec F S128x512 .bf16) (x8 : Vec F S1x512 .f32) (x9 : Vec F S256x128 .f32) (x10 : Vec F S256x128 .f32) (x11 : Vec F S256x128 .f32) : Vec F S256x256 .f32 :=
  View.canon [⟨r0_5, k0_pay14 (k0_pay15 i x0 x1 x2 x3 x4 x5 x6 x7 x8 x9 x10 x11)⟩]

/-- Its stores tile the buffer (checked by evaluation), so they cover it. -/
theorem cover0_17 (p0 : Vec F S256x256 .f32) (y : S256x256.Idx) :
    ∃ pc ∈ ([⟨r0_5, p0⟩] : List (View.Piece (Elt F) S256x256 .f32)), y ∈ pc.1.set :=
  View.cover_of_tiled [⟨r0_5, p0⟩] S256x256.size (by rfl) y

/-- Window 18's staging buffer after the body, from the input windows' blocks: its 1 store as pieces, LAST
    FIRST (Lib/Pipeline/FrameBody.lean `View.canon`; the payloads are the skeleton's and the values stated above). -/
def out0_18 (i : grid0.Coords) (x0 : Vec F S256x1024 .f32) (x1 : Vec F S256x1024 .f32) (x2 : Vec F S1x1024 .f32) (x3 : Vec F S1x1024 .f32) (x4 : Vec F S1x1024 .f32) (x5 : Vec F S1x1024 .f32) (x6 : Vec F S2432x1024 .bf16) (x7 : Vec F S128x512 .bf16) (x8 : Vec F S1x512 .f32) (x9 : Vec F S256x128 .f32) (x10 : Vec F S256x128 .f32) (x11 : Vec F S256x128 .f32) : Vec F S256x512 .f32 :=
  View.canon [⟨r0_4, k0_pay1 (k0_pay15 i x0 x1 x2 x3 x4 x5 x6 x7 x8 x9 x10 x11)⟩]

/-- Its stores tile the buffer (checked by evaluation), so they cover it. -/
theorem cover0_18 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-- Window 19's staging buffer after the body, from the input windows' blocks: its 1 store as pieces, LAST
    FIRST (Lib/Pipeline/FrameBody.lean `View.canon`; the payloads are the skeleton's and the values stated above). -/
def out0_19 (i : grid0.Coords) (x0 : Vec F S256x1024 .f32) (x1 : Vec F S256x1024 .f32) (x2 : Vec F S1x1024 .f32) (x3 : Vec F S1x1024 .f32) (x4 : Vec F S1x1024 .f32) (x5 : Vec F S1x1024 .f32) (x6 : Vec F S2432x1024 .bf16) (x7 : Vec F S128x512 .bf16) (x8 : Vec F S1x512 .f32) (x9 : Vec F S256x128 .f32) (x10 : Vec F S256x128 .f32) (x11 : Vec F S256x128 .f32) : Vec F S256x512 .f32 :=
  View.canon [⟨r0_4, k0_pay2 (k0_pay15 i x0 x1 x2 x3 x4 x5 x6 x7 x8 x9 x10 x11)⟩]

/-- Its stores tile the buffer (checked by evaluation), so they cover it. -/
theorem cover0_19 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-- Window 20's staging buffer after the body, from the input windows' blocks: its 1 store as pieces, LAST
    FIRST (Lib/Pipeline/FrameBody.lean `View.canon`; the payloads are the skeleton's and the values stated above). -/
def out0_20 (i : grid0.Coords) (x0 : Vec F S256x1024 .f32) (x1 : Vec F S256x1024 .f32) (x2 : Vec F S1x1024 .f32) (x3 : Vec F S1x1024 .f32) (x4 : Vec F S1x1024 .f32) (x5 : Vec F S1x1024 .f32) (x6 : Vec F S2432x1024 .bf16) (x7 : Vec F S128x512 .bf16) (x8 : Vec F S1x512 .f32) (x9 : Vec F S256x128 .f32) (x10 : Vec F S256x128 .f32) (x11 : Vec F S256x128 .f32) : Vec F S256x128 .bf16 :=
  View.canon [⟨r0_3, k0_pay3 (k0_pay15 i x0 x1 x2 x3 x4 x5 x6 x7 x8 x9 x10 x11)⟩]

/-- Its stores tile the buffer (checked by evaluation), so they cover it. -/
theorem cover0_20 (p0 : Vec F S256x128 .bf16) (y : S256x128.Idx) :
    ∃ pc ∈ ([⟨r0_3, p0⟩] : List (View.Piece (Elt F) S256x128 .bf16)), y ∈ pc.1.set :=
  View.cover_of_tiled [⟨r0_3, p0⟩] S256x128.size (by rfl) y

/-- Window 21's staging buffer after the body, from the input windows' blocks: its 1 store as pieces, LAST
    FIRST (Lib/Pipeline/FrameBody.lean `View.canon`; the payloads are the skeleton's and the values stated above). -/
def out0_21 (i : grid0.Coords) (x0 : Vec F S256x1024 .f32) (x1 : Vec F S256x1024 .f32) (x2 : Vec F S1x1024 .f32) (x3 : Vec F S1x1024 .f32) (x4 : Vec F S1x1024 .f32) (x5 : Vec F S1x1024 .f32) (x6 : Vec F S2432x1024 .bf16) (x7 : Vec F S128x512 .bf16) (x8 : Vec F S1x512 .f32) (x9 : Vec F S256x128 .f32) (x10 : Vec F S256x128 .f32) (x11 : Vec F S256x128 .f32) : Vec F S256x512 .f32 :=
  View.canon [⟨r0_4, k0_pay4 (k0_pay15 i x0 x1 x2 x3 x4 x5 x6 x7 x8 x9 x10 x11) (View.ld x7 r0_6) (View.ld x8 r0_7)⟩]

/-- Its stores tile the buffer (checked by evaluation), so they cover it. -/
theorem cover0_21 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S2432x1024 .bf16) (harg7 : arg7.IsWhole) (arg8 : Memref sig .tc .vmem S128x512 .bf16) (harg8 : arg8.IsWhole) (arg9 : Memref sig .tc .vmem S1x512 .f32) (harg9 : arg9.IsWhole) (arg10 : Memref sig .tc .vmem S256x128 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x1024 .bf16) (harg13 : arg13.IsWhole) (arg14 : Memref sig .tc .vmem S256x512 .bf16) (harg14 : arg14.IsWhole) (arg15 : Memref sig .tc .vmem S256x128 .bf16) (harg15 : arg15.IsWhole) (arg16 : Memref sig .tc .vmem S256x128 .bf16) (harg16 : arg16.IsWhole) (arg17 : Memref sig .tc .vmem S256x256 .f32) (harg17 : arg17.IsWhole) (arg18 : Memref sig .tc .vmem S256x256 .f32) (harg18 : arg18.IsWhole) (arg19 : Memref sig .tc .vmem S256x512 .f32) (harg19 : arg19.IsWhole) (arg20 : Memref sig .tc .vmem S256x512 .f32) (harg20 : arg20.IsWhole) (arg21 : Memref sig .tc .vmem S256x128 .bf16) (harg21 : arg21.IsWhole) (arg22 : Memref sig .tc .vmem S256x512 .f32) (harg22 : arg22.IsWhole)
    (x0 : Vec F S256x1024 .f32) (x1 : Vec F S256x1024 .f32) (x2 : Vec F S1x1024 .f32) (x3 : Vec F S1x1024 .f32) (x4 : Vec F S1x1024 .f32) (x5 : Vec F S1x1024 .f32) (x6 : Vec F S2432x1024 .bf16) (x7 : Vec F S128x512 .bf16) (x8 : Vec F S1x512 .f32) (x9 : Vec F S256x128 .f32) (x10 : Vec F S256x128 .f32) (x11 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 i x0 x1 x2 x3 x4 x5 x6 x7 x8 x9 x10 x11) ∗ owns (c : Thread nD τ) arg14 fullShare (out0_13 i x0 x1 x2 x3 x4 x5 x6 x7 x8 x9 x10 x11) ∗ owns (c : Thread nD τ) arg15 fullShare (out0_14 i x0 x1 x2 x3 x4 x5 x6 x7 x8 x9 x10 x11) ∗ owns (c : Thread nD τ) arg16 fullShare (out0_15 i x0 x1 x2 x3 x4 x5 x6 x7 x8 x9 x10 x11) ∗ owns (c : Thread nD τ) arg17 fullShare (out0_16 i x0 x1 x2 x3 x4 x5 x6 x7 x8 x9 x10 x11) ∗ owns (c : Thread nD τ) arg18 fullShare (out0_17 i x0 x1 x2 x3 x4 x5 x6 x7 x8 x9 x10 x11) ∗ owns (c : Thread nD τ) arg19 fullShare (out0_18 i x0 x1 x2 x3 x4 x5 x6 x7 x8 x9 x10 x11) ∗ owns (c : Thread nD τ) arg20 fullShare (out0_19 i x0 x1 x2 x3 x4 x5 x6 x7 x8 x9 x10 x11) ∗ owns (c : Thread nD τ) arg21 fullShare (out0_20 i x0 x1 x2 x3 x4 x5 x6 x7 x8 x9 x10 x11) ∗ owns (c : Thread nD τ) arg22 fullShare (out0_21 i x0 x1 x2 x3 x4 x5 x6 x7 x8 x9 x10 x11)) -∗ K ⟨⟩))
      ⊢ wp frame (wpE (defs₀ (F := F)) Variants.none c none) E (cc0_inproj_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_inproj_fwd_eq_skeleton]; unfold cc0_inproj_fwd_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  iexists _; isplitr
  swap; · iexact H21
  ipureintro
  refine (View.read_writes_eq_canon _ _ _ (cover0_21 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨14, _⟩ => out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨15, _⟩ => out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨16, _⟩ => out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨17, _⟩ => out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨18, _⟩ => out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨19, _⟩ => out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨_ + 22, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_14 (c : Dev nD) (t : Fin cfg0.N) : (dats m 0 c).after 14 t = out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_15 (c : Dev nD) (t : Fin cfg0.N) : (dats m 0 c).after 15 t = out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_16 (c : Dev nD) (t : Fin cfg0.N) : (dats m 0 c).after 16 t = out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_17 (c : Dev nD) (t : Fin cfg0.N) : (dats m 0 c).after 17 t = out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_18 (c : Dev nD) (t : Fin cfg0.N) : (dats m 0 c).after 18 t = out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_19 (c : Dev nD) (t : Fin cfg0.N) : (dats m 0 c).after 19 t = out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The run, its arguments unchanged and its semaphores at zero, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.InprojFrame

end
-- ==== Proof.InprojBits.lean ====
module

public import proofs.«01_k».proof.Defs
public import Idealize.ShloMosaic.Adequacy
public import proofs.«01_k».proof.Proof.InprojFrame
public import proofs.«01_k».proof.Proof.Gen.Kernel8
public import proofs.«01_k».proof.Proof.Gen.Kernel8Ideal

@[expose] public section

/-! The input projection on the machine's numbers: the printed program is the idealized one's text, so its run is the same run. -/

noncomputable section

namespace Cert.InprojBits

open Idealize.ShloMosaic Idealize.ShloMosaic.TcCoe Idealize.SL.Sem

set_option maxHeartbeats 4000000 in
/-- The two programs' bodies are one. -/
theorem bodies : @Cert.Kernel8.defs₀ Bits _ Cert.Kernel8.Gen.facts = @Cert.Kernel8Ideal.defs₀ Bits _ Cert.Kernel8Ideal.Gen.facts := by
  unfold Cert.Kernel8.defs₀ Cert.Kernel8Ideal.defs₀
  refine congrArg Defs.onTc (funext fun l => funext fun x => ?_)
  match l, x with
  | 0, (t, s) => rfl
  | ⟨_ + 1, h⟩, _ => exact absurd h (Nat.not_lt.2 (Nat.le_add_left _ _))

set_option maxHeartbeats 4000000 in
/-- So are their tables of functions. -/
theorem tables : @Cert.Kernel8.defs Bits _ Cert.Kernel8.Gen.facts = @Cert.Kernel8Ideal.defs Bits _ Cert.Kernel8Ideal.Gen.facts :=
  congrArg (Pipeline.defs (Cert.Kernel8.pcfgs (F := Bits))) bodies

set_option maxHeartbeats 4000000 in
/-- So are their entries. -/
theorem entries : @Cert.Kernel8.main Bits _ Cert.Kernel8.Gen.facts = @Cert.Kernel8Ideal.main Bits _ Cert.Kernel8Ideal.Gen.facts := rfl

set_option maxRecDepth 20000 in
set_option maxHeartbeats 16000000 in
/-- The kernel runs, its arguments unchanged and its semaphores at zero, on the machine's numbers. -/
theorem frame_kernel : Cert.quiescent_Kernel8 (hKernel8 := Cert.Kernel8.Gen.facts) := fun m ρ _ => by
  rw [tables, entries]
  exact InprojFrame.frame (F := Bits) m ρ

end Cert.InprojBits

end
-- ==== Proof.InprojValue.lean ====
module

public import proofs.«01_k».proof.Proof.InprojFrame
public import Idealize.ShloMosaic.Lib.Pipeline.Value

@[expose] public section

noncomputable section

/-! What each point of the input projection writes to each result, and the results after the run, named. As produced for
the program. -/

namespace Cert.InprojValue

open Cert.Kernel8Ideal Cert.Kernel8Ideal.Gen Cert.InprojFrame Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 12).cut (grid0.coords t) ((dats m 0 c).after 12 t) = _
  rw [after0_12]

/-- The index map sends distinct grid points to distinct block indices (decided over the 33 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- WHAT POINT `t` WRITES BACK to output window 13's array: the body's result for that window (`Gen.out0_13`: its stores
    as pieces over the input windows' blocks), read through the window's block. -/
theorem flushed13 (c : Dev nD) (t : Fin cfg0.N) :
    (dats m 0 c).flushed 13 t = (cfg0.win 13).cut (grid0.coords t) (out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 13).cut (grid0.coords t) ((dats m 0 c).after 13 t) = _
  rw [after0_13]

/-- The index map sends distinct grid points to distinct block indices (decided over the 33 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- WHAT POINT `t` WRITES BACK to output window 14's array: the body's result for that window (`Gen.out0_14`: its stores
    as pieces over the input windows' blocks), read through the window's block. -/
theorem flushed14 (c : Dev nD) (t : Fin cfg0.N) :
    (dats m 0 c).flushed 14 t = (cfg0.win 14).cut (grid0.coords t) (out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 14).cut (grid0.coords t) ((dats m 0 c).after 14 t) = _
  rw [after0_14]

/-- The index map sends distinct grid points to distinct block indices (decided over the 33 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- WHAT POINT `t` WRITES BACK to output window 15's array: the body's result for that window (`Gen.out0_15`: its stores
    as pieces over the input windows' blocks), read through the window's block. -/
theorem flushed15 (c : Dev nD) (t : Fin cfg0.N) :
    (dats m 0 c).flushed 15 t = (cfg0.win 15).cut (grid0.coords t) (out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 15).cut (grid0.coords t) ((dats m 0 c).after 15 t) = _
  rw [after0_15]

/-- The index map sends distinct grid points to distinct block indices (decided over the 33 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- WHAT POINT `t` WRITES BACK to output window 16's array: the body's result for that window (`Gen.out0_16`: its stores
    as pieces over the input windows' blocks), read through the window's block. -/
theorem flushed16 (c : Dev nD) (t : Fin cfg0.N) :
    (dats m 0 c).flushed 16 t = (cfg0.win 16).cut (grid0.coords t) (out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 16).cut (grid0.coords t) ((dats m 0 c).after 16 t) = _
  rw [after0_16]

/-- The index map sends distinct grid points to distinct block indices (decided over the 33 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- WHAT POINT `t` WRITES BACK to output window 17's array: the body's result for that window (`Gen.out0_17`: its stores
    as pieces over the input windows' blocks), read through the window's block. -/
theorem flushed17 (c : Dev nD) (t : Fin cfg0.N) :
    (dats m 0 c).flushed 17 t = (cfg0.win 17).cut (grid0.coords t) (out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 17).cut (grid0.coords t) ((dats m 0 c).after 17 t) = _
  rw [after0_17]

/-- The index map sends distinct grid points to distinct block indices (decided over the 33 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- WHAT POINT `t` WRITES BACK to output window 18's array: the body's result for that window (`Gen.out0_18`: its stores
    as pieces over the input windows' blocks), read through the window's block. -/
theorem flushed18 (c : Dev nD) (t : Fin cfg0.N) :
    (dats m 0 c).flushed 18 t = (cfg0.win 18).cut (grid0.coords t) (out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 18).cut (grid0.coords t) ((dats m 0 c).after 18 t) = _
  rw [after0_18]

/-- The index map sends distinct grid points to distinct block indices (decided over the 33 points). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- WHAT POINT `t` WRITES BACK to output window 19's array: the body's result for that window (`Gen.out0_19`: its stores
    as pieces over the input windows' blocks), read through the window's block. -/
theorem flushed19 (c : Dev nD) (t : Fin cfg0.N) :
    (dats m 0 c).flushed 19 t = (cfg0.win 19).cut (grid0.coords t) (out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 19).cut (grid0.coords t) ((dats m 0 c).after 19 t) = _
  rw [after0_19]

/-- WHAT POINT `t` WRITES BACK to output window 20's array: the body's result for that window (`Gen.out0_20`: its stores
    as pieces over the input windows' blocks), read through the window's block. -/
theorem flushed20 (c : Dev nD) (t : Fin cfg0.N) :
    (dats m 0 c).flushed 20 t = (cfg0.win 20).cut (grid0.coords t) (out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 20).cut (grid0.coords t) ((dats m 0 c).after 20 t) = _
  rw [after0_20]

/-- The index map sends distinct grid points to distinct block indices (decided over the 33 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- WHAT POINT `t` WRITES BACK to output window 21's array: the body's result for that window (`Gen.out0_21`: its stores
    as pieces over the input windows' blocks), read through the window's block. -/
theorem flushed21 (c : Dev nD) (t : Fin cfg0.N) :
    (dats m 0 c).flushed 21 t = (cfg0.win 21).cut (grid0.coords t) (out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  show (cfg0.win 21).cut (grid0.coords t) ((dats m 0 c).after 21 t) = _
  rw [after0_21]

/-- The index map sends distinct grid points to distinct block indices (decided over the 33 points). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v38_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v38_1) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v38_2) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v38_3) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v38_4) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v38_5) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v38_6) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v38_7) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v38_8) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v38_9) = (dats m 0 c).arrAt 21 cfg0.N :=
  (h c).1 21

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

set_option maxHeartbeats 313720 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v38_0) = (dats m 0 c).arrAt 12 cfg0.N
      ∧ r.2.mem ((c : Thread nD τ).loc main_v38_1) = (dats m 0 c).arrAt 13 cfg0.N
      ∧ r.2.mem ((c : Thread nD τ).loc main_v38_2) = (dats m 0 c).arrAt 14 cfg0.N
      ∧ r.2.mem ((c : Thread nD τ).loc main_v38_3) = (dats m 0 c).arrAt 15 cfg0.N
      ∧ r.2.mem ((c : Thread nD τ).loc main_v38_4) = (dats m 0 c).arrAt 16 cfg0.N
      ∧ r.2.mem ((c : Thread nD τ).loc main_v38_5) = (dats m 0 c).arrAt 17 cfg0.N
      ∧ r.2.mem ((c : Thread nD τ).loc main_v38_6) = (dats m 0 c).arrAt 18 cfg0.N
      ∧ r.2.mem ((c : Thread nD τ).loc main_v38_7) = (dats m 0 c).arrAt 19 cfg0.N
      ∧ r.2.mem ((c : Thread nD τ).loc main_v38_8) = (dats m 0 c).arrAt 20 cfg0.N
      ∧ r.2.mem ((c : Thread nD τ).loc main_v38_9) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨post12 m r h c,
      post13 m r h c,
      post14 m r h c,
      post15 m r h c,
      post16 m r h c,
      post17 m r h c,
      post18 m r h c,
      post19 m r h c,
      post20 m r h c,
      post21 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c⟩)
    (run_main m ρ)

end Cert.InprojValue

end
-- ==== Proof.Inproj.lean ====
module

public import proofs.«01_k».proof.Proof.Mix
public import Idealize.ShloMosaic.Lib.KernelVsHost

@[expose] public section

/-! The input projection: the rows of the context above those of the latent sequence, normalised and modulated; their product
with the input weight; the columns of the product rotated, scaled or turned into decays. Tables of extended reals. -/

noncomputable section

namespace Cert.Inproj

open Idealize.ShloMosaic hiding ix2
open Idealize.ShloMosaic.ValueIdx Idealize.SL.Sem Cert.Tables Cert.Products Cert.Pieces Cert.Mix
open scoped BigOperators

/-- A row over its root mean square, scaled and shifted. -/
def modulated (X G S : ℕ → ℕ → EReal) (r c : ℕ) : EReal := X r c * inverse X r * G 0 c + S 0 c

/-- The gain of a modulated norm. -/
def gain (G C : ℕ → ℕ → EReal) (r c : ℕ) : EReal := G r c * (1 + C r c)

/-- One table below another of `n` rows. -/
def below (n : ℕ) (X Y : ℕ → ℕ → EReal) (r c : ℕ) : EReal := if r < n then X r c else Y (r - n) c

/-- One table to the right of another of `n` columns. -/
def beside (n : ℕ) (X Y : ℕ → ℕ → EReal) (r c : ℕ) : EReal := if c < n then X r c else Y r (c - n)

/-- A table of `n` columns, zero to the right of them. -/
def padded (n : ℕ) (X : ℕ → ℕ → EReal) (r c : ℕ) : EReal := if c < n then X r c else 0

/-- A row turned by the cosines and sines of its angles: in each run of 32 columns the first 16 are paired with the last. -/
def turned (t C S : ℕ → EReal) (c : ℕ) : EReal := t c * C (c % 64) + (if c % 32 < 16 then -t (c + 16) else t (c - 16)) * S (c % 64)

/-- The columns of a product from `o` on, the rows after the first 256 turned. -/
def rotated (o : ℕ) (P C S : ℕ → ℕ → EReal) (r c : ℕ) : EReal :=
  if r < 256 then P r (o + c) else turned (fun k => P r (o + k)) (C (r - 256)) (S (r - 256)) c

/-- The rows a kernel multiplies by: those of the first table from row 256 on, above them the constant. -/
def above (k : EReal) (X : ℕ → ℕ → EReal) (r c : ℕ) : EReal := if r < 256 then k else X (r - 256) (c % 64)

/-- The factors of the entry 16 columns to the right. -/
def right (S : ℕ → ℕ → EReal) (r c : ℕ) : EReal := if c % 32 < 16 then -S r c else 0
/-- The factors of the entry 16 columns to the left. -/
def left (S : ℕ → ℕ → EReal) (r c : ℕ) : EReal := if c % 32 < 16 then 0 else S r c

/-- The logarithm of a decay: that of the logistic function of the argument, over 16. -/
def decay (e : EReal) : EReal := (min e 0 - Ideal.log (1 + Ideal.exp (0 - max e (-e)))) * ((1 / 16 : ℝ) : EReal)

/-- The arguments of the decays: 16 columns of the product times a weight, and a bias; the forward ones and, to the right of
    them, the backward ones. -/
def logit (P Wf Bf Wb Bb : ℕ → ℕ → EReal) : ℕ → ℕ → EReal :=
  beside 256 (fun r c => (∑ k ∈ Finset.range 16, P r (2304 + k) * Wf k c) + Bf 0 c)
    (fun r c => (∑ k ∈ Finset.range 16, P r (2320 + k) * Wb k c) + Bb 0 c)

/-- The two decay weights as the blocks of one matrix. -/
def blocks (Wf Wb : ℕ → ℕ → EReal) (k c : ℕ) : EReal :=
  if k < 16 ∧ c < 256 then Wf k c else if 16 ≤ k ∧ k < 32 ∧ 256 ≤ c then Wb (k - 16) (c - 256) else 0

/-- The rows of the context and, below them, those of the latent sequence, normalised and modulated. -/
def hidden (X Y G S C S1 C1 : ℕ → ℕ → EReal) : ℕ → ℕ → EReal := below 256 (modulated Y (gain G C1) S1) (modulated X (gain G C) S)

/-- Their product with the input weight. -/
def projected (H W : ℕ → ℕ → EReal) : ℕ → ℕ → EReal := padded 2336 (product H W)

/-- The factor of the queries. -/
abbrev eighth : EReal := Ideal.ofBits .f32 0x3E000000#32
/-- The factor of the queries of the linear attention. -/
abbrev factor : EReal := Ideal.ofBits .f32 0x3E3504F3#32

/-- The rows of block `t` of the context and the latent sequence. -/
theorem hidden_block (X Y G S C S1 C1 : ℕ → ℕ → EReal) (t r c : ℕ) (hr : r < 256) :
    (if t = 0 then modulated Y (gain G C1) S1 else modulated (fun r => X (256 * (t - 1) + r)) (gain G C) S) r c = hidden X Y G S C S1 C1 (256 * t + r) c := by
  unfold hidden below
  by_cases h : t = 0
  · rw [if_pos h, if_pos (by omega), h, Nat.mul_zero, Nat.zero_add]
  · rw [if_neg h, if_neg (by omega), show 256 * t + r - 256 = 256 * (t - 1) + r by omega]
    rfl

/-- The product with a weight of which the last columns are zero. -/
theorem projected_sum (H W : ℕ → ℕ → EReal) (r c : ℕ) : ∑ k ∈ Finset.range 1024, H r k * padded 2336 W k c = projected H W r c := by
  unfold projected padded product
  by_cases h : c < 2336
  · simp only [if_pos h]
  · simp only [if_neg h, mul_zero, Finset.sum_const_zero]

/-- What the kernel adds up, on the rows with no angle, is the entry itself. -/
theorem turned_none (a b c : EReal) : a * 1 + b * 0 + c * 0 = a := by
  rw [mul_one, mul_zero, mul_zero, add_zero, add_zero]

/-- What the kernel adds up is the turned row. -/
theorem turned_sum (n : ℕ) (hn : n % 32 = 0) (t C S : ℕ → EReal) (c : ℕ) (hc : c < n) :
    t c * C (c % 64) + t ((c + 16) % n) * (if c % 32 < 16 then -S (c % 64) else 0)
      + t ((c + (n - 16)) % n) * (if c % 32 < 16 then 0 else S (c % 64)) = turned t C S c := by
  unfold turned
  by_cases h : c % 32 < 16
  · have e : (c + 16) % n = c + 16 := Nat.mod_eq_of_lt (by omega)
    rw [if_pos h, if_pos h, if_pos h, mul_zero, add_zero, e, mul_neg, neg_mul]
  · have e : (c + (n - 16)) % n = c - 16 := by
      rw [show c + (n - 16) = c - 16 + n by omega, Nat.add_mod_right]
      exact Nat.mod_eq_of_lt (by omega)
    rw [if_neg h, if_neg h, if_neg h, mul_zero, add_zero, e]

/-- The kernel's sum of three products is the rotated columns. -/
theorem rotated_sum (n : ℕ) (hn : n % 32 = 0) (o : ℕ) (P C S : ℕ → ℕ → EReal) (r c : ℕ) (hc : c < n) :
    P r (o + c) * above 1 C r c + P r (o + (c + 16) % n) * above 0 (right S) r c + P r (o + (c + (n - 16)) % n) * above 0 (left S) r c
      = rotated o P C S r c := by
  unfold rotated above
  by_cases h : r < 256
  · rw [if_pos h, if_pos h, if_pos h, if_pos h]
    exact turned_none _ _ _
  · have e : c % 64 % 32 = c % 32 := by omega
    rw [if_neg h, if_neg h, if_neg h, if_neg h]
    unfold right left
    rw [e]
    exact turned_sum n hn (fun k => P r (o + k)) (C (r - 256)) (S (r - 256)) c hc

/-- The logarithm of one and an exponential of a number not positive is real. -/
theorem log_real (e : EReal) : ∃ l : ℝ, Ideal.log (1 + Ideal.exp (-max e (-e))) = (l : EReal) := by
  have h0 : Ideal.log (1 + Ideal.exp ⊥) = ((0 : ℝ) : EReal) := by
    show Ideal.log (1 + 0) = _
    rw [add_zero]
    show (if (1 : ℝ) ≤ 0 then ⊥ else ((Real.log 1 : ℝ) : EReal)) = _
    rw [if_neg (by norm_num), Real.log_one]
  induction e with
  | bot => exact ⟨0, by rw [EReal.neg_bot, max_eq_right bot_le, EReal.neg_top]; exact h0⟩
  | top => exact ⟨0, by rw [EReal.neg_top, max_eq_left bot_le, EReal.neg_top]; exact h0⟩
  | coe x =>
    refine ⟨Real.log (1 + Real.exp (-max x (-x))), ?_⟩
    have e1 : (-max (x : EReal) (-(x : EReal))) = ((-max x (-x) : ℝ) : EReal) := by
      rw [EReal.coe_neg, EReal.coe_strictMono.monotone.map_max, EReal.coe_neg]
    rw [e1]
    show Ideal.log (((1 : ℝ) : EReal) + ((Real.exp (-max x (-x)) : ℝ) : EReal)) = _
    rw [← EReal.coe_add]
    show (if 1 + Real.exp (-max x (-x)) ≤ 0 then ⊥ else ((Real.log (1 + Real.exp (-max x (-x))) : ℝ) : EReal)) = _
    rw [if_neg (by have := Real.exp_pos (-max x (-x)); linarith)]

/-- Minus the softplus of minus the argument, over 16: the decay. -/
theorem decay_softplus (e : EReal) :
    Ideal.div (-(max (-e) 0 + Ideal.log1p (Ideal.exp (-max (-e - 0) (-(-e - 0)))))) ((16 : ℝ) : EReal) = decay e := by
  unfold decay Ideal.log1p
  rw [Ideal.div_coe (by norm_num), sub_zero, neg_neg, max_comm (-e) e, zero_sub]
  obtain ⟨l, hl⟩ := log_real e
  rw [hl]
  refine congrArg (· * _) ?_
  rw [EReal.neg_add (.inr (EReal.coe_ne_top _)) (.inr (EReal.coe_ne_bot _))]
  refine congrArg (· - _) ?_
  rcases le_total e 0 with h | h
  · rw [min_eq_left h, max_eq_left (by simpa using EReal.neg_le_neg_iff.2 h), neg_neg]
  · rw [min_eq_right h, max_eq_right (by simpa using EReal.neg_le_neg_iff.2 h), neg_zero]

/-- 128 columns of the product times the matrix of the two weights, and the two biases side by side, are the arguments. -/
theorem logit_sum (P Wf Bf Wb Bb : ℕ → ℕ → EReal) (r c : ℕ) :
    (∑ k ∈ Finset.range 128, P r (2304 + k) * blocks Wf Wb k c) + beside 256 Bf Bb 0 c = logit P Wf Bf Wb Bb r c := by
  unfold logit beside
  have hs : ∀ a b : ℕ, a + 16 + b = 128 → ∀ f : ℕ → EReal, (∀ k, k < a → f k = 0) → (∀ k, a + 16 ≤ k → f k = 0) →
      ∑ k ∈ Finset.range 128, f k = ∑ k ∈ Finset.range 16, f (a + k) := fun a b hab f h1 h2 => by
    rw [← hab, Finset.sum_range_add, Finset.sum_range_add, Finset.sum_eq_zero fun k hk => h1 k (Finset.mem_range.1 hk), zero_add,
      Finset.sum_eq_zero fun k _ => h2 _ (Nat.le_add_right _ k), add_zero]
  split
  · next h =>
    refine congrArg (· + _) ((hs 0 112 (by norm_num) _ (fun k hk => absurd hk (Nat.not_lt_zero k)) fun k hk => ?_).trans (Finset.sum_congr rfl fun k hk => ?_))
    · unfold blocks
      rw [if_neg (by omega), if_neg (by omega), mul_zero]
    · unfold blocks
      rw [Nat.zero_add, if_pos ⟨Finset.mem_range.1 hk, h⟩]
  · next h =>
    refine congrArg (· + _) ((hs 16 96 (by norm_num) _ (fun k hk => ?_) fun k hk => ?_).trans (Finset.sum_congr rfl fun k hk => ?_))
    · unfold blocks
      rw [if_neg (by omega), if_neg (by omega), mul_zero]
    · unfold blocks
      rw [if_neg (by omega), if_neg (by omega), mul_zero]
    · have := Finset.mem_range.1 hk
      unfold blocks
      rw [if_neg (by omega), if_pos (by omega), Nat.add_sub_cancel_left, show 2304 + (16 + k) = 2320 + k by ring]

/-! ### Arrays read off tables -/

section
variable {m n k : ℕ} {φ : FTy} {X Y : ℕ → ℕ → EReal}

/-- The table may be replaced by one equal to it on the array's rows and columns. -/
theorem reads_congr {x : (⟨2, ![m, n]⟩ : Shape).Idx → EReal} (hx : Reads x X) (h : ∀ r < m, ∀ c < n, X r c = Y r c) : Reads x Y :=
  fun i => (hx i).trans (h _ (idx2_lt0 i) _ (idx2_lt1 i))

/-- A product of an `m × k` array and the transpose of an `n × k` one, accumulated from zero. -/
theorem reads_matmulT {φ₁ φ₂ : FTy} {x : FVec Ideal ⟨2, ![m, k]⟩ φ₁} {y : FVec Ideal ⟨2, ![n, k]⟩ φ₂}
    (hx : Reads x X) (hy : Reads y Y) (prec : Option ContractPrecision) :
    Reads (FloatOps.matmul (DotDims.transposedRhs m k n) prec x y (constant ⟨2, ![m, n]⟩ .f32 0x00000000#32))
      fun r c => ∑ j ∈ Finset.range k, X r j * Y c j := .of fun r c => by
  rw [Ideal.matmul_transposedRhs_apply]
  show Ideal.ofBits .f32 0x00000000#32 + _ = _
  rw [Ideal.ofBits_zero_f32, zero_add, Finset.sum_range]
  exact Finset.sum_congr rfl fun j _ => by rw [hx.at, hy.at]

/-- A slice of `q` columns from column `o` on. -/
theorem reads_columns {q : ℕ} {x : (⟨2, ![m, n]⟩ : Shape).Idx → EReal} (hx : Reads x X) (o : ℕ)
    (h : (⟨2, ![m, n]⟩ : Shape).Slices ![0, o] ⟨2, ![m, q]⟩) :
    Reads (extractStridedSlice (⟨2, ![m, q]⟩ : Shape) ![0, o] x h) fun r c => X r (o + c) := fun i => by
  have hq : o + q ≤ n := h.2 1
  exact (extractStridedSlice_apply ![0, o] x h i (ix2 (i 0) ⟨o + (i 1).val, by have := idx2_lt1 i; omega⟩) (fun a => match a with
    | ⟨0, _⟩ => (Nat.zero_add _).symm
    | ⟨1, _⟩ => rfl)).trans (hx _)

/-- A slice of `q` rows from row `o` on. -/
theorem reads_rows {q : ℕ} {x : (⟨2, ![m, n]⟩ : Shape).Idx → EReal} (hx : Reads x X) (o : ℕ)
    (h : (⟨2, ![m, n]⟩ : Shape).Slices ![o, 0] ⟨2, ![q, n]⟩) :
    Reads (extractStridedSlice (⟨2, ![q, n]⟩ : Shape) ![o, 0] x h) fun r c => X (o + r) c := fun i => by
  have hq : o + q ≤ m := h.2 0
  exact (extractStridedSlice_apply ![o, 0] x h i (ix2 ⟨o + (i 0).val, by have := idx2_lt0 i; omega⟩ (i 1)) (fun a => match a with
    | ⟨0, _⟩ => rfl
    | ⟨1, _⟩ => (Nat.zero_add _).symm)).trans (hx _)

/-- The columns moved round by `n - d` places: each reads `d` columns further. -/
theorem reads_rotate {x : (⟨2, ![m, n]⟩ : Shape).Idx → EReal} (hx : Reads x X) (w : BitVec 32) (d : ℕ) (hd : n - w.toNat % n = d) (hn : w.toNat % n ≤ n)
    (h : (⟨2, ![m, n]⟩ : Shape).Rotates 1 none) :
    Reads (dynamicRotate 1 w none x h) fun r c => X r ((c + d) % n) := .of fun r c => by
  have hc := c.isLt
  refine (dynamicRotate_apply 1 w x h (ix2 r c) (ix2 r ⟨(c.val + d) % n, Nat.mod_lt _ (by omega)⟩) fun b => ?_).trans (hx _)
  match b with
  | ⟨0, _⟩ => rfl
  | ⟨1, _⟩ =>
    show (c.val + d) % n = (c.val + n - w.toNat % n) % n
    rw [← hd, Nat.add_sub_assoc hn]

/-- Two arrays side by side. -/
theorem reads_side (a b : ℕ) (hn : n = a + b) {x : (⟨2, ![m, a]⟩ : Shape).Idx → EReal} {y : (⟨2, ![m, b]⟩ : Shape).Idx → EReal}
    (hx : Reads x X) (hy : Reads y Y)
    (h : Shape.Concatenates [(⟨2, ![m, a]⟩ : Shape), ⟨2, ![m, b]⟩] ⟨2, ![m, n]⟩ 1) :
    Reads (concatenate (⟨2, ![m, n]⟩ : Shape) 1 [⟨⟨2, ![m, a]⟩, x⟩, ⟨⟨2, ![m, b]⟩, y⟩] h) (beside a X Y) := by
  refine Reads.of fun r c => ?_
  unfold beside
  split
  · next hc =>
    exact (concatenate_apply_piece 1 [⟨⟨2, ![m, a]⟩, x⟩, ⟨⟨2, ![m, b]⟩, y⟩] h (ix2 r c) 0 (by simp) _ x rfl rfl 0 rfl (ix2 r ⟨c.val, hc⟩)
      (fun b hb => match b with
        | ⟨0, _⟩ => rfl
        | ⟨1, _⟩ => absurd rfl hb) (Nat.zero_add _)).trans (hx _)
  · next hc =>
    exact (concatenate_apply_piece 1 [⟨⟨2, ![m, a]⟩, x⟩, ⟨⟨2, ![m, b]⟩, y⟩] h (ix2 r c) 1 (by simp) _ y rfl rfl a (by simp) (ix2 r ⟨c.val - a, by have := c.isLt; omega⟩)
      (fun b hb => match b with
        | ⟨0, _⟩ => rfl
        | ⟨1, _⟩ => absurd rfl hb) (by show a + (c.val - a) = c.val; omega)).trans (hy _)

/-- Two arrays one below the other. -/
theorem reads_below (a b : ℕ) (hm : m = a + b) {x : (⟨2, ![a, n]⟩ : Shape).Idx → EReal} {y : (⟨2, ![b, n]⟩ : Shape).Idx → EReal}
    (hx : Reads x X) (hy : Reads y Y)
    (h : Shape.Concatenates [(⟨2, ![a, n]⟩ : Shape), ⟨2, ![b, n]⟩] ⟨2, ![m, n]⟩ 0) :
    Reads (concatenate (⟨2, ![m, n]⟩ : Shape) 0 [⟨⟨2, ![a, n]⟩, x⟩, ⟨⟨2, ![b, n]⟩, y⟩] h) (below a X Y) := by
  refine Reads.of fun r c => ?_
  unfold below
  split
  · next hr =>
    exact (concatenate_apply_piece 0 [⟨⟨2, ![a, n]⟩, x⟩, ⟨⟨2, ![b, n]⟩, y⟩] h (ix2 r c) 0 (by simp) _ x rfl rfl 0 rfl (ix2 ⟨r.val, hr⟩ c)
      (fun b hb => match b with
        | ⟨0, _⟩ => absurd rfl hb
        | ⟨1, _⟩ => rfl) (Nat.zero_add _)).trans (hx _)
  · next hr =>
    exact (concatenate_apply_piece 0 [⟨⟨2, ![a, n]⟩, x⟩, ⟨⟨2, ![b, n]⟩, y⟩] h (ix2 r c) 1 (by simp) _ y rfl rfl a (by simp) (ix2 ⟨r.val - a, by have := r.isLt; omega⟩ c)
      (fun b hb => match b with
        | ⟨0, _⟩ => absurd rfl hb
        | ⟨1, _⟩ => rfl) (by show a + (r.val - a) = r.val; omega)).trans (hy _)

/-- Four copies of an array of 128 columns side by side. -/
theorem reads_four {x : (⟨2, ![m, 128]⟩ : Shape).Idx → EReal} (hx : Reads x X)
    (h : Shape.Concatenates [(⟨2, ![m, 128]⟩ : Shape), ⟨2, ![m, 128]⟩, ⟨2, ![m, 128]⟩, ⟨2, ![m, 128]⟩] ⟨2, ![m, 512]⟩ 1) :
    Reads (concatenate (⟨2, ![m, 512]⟩ : Shape) 1 [⟨⟨2, ![m, 128]⟩, x⟩, ⟨⟨2, ![m, 128]⟩, x⟩, ⟨⟨2, ![m, 128]⟩, x⟩, ⟨⟨2, ![m, 128]⟩, x⟩] h)
      fun r c => X r (c % 128) := by
  refine Reads.of fun r c => ?_
  have hc := c.isLt
  have key : ∀ q : Fin 4, c.val / 128 = q.val → concatenate (⟨2, ![m, 512]⟩ : Shape) 1
      [⟨⟨2, ![m, 128]⟩, x⟩, ⟨⟨2, ![m, 128]⟩, x⟩, ⟨⟨2, ![m, 128]⟩, x⟩, ⟨⟨2, ![m, 128]⟩, x⟩] h (ix2 r c) = x (ix2 r ⟨c.val % 128, Nat.mod_lt _ (by norm_num)⟩) := fun q hq =>
    concatenate_apply_piece 1 [⟨⟨2, ![m, 128]⟩, x⟩, ⟨⟨2, ![m, 128]⟩, x⟩, ⟨⟨2, ![m, 128]⟩, x⟩, ⟨⟨2, ![m, 128]⟩, x⟩] h (ix2 r c) q.val q.isLt _ x
      (by fin_cases q <;> rfl) rfl (128 * q.val) (by fin_cases q <;> rfl) (ix2 r ⟨c.val % 128, Nat.mod_lt _ (by norm_num)⟩)
      (fun b hb => match b with
        | ⟨0, _⟩ => rfl
        | ⟨1, _⟩ => absurd rfl hb) (by show 128 * q.val + c.val % 128 = c.val; omega)
  exact (key ⟨c.val / 128, by omega⟩ rfl).trans (hx _)

end

end Cert.Inproj

end
-- ==== Proof.InprojBlocks.lean ====
module

public import proofs.«01_k».proof.Proof.Inproj
public import proofs.«01_k».proof.Proof.InprojFrame
public import Idealize.ShloMosaic.Lib.WordCmp

@[expose] public section

/-! What one point of the input projection writes, from the blocks it is given. -/

noncomputable section

namespace Cert.InprojBlocks

open Idealize.ShloMosaic hiding ix2
open Idealize.ShloMosaic.TcCoe
open Idealize.ShloMosaic.ValueIdx Idealize.SL.Sem Cert.Tables Cert.Pieces Cert.Products Cert.Mix Cert.Inproj Cert.InprojFrame Cert.Kernel8Ideal Cert.Kernel8Ideal.Gen
open scoped BigOperators

/-- The product with the input weight contracts columns with columns. -/
theorem dot_input : dot_S256x1024_S2432x1024_S256x2432_1_1_0_0_n_n = DotDims.transposedRhs 256 1024 2432 := rfl
/-- The product with the decay weights contracts columns with rows. -/
theorem dot_decay : dot_S256x128_S128x512_S256x512_1_0_0_1_n_n = DotDims.plain 256 128 512 := rfl

/-- The word of one sixteenth. -/
theorem word_inv16 : (Scalar.ofBits .f32 0x3D800000#32 : Ideal .f32) = ((1 / 16 : ℝ) : EReal) := by
  show Ideal.ofBits .f32 0x3D800000#32 = _
  simp [Ideal.ofBits, Ideal.ieee]
  rw [← EReal.coe_mul]
  norm_num

/-- The choice between the context and the latent rows. -/
theorem chosen {α : Type} (i : grid0.Coords) (a b : α) :
    Scalar.select (Scalar.cmpi .eq (BitVec.ofNat 32 (i 0).val) 0#32) a b = if (i 0).val = 0 then a else b := by
  have hi : (i 0).val < 33 := (i 0).isLt
  show Scalar.select (IntOp.cmpi .eq (BitVec.ofNat 32 (i 0).val) (BitVec.ofNat 32 0)) a b = _
  rw [WordCmp.cmpi_eq_ofNat (by omega) (by norm_num), WordCmp.select_decide]

section
variable {X X1 G G1 S S1 W B D C A E P : ℕ → ℕ → EReal} {x0 x1 : Vec Ideal S256x1024 .f32} {x2 x3 x4 x5 : Vec Ideal S1x1024 .f32}
  {x6 : Vec Ideal S2432x1024 .bf16} {x7 : Vec Ideal S128x512 .bf16} {x8 : Vec Ideal S1x512 .f32} {x9 x10 x11 : Vec Ideal S256x128 .f32}
  {p : FVec Ideal S256x2432 .f32}

/-- The rows of a block, normalised and modulated: the context's at the first point, the latent sequence's after. -/
theorem reads_hidden (i : grid0.Coords) (h0 : Reads (m := 256) (n := 1024) x0 X) (h1 : Reads (m := 256) (n := 1024) x1 X1) (h2 : Reads (m := 1) (n := 1024) x2 G)
    (h3 : Reads (m := 1) (n := 1024) x3 S) (h4 : Reads (m := 1) (n := 1024) x4 G1) (h5 : Reads (m := 1) (n := 1024) x5 S1) :
    Reads (m := 256) (n := 1024) (k0_pay5 (F := Ideal) i x4 x2 x5 x3 x1 x0) (if (i 0).val = 0 then modulated X1 G1 S1 else modulated X G S) := by
  have core : ∀ {Y K T : ℕ → ℕ → EReal} {y : Vec Ideal S256x1024 .f32} {k t : Vec Ideal S1x1024 .f32}, Reads (m := 256) (n := 1024) y Y → Reads (m := 1) (n := 1024) k K → Reads (m := 1) (n := 1024) t T →
      Reads (m := 256) (n := 1024) (truncf .bf16 (addf (F := Ideal) (φ := .f32) (mulf (mulf y (broadcastTo S256x1024 (rsqrt (addf (divf (Idealize.ShloMosaic.shapeCast S256x1
        (multiReduction .add [1] S256 (mulf y y) 0x00000000#32 reduces_S256x1024_S256 (.inl rfl) rfl) shapeCasts_S256_S256x1)
        (broadcast S256x1 (Scalar.ofBits .f32 0x44800000#32))) (broadcast S256x1 (Scalar.ofBits .f32 0x358637BD#32)))) broadcasts_S256x1_S256x1024))
        (broadcastTo S256x1024 k broadcasts_S1x1024_S256x1024)) (broadcastTo S256x1024 t broadcasts_S1x1024_S256x1024)) bitsLt_bf16_f32) (modulated Y K T) := by
    intro Y K T y k t hy hk ht j
    refine congrArg₂ (· + ·) (congrArg₂ (· * ·) (congrArg₂ (· * ·) (hy j) ?_) (reads_broadcastRow (m := 256) (n := 1024) hk _ j)) (reads_broadcastRow (m := 256) (n := 1024) ht _ j)
    refine reads_broadcastCol (m := 256) (n := 1024) (X := fun r _ => inverse Y r) (fun j => ?_) _ j
    exact congrArg Ideal.rsqrt (congrArg₂ (· + ·) (congrArg₂ Ideal.div (reads_rowSum (m := 256) (n := 1024) (φ := .f32)
      (X := fun r c => Y r c * Y r c) (reads_mulf (φ := .f32) hy hy) _ reduces_S256x1024_S256 (.inl rfl) rfl shapeCasts_S256_S256x1 j) word_1024) word_eps)
  unfold k0_pay5
  dsimp only
  simp only [chosen, shapeCast_self]
  split
  · exact core h1 h4 h5
  · exact core h0 h2 h3

/-- The product with the input weight, of which the kernel holds the transpose. -/
theorem reads_projected (i : grid0.Coords) {H : ℕ → ℕ → EReal} (hh : Reads (m := 256) (n := 1024) (k0_pay5 (F := Ideal) i x4 x2 x5 x3 x1 x0) H) (h6 : Reads (m := 2432) (n := 1024) x6 W) :
    Reads (m := 256) (n := 2432) (k0_pay6 (F := Ideal) i x4 x2 x5 x3 x1 x0 x6) fun r c => ∑ k ∈ Finset.range 1024, H r k * W c k := by
  unfold k0_pay6
  dsimp only
  rw [shapeCast_self]
  show Reads (m := 256) (n := 2432) (FloatOps.matmul (F := Ideal) (φ₁ := .bf16) (φ₂ := .bf16) dot_S256x1024_S2432x1024_S256x2432_1_1_0_0_n_n none _ x6 (constant S256x2432 .f32 0x00000000#32)) _
  rw [dot_input]
  exact reads_matmulT hh h6 none

/-- A cast to the same shape changes nothing. -/
theorem uncast {Y : ℕ → ℕ → EReal} {y : FVec Ideal S256x128 .f32} (hy : Reads (m := 256) (n := 128) y Y) :
    Reads (m := 256) (n := 128) (Idealize.ShloMosaic.shapeCast S256x128 y shapeCasts_S256x128_S256x128) Y := by
  rw [shapeCast_self]
  exact hy

/-- The queries. -/
theorem reads_queries (hp : Reads (m := 256) (n := 2432) p P) (h9 : Reads (m := 256) (n := 128) x9 C) (h10 : Reads (m := 256) (n := 128) x10 A) (h11 : Reads (m := 256) (n := 128) x11 E) :
    Reads (m := 256) (n := 512) (k0_pay10 (F := Ideal) p (k0_pay7 x9) x10 x11) fun r c =>
      (P r (0 + c) * C r (c % 128) + P r (0 + (c + 16) % 512) * A r (c % 128) + P r (0 + (c + (512 - 16)) % 512) * E r (c % 128)) * eighth := by
  unfold k0_pay10 k0_pay7 k0_pay8 k0_pay9
  dsimp only
  have g9 := uncast h9
  have g10 := uncast h10
  have g11 := uncast h11
  have ht := reads_columns (m := 256) (n := 2432) (q := 512) hp 0 slices_S256x2432_o0_0_S256x512
  intro j
  exact congrArg₂ (· * ·) (congrArg₂ (· + ·) (congrArg₂ (· + ·) (congrArg₂ (· * ·) (ht j) (reads_four (m := 256) g9 concatenates_S256x128_S256x128_S256x128_S256x128_S256x512_d1 j))
    (congrArg₂ (· * ·) (reads_rotate (m := 256) (n := 512) ht 496#32 16 rfl (by decide) rotates_S256x512_d1 j) (reads_four (m := 256) g10 concatenates_S256x128_S256x128_S256x128_S256x128_S256x512_d1 j)))
    (congrArg₂ (· * ·) (reads_rotate (m := 256) (n := 512) ht 16#32 (512 - 16) rfl (by decide) rotates_S256x512_d1 j) (reads_four (m := 256) g11 concatenates_S256x128_S256x128_S256x128_S256x128_S256x512_d1 j))) rfl

/-- The keys. -/
theorem reads_keys (hp : Reads (m := 256) (n := 2432) p P) (h9 : Reads (m := 256) (n := 128) x9 C) (h10 : Reads (m := 256) (n := 128) x10 A) (h11 : Reads (m := 256) (n := 128) x11 E) :
    Reads (m := 256) (n := 128) (k0_pay11 (F := Ideal) p (k0_pay7 x9) x10 x11) fun r c =>
      P r (512 + c) * C r c + P r (512 + (c + 16) % 128) * A r c + P r (512 + (c + (128 - 16)) % 128) * E r c := by
  unfold k0_pay11 k0_pay7 k0_pay8 k0_pay9
  dsimp only
  simp only [shapeCast_self]
  have ht := reads_columns (m := 256) (n := 2432) (q := 128) hp 512 slices_S256x2432_o0_512_S256x128
  intro j
  exact congrArg₂ (· + ·) (congrArg₂ (· + ·) (congrArg₂ (· * ·) (ht j) (h9 j))
    (congrArg₂ (· * ·) (reads_rotate (m := 256) (n := 128) ht 112#32 16 rfl (by decide) rotates_S256x128_d1 j) (h10 j)))
    (congrArg₂ (· * ·) (reads_rotate (m := 256) (n := 128) ht 16#32 (128 - 16) rfl (by decide) rotates_S256x128_d1 j) (h11 j))

/-- The logarithms of the decays. -/
theorem reads_decays (hp : Reads (m := 256) (n := 2432) p P) (h7 : Reads (m := 128) (n := 512) x7 B) (h8 : Reads (m := 1) (n := 512) x8 D) :
    Reads (m := 256) (n := 512) (k0_pay4 (F := Ideal) p x7 x8) fun r c => decay ((∑ k ∈ Finset.range 128, P r (2304 + k) * B k c) + D 0 c) := by
  have hz : Reads (m := 256) (n := 128) (k0_pay3 (F := Ideal) p) fun r k => P r (2304 + k) :=
    reads_columns (m := 256) (n := 2432) (q := 128) hp 2304 slices_S256x2432_o0_2304_S256x128
  have he : Reads (m := 256) (n := 512) (addf (F := Ideal) (s := S256x512) (φ := .f32) (FloatOps.matmul (F := Ideal) (φ₁ := .bf16) (φ₂ := .bf16) dot_S256x128_S128x512_S256x512_1_0_0_1_n_n none
      (k0_pay3 (F := Ideal) p) x7 (constant S256x512 .f32 0x00000000#32)) (broadcastTo S256x512 x8 broadcasts_S1x512_S256x512))
      fun r c => (∑ k ∈ Finset.range 128, P r (2304 + k) * B k c) + D 0 c := by
    rw [dot_decay]
    exact reads_addf (φ := .f32) (reads_matmul hz h7 none) (reads_broadcastRow (m := 256) (n := 512) h8 _)
  unfold k0_pay4
  dsimp only
  simp only [shapeCast_self]
  intro j
  refine Eq.trans ?_ (congrArg decay (he j))
  exact congrArg₂ (· * ·) (congrArg₂ (· - ·) (congrArg₂ min rfl Ideal.ofBits_zero_f32)
    (congrArg Ideal.log (congrArg₂ (· + ·) (word_one.trans EReal.coe_one) (congrArg Ideal.exp (congrArg₂ (· - ·) Ideal.ofBits_zero_f32 rfl))))) word_inv16

/-- The values. -/
theorem reads_values (hp : Reads (m := 256) (n := 2432) p P) : Reads (m := 256) (n := 128) (k0_pay12 (F := Ideal) p) fun r c => P r (640 + c) :=
  reads_columns (m := 256) (n := 2432) (q := 128) hp 640 slices_S256x2432_o0_640_S256x128

/-- The queries of the linear attention. -/
theorem reads_queries2 (hp : Reads (m := 256) (n := 2432) p P) : Reads (m := 256) (n := 256) (k0_pay13 (F := Ideal) p) fun r c => P r (768 + c) * factor :=
  fun j => congrArg (· * factor) (reads_columns (m := 256) (n := 2432) (q := 256) hp 768 slices_S256x2432_o0_768_S256x256 j)

/-- Its keys. -/
theorem reads_keys2 (hp : Reads (m := 256) (n := 2432) p P) : Reads (m := 256) (n := 256) (k0_pay14 (F := Ideal) p) fun r c => P r (1024 + c) :=
  reads_columns (m := 256) (n := 2432) (q := 256) hp 1024 slices_S256x2432_o0_1024_S256x256

/-- Its values. -/
theorem reads_values2 (hp : Reads (m := 256) (n := 2432) p P) : Reads (m := 256) (n := 512) (k0_pay1 (F := Ideal) p) fun r c => P r (1280 + c) :=
  reads_columns (m := 256) (n := 2432) (q := 512) hp 1280 slices_S256x2432_o0_1280_S256x512

/-- Its gates. -/
theorem reads_gates (hp : Reads (m := 256) (n := 2432) p P) : Reads (m := 256) (n := 512) (k0_pay2 (F := Ideal) p) fun r c => P r (1792 + c) :=
  reads_columns (m := 256) (n := 2432) (q := 512) hp 1792 slices_S256x2432_o0_1792_S256x512

/-- The columns the decays are computed from. -/
theorem reads_tail (hp : Reads (m := 256) (n := 2432) p P) : Reads (m := 256) (n := 128) (k0_pay3 (F := Ideal) p) fun r c => P r (2304 + c) :=
  reads_columns (m := 256) (n := 2432) (q := 128) hp 2304 slices_S256x2432_o0_2304_S256x128

/-! ### What a point writes, from the blocks it is given -/

variable (i : grid0.Coords) (x0 x1 : Vec Ideal S256x1024 .f32) (x2 x3 x4 x5 : Vec Ideal S1x1024 .f32)
  (x6 : Vec Ideal S2432x1024 .bf16) (x7 : Vec Ideal S128x512 .bf16) (x8 : Vec Ideal S1x512 .f32) (x9 x10 x11 : Vec Ideal S256x128 .f32)

/-- The hidden rows. -/
theorem out_12 : out0_12 (F := Ideal) i x0 x1 x2 x3 x4 x5 x6 x7 x8 x9 x10 x11 = k0_pay5 i x4 x2 x5 x3 x1 x0 := by
  unfold out0_12
  rw [View.canon_unit_zero (S := S256x1024) hz]
  simp only [View.ld_unit_zero (S := S256x1024) hz, View.ld_unit_zero (S := S1x1024) hz, View.ld_unit_zero (S := S2432x1024) hz, View.ld_unit_zero (S := S256x128) hz, View.ld_unit_zero (S := S128x512) hz, View.ld_unit_zero (S := S1x512) hz]

/-- The queries. -/
theorem out_13 : out0_13 (F := Ideal) i x0 x1 x2 x3 x4 x5 x6 x7 x8 x9 x10 x11 = k0_pay10 (k0_pay6 i x4 x2 x5 x3 x1 x0 x6) (k0_pay7 x9) x10 x11 := by
  unfold out0_13 k0_pay15 k0_pay16
  rw [View.canon_unit_zero (S := S256x512) hz]
  simp only [View.ld_unit_zero (S := S256x1024) hz, View.ld_unit_zero (S := S1x1024) hz, View.ld_unit_zero (S := S2432x1024) hz, View.ld_unit_zero (S := S256x128) hz, View.ld_unit_zero (S := S128x512) hz, View.ld_unit_zero (S := S1x512) hz]

/-- The keys. -/
theorem out_14 : out0_14 (F := Ideal) i x0 x1 x2 x3 x4 x5 x6 x7 x8 x9 x10 x11 = k0_pay11 (k0_pay6 i x4 x2 x5 x3 x1 x0 x6) (k0_pay7 x9) x10 x11 := by
  unfold out0_14 k0_pay15 k0_pay16
  rw [View.canon_unit_zero (S := S256x128) hz]
  simp only [View.ld_unit_zero (S := S256x1024) hz, View.ld_unit_zero (S := S1x1024) hz, View.ld_unit_zero (S := S2432x1024) hz, View.ld_unit_zero (S := S256x128) hz, View.ld_unit_zero (S := S128x512) hz, View.ld_unit_zero (S := S1x512) hz]

/-- The values. -/
theorem out_15 : out0_15 (F := Ideal) i x0 x1 x2 x3 x4 x5 x6 x7 x8 x9 x10 x11 = k0_pay12 (k0_pay6 i x4 x2 x5 x3 x1 x0 x6) := by
  unfold out0_15 k0_pay15
  rw [View.canon_unit_zero (S := S256x128) hz]
  simp only [View.ld_unit_zero (S := S256x1024) hz, View.ld_unit_zero (S := S1x1024) hz, View.ld_unit_zero (S := S2432x1024) hz, View.ld_unit_zero (S := S256x128) hz, View.ld_unit_zero (S := S128x512) hz, View.ld_unit_zero (S := S1x512) hz]

/-- The queries of the linear attention. -/
theorem out_16 : out0_16 (F := Ideal) i x0 x1 x2 x3 x4 x5 x6 x7 x8 x9 x10 x11 = k0_pay13 (k0_pay6 i x4 x2 x5 x3 x1 x0 x6) := by
  unfold out0_16 k0_pay15
  rw [View.canon_unit_zero (S := S256x256) hz]
  simp only [View.ld_unit_zero (S := S256x1024) hz, View.ld_unit_zero (S := S1x1024) hz, View.ld_unit_zero (S := S2432x1024) hz, View.ld_unit_zero (S := S256x128) hz, View.ld_unit_zero (S := S128x512) hz, View.ld_unit_zero (S := S1x512) hz]

/-- The keys of the linear attention. -/
theorem out_17 : out0_17 (F := Ideal) i x0 x1 x2 x3 x4 x5 x6 x7 x8 x9 x10 x11 = k0_pay14 (k0_pay6 i x4 x2 x5 x3 x1 x0 x6) := by
  unfold out0_17 k0_pay15
  rw [View.canon_unit_zero (S := S256x256) hz]
  simp only [View.ld_unit_zero (S := S256x1024) hz, View.ld_unit_zero (S := S1x1024) hz, View.ld_unit_zero (S := S2432x1024) hz, View.ld_unit_zero (S := S256x128) hz, View.ld_unit_zero (S := S128x512) hz, View.ld_unit_zero (S := S1x512) hz]

/-- The values of the linear attention. -/
theorem out_18 : out0_18 (F := Ideal) i x0 x1 x2 x3 x4 x5 x6 x7 x8 x9 x10 x11 = k0_pay1 (k0_pay6 i x4 x2 x5 x3 x1 x0 x6) := by
  unfold out0_18 k0_pay15
  rw [View.canon_unit_zero (S := S256x512) hz]
  simp only [View.ld_unit_zero (S := S256x1024) hz, View.ld_unit_zero (S := S1x1024) hz, View.ld_unit_zero (S := S2432x1024) hz, View.ld_unit_zero (S := S256x128) hz, View.ld_unit_zero (S := S128x512) hz, View.ld_unit_zero (S := S1x512) hz]

/-- The gates. -/
theorem out_19 : out0_19 (F := Ideal) i x0 x1 x2 x3 x4 x5 x6 x7 x8 x9 x10 x11 = k0_pay2 (k0_pay6 i x4 x2 x5 x3 x1 x0 x6) := by
  unfold out0_19 k0_pay15
  rw [View.canon_unit_zero (S := S256x512) hz]
  simp only [View.ld_unit_zero (S := S256x1024) hz, View.ld_unit_zero (S := S1x1024) hz, View.ld_unit_zero (S := S2432x1024) hz, View.ld_unit_zero (S := S256x128) hz, View.ld_unit_zero (S := S128x512) hz, View.ld_unit_zero (S := S1x512) hz]

/-- The columns of the decays. -/
theorem out_20 : out0_20 (F := Ideal) i x0 x1 x2 x3 x4 x5 x6 x7 x8 x9 x10 x11 = k0_pay3 (k0_pay6 i x4 x2 x5 x3 x1 x0 x6) := by
  unfold out0_20 k0_pay15
  rw [View.canon_unit_zero (S := S256x128) hz]
  simp only [View.ld_unit_zero (S := S256x1024) hz, View.ld_unit_zero (S := S1x1024) hz, View.ld_unit_zero (S := S2432x1024) hz, View.ld_unit_zero (S := S256x128) hz, View.ld_unit_zero (S := S128x512) hz, View.ld_unit_zero (S := S1x512) hz]

/-- The logarithms of the decays. -/
theorem out_21 : out0_21 (F := Ideal) i x0 x1 x2 x3 x4 x5 x6 x7 x8 x9 x10 x11 = k0_pay4 (k0_pay6 i x4 x2 x5 x3 x1 x0 x6) x7 x8 := by
  unfold out0_21 k0_pay15
  rw [View.canon_unit_zero (S := S256x512) hz]
  simp only [View.ld_unit_zero (S := S256x1024) hz, View.ld_unit_zero (S := S1x1024) hz, View.ld_unit_zero (S := S2432x1024) hz, View.ld_unit_zero (S := S256x128) hz, View.ld_unit_zero (S := S128x512) hz, View.ld_unit_zero (S := S1x512) hz]

end

end Cert.InprojBlocks

end
-- ==== Proof.InprojEntry.lean ====
module

public import proofs.«01_k».proof.Proof.InprojBlocks
public import Idealize.ShloMosaic.Lib.KernelVsHost
public import Idealize.ShloMosaic.Lib.Routing.OpsOne
public import Idealize.ShloMosaic.Lib.Routing.OpsSet
public import Idealize.ShloMosaic.Lib.Routing.OpsPair

@[expose] public section

/-! What the input projection finds at each grid point: the arrays the host prepared (the gains, the input weight transposed
and padded with zero rows, the two decay weights in one matrix, the factors of the rotation), and the blocks of the arguments. -/

noncomputable section

namespace Cert.InprojEntry

open Idealize.ShloMosaic hiding ix1 ix2 ix4
open Idealize.ShloMosaic.TcCoe
open Idealize.ShloMosaic.ValueIdx Idealize.SL.Sem Cert.Tables Cert.Products Cert.Mix Cert.Inproj Cert.InprojFrame Cert.Kernel8Ideal Cert.Kernel8Ideal.Gen
open scoped BigOperators

section
variable {M N p q : ℕ} {X U : ℕ → ℕ → EReal}

/-- An array written over part of another, its first entry at row `a` and column `b`. -/
theorem reads_placed (d : ScatterDims (Routing.shape2 M N) (Routing.shape1 2) (Routing.shape2 p q)) (huw : d.updateWindowDims = [0, 1]) (hiw : d.insertedWindowDims = [])
    (hsd : d.scatterDimsToOperandDims = [0, 1]) (hivd : d.indexVectorDim = 0) (a b : ℕ) (idx : IVec (Routing.shape1 2) 32)
    (h0 : (idx (ix1 0)).toInt = (a : Int)) (h1 : (idx (ix1 1)).toInt = (b : Int))
    {x : (⟨2, ![M, N]⟩ : Shape).Idx → EReal} {u : (⟨2, ![p, q]⟩ : Shape).Idx → EReal} (hx : Reads x X) (hu : Reads u U) :
    Reads (m := M) (n := N) (Host.scatter d (fun _ b => b) x idx u) fun r c => if a ≤ r ∧ r < a + p ∧ b ≤ c ∧ c < b + q then U (r - a) (c - b) else X r c := by
  have hw : ∀ (k : (Routing.shape2 p q).Idx) (e : Fin 2), d.window k e = (k e).val := by
    obtain ⟨uw, iw, sd, iv, wf⟩ := d
    dsimp only at huw hiw hsd hivd
    subst huw hiw hsd hivd
    intro k e
    match e with
    | ⟨0, _⟩ => rfl
    | ⟨1, _⟩ => rfl
  have hl : ∀ (k : (Routing.shape2 p q).Idx) (r : Fin M) (c : Fin N), d.resultIdx? k idx = some (ix2 r c) ↔ a + (k 0).val = r.val ∧ b + (k 1).val = c.val := fun k r c => by
    rw [Routing.resultIdx?_ix2, Routing.start_pair d hsd hivd, Routing.start_pair d hsd hivd, h0, h1, hw, hw]
    omega
  refine Reads.of fun r c => ?_
  split
  · next h =>
    obtain ⟨ha, hp, hb, hq⟩ := h
    refine Routing.scatter_set_hit d x idx u (ix2 r c) _ (fun k hk => ?_) (ix2 ⟨r.val - a, by omega⟩ ⟨c.val - b, by omega⟩) ((hl _ r c).2 ⟨?_, ?_⟩)
    · obtain ⟨e0, e1⟩ := (hl k r c).1 hk
      refine (hu k).trans ?_
      rw [← e0, ← e1, Nat.add_sub_cancel_left, Nat.add_sub_cancel_left]
    · show a + (r.val - a) = r.val; omega
    · show b + (c.val - b) = c.val; omega
  · next h =>
    refine (Routing.scatter_set_miss d x idx u (ix2 r c) fun k hk => h ?_).trans (hx _)
    obtain ⟨e0, e1⟩ := (hl k r c).1 hk
    have k0 := idx2_lt0 k
    have k1 := idx2_lt1 k
    omega

end

variable (m : (ℓ : Loc nD τ sig) → Buf (Elt Ideal) ℓ) (c : Dev nD)

/-- The lanes that lie in the first half of their run of 32, as the host finds them. -/
def mask : IVec S64 1 :=
  let w : IVec S_ 32 := select (cmpi .eq (constantI S_ 32 32#32) (constantI S_ 32 0#32)) (constantI S_ 32 1#32) (constantI S_ 32 32#32)
  let x : IVec S64 32 := Host.remsi (iotaInDim S64 32 0) (broadcastInDim S64 ![] bcast_S_S64 w)
  let z : IVec S64 32 := broadcastInDim S64 ![] bcast_S_S64 (constantI S_ 32 0#32)
  cmpi .slt (select (andi (cmpi .ne (cmpi .slt x z) (broadcastInDim S64 ![] bcast_S_S64 (cmpi .slt w (constantI S_ 32 0#32)))) (cmpi .ne x z))
    (addi x (broadcastInDim S64 ![] bcast_S_S64 w)) x) (broadcastInDim S64 ![] bcast_S_S64 (constantI S_ 32 16#32))

/-- The gain of the latent rows, as the host prepares it. -/
theorem V_v2 : V m c main_v2 = mulf (F := Ideal) (s := S1x1024) (φ := .f32) (m ((c : Thread nD τ).loc main_arg2))
    (addf (broadcastInDim S1x1024 ![] bcast_S_S1x1024 (constant S_ .f32 0x3F800000#32)) (m ((c : Thread nD τ).loc main_arg4))) := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results

/-- The gain of the context's rows. -/
theorem V_v5 : V m c main_v5 = mulf (F := Ideal) (s := S1x1024) (φ := .f32) (m ((c : Thread nD τ).loc main_arg2))
    (addf (broadcastInDim S1x1024 ![] bcast_S_S1x1024 (constant S_ .f32 0x3F800000#32)) (m ((c : Thread nD τ).loc main_arg6))) := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results

/-- The input weight, transposed and padded. -/
theorem V_v8 : V m c main_v8 = pad S2432x1024 ![0, 0] ![96, 0] ![0, 0] (truncf (F := Ideal) (φ := .f32) .bf16
    (transpose S2336x1024 [1, 0] (m ((c : Thread nD τ).loc main_arg7)) transposes_S1024x2336_S2336x1024_1_0) bitsLt_bf16_f32)
    (sitofp (F := Ideal) .bf16 (constantI S_ 32 0#32)) pads_S2336x1024_S2432x1024_0960_000 h_S_ := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- The two decay weights in one matrix. -/
theorem V_v18 : V m c main_v18 = truncf (F := Ideal) (φ := .f32) .bf16 (Host.scatter scatter_S128x512_S2_S16x256_01_n_01_0 (fun _ b => b)
    (Host.scatter scatter_S128x512_S2_S16x256_01_n_01_0 (fun _ b => b) (broadcastInDim S128x512 ![] bcast_S_S128x512 (constant S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (m ((c : Thread nD τ).loc main_arg8)))
    (concatenate S2 0 [⟨S1, broadcastInDim S1 ![] bcast_S_S1 (constantI S_ 32 16#32)⟩, ⟨S1, broadcastInDim S1 ![] bcast_S_S1 (constantI S_ 32 256#32)⟩] concatenates_S1_S1_S2_d0)
    (m ((c : Thread nD τ).loc main_arg10))) bitsLt_bf16_f32 := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results

/-- The two biases side by side. -/
theorem V_v19 : V m c main_v19 = concatenate S1x512 1 [⟨S1x256, (m ((c : Thread nD τ).loc main_arg9))⟩, ⟨S1x256, (m ((c : Thread nD τ).loc main_arg11))⟩] concatenates_S1x256_S1x256_S1x512_d1 := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results

/-- The cosines. -/
theorem V_v31 : V m c main_v31 = concatenate S8448x128 0 [⟨S256x128, broadcastInDim S256x128 ![] bcast_S_S256x128 (constant (F := Ideal) S_ .f32 0x3F800000#32)⟩,
    ⟨S8192x128, concatenate S8192x128 1 [⟨S8192x64, (m ((c : Thread nD τ).loc main_arg12))⟩, ⟨S8192x64, (m ((c : Thread nD τ).loc main_arg12))⟩] concatenates_S8192x64_S8192x64_S8192x128_d1⟩] concatenates_S256x128_S8192x128_S8448x128_d0 := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results

/-- The sines, negated, on the lanes of the mask. -/
def signed (s : FVec Ideal S8192x64 .f32) : FVec Ideal S8192x64 .f32 :=
  select (broadcastInDim S8192x64 ![0, 1] bcast_S1x64_S8192x64_0_1 (broadcastInDim S1x64 ![1] bcast_S64_S1x64_1 mask)) (Host.negf s)
    (broadcastInDim S8192x64 ![] bcast_S_S8192x64 (constant S_ .f32 0x00000000#32))
/-- The sines on the other lanes. -/
def unsigned (s : FVec Ideal S8192x64 .f32) : FVec Ideal S8192x64 .f32 :=
  select (broadcastInDim S8192x64 ![0, 1] bcast_S1x64_S8192x64_0_1 (broadcastInDim S1x64 ![1] bcast_S64_S1x64_1 mask))
    (broadcastInDim S8192x64 ![] bcast_S_S8192x64 (constant S_ .f32 0x00000000#32)) s

/-- The factors of the entry to the right. -/
theorem V_v34 : V m c main_v34 = concatenate S8448x128 0 [⟨S256x128, broadcastInDim S256x128 ![] bcast_S_S256x128 (constant (F := Ideal) S_ .f32 0x00000000#32)⟩,
    ⟨S8192x128, concatenate S8192x128 1 [⟨S8192x64, signed (m ((c : Thread nD τ).loc main_arg13))⟩, ⟨S8192x64, signed (m ((c : Thread nD τ).loc main_arg13))⟩] concatenates_S8192x64_S8192x64_S8192x128_d1⟩] concatenates_S256x128_S8192x128_S8448x128_d0 := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- The factors of the entry to the left. -/
theorem V_v37 : V m c main_v37 = concatenate S8448x128 0 [⟨S256x128, broadcastInDim S256x128 ![] bcast_S_S256x128 (constant (F := Ideal) S_ .f32 0x00000000#32)⟩,
    ⟨S8192x128, concatenate S8192x128 1 [⟨S8192x64, unsigned (m ((c : Thread nD τ).loc main_arg13))⟩, ⟨S8192x64, unsigned (m ((c : Thread nD τ).loc main_arg13))⟩] concatenates_S8192x64_S8192x64_S8192x128_d1⟩] concatenates_S256x128_S8192x128_S8448x128_d0 := by
  show StableHlo.after (List.flatten [hostOps0, hostOps0_1, hostOps0_2, hostOps0_3, hostOps0_4, hostOps0_5, hostOps0_6, hostOps0_7, hostOps0_8]) _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-! ### Their tables -/

/-- The gain of the latent rows, as a table. -/
theorem reads_v2 : Reads (m := 1) (n := 1024) (V m c main_v2) (gain (table (m := 1) (n := 1024) (m ((c : Thread nD τ).loc main_arg2))) (table (m := 1) (n := 1024) (m ((c : Thread nD τ).loc main_arg4)))) := by
  rw [V_v2]
  exact fun i => congrArg₂ (· * ·) (reads_table (m := 1) (n := 1024) _ i) (congrArg₂ (· + ·) (word_one.trans EReal.coe_one) (reads_table (m := 1) (n := 1024) _ i))

/-- The gain of the context's rows, as a table. -/
theorem reads_v5 : Reads (m := 1) (n := 1024) (V m c main_v5) (gain (table (m := 1) (n := 1024) (m ((c : Thread nD τ).loc main_arg2))) (table (m := 1) (n := 1024) (m ((c : Thread nD τ).loc main_arg6)))) := by
  rw [V_v5]
  exact fun i => congrArg₂ (· * ·) (reads_table (m := 1) (n := 1024) _ i) (congrArg₂ (· + ·) (word_one.trans EReal.coe_one) (reads_table (m := 1) (n := 1024) _ i))

/-- The input weight, transposed: zero in the rows after the weight's columns. -/
theorem reads_v8 : Reads (m := 2432) (n := 1024) (V m c main_v8) fun r k => padded 2336 (table (m := 1024) (n := 2336) (m ((c : Thread nD τ).loc main_arg7))) k r := by
  rw [V_v8]
  refine Reads.of fun r k => ?_
  unfold padded
  split
  · next h =>
    refine (pad_apply_of_inside _ _ _ _ _ _ _ (ix2 r k) (ix2 (⟨r.val, h⟩ : Fin 2336) k) (fun a => ?_)).trans ?_
    · match a with
      | ⟨0, _⟩ => show r.val = 0 + r.val * (0 + 1); omega
      | ⟨1, _⟩ => show k.val = 0 + k.val * (0 + 1); omega
    · exact (transpose_apply _ (m ((c : Thread nD τ).loc main_arg7)) transposes_S1024x2336_S2336x1024_1_0 (ix2 (⟨r.val, h⟩ : Fin 2336) k) (ix2 k (⟨r.val, h⟩ : Fin 2336)) fun b => match b with
        | ⟨0, _⟩ => rfl
        | ⟨1, _⟩ => rfl).trans (reads_table (m := 1024) (n := 2336) (m ((c : Thread nD τ).loc main_arg7)) (ix2 k (⟨r.val, h⟩ : Fin 2336)))
  · next h =>
    refine (pad_apply_of_not_inside _ _ _ _ _ _ _ (ix2 r k) 0 (fun hi => h ?_)).trans ?_
    · have h2 : (r.val - 0) / (0 + 1) < 2336 := hi.2.2
      simpa using h2
    · show ((((0#32 : BitVec 32).toInt : ℤ) : ℝ) : EReal) = 0
      simp

omit m c in
/-- Rounding changes no entry. -/
theorem reads_rounded {p q : ℕ} {φ ψ : FTy} {X : ℕ → ℕ → EReal} {x : FVec Ideal ⟨2, ![p, q]⟩ φ} (hx : Reads x X) (h : ψ.bits < φ.bits) : Reads (m := p) (n := q) (truncf (F := Ideal) ψ x h) X := hx

/-- The two decay weights, as a table. -/
theorem reads_v18 : Reads (m := 128) (n := 512) (V m c main_v18) (blocks (table (m := 16) (n := 256) (m ((c : Thread nD τ).loc main_arg8))) (table (m := 16) (n := 256) (m ((c : Thread nD τ).loc main_arg10)))) := by
  rw [V_v18]
  have hz : Reads (m := 128) (n := 512) (broadcastInDim S128x512 ![] bcast_S_S128x512 (constant (F := Ideal) S_ .f32 0x00000000#32)) fun _ _ => 0 :=
    fun _ => Ideal.ofBits_zero_f32
  have h1 := reads_placed (M := 128) (N := 512) (p := 16) (q := 256) scatter_S128x512_S2_S16x256_01_n_01_0 rfl rfl rfl rfl 0 0
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    rfl rfl hz (reads_table (m := 16) (n := 256) (m ((c : Thread nD τ).loc main_arg8)))
  have h2 := reads_placed (M := 128) (N := 512) (p := 16) (q := 256) scatter_S128x512_S2_S16x256_01_n_01_0 rfl rfl rfl rfl 16 256
    (concatenate S2 0 [⟨S1, broadcastInDim S1 ![] bcast_S_S1 (constantI S_ 32 16#32)⟩, ⟨S1, broadcastInDim S1 ![] bcast_S_S1 (constantI S_ 32 256#32)⟩] concatenates_S1_S1_S2_d0)
    rfl rfl h1 (reads_table (m := 16) (n := 256) (m ((c : Thread nD τ).loc main_arg10)))
  refine reads_rounded (reads_congr h2 fun r _ k hk => ?_) _
  unfold blocks
  by_cases a : r < 16 ∧ k < 256
  · rw [if_neg (by omega), if_pos (by omega), if_pos a, Nat.sub_zero, Nat.sub_zero]
  · rw [if_neg a]
    by_cases b : 16 ≤ r ∧ r < 32 ∧ 256 ≤ k
    · rw [if_pos (by omega), if_pos b]
    · rw [if_neg (by omega), if_neg (by omega), if_neg b]

/-- The biases, as a table. -/
theorem reads_v19 : Reads (m := 1) (n := 512) (V m c main_v19) (beside 256 (table (m := 1) (n := 256) (m ((c : Thread nD τ).loc main_arg9))) (table (m := 1) (n := 256) (m ((c : Thread nD τ).loc main_arg11)))) := by
  rw [V_v19]
  exact reads_side (m := 1) (n := 512) 256 256 rfl (reads_table (m := 1) (n := 256) _) (reads_table (m := 1) (n := 256) _) _

omit m c in
/-- A table of factors: a constant on the context's rows, below them the same 64 columns twice. -/
theorem reads_factors {w : BitVec 32} {k : EReal} (hk : Ideal.ofBits .f32 w = k) {X : ℕ → ℕ → EReal} {x : FVec Ideal S8192x64 .f32} (hx : Reads (m := 8192) (n := 64) x X) :
    Reads (m := 8448) (n := 128) (concatenate S8448x128 0 [⟨S256x128, broadcastInDim S256x128 ![] bcast_S_S256x128 (constant (F := Ideal) S_ .f32 w)⟩,
      ⟨S8192x128, concatenate S8192x128 1 [⟨S8192x64, x⟩, ⟨S8192x64, x⟩] concatenates_S8192x64_S8192x64_S8192x128_d1⟩] concatenates_S256x128_S8192x128_S8448x128_d0) (above k X) := by
  have h1 := reads_side (m := 8192) (n := 128) 64 64 rfl hx hx concatenates_S8192x64_S8192x64_S8192x128_d1
  have h2 := reads_below (m := 8448) (n := 128) 256 8192 rfl (X := fun _ _ => k) (x := broadcastInDim S256x128 ![] bcast_S_S256x128 (constant (F := Ideal) S_ .f32 w)) (fun _ => hk) h1 concatenates_S256x128_S8192x128_S8448x128_d0
  refine reads_congr h2 fun r _ c hc => ?_
  unfold below above beside
  split
  · rfl
  · split
    · next h => rw [Nat.mod_eq_of_lt h]
    · next h => rw [show c % 64 = c - 64 by omega]

omit m c in
/-- A lane is in the mask when it lies in the first half of its run of 32. -/
theorem mask_at (j : Fin 64) : mask (ix1 j) = BitVec.ofBool (decide (j.val % 32 < 16)) := by
  have h : ∀ j : Fin 64, IntOp.cmpi .slt (Scalar.select (IntOp.andi (IntOp.cmpi .ne (IntOp.cmpi .slt (IntOp.remsi .host (BitVec.ofNat 32 j.val) 32#32) 0#32) 0#1) (IntOp.cmpi .ne (IntOp.remsi .host (BitVec.ofNat 32 j.val) 32#32) 0#32))
    (IntOp.addi (IntOp.remsi .host (BitVec.ofNat 32 j.val) 32#32) 32#32) (IntOp.remsi .host (BitVec.ofNat 32 j.val) 32#32)) 16#32 = BitVec.ofBool (decide (j.val % 32 < 16)) := by decide +kernel
  exact h j

omit m c in
/-- The mask, one row for each row of the sines. -/
theorem masked (i : S8192x64.Idx) : broadcastInDim S8192x64 ![0, 1] bcast_S1x64_S8192x64_0_1 (broadcastInDim S1x64 ![1] bcast_S64_S1x64_1 mask) i
    = BitVec.ofBool (decide ((i 1).val % 32 < 16)) :=
  ((broadcastInDim_apply _ _ _ _ (ix2 (0 : Fin 1) (i 1)) fun a => by fin_cases a <;> rfl).trans
    (broadcastInDim_apply _ _ _ _ (ix1 (i 1)) fun a => by fin_cases a; rfl)).trans (mask_at (i 1))

omit m c in
/-- The negated sines, as a table. -/
theorem reads_signed {S : ℕ → ℕ → EReal} {s : FVec Ideal S8192x64 .f32} (hs : Reads (m := 8192) (n := 64) s S) : Reads (m := 8192) (n := 64) (signed s) (right S) := fun i => by
  unfold signed right
  rw [WordCmp.select_at, masked, WordCmp.select_decide]
  exact if_congr Iff.rfl (congrArg (- ·) (hs i)) Ideal.ofBits_zero_f32

omit m c in
/-- The other sines, as a table. -/
theorem reads_unsigned {S : ℕ → ℕ → EReal} {s : FVec Ideal S8192x64 .f32} (hs : Reads (m := 8192) (n := 64) s S) : Reads (m := 8192) (n := 64) (unsigned s) (left S) := fun i => by
  unfold unsigned left
  rw [WordCmp.select_at, masked, WordCmp.select_decide]
  exact if_congr Iff.rfl Ideal.ofBits_zero_f32 (hs i)

/-- The cosines the kernel reads. -/
theorem reads_v31 : Reads (m := 8448) (n := 128) (V m c main_v31) (above 1 (table (m := 8192) (n := 64) (m ((c : Thread nD τ).loc main_arg12)))) := by
  rw [V_v31]
  exact reads_factors (word_one.trans EReal.coe_one) (reads_table (m := 8192) (n := 64) _)

/-- The factors of the entry to the right. -/
theorem reads_v34 : Reads (m := 8448) (n := 128) (V m c main_v34) (above 0 (right (table (m := 8192) (n := 64) (m ((c : Thread nD τ).loc main_arg13))))) := by
  rw [V_v34]
  exact reads_factors Ideal.ofBits_zero_f32 (reads_signed (reads_table (m := 8192) (n := 64) _))

/-- The factors of the entry to the left. -/
theorem reads_v37 : Reads (m := 8448) (n := 128) (V m c main_v37) (above 0 (left (table (m := 8192) (n := 64) (m ((c : Thread nD τ).loc main_arg13))))) := by
  rw [V_v37]
  exact reads_factors Ideal.ofBits_zero_f32 (reads_unsigned (reads_table (m := 8192) (n := 64) _))

/-! ### The blocks a point is given -/

section
omit m c
variable {p q : ℕ} {X : ℕ → ℕ → EReal}

/-- A block of whole rows of an array. -/
theorem reads_block {a b : ℕ} {x : (⟨2, ![a, b]⟩ : Shape).Idx → EReal} (hx : Reads x X) (o : ℕ) (f : (⟨2, ![p, q]⟩ : Shape).Idx → (⟨2, ![a, b]⟩ : Shape).Idx)
    (h0 : ∀ j, (f j 0).val = o + (j 0).val) (h1 : ∀ j, (f j 1).val = (j 1).val) : Reads (fun j => x (f j)) fun r => X (o + r) := fun j => by
  refine (hx (f j)).trans ?_
  rw [h0 j, h1 j]

/-- A block that is the whole of an array. -/
theorem reads_whole {a b : ℕ} {x : (⟨2, ![a, b]⟩ : Shape).Idx → EReal} (hx : Reads x X) (f : (⟨2, ![p, q]⟩ : Shape).Idx → (⟨2, ![a, b]⟩ : Shape).Idx)
    (h0 : ∀ j, (f j 0).val = (j 0).val) (h1 : ∀ j, (f j 1).val = (j 1).val) : Reads (fun j => x (f j)) X := fun j => by
  refine (hx (f j)).trans ?_
  rw [h0 j, h1 j]

/-- An array of rows is known by its blocks of 256 rows. -/
theorem reads_blocks {n T : ℕ} {x : (⟨2, ![256 * T, n]⟩ : Shape).Idx → EReal} (f : Fin T → (⟨2, ![256, n]⟩ : Shape).Idx → (⟨2, ![256 * T, n]⟩ : Shape).Idx)
    (h0 : ∀ t j, (f t j 0).val = 256 * t.val + (j 0).val) (h1 : ∀ t j, (f t j 1).val = (j 1).val) (h : ∀ t, Reads (fun j => x (f t j)) fun r => X (256 * t.val + r)) : Reads x X :=
  Reads.of fun r k => by
    have hr := r.isLt
    have e : f ⟨r.val / 256, by omega⟩ (ix2 (⟨r.val % 256, Nat.mod_lt _ (by norm_num)⟩ : Fin 256) k) = ix2 r k := funext fun a => Fin.ext (match a with
      | ⟨0, _⟩ => (h0 _ _).trans (Nat.div_add_mod r.val 256)
      | ⟨1, _⟩ => h1 _ _)
    have b := h ⟨r.val / 256, by omega⟩ (ix2 (⟨r.val % 256, Nat.mod_lt _ (by norm_num)⟩ : Fin 256) k)
    dsimp only at b
    rw [e] at b
    refine b.trans ?_
    show X (256 * (r.val / 256) + r.val % 256) k.val = _
    rw [Nat.div_add_mod]

/-- The row a block's row is. -/
theorem at_rows {i t : ℕ} (h : i = t) (j : (⟨2, ![p, q]⟩ : Shape).Idx) : i * 256 + 1 * (j 0).val = 256 * t + (j 0).val := by rw [h]; ring
/-- A coordinate of a block that starts at zero. -/
theorem at_start {s : Shape} {a : Fin s.rank} {i n : ℕ} (h : i = 0) (j : s.Idx) : i * n + 1 * (j a).val = (j a).val := by rw [h]; ring

end

/-- Rows `256 t` onwards: where the blocks of the factors lie. -/
theorem index_rows : ∀ t : Fin cfg0.N, ((win0_9.index t 0 = t.val ∧ win0_9.index t 1 = 0) ∧ (win0_10.index t 0 = t.val ∧ win0_10.index t 1 = 0) ∧ (win0_11.index t 0 = t.val ∧ win0_11.index t 1 = 0)) :=
  (by decide +kernel : ∀ t : Fin grid0.N, ((win0_9.index t 0 = t.val ∧ win0_9.index t 1 = 0) ∧ (win0_10.index t 0 = t.val ∧ win0_10.index t 1 = 0) ∧ (win0_11.index t 0 = t.val ∧ win0_11.index t 1 = 0)))

/-- The latent rows start one point later. -/
theorem index_latent : ∀ t : Fin cfg0.N, win0_0.index t 0 = t.val - 1 ∧ win0_0.index t 1 = 0 :=
  (by decide +kernel : ∀ t : Fin grid0.N, win0_0.index t 0 = t.val - 1 ∧ win0_0.index t 1 = 0)

/-- The other windows' block is the whole array. -/
theorem index_whole : ∀ t : Fin cfg0.N, (win0_1.index t 0 = 0 ∧ win0_1.index t 1 = 0) ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) :=
  (by decide +kernel : ∀ t : Fin grid0.N, (win0_1.index t 0 = 0 ∧ win0_1.index t 1 = 0) ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0))

/-- The latent rows of a point. -/
theorem rows0 (t : Fin cfg0.N) : Reads (m := 256) (n := 1024) (iblk m c 0 t) fun r => (table (m := 8192) (n := 1024) (m ((c : Thread nD τ).loc main_arg0))) (256 * (t.val - 1) + r) := fun j =>
  reads_block (a := 8192) (b := 1024) (p := 256) (q := 1024) (x := V m c main_arg0) (by rw [V_main_arg0]; exact reads_table _) (256 * (t.val - 1)) (fun j => ((cfg0.win 0).blk t).view.emb j)
    (at_rows (index_latent t).1) (at_start (index_latent t).2) j

/-- The context's rows. -/
theorem whole1 (t : Fin cfg0.N) : Reads (m := 256) (n := 1024) (iblk m c 1 t) (table (m := 256) (n := 1024) (m ((c : Thread nD τ).loc main_arg1))) := fun j =>
  reads_whole (a := 256) (b := 1024) (p := 256) (q := 1024) (x := V m c main_arg1) (by rw [V_main_arg1]; exact reads_table _) (fun j => ((cfg0.win 1).blk t).view.emb j)
    (at_start (index_whole t).1.1) (at_start (index_whole t).1.2) j

/-- The gain of the latent rows. -/
theorem whole2 (t : Fin cfg0.N) : Reads (m := 1) (n := 1024) (iblk m c 2 t) (gain (table (m := 1) (n := 1024) (m ((c : Thread nD τ).loc main_arg2))) (table (m := 1) (n := 1024) (m ((c : Thread nD τ).loc main_arg4)))) := fun j =>
  reads_whole (a := 1) (b := 1024) (p := 1) (q := 1024) (x := V m c main_v2) (reads_v2 m c) (fun j => ((cfg0.win 2).blk t).view.emb j)
    (at_start (index_whole t).2.1.1) (at_start (index_whole t).2.1.2) j

/-- The shift of the latent rows. -/
theorem whole3 (t : Fin cfg0.N) : Reads (m := 1) (n := 1024) (iblk m c 3 t) ((table (m := 1) (n := 1024) (m ((c : Thread nD τ).loc main_arg3)))) := fun j =>
  reads_whole (a := 1) (b := 1024) (p := 1) (q := 1024) (x := V m c main_arg3) (by rw [V_main_arg3]; exact reads_table _) (fun j => ((cfg0.win 3).blk t).view.emb j)
    (at_start (index_whole t).2.2.1.1) (at_start (index_whole t).2.2.1.2) j

/-- The gain of the context's rows. -/
theorem whole4 (t : Fin cfg0.N) : Reads (m := 1) (n := 1024) (iblk m c 4 t) (gain (table (m := 1) (n := 1024) (m ((c : Thread nD τ).loc main_arg2))) (table (m := 1) (n := 1024) (m ((c : Thread nD τ).loc main_arg6)))) := fun j =>
  reads_whole (a := 1) (b := 1024) (p := 1) (q := 1024) (x := V m c main_v5) (reads_v5 m c) (fun j => ((cfg0.win 4).blk t).view.emb j)
    (at_start (index_whole t).2.2.2.1.1) (at_start (index_whole t).2.2.2.1.2) j

/-- The shift of the context's rows. -/
theorem whole5 (t : Fin cfg0.N) : Reads (m := 1) (n := 1024) (iblk m c 5 t) ((table (m := 1) (n := 1024) (m ((c : Thread nD τ).loc main_arg5)))) := fun j =>
  reads_whole (a := 1) (b := 1024) (p := 1) (q := 1024) (x := V m c main_arg5) (by rw [V_main_arg5]; exact reads_table _) (fun j => ((cfg0.win 5).blk t).view.emb j)
    (at_start (index_whole t).2.2.2.2.1.1) (at_start (index_whole t).2.2.2.2.1.2) j

/-- The input weight, transposed. -/
theorem whole6 (t : Fin cfg0.N) : Reads (m := 2432) (n := 1024) (iblk m c 6 t) (fun r k => padded 2336 (table (m := 1024) (n := 2336) (m ((c : Thread nD τ).loc main_arg7))) k r) := fun j =>
  reads_whole (a := 2432) (b := 1024) (p := 2432) (q := 1024) (x := V m c main_v8) (reads_v8 m c) (fun j => ((cfg0.win 6).blk t).view.emb j)
    (at_start (index_whole t).2.2.2.2.2.1.1) (at_start (index_whole t).2.2.2.2.2.1.2) j

/-- The decay weights. -/
theorem whole7 (t : Fin cfg0.N) : Reads (m := 128) (n := 512) (iblk m c 7 t) (blocks (table (m := 16) (n := 256) (m ((c : Thread nD τ).loc main_arg8))) (table (m := 16) (n := 256) (m ((c : Thread nD τ).loc main_arg10)))) := fun j =>
  reads_whole (a := 128) (b := 512) (p := 128) (q := 512) (x := V m c main_v18) (reads_v18 m c) (fun j => ((cfg0.win 7).blk t).view.emb j)
    (at_start (index_whole t).2.2.2.2.2.2.1.1) (at_start (index_whole t).2.2.2.2.2.2.1.2) j

/-- The biases of the decays. -/
theorem whole8 (t : Fin cfg0.N) : Reads (m := 1) (n := 512) (iblk m c 8 t) (beside 256 (table (m := 1) (n := 256) (m ((c : Thread nD τ).loc main_arg9))) (table (m := 1) (n := 256) (m ((c : Thread nD τ).loc main_arg11)))) := fun j =>
  reads_whole (a := 1) (b := 512) (p := 1) (q := 512) (x := V m c main_v19) (reads_v19 m c) (fun j => ((cfg0.win 8).blk t).view.emb j)
    (at_start (index_whole t).2.2.2.2.2.2.2.1) (at_start (index_whole t).2.2.2.2.2.2.2.2) j

/-- The cosines of a point. -/
theorem rows9 (t : Fin cfg0.N) : Reads (m := 256) (n := 128) (iblk m c 9 t) fun r => above 1 (table (m := 8192) (n := 64) (m ((c : Thread nD τ).loc main_arg12))) (256 * t.val + r) := fun j =>
  reads_block (a := 8448) (b := 128) (p := 256) (q := 128) (x := V m c main_v31) (reads_v31 m c) (256 * t.val) (fun j => ((cfg0.win 9).blk t).view.emb j)
    (at_rows (index_rows t).1.1) (at_start (index_rows t).1.2) j

/-- The factors of the entry to the right at a point. -/
theorem rows10 (t : Fin cfg0.N) : Reads (m := 256) (n := 128) (iblk m c 10 t) fun r => above 0 (right (table (m := 8192) (n := 64) (m ((c : Thread nD τ).loc main_arg13)))) (256 * t.val + r) := fun j =>
  reads_block (a := 8448) (b := 128) (p := 256) (q := 128) (x := V m c main_v34) (reads_v34 m c) (256 * t.val) (fun j => ((cfg0.win 10).blk t).view.emb j)
    (at_rows (index_rows t).2.1.1) (at_start (index_rows t).2.1.2) j

/-- The factors of the entry to the left at a point. -/
theorem rows11 (t : Fin cfg0.N) : Reads (m := 256) (n := 128) (iblk m c 11 t) fun r => above 0 (left (table (m := 8192) (n := 64) (m ((c : Thread nD τ).loc main_arg13)))) (256 * t.val + r) := fun j =>
  reads_block (a := 8448) (b := 128) (p := 256) (q := 128) (x := V m c main_v37) (reads_v37 m c) (256 * t.val) (fun j => ((cfg0.win 11).blk t).view.emb j)
    (at_rows (index_rows t).2.2.1) (at_start (index_rows t).2.2.2) j

end Cert.InprojEntry

end
-- ==== Proof.InprojFinal.lean ====
module

public import proofs.«01_k».proof.Proof.InprojValue
public import proofs.«01_k».proof.Proof.InprojEntry

@[expose] public section

/-! The input projection's result arrays, over the context and the whole sequence. -/

noncomputable section

namespace Cert.InprojFinal

open Idealize.ShloMosaic hiding ix2
open Idealize.ShloMosaic.TcCoe
open Idealize.ShloMosaic.ValueIdx Idealize.SL.Sem Cert.Tables Cert.Products Cert.Mix Cert.Inproj Cert.InprojFrame Cert.InprojBlocks Cert.InprojEntry Cert.Kernel8Ideal Cert.Kernel8Ideal.Gen
open scoped BigOperators

variable (m : (ℓ : Loc nD τ sig) → Buf (Elt Ideal) ℓ) (c : Dev nD)

/-- The latent rows. -/
abbrev tX : ℕ → ℕ → EReal := table (m := 8192) (n := 1024) (m ((c : Thread nD τ).loc main_arg0))
/-- The context's rows. -/
abbrev tY : ℕ → ℕ → EReal := table (m := 256) (n := 1024) (m ((c : Thread nD τ).loc main_arg1))
/-- The gain of the norm. -/
abbrev tG : ℕ → ℕ → EReal := table (m := 1) (n := 1024) (m ((c : Thread nD τ).loc main_arg2))
/-- The shift of the latent rows. -/
abbrev tS : ℕ → ℕ → EReal := table (m := 1) (n := 1024) (m ((c : Thread nD τ).loc main_arg3))
/-- The scale of the latent rows. -/
abbrev tC : ℕ → ℕ → EReal := table (m := 1) (n := 1024) (m ((c : Thread nD τ).loc main_arg4))
/-- The shift of the context's rows. -/
abbrev tS1 : ℕ → ℕ → EReal := table (m := 1) (n := 1024) (m ((c : Thread nD τ).loc main_arg5))
/-- The scale of the context's rows. -/
abbrev tC1 : ℕ → ℕ → EReal := table (m := 1) (n := 1024) (m ((c : Thread nD τ).loc main_arg6))
/-- The input weight. -/
abbrev tW : ℕ → ℕ → EReal := table (m := 1024) (n := 2336) (m ((c : Thread nD τ).loc main_arg7))
/-- The weight of the forward decays. -/
abbrev tWf : ℕ → ℕ → EReal := table (m := 16) (n := 256) (m ((c : Thread nD τ).loc main_arg8))
/-- The bias of the forward decays. -/
abbrev tBf : ℕ → ℕ → EReal := table (m := 1) (n := 256) (m ((c : Thread nD τ).loc main_arg9))
/-- The weight of the backward decays. -/
abbrev tWb : ℕ → ℕ → EReal := table (m := 16) (n := 256) (m ((c : Thread nD τ).loc main_arg10))
/-- The bias of the backward decays. -/
abbrev tBb : ℕ → ℕ → EReal := table (m := 1) (n := 256) (m ((c : Thread nD τ).loc main_arg11))
/-- The cosines. -/
abbrev tCos : ℕ → ℕ → EReal := table (m := 8192) (n := 64) (m ((c : Thread nD τ).loc main_arg12))
/-- The sines. -/
abbrev tSin : ℕ → ℕ → EReal := table (m := 8192) (n := 64) (m ((c : Thread nD τ).loc main_arg13))
/-- The hidden rows. -/
abbrev tH : ℕ → ℕ → EReal := hidden (tX m c) (tY m c) (tG m c) (tS m c) (tC m c) (tS1 m c) (tC1 m c)
/-- Their product with the input weight. -/
abbrev tP : ℕ → ℕ → EReal := projected (tH m c) (tW m c)

omit m c in
/-- The grid's coordinate is the point's number. -/
theorem coords_val : ∀ t : Fin cfg0.N, (grid0.coords t 0).val = t.val := (by decide +kernel : ∀ t : Fin grid0.N, (grid0.coords t 0).val = t.val)

/-- The hidden rows of a point. -/
theorem point_hidden (t : Fin cfg0.N) : Reads (m := 256) (n := 1024)
    (k0_pay5 (F := Ideal) (grid0.coords t) (iblk m c 4 t) (iblk m c 2 t) (iblk m c 5 t) (iblk m c 3 t) (iblk m c 1 t) (iblk m c 0 t)) fun r => tH m c (256 * t.val + r) := by
  have h := reads_hidden (grid0.coords t) (rows0 m c t) (whole1 m c t) (whole2 m c t) (whole3 m c t) (whole4 m c t) (whole5 m c t)
  rw [coords_val] at h
  exact reads_congr h fun r hr k _ => hidden_block (tX m c) (tY m c) (tG m c) (tS m c) (tC m c) (tS1 m c) (tC1 m c) t.val r k hr

/-- Their product with the input weight. -/
theorem point_projected (t : Fin cfg0.N) : Reads (m := 256) (n := 2432)
    (k0_pay6 (F := Ideal) (grid0.coords t) (iblk m c 4 t) (iblk m c 2 t) (iblk m c 5 t) (iblk m c 3 t) (iblk m c 1 t) (iblk m c 0 t) (iblk m c 6 t)) fun r => tP m c (256 * t.val + r) :=
  reads_congr (reads_projected (grid0.coords t) (point_hidden m c t) (whole6 m c t)) fun r _ k _ => projected_sum (tH m c) (tW m c) (256 * t.val + r) k

omit m c in
/-- The factors repeat every 64 columns. -/
theorem above_mod (k : EReal) (X : ℕ → ℕ → EReal) (r c : ℕ) : above k X r (c % 128) = above k X r c := by
  unfold above
  rw [show c % 128 % 64 = c % 64 by omega]

/-- The queries of a point. -/
theorem point_queries (t : Fin cfg0.N) : Reads (m := 256) (n := 512) (k0_pay10 (F := Ideal)
    (k0_pay6 (grid0.coords t) (iblk m c 4 t) (iblk m c 2 t) (iblk m c 5 t) (iblk m c 3 t) (iblk m c 1 t) (iblk m c 0 t) (iblk m c 6 t)) (k0_pay7 (iblk m c 9 t)) (iblk m c 10 t) (iblk m c 11 t))
    fun r k => rotated 0 (tP m c) (tCos m c) (tSin m c) (256 * t.val + r) k * eighth :=
  reads_congr (reads_queries (point_projected m c t) (rows9 m c t) (rows10 m c t) (rows11 m c t)) fun r _ k hk => by
    rw [above_mod, above_mod, above_mod, rotated_sum 512 (by norm_num) 0 (tP m c) (tCos m c) (tSin m c) (256 * t.val + r) k hk]

/-- The keys of a point. -/
theorem point_keys (t : Fin cfg0.N) : Reads (m := 256) (n := 128) (k0_pay11 (F := Ideal)
    (k0_pay6 (grid0.coords t) (iblk m c 4 t) (iblk m c 2 t) (iblk m c 5 t) (iblk m c 3 t) (iblk m c 1 t) (iblk m c 0 t) (iblk m c 6 t)) (k0_pay7 (iblk m c 9 t)) (iblk m c 10 t) (iblk m c 11 t))
    fun r k => rotated 512 (tP m c) (tCos m c) (tSin m c) (256 * t.val + r) k :=
  reads_congr (reads_keys (point_projected m c t) (rows9 m c t) (rows10 m c t) (rows11 m c t)) fun r _ k hk =>
    rotated_sum 128 (by norm_num) 512 (tP m c) (tCos m c) (tSin m c) (256 * t.val + r) k hk

/-- The logarithms of the decays of a point. -/
theorem point_decays (t : Fin cfg0.N) : Reads (m := 256) (n := 512) (k0_pay4 (F := Ideal)
    (k0_pay6 (grid0.coords t) (iblk m c 4 t) (iblk m c 2 t) (iblk m c 5 t) (iblk m c 3 t) (iblk m c 1 t) (iblk m c 0 t) (iblk m c 6 t)) (iblk m c 7 t) (iblk m c 8 t))
    fun r k => decay (logit (tP m c) (tWf m c) (tBf m c) (tWb m c) (tBb m c) (256 * t.val + r) k) :=
  reads_congr (reads_decays (point_projected m c t) (whole7 m c t) (whole8 m c t)) fun r _ k _ =>
    congrArg decay (logit_sum (tP m c) (tWf m c) (tBf m c) (tWb m c) (tBb m c) (256 * t.val + r) k)

omit m c in
/-- Where the blocks of the results lie. -/
theorem index_out : ∀ t : Fin cfg0.N, (win0_12.index t 0 = t.val ∧ win0_12.index t 1 = 0) ∧ (win0_13.index t 0 = t.val ∧ win0_13.index t 1 = 0) ∧ (win0_14.index t 0 = t.val ∧ win0_14.index t 1 = 0)
    ∧ (win0_15.index t 0 = t.val ∧ win0_15.index t 1 = 0) ∧ (win0_16.index t 0 = t.val ∧ win0_16.index t 1 = 0) ∧ (win0_17.index t 0 = t.val ∧ win0_17.index t 1 = 0)
    ∧ (win0_18.index t 0 = t.val ∧ win0_18.index t 1 = 0) ∧ (win0_20.index t 0 = t.val ∧ win0_20.index t 1 = 0) ∧ (win0_21.index t 0 = t.val ∧ win0_21.index t 1 = 0) :=
  (by decide +kernel : ∀ t : Fin grid0.N, (win0_12.index t 0 = t.val ∧ win0_12.index t 1 = 0) ∧ (win0_13.index t 0 = t.val ∧ win0_13.index t 1 = 0) ∧ (win0_14.index t 0 = t.val ∧ win0_14.index t 1 = 0)
    ∧ (win0_15.index t 0 = t.val ∧ win0_15.index t 1 = 0) ∧ (win0_16.index t 0 = t.val ∧ win0_16.index t 1 = 0) ∧ (win0_17.index t 0 = t.val ∧ win0_17.index t 1 = 0)
    ∧ (win0_18.index t 0 = t.val ∧ win0_18.index t 1 = 0) ∧ (win0_20.index t 0 = t.val ∧ win0_20.index t 1 = 0) ∧ (win0_21.index t 0 = t.val ∧ win0_21.index t 1 = 0))

/-- The hidden rows. -/
theorem array_12 : Reads (m := 8448) (n := 1024) ((dats m 0 c).arrAt 12 cfg0.N) (tH m c) :=
  reads_blocks (n := 1024) (T := 33) (fun t j => ((cfg0.win 12).blk t).view.emb j) (fun t => at_rows (index_out t).1.1) (fun t => at_start (index_out t).1.2) fun t j =>
    (congrFun ((InprojValue.blocks12 m c t (flush0_12 t)).trans ((InprojValue.flushed12 m c t).trans (congrArg _ (out_12 _ _ _ _ _ _ _ _ _ _ _ _ _)))) j).trans ((point_hidden m c t :) j)

/-- The queries. -/
theorem array_13 : Reads (m := 8448) (n := 512) ((dats m 0 c).arrAt 13 cfg0.N) (fun r k => rotated 0 (tP m c) (tCos m c) (tSin m c) r k * eighth) :=
  reads_blocks (n := 512) (T := 33) (fun t j => ((cfg0.win 13).blk t).view.emb j) (fun t => at_rows (index_out t).2.1.1) (fun t => at_start (index_out t).2.1.2) fun t j =>
    (congrFun ((InprojValue.blocks13 m c t (flush0_13 t)).trans ((InprojValue.flushed13 m c t).trans (congrArg _ (out_13 _ _ _ _ _ _ _ _ _ _ _ _ _)))) j).trans ((point_queries m c t :) j)

/-- The keys. -/
theorem array_14 : Reads (m := 8448) (n := 128) ((dats m 0 c).arrAt 14 cfg0.N) (rotated 512 (tP m c) (tCos m c) (tSin m c)) :=
  reads_blocks (n := 128) (T := 33) (fun t j => ((cfg0.win 14).blk t).view.emb j) (fun t => at_rows (index_out t).2.2.1.1) (fun t => at_start (index_out t).2.2.1.2) fun t j =>
    (congrFun ((InprojValue.blocks14 m c t (flush0_14 t)).trans ((InprojValue.flushed14 m c t).trans (congrArg _ (out_14 _ _ _ _ _ _ _ _ _ _ _ _ _)))) j).trans ((point_keys m c t :) j)

/-- The values. -/
theorem array_15 : Reads (m := 8448) (n := 128) ((dats m 0 c).arrAt 15 cfg0.N) (fun r k => tP m c r (640 + k)) :=
  reads_blocks (n := 128) (T := 33) (fun t j => ((cfg0.win 15).blk t).view.emb j) (fun t => at_rows (index_out t).2.2.2.1.1) (fun t => at_start (index_out t).2.2.2.1.2) fun t j =>
    (congrFun ((InprojValue.blocks15 m c t (flush0_15 t)).trans ((InprojValue.flushed15 m c t).trans (congrArg _ (out_15 _ _ _ _ _ _ _ _ _ _ _ _ _)))) j).trans ((reads_values (point_projected m c t) :) j)

/-- The queries of the linear attention. -/
theorem array_16 : Reads (m := 8448) (n := 256) ((dats m 0 c).arrAt 16 cfg0.N) (fun r k => tP m c r (768 + k) * factor) :=
  reads_blocks (n := 256) (T := 33) (fun t j => ((cfg0.win 16).blk t).view.emb j) (fun t => at_rows (index_out t).2.2.2.2.1.1) (fun t => at_start (index_out t).2.2.2.2.1.2) fun t j =>
    (congrFun ((InprojValue.blocks16 m c t (flush0_16 t)).trans ((InprojValue.flushed16 m c t).trans (congrArg _ (out_16 _ _ _ _ _ _ _ _ _ _ _ _ _)))) j).trans ((reads_queries2 (point_projected m c t) :) j)

/-- Its keys. -/
theorem array_17 : Reads (m := 8448) (n := 256) ((dats m 0 c).arrAt 17 cfg0.N) (fun r k => tP m c r (1024 + k)) :=
  reads_blocks (n := 256) (T := 33) (fun t j => ((cfg0.win 17).blk t).view.emb j) (fun t => at_rows (index_out t).2.2.2.2.2.1.1) (fun t => at_start (index_out t).2.2.2.2.2.1.2) fun t j =>
    (congrFun ((InprojValue.blocks17 m c t (flush0_17 t)).trans ((InprojValue.flushed17 m c t).trans (congrArg _ (out_17 _ _ _ _ _ _ _ _ _ _ _ _ _)))) j).trans ((reads_keys2 (point_projected m c t) :) j)

/-- Its values. -/
theorem array_18 : Reads (m := 8448) (n := 512) ((dats m 0 c).arrAt 18 cfg0.N) (fun r k => tP m c r (1280 + k)) :=
  reads_blocks (n := 512) (T := 33) (fun t j => ((cfg0.win 18).blk t).view.emb j) (fun t => at_rows (index_out t).2.2.2.2.2.2.1.1) (fun t => at_start (index_out t).2.2.2.2.2.2.1.2) fun t j =>
    (congrFun ((InprojValue.blocks18 m c t (flush0_18 t)).trans ((InprojValue.flushed18 m c t).trans (congrArg _ (out_18 _ _ _ _ _ _ _ _ _ _ _ _ _)))) j).trans ((reads_values2 (point_projected m c t) :) j)

/-- The columns of the decays. -/
theorem array_20 : Reads (m := 8448) (n := 128) ((dats m 0 c).arrAt 20 cfg0.N) (fun r k => tP m c r (2304 + k)) :=
  reads_blocks (n := 128) (T := 33) (fun t j => ((cfg0.win 20).blk t).view.emb j) (fun t => at_rows (index_out t).2.2.2.2.2.2.2.1.1) (fun t => at_start (index_out t).2.2.2.2.2.2.2.1.2) fun t j =>
    (congrFun ((InprojValue.blocks20 m c t (flush0_20 t)).trans ((InprojValue.flushed20 m c t).trans (congrArg _ (out_20 _ _ _ _ _ _ _ _ _ _ _ _ _)))) j).trans ((reads_tail (point_projected m c t) :) j)

/-- The logarithms of the decays. -/
theorem array_21 : Reads (m := 8448) (n := 512) ((dats m 0 c).arrAt 21 cfg0.N) (fun r k => decay (logit (tP m c) (tWf m c) (tBf m c) (tWb m c) (tBb m c) r k)) :=
  reads_blocks (n := 512) (T := 33) (fun t j => ((cfg0.win 21).blk t).view.emb j) (fun t => at_rows (index_out t).2.2.2.2.2.2.2.2.1) (fun t => at_start (index_out t).2.2.2.2.2.2.2.2.2) fun t j =>
    (congrFun ((InprojValue.blocks21 m c t (flush0_21 t)).trans ((InprojValue.flushed21 m c t).trans (congrArg _ (out_21 _ _ _ _ _ _ _ _ _ _ _ _ _)))) j).trans ((point_decays m c t :) j)

/-- The gates' blocks start one point later. -/
theorem index_gates : ∀ t : Fin 32, win0_19.index (⟨t.val + 1, Nat.succ_lt_succ t.isLt⟩ : Fin 33) 0 = t.val ∧ win0_19.index (⟨t.val + 1, Nat.succ_lt_succ t.isLt⟩ : Fin 33) 1 = 0
    ∧ (cfg0.win 19).flush (⟨t.val + 1, Nat.succ_lt_succ t.isLt⟩ : Fin 33) = true := by decide +kernel

/-- Two points that write the gates back write different blocks. -/
theorem apart : ∀ t t' : Fin cfg0.N, (cfg0.win 19).flush t = true → (cfg0.win 19).flush t' = true → win0_19.index t = win0_19.index t' → t = t' :=
  (by decide +kernel : ∀ t t' : Fin grid0.N, win0_19.flush t = true → win0_19.flush t' = true → win0_19.index t = win0_19.index t' → t = t')

/-- The block of gates a point writes back, read from the result. -/
theorem blocks19 (t : Fin cfg0.N) (hf : (cfg0.win 19).flush t = true) : ((cfg0.win 19).blk t).view.read (Elt Ideal) ((dats m 0 c).arrAt 19 cfg0.N) = (dats m 0 c).flushed 19 t :=
  (dats m 0 c).read_blk_arrAt_eq_flushed 19 (fun t t' hf hf' hne => (cfg0.win 19).disjoint_blk fun h => hne (apart t t' hf hf' h)) cfg0.N t t.isLt hf

/-- The gates. -/
theorem array_19 : Reads (m := 8192) (n := 512) ((dats m 0 c).arrAt 19 cfg0.N) (fun r k => tP m c (256 + r) (1792 + k)) :=
  reads_blocks (n := 512) (T := 32) (fun t j => ((cfg0.win 19).blk (⟨t.val + 1, Nat.succ_lt_succ t.isLt⟩ : Fin 33)).view.emb j) (fun t => at_rows (index_gates t).1) (fun t => at_start (index_gates t).2.1) fun t j =>
    (congrFun ((blocks19 m c _ (index_gates t).2.2).trans ((InprojValue.flushed19 m c _).trans (congrArg _ (out_19 _ _ _ _ _ _ _ _ _ _ _ _ _)))) j).trans
      (reads_congr (Y := fun r k => tP m c (256 + (256 * t.val + r)) (1792 + k)) (reads_gates (point_projected m c (⟨t.val + 1, Nat.succ_lt_succ t.isLt⟩ : Fin 33))) (fun r _ k _ => by
        show tP m c (256 * (t.val + 1) + r) (1792 + k) = _
        rw [show 256 * (t.val + 1) + r = 256 + (256 * t.val + r) by ring]) j)

end Cert.InprojFinal

end
-- ==== Proof.InprojTurn.lean ====
module

public import proofs.«01_k».proof.Proof.Inproj

@[expose] public section

/-! How the reference turns its rows: it views each row as heads of 64 columns, each head as two runs of two halves of 16 columns,
swaps the halves of a run, the one that moves to the left with its sign changed, and adds up two products. Any number of heads. -/

noncomputable section

namespace Cert.InprojTurn

open Idealize.ShloMosaic hiding ix2 ix3 ix5
open Idealize.ShloMosaic.ValueIdx Idealize.SL.Sem Cert.Tables Cert.Products Cert.Inproj

/-- The rows as `K` heads. -/
abbrev Heads (K : ℕ) : Shape := ⟨3, ![8192, K, 64]⟩
/-- The heads as two runs of two halves. -/
abbrev Pairs (K : ℕ) : Shape := ⟨5, ![8192, K, 2, 2, 16]⟩
/-- One half of each run. -/
abbrev Half (K : ℕ) : Shape := ⟨5, ![8192, K, 2, 1, 16]⟩

variable {n K : ℕ} {X C S : ℕ → ℕ → EReal}

/-- An entry of a head is an entry of its row. -/
theorem heads_split (hn : n = K * 64) {x : (⟨2, ![8192, n]⟩ : Shape).Idx → EReal} (hx : Reads x X) (h : (⟨2, ![8192, n]⟩ : Shape).ShapeCasts (Heads K)) (i : (Heads K).Idx) :
    shapeCast (Heads K) x h i = X (i 0).val ((i 1).val * 64 + (i 2).val) := by
  have h1 : (i 1).val < K := (i 1).isLt
  have h2 : (i 2).val < 64 := (i 2).isLt
  exact (shapeCast_apply x h i (ix2 (i 0) ⟨(i 1).val * 64 + (i 2).val, by omega⟩) (by
    rewrite [Shape.rowMajor_val_two, Shape.rowMajor_val_three]
    show (i 0).val * n + ((i 1).val * 64 + (i 2).val) = ((i 0).val * K + (i 1).val) * 64 + (i 2).val
    rw [hn]
    ring)).trans (hx _)

/-- An entry of a half is an entry of its head. -/
theorem pairs_split {y : (Heads K).Idx → EReal} (hy : ∀ i, y i = X (i 0).val ((i 1).val * 64 + (i 2).val)) (h : (Heads K).ShapeCasts (Pairs K)) (i : (Pairs K).Idx) :
    shapeCast (Pairs K) y h i = X (i 0).val ((i 1).val * 64 + ((i 2).val * 32 + (i 3).val * 16 + (i 4).val)) := by
  have h2 : (i 2).val < 2 := (i 2).isLt
  have h3 : (i 3).val < 2 := (i 3).isLt
  have h4 : (i 4).val < 16 := (i 4).isLt
  exact (shapeCast_apply y h i (ix3 (i 0) (i 1) ⟨(i 2).val * 32 + (i 3).val * 16 + (i 4).val, by omega⟩) (by
    rewrite [Shape.rowMajor_val_three, Shape.rowMajor_val_five]
    show ((i 0).val * K + (i 1).val) * 64 + ((i 2).val * 32 + (i 3).val * 16 + (i 4).val)
      = ((((i 0).val * K + (i 1).val) * 2 + (i 2).val) * 2 + (i 3).val) * 16 + (i 4).val
    ring)).trans (hy _)

/-- The halves put back in the other order. -/
theorem pairs_swap {u v : (Half K).Idx → EReal}
    (hu : ∀ i, u i = -X (i 0).val ((i 1).val * 64 + ((i 2).val * 32 + 16 + (i 4).val)))
    (hv : ∀ i, v i = X (i 0).val ((i 1).val * 64 + ((i 2).val * 32 + (i 4).val)))
    (h : Shape.Concatenates [Half K, Half K] (Pairs K) 3) (i : (Pairs K).Idx) :
    concatenate (Pairs K) 3 [⟨Half K, u⟩, ⟨Half K, v⟩] h i
      = if (i 3).val = 0 then -X (i 0).val ((i 1).val * 64 + ((i 2).val * 32 + 16 + (i 4).val))
        else X (i 0).val ((i 1).val * 64 + ((i 2).val * 32 + (i 4).val)) := by
  have h3 : (i 3).val < 2 := (i 3).isLt
  split
  · next hc =>
    exact (concatenate_apply_piece 3 [⟨Half K, u⟩, ⟨Half K, v⟩] h i 0 (by simp) _ u rfl rfl 0 rfl (ix5 (i 0) (i 1) (i 2) ⟨0, by omega⟩ (i 4))
      (fun b hb => match b with
        | ⟨0, _⟩ => rfl
        | ⟨1, _⟩ => rfl
        | ⟨2, _⟩ => rfl
        | ⟨3, _⟩ => absurd rfl hb
        | ⟨4, _⟩ => rfl) (by show 0 + 0 = (i 3).val; omega)).trans (hu _)
  · next hc =>
    exact (concatenate_apply_piece 3 [⟨Half K, u⟩, ⟨Half K, v⟩] h i 1 (by simp) _ v rfl rfl 1 (by simp) (ix5 (i 0) (i 1) (i 2) ⟨0, by omega⟩ (i 4))
      (fun b hb => match b with
        | ⟨0, _⟩ => rfl
        | ⟨1, _⟩ => rfl
        | ⟨2, _⟩ => rfl
        | ⟨3, _⟩ => absurd rfl hb
        | ⟨4, _⟩ => rfl) (by show 1 + 0 = (i 3).val; omega)).trans (hv _)

/-- The swapped halves as heads again. -/
theorem heads_join {z : (Pairs K).Idx → EReal}
    (hz : ∀ i, z i = if (i 3).val = 0 then -X (i 0).val ((i 1).val * 64 + ((i 2).val * 32 + 16 + (i 4).val))
        else X (i 0).val ((i 1).val * 64 + ((i 2).val * 32 + (i 4).val)))
    (h : (Pairs K).ShapeCasts (Heads K)) (i : (Heads K).Idx) :
    shapeCast (Heads K) z h i = if (i 2).val % 32 < 16 then -X (i 0).val ((i 1).val * 64 + (i 2).val + 16) else X (i 0).val ((i 1).val * 64 + (i 2).val - 16) := by
  have h2 : (i 2).val < 64 := (i 2).isLt
  refine (shapeCast_apply z h i (ix5 (i 0) (i 1) ⟨(i 2).val / 32, by omega⟩ ⟨(i 2).val / 16 % 2, by omega⟩ ⟨(i 2).val % 16, by omega⟩) (by
    rewrite [Shape.rowMajor_val_five, Shape.rowMajor_val_three]
    show ((((i 0).val * K + (i 1).val) * 2 + (i 2).val / 32) * 2 + (i 2).val / 16 % 2) * 16 + (i 2).val % 16 = ((i 0).val * K + (i 1).val) * 64 + (i 2).val
    generalize (i 0).val * K + (i 1).val = q
    omega)).trans ((hz _).trans ?_)
  show (if (i 2).val / 16 % 2 = 0 then -X (i 0).val ((i 1).val * 64 + ((i 2).val / 32 * 32 + 16 + (i 2).val % 16))
    else X (i 0).val ((i 1).val * 64 + ((i 2).val / 32 * 32 + (i 2).val % 16))) = _
  by_cases hc : (i 2).val % 32 < 16
  · rw [if_pos hc, if_pos (by omega)]
    exact congrArg (fun k => -X (i 0).val k) (by omega)
  · rw [if_neg hc, if_neg (by omega)]
    exact congrArg (X (i 0).val) (by omega)

/-- The two products added up are the turned rows. -/
theorem heads_turned (hn : n = K * 64) {w : (Heads K).Idx → EReal}
    (hw : ∀ i, w i = X (i 0).val ((i 1).val * 64 + (i 2).val) * C (i 0).val (i 2).val
      + (if (i 2).val % 32 < 16 then -X (i 0).val ((i 1).val * 64 + (i 2).val + 16) else X (i 0).val ((i 1).val * 64 + (i 2).val - 16)) * S (i 0).val (i 2).val)
    (h : (Heads K).ShapeCasts (⟨2, ![8192, n]⟩ : Shape)) :
    Reads (shapeCast (⟨2, ![8192, n]⟩ : Shape) w h) fun r c => turned (X r) (C r) (S r) c := .of fun r c => by
  have hc := c.isLt
  refine (shapeCast_apply w h (ix2 r c) (ix3 r ⟨c.val / 64, by omega⟩ ⟨c.val % 64, by omega⟩) (by
    rewrite [Shape.rowMajor_val_three, Shape.rowMajor_val_two]
    show (r.val * K + c.val / 64) * 64 + c.val % 64 = r.val * n + c.val
    have e : r.val * n = r.val * K * 64 := by rw [hn]; ring
    rw [e]
    generalize r.val * K = q
    omega)).trans ((hw _).trans ?_)
  show X r.val (c.val / 64 * 64 + c.val % 64) * C r.val (c.val % 64)
      + (if c.val % 64 % 32 < 16 then -X r.val (c.val / 64 * 64 + c.val % 64 + 16) else X r.val (c.val / 64 * 64 + c.val % 64 - 16)) * S r.val (c.val % 64) = _
  unfold turned
  rw [show c.val / 64 * 64 + c.val % 64 = c.val by omega, show c.val % 64 % 32 = c.val % 32 by omega]

end Cert.InprojTurn
-- ==== Proof.InprojReference.lean ====
module

public import proofs.«01_k».proof.Proof.InprojTurn
public import proofs.«01_k».proof.Proof.Gen.Reference8Ideal.Read

@[expose] public section

/-! The reference of the input projection computes the same tables, operation by operation. -/

noncomputable section

namespace Cert.InprojReference

open Idealize.ShloMosaic hiding ix2
open Idealize.ShloMosaic.TcCoe
open Idealize.ShloMosaic.ValueIdx Idealize.SL.Sem Cert.Tables Cert.Products Cert.Mix Cert.Inproj Cert.InprojTurn Cert.Reference8Ideal Cert.Reference8Ideal.Gen Cert.Reference8Ideal.Read
open scoped BigOperators

/-- The word of sixteen. -/
theorem word_16 : (Scalar.ofBits .f32 0x41800000#32 : Ideal .f32) = ((16 : ℝ) : EReal) := by
  show Ideal.ofBits .f32 0x41800000#32 = _
  simp [Ideal.ofBits, Ideal.ieee]
  rw [← EReal.coe_mul]
  norm_num

/-- A number is equal to itself, so the reference's softplus is its second branch. -/
theorem decayed (e z w : EReal) (hz : z = 0) (hw : w = ((16 : ℝ) : EReal)) :
    Ideal.div (-(Scalar.select (Ideal.cmp .une (-e - z) (-e - z)) (-e + z)
      (max (-e) z + Ideal.log1p (Ideal.exp (-max (-e - z) (-(-e - z))))))) w = decay e := by
  rw [hz, hw, show Ideal.cmp .une (-e - 0) (-e - 0) = 0#1 from congrArg BitVec.ofBool (decide_eq_false fun h => h rfl)]
  exact decay_softplus e

/-- The rows below the first 256 turned, those kept. -/
theorem below_rotated (o : ℕ) (P C S : ℕ → ℕ → EReal) (r c : ℕ) :
    below 256 (fun r c => P (0 + r) (o + c)) (fun r c => turned (fun c => P (256 + r) (o + c)) (C r) (S r) c) r c = rotated o P C S r c := by
  unfold below rotated
  by_cases h : r < 256
  · rw [if_pos h, if_pos h]
    exact congrArg (fun k => P k (o + c)) (Nat.zero_add r)
  · rw [if_neg h, if_neg h]
    exact congrArg (fun q => turned (fun k => P q (o + k)) (C (r - 256)) (S (r - 256)) c) (by omega : 256 + (r - 256) = r)

variable {x0 : (⟨S8192x1024, .f32⟩ : BufTy).Contents (Elt Ideal)} {x1 : (⟨S256x1024, .f32⟩ : BufTy).Contents (Elt Ideal)}
  {x2 x3 x4 x5 x6 : (⟨S1x1024, .f32⟩ : BufTy).Contents (Elt Ideal)} {x7 : (⟨S1024x2336, .f32⟩ : BufTy).Contents (Elt Ideal)}
  {x8 x10 : (⟨S16x256, .f32⟩ : BufTy).Contents (Elt Ideal)} {x9 x11 : (⟨S1x256, .f32⟩ : BufTy).Contents (Elt Ideal)}
  {x12 x13 : (⟨S8192x64, .f32⟩ : BufTy).Contents (Elt Ideal)}
  {X Y G S C S1 C1 W Wf Bf Wb Bb Cos Sin H P : ℕ → ℕ → EReal}

/-- The context's rows, normalised and modulated. -/
theorem context (h1 : Reads (m := 256) (n := 1024) x1 Y) (h2 : Reads (m := 1) (n := 1024) x2 G) (h5 : Reads (m := 1) (n := 1024) x5 S1) (h6 : Reads (m := 1) (n := 1024) x6 C1) :
    Reads (m := 256) (n := 1024) (val_main_v17 (F := Ideal) x1 x2 x5 x6) (modulated Y (gain G C1) S1) := fun i => by
  rw [val_main_v17_apply, val_main_v16_apply, val_main_v15_apply, val_main_v14_apply, val_main_v13_apply, val_main_v12_apply, val_main_v11_apply, val_main_v10_apply,
    val_main_v9_apply, val_main_v8_apply, val_main_v7_apply, val_main_v6_apply, val_main_v5_apply, val_main_v4_apply, val_main_v3_apply, val_main_v2_apply, val_main_v1_apply]
  unfold modulated gain inverse
  rw [← mul_assoc]
  refine congrArg₂ (· + ·) (congrArg₂ (· * ·) (congrArg₂ (· * ·) (congrArg₂ (· * ·) (h1 i) (congrArg Ideal.rsqrt (congrArg₂ (· + ·) (congrArg₂ Ideal.div ?_ word_1024) word_eps))) (h2 _))
    (congrArg₂ (· + ·) (word_one.trans EReal.coe_one) (h6 _))) (h5 _)
  refine (congrArg₂ (· + ·) Ideal.ofBits_zero_f32 rfl).trans ((zero_add _).trans ?_)
  rw [Finset.sum_range]
  exact Finset.sum_congr rfl fun j _ => congrArg₂ (· * ·) (h1 _) (h1 _)

/-- The latent rows, normalised and modulated. -/
theorem latent (h0 : Reads (m := 8192) (n := 1024) x0 X) (h2 : Reads (m := 1) (n := 1024) x2 G) (h3 : Reads (m := 1) (n := 1024) x3 S) (h4 : Reads (m := 1) (n := 1024) x4 C) :
    Reads (m := 8192) (n := 1024) (val_main_v35 (F := Ideal) x0 x2 x3 x4) (modulated X (gain G C) S) := fun i => by
  rw [val_main_v35_apply, val_main_v34_apply, val_main_v33_apply, val_main_v32_apply, val_main_v31_apply, val_main_v30_apply, val_main_v29_apply, val_main_v28_apply,
    val_main_v27_apply, val_main_v26_apply, val_main_v25_apply, val_main_v24_apply, val_main_v23_apply, val_main_v22_apply, val_main_v21_apply, val_main_v20_apply, val_main_v19_apply]
  unfold modulated gain inverse
  rw [← mul_assoc]
  refine congrArg₂ (· + ·) (congrArg₂ (· * ·) (congrArg₂ (· * ·) (congrArg₂ (· * ·) (h0 i) (congrArg Ideal.rsqrt (congrArg₂ (· + ·) (congrArg₂ Ideal.div ?_ word_1024) word_eps))) (h2 _))
    (congrArg₂ (· + ·) (word_one.trans EReal.coe_one) (h4 _))) (h3 _)
  refine (congrArg₂ (· + ·) Ideal.ofBits_zero_f32 rfl).trans ((zero_add _).trans ?_)
  rw [Finset.sum_range]
  exact Finset.sum_congr rfl fun j _ => congrArg₂ (· * ·) (h0 _) (h0 _)

/-- Both, one below the other. -/
theorem rows (h0 : Reads (m := 8192) (n := 1024) x0 X) (h1 : Reads (m := 256) (n := 1024) x1 Y) (h2 : Reads (m := 1) (n := 1024) x2 G) (h3 : Reads (m := 1) (n := 1024) x3 S)
    (h4 : Reads (m := 1) (n := 1024) x4 C) (h5 : Reads (m := 1) (n := 1024) x5 S1) (h6 : Reads (m := 1) (n := 1024) x6 C1) :
    Reads (m := 8448) (n := 1024) (val_main_v36 (F := Ideal) x0 x1 x2 x3 x4 x5 x6) (hidden X Y G S C S1 C1) :=
  reads_below (m := 8448) (n := 1024) 256 8192 rfl (context h1 h2 h5 h6) (latent h0 h2 h3 h4) concatenates_S256x1024_S8192x1024_S8448x1024_d0

/-- Their product with the input weight. -/
theorem multiplied (hH : Reads (m := 8448) (n := 1024) (val_main_v36 (F := Ideal) x0 x1 x2 x3 x4 x5 x6) H) (h7 : Reads (m := 1024) (n := 2336) x7 W) :
    Reads (m := 8448) (n := 2336) (val_main_v37 (F := Ideal) x0 x1 x2 x3 x4 x5 x6 x7) (projected H W) := fun i => by
  rw [val_main_v37_apply]
  unfold projected padded
  rw [if_pos (idx2_lt1 i)]
  unfold product
  rw [Finset.sum_range]
  exact Finset.sum_congr rfl fun j _ => congrArg₂ (· * ·) (hH _) (h7 _)

/-- The queries. -/
theorem queries (hP : Reads (m := 8448) (n := 2336) (val_main_v37 (F := Ideal) x0 x1 x2 x3 x4 x5 x6 x7) P) (hC : Reads (m := 8192) (n := 64) x12 Cos) (hS : Reads (m := 8192) (n := 64) x13 Sin) :
    Reads (m := 8448) (n := 512) (val_main_v83 (F := Ideal) x0 x1 x2 x3 x4 x5 x6 x7 x12 x13) fun r c => rotated 0 P Cos Sin r c * eighth := by
  have hq : Reads (m := 8448) (n := 512) (val_main_v38 (F := Ideal) x0 x1 x2 x3 x4 x5 x6 x7) fun r c => P r (0 + c) :=
    reads_columns (m := 8448) (n := 2336) (q := 512) hP 0 slices_S8448x2336_S8448x512_0_0
  have hl : Reads (m := 8192) (n := 512) (val_main_v64 (F := Ideal) x0 x1 x2 x3 x4 x5 x6 x7) fun r c => P (256 + r) (0 + c) :=
    reads_rows (m := 8448) (n := 512) (q := 8192) hq 256 slices_S8448x512_S8192x512_256_0
  have h3 : ∀ i, val_main_v65 (F := Ideal) x0 x1 x2 x3 x4 x5 x6 x7 i = _ := heads_split (n := 512) (K := 8) rfl hl shapeCasts_S8192x512_S8192x8x64
  have h5 : ∀ i, val_main_v66 (F := Ideal) x0 x1 x2 x3 x4 x5 x6 x7 i = _ :=
    pairs_split (K := 8) (X := fun r c => P (256 + r) (0 + c)) h3 shapeCasts_S8192x8x64_S8192x8x2x2x16
  have hz : ∀ i, val_main_v70 (F := Ideal) x0 x1 x2 x3 x4 x5 x6 x7 i = _ := pairs_swap (K := 8) (X := fun r c => P (256 + r) (0 + c))
    (u := val_main_v68 (F := Ideal) x0 x1 x2 x3 x4 x5 x6 x7) (v := val_main_v69 (F := Ideal) x0 x1 x2 x3 x4 x5 x6 x7)
    (fun i => by
      have i3 : (i 3).val < 1 := (i 3).isLt
      rw [val_main_v68_apply, val_main_v67_apply]
      refine congrArg (- ·) ((h5 _).trans (congrArg (fun k => P (256 + (i 0).val) (0 + k)) ?_))
      show (i 1).val * 64 + ((i 2).val * 32 + (1 + (i 3).val) * 16 + (i 4).val) = _
      omega)
    (fun i => by
      have i3 : (i 3).val < 1 := (i 3).isLt
      rw [val_main_v69_apply]
      refine (h5 _).trans (congrArg (fun k => P (256 + (i 0).val) (0 + k)) ?_)
      show (i 1).val * 64 + ((i 2).val * 32 + (i 3).val * 16 + (i 4).val) = _
      omega) concatenates_S8192x8x2x1x16_S8192x8x2x1x16_S8192x8x2x2x16_d3
  have hj : ∀ i, val_main_v71 (F := Ideal) x0 x1 x2 x3 x4 x5 x6 x7 i = _ :=
    heads_join (K := 8) (X := fun r c => P (256 + r) (0 + c)) hz shapeCasts_S8192x8x2x2x16_S8192x8x64
  have ht : Reads (m := 8192) (n := 512) (val_main_v79 (F := Ideal) x0 x1 x2 x3 x4 x5 x6 x7 x12 x13) _ :=
    heads_turned (n := 512) (K := 8) (X := fun r c => P (256 + r) (0 + c)) (C := Cos) (S := Sin) rfl (w := val_main_v78 (F := Ideal) x0 x1 x2 x3 x4 x5 x6 x7 x12 x13) (fun i => by
      rw [val_main_v78_apply, val_main_v74_apply, val_main_v77_apply, val_main_v73_apply, val_main_v72_apply, val_main_v76_apply, val_main_v75_apply]
      exact congrArg₂ (· + ·) (congrArg₂ (· * ·) (h3 i) (hC _)) (congrArg₂ (· * ·) (hj i) (hS _))) shapeCasts_S8192x8x64_S8192x512
  have hb : Reads (m := 8448) (n := 512) (val_main_v80 (F := Ideal) x0 x1 x2 x3 x4 x5 x6 x7 x12 x13) _ :=
    reads_below (m := 8448) (n := 512) 256 8192 rfl (x := val_main_v63 (F := Ideal) x0 x1 x2 x3 x4 x5 x6 x7)
      (reads_rows (m := 8448) (n := 512) (q := 256) hq 0 slices_S8448x512_S256x512_0_0) ht concatenates_S256x512_S8192x512_S8448x512_d0
  exact fun i => congrArg₂ (· * ·) ((hb i).trans (below_rotated 0 P Cos Sin _ _)) rfl

/-- The keys. -/
theorem keys (hP : Reads (m := 8448) (n := 2336) (val_main_v37 (F := Ideal) x0 x1 x2 x3 x4 x5 x6 x7) P) (hC : Reads (m := 8192) (n := 64) x12 Cos) (hS : Reads (m := 8192) (n := 64) x13 Sin) :
    Reads (m := 8448) (n := 128) (val_main_v102 (F := Ideal) x0 x1 x2 x3 x4 x5 x6 x7 x12 x13) (rotated 512 P Cos Sin) := by
  have hq : Reads (m := 8448) (n := 128) (val_main_v39 (F := Ideal) x0 x1 x2 x3 x4 x5 x6 x7) fun r c => P r (512 + c) :=
    reads_columns (m := 8448) (n := 2336) (q := 128) hP 512 slices_S8448x2336_S8448x128_0_512
  have hl : Reads (m := 8192) (n := 128) (val_main_v85 (F := Ideal) x0 x1 x2 x3 x4 x5 x6 x7) fun r c => P (256 + r) (512 + c) :=
    reads_rows (m := 8448) (n := 128) (q := 8192) hq 256 slices_S8448x128_S8192x128_256_0
  have h3 : ∀ i, val_main_v86 (F := Ideal) x0 x1 x2 x3 x4 x5 x6 x7 i = _ := heads_split (n := 128) (K := 2) rfl hl shapeCasts_S8192x128_S8192x2x64
  have h5 : ∀ i, val_main_v87 (F := Ideal) x0 x1 x2 x3 x4 x5 x6 x7 i = _ :=
    pairs_split (K := 2) (X := fun r c => P (256 + r) (512 + c)) h3 shapeCasts_S8192x2x64_S8192x2x2x2x16
  have hz : ∀ i, val_main_v91 (F := Ideal) x0 x1 x2 x3 x4 x5 x6 x7 i = _ := pairs_swap (K := 2) (X := fun r c => P (256 + r) (512 + c))
    (u := val_main_v89 (F := Ideal) x0 x1 x2 x3 x4 x5 x6 x7) (v := val_main_v90 (F := Ideal) x0 x1 x2 x3 x4 x5 x6 x7)
    (fun i => by
      have i3 : (i 3).val < 1 := (i 3).isLt
      rw [val_main_v89_apply, val_main_v88_apply]
      refine congrArg (- ·) ((h5 _).trans (congrArg (fun k => P (256 + (i 0).val) (512 + k)) ?_))
      show (i 1).val * 64 + ((i 2).val * 32 + (1 + (i 3).val) * 16 + (i 4).val) = _
      omega)
    (fun i => by
      have i3 : (i 3).val < 1 := (i 3).isLt
      rw [val_main_v90_apply]
      refine (h5 _).trans (congrArg (fun k => P (256 + (i 0).val) (512 + k)) ?_)
      show (i 1).val * 64 + ((i 2).val * 32 + (i 3).val * 16 + (i 4).val) = _
      omega) concatenates_S8192x2x2x1x16_S8192x2x2x1x16_S8192x2x2x2x16_d3
  have hj : ∀ i, val_main_v92 (F := Ideal) x0 x1 x2 x3 x4 x5 x6 x7 i = _ :=
    heads_join (K := 2) (X := fun r c => P (256 + r) (512 + c)) hz shapeCasts_S8192x2x2x2x16_S8192x2x64
  have ht : Reads (m := 8192) (n := 128) (val_main_v100 (F := Ideal) x0 x1 x2 x3 x4 x5 x6 x7 x12 x13) _ :=
    heads_turned (n := 128) (K := 2) (X := fun r c => P (256 + r) (512 + c)) (C := Cos) (S := Sin) rfl (w := val_main_v99 (F := Ideal) x0 x1 x2 x3 x4 x5 x6 x7 x12 x13) (fun i => by
      rw [val_main_v99_apply, val_main_v95_apply, val_main_v98_apply, val_main_v94_apply, val_main_v93_apply, val_main_v97_apply, val_main_v96_apply]
      exact congrArg₂ (· + ·) (congrArg₂ (· * ·) (h3 i) (hC _)) (congrArg₂ (· * ·) (hj i) (hS _))) shapeCasts_S8192x2x64_S8192x128
  have hb : Reads (m := 8448) (n := 128) (val_main_v101 (F := Ideal) x0 x1 x2 x3 x4 x5 x6 x7 x12 x13) _ :=
    reads_below (m := 8448) (n := 128) 256 8192 rfl (x := val_main_v84 (F := Ideal) x0 x1 x2 x3 x4 x5 x6 x7)
      (reads_rows (m := 8448) (n := 128) (q := 256) hq 0 slices_S8448x128_S256x128_0_0) ht concatenates_S256x128_S8192x128_S8448x128_d0
  exact fun i => (hb i).trans (below_rotated 512 P Cos Sin _ _)

/-- The values. -/
theorem values (hP : Reads (m := 8448) (n := 2336) (val_main_v37 (F := Ideal) x0 x1 x2 x3 x4 x5 x6 x7) P) :
    Reads (m := 8448) (n := 128) (val_main_v103 (F := Ideal) x0 x1 x2 x3 x4 x5 x6 x7) fun r c => P r (640 + c) :=
  reads_columns (m := 8448) (n := 2336) (q := 128) hP 640 slices_S8448x2336_S8448x128_0_640

/-- The queries of the linear attention. -/
theorem linear_queries (hP : Reads (m := 8448) (n := 2336) (val_main_v37 (F := Ideal) x0 x1 x2 x3 x4 x5 x6 x7) P) :
    Reads (m := 8448) (n := 256) (val_main_v105 (F := Ideal) x0 x1 x2 x3 x4 x5 x6 x7) fun r c => P r (768 + c) * factor := fun i =>
  congrArg₂ (· * ·) (reads_columns (m := 8448) (n := 2336) (q := 256) hP 768 slices_S8448x2336_S8448x256_0_768 i) rfl

/-- Its keys. -/
theorem linear_keys (hP : Reads (m := 8448) (n := 2336) (val_main_v37 (F := Ideal) x0 x1 x2 x3 x4 x5 x6 x7) P) :
    Reads (m := 8448) (n := 256) (val_main_v42 (F := Ideal) x0 x1 x2 x3 x4 x5 x6 x7) fun r c => P r (1024 + c) :=
  reads_columns (m := 8448) (n := 2336) (q := 256) hP 1024 slices_S8448x2336_S8448x256_0_1024

/-- Its values. -/
theorem linear_values (hP : Reads (m := 8448) (n := 2336) (val_main_v37 (F := Ideal) x0 x1 x2 x3 x4 x5 x6 x7) P) :
    Reads (m := 8448) (n := 512) (val_main_v43 (F := Ideal) x0 x1 x2 x3 x4 x5 x6 x7) fun r c => P r (1280 + c) :=
  reads_columns (m := 8448) (n := 2336) (q := 512) hP 1280 slices_S8448x2336_S8448x512_0_1280

/-- The gate, of the latent rows alone. -/
theorem gate (hP : Reads (m := 8448) (n := 2336) (val_main_v37 (F := Ideal) x0 x1 x2 x3 x4 x5 x6 x7) P) :
    Reads (m := 8192) (n := 512) (val_main_v106 (F := Ideal) x0 x1 x2 x3 x4 x5 x6 x7) fun r c => P (256 + r) (1792 + c) :=
  reads_rows (m := 8448) (n := 512) (q := 8192) (X := fun r c => P r (1792 + c)) (x := val_main_v44 (F := Ideal) x0 x1 x2 x3 x4 x5 x6 x7)
    (reads_columns (m := 8448) (n := 2336) (q := 512) hP 1792 slices_S8448x2336_S8448x512_0_1792) 256 slices_S8448x512_S8192x512_256_0

/-- The columns of the decays' arguments. -/
theorem decay_columns (hP : Reads (m := 8448) (n := 2336) (val_main_v37 (F := Ideal) x0 x1 x2 x3 x4 x5 x6 x7) P) :
    Reads (m := 8448) (n := 16) (val_main_v45 (F := Ideal) x0 x1 x2 x3 x4 x5 x6 x7) (fun r c => P r (2304 + c)) ∧
    Reads (m := 8448) (n := 16) (val_main_v46 (F := Ideal) x0 x1 x2 x3 x4 x5 x6 x7) (fun r c => P r (2320 + c)) :=
  ⟨reads_columns (m := 8448) (n := 2336) (q := 16) hP 2304 slices_S8448x2336_S8448x16_0_2304, reads_columns (m := 8448) (n := 2336) (q := 16) hP 2320 slices_S8448x2336_S8448x16_0_2320⟩

/-- Those columns, zeros to the right of them. -/
theorem arguments (hP : Reads (m := 8448) (n := 2336) (val_main_v37 (F := Ideal) x0 x1 x2 x3 x4 x5 x6 x7) (projected H W)) :
    Reads (m := 8448) (n := 128) (val_main_v107 (F := Ideal) x0 x1 x2 x3 x4 x5 x6 x7) fun r c => projected H W r (2304 + c) := .of fun r c => by
  have hk : Reads (m := 8448) (n := 32) (val_main_v47 (F := Ideal) x0 x1 x2 x3 x4 x5 x6 x7) _ :=
    reads_side (m := 8448) (n := 32) 16 16 rfl (decay_columns hP).1 (decay_columns hP).2 concatenates_S8448x16_S8448x16_S8448x32_d1
  show pad S8448x128 ![0, 0] ![0, 96] ![0, 0] (val_main_v47 (F := Ideal) x0 x1 x2 x3 x4 x5 x6 x7) (val_main_call0_v0 (F := Ideal)) pads_S8448x32_S8448x128_000_0960 h_S_ (ix2 r c) = _
  by_cases hc : c.val < 32
  · refine (pad_apply_of_inside _ _ _ _ _ _ _ (ix2 r c) (ix2 r (⟨c.val, hc⟩ : Fin 32)) (fun a => ?_)).trans ((hk _).trans ?_)
    · match a with
      | ⟨0, _⟩ => show r.val = 0 + r.val * (0 + 1); omega
      | ⟨1, _⟩ => show c.val = 0 + c.val * (0 + 1); omega
    · show (if c.val < 16 then projected H W r.val (2304 + c.val) else projected H W r.val (2320 + (c.val - 16))) = _
      split
      · rfl
      · exact congrArg (projected H W r.val) (by omega)
  · refine (pad_apply_of_not_inside _ _ _ _ _ _ _ (ix2 r c) 1 (fun hi => hc ?_)).trans ?_
    · have h2 : (c.val - 0) / (0 + 1) < 32 := hi.2.2
      simpa using h2
    · unfold projected padded
      rw [if_neg (by omega)]
      show ((((0#32 : BitVec 32).toInt : ℤ) : ℝ) : EReal) = 0
      simp

/-- The forward decays. -/
theorem forward (hP : Reads (m := 8448) (n := 2336) (val_main_v37 (F := Ideal) x0 x1 x2 x3 x4 x5 x6 x7) P) (h8 : Reads (m := 16) (n := 256) x8 Wf) (h9 : Reads (m := 1) (n := 256) x9 Bf) :
    Reads (m := 8448) (n := 256) (val_main_v54 (F := Ideal) x0 x1 x2 x3 x4 x5 x6 x7 x8 x9)
      fun r c => decay ((∑ k ∈ Finset.range 16, P r (2304 + k) * Wf k c) + Bf 0 c) := fun i => by
  have he : val_main_v51 (F := Ideal) x0 x1 x2 x3 x4 x5 x6 x7 x8 x9 i = (∑ k ∈ Finset.range 16, P (i 0).val (2304 + k) * Wf k (i 1).val) + Bf 0 (i 1).val := by
    rw [val_main_v51_apply, val_main_v50_apply, val_main_v49_apply, Finset.sum_range]
    exact congrArg₂ (· + ·) (Finset.sum_congr rfl fun j _ => congrArg₂ (· * ·) ((decay_columns hP).1 _) (h8 _)) (h9 _)
  exact (decayed (val_main_v51 (F := Ideal) x0 x1 x2 x3 x4 x5 x6 x7 x8 x9 i) _ _ Ideal.ofBits_zero_f32 word_16).trans (congrArg decay he)

/-- The backward decays. -/
theorem backward (hP : Reads (m := 8448) (n := 2336) (val_main_v37 (F := Ideal) x0 x1 x2 x3 x4 x5 x6 x7) P) (h10 : Reads (m := 16) (n := 256) x10 Wb) (h11 : Reads (m := 1) (n := 256) x11 Bb) :
    Reads (m := 8448) (n := 256) (val_main_v60 (F := Ideal) x0 x1 x2 x3 x4 x5 x6 x7 x10 x11)
      fun r c => decay ((∑ k ∈ Finset.range 16, P r (2320 + k) * Wb k c) + Bb 0 c) := fun i => by
  have he : val_main_v57 (F := Ideal) x0 x1 x2 x3 x4 x5 x6 x7 x10 x11 i = (∑ k ∈ Finset.range 16, P (i 0).val (2320 + k) * Wb k (i 1).val) + Bb 0 (i 1).val := by
    rw [val_main_v57_apply, val_main_v56_apply, val_main_v55_apply, Finset.sum_range]
    exact congrArg₂ (· + ·) (Finset.sum_congr rfl fun j _ => congrArg₂ (· * ·) ((decay_columns hP).2 _) (h10 _)) (h11 _)
  exact (decayed (val_main_v57 (F := Ideal) x0 x1 x2 x3 x4 x5 x6 x7 x10 x11 i) _ _ Ideal.ofBits_zero_f32 word_16).trans (congrArg decay he)

/-- Both, side by side. -/
theorem decays (hP : Reads (m := 8448) (n := 2336) (val_main_v37 (F := Ideal) x0 x1 x2 x3 x4 x5 x6 x7) P) (h8 : Reads (m := 16) (n := 256) x8 Wf) (h9 : Reads (m := 1) (n := 256) x9 Bf)
    (h10 : Reads (m := 16) (n := 256) x10 Wb) (h11 : Reads (m := 1) (n := 256) x11 Bb) :
    Reads (m := 8448) (n := 512) (val_main_v61 (F := Ideal) x0 x1 x2 x3 x4 x5 x6 x7 x8 x9 x10 x11) fun r c => decay (logit P Wf Bf Wb Bb r c) := fun i => by
  refine (reads_side (m := 8448) (n := 512) 256 256 rfl (forward hP h8 h9) (backward hP h10 h11) concatenates_S8448x256_S8448x256_S8448x512_d1 i).trans ?_
  show (if (i 1).val < 256 then _ else _) = decay (if (i 1).val < 256 then _ else _)
  split <;> rfl

end Cert.InprojReference

end
-- ==== Proof.InprojClaim.lean ====
module

public import proofs.«01_k».proof.Defs
public import Idealize.ShloMosaic.Adequacy
public import proofs.«01_k».proof.Proof.InprojFinal
public import proofs.«01_k».proof.Proof.InprojReference
public import proofs.«01_k».proof.Proof.Gen.Kernel8Ideal
public import proofs.«01_k».proof.Proof.Gen.Reference8Ideal.Run

@[expose] public section

/-! The input projection: from equal arguments the kernel's ten arrays are the reference's. -/

noncomputable section

namespace Cert.InprojClaim

open Idealize.ShloMosaic Idealize.ShloMosaic.TcCoe Idealize.SL.Sem Cert.Tables Cert.Products

/-- The kernel runs on the extended reals, its arguments unchanged and its semaphores at zero. -/
theorem frame_ideal : Cert.quiescent_Kernel8Ideal (hKernel8Ideal := Cert.Kernel8Ideal.Gen.facts) := fun m ρ _ => InprojFrame.frame (F := Ideal) m ρ

/-- The reference runs, its arguments unchanged; it declares no semaphore. -/
theorem frame_reference : Cert.quiescent_Reference8Ideal (hReference8Ideal := Cert.Reference8Ideal.Gen.facts) := fun m ρ _ =>
  (θ_run Cert.Reference8Ideal.defs _ _).mono
    (fun r h => ⟨fun c => (h c).2.2.2.2.2.2.2.2.2.2, sem_eq_zero_of_no_sems (by decide) r.2⟩)
    (Cert.Reference8Ideal.Value.run (F := Ideal) m ρ)

set_option maxRecDepth 20000 in
set_option maxHeartbeats 4000000 in
/-- From equal arguments the kernel's results and the reference's are equal. -/
theorem algebraic : Cert.algebraic_Kernel8Ideal_Reference8Ideal (hKernel8Ideal := Cert.Kernel8Ideal.Gen.facts)
    (hReference8Ideal := Cert.Reference8Ideal.Gen.facts) := by
  intro m ρ m' ρ' _ hagree
  refine ⟨fun c => (InprojFrame.dats m 0 c).arrAt 12 Cert.Kernel8Ideal.cfg0.N,
    fun c => (InprojFrame.dats m 0 c).arrAt 13 Cert.Kernel8Ideal.cfg0.N,
    fun c => (InprojFrame.dats m 0 c).arrAt 14 Cert.Kernel8Ideal.cfg0.N,
    fun c => (InprojFrame.dats m 0 c).arrAt 15 Cert.Kernel8Ideal.cfg0.N,
    fun c => (InprojFrame.dats m 0 c).arrAt 16 Cert.Kernel8Ideal.cfg0.N,
    fun c => (InprojFrame.dats m 0 c).arrAt 17 Cert.Kernel8Ideal.cfg0.N,
    fun c => (InprojFrame.dats m 0 c).arrAt 18 Cert.Kernel8Ideal.cfg0.N,
    fun c => (InprojFrame.dats m 0 c).arrAt 19 Cert.Kernel8Ideal.cfg0.N,
    fun c => (InprojFrame.dats m 0 c).arrAt 20 Cert.Kernel8Ideal.cfg0.N,
    fun c => (InprojFrame.dats m 0 c).arrAt 21 Cert.Kernel8Ideal.cfg0.N,
    InprojValue.run_blocks m ρ, ?_⟩
  refine (θ_run Cert.Reference8Ideal.defs _ _).mono (fun r h c => ?_) (Cert.Reference8Ideal.Value.run (F := Ideal) m' ρ')
  obtain ⟨a0, a1, a2, a3, a4, a5, a6, a7, a8, a9, a10, a11, a12, a13⟩ := hagree c
  obtain ⟨h0, h1, h2, h3, h4, h5, h6, h7, h8, h9, hargs⟩ := h c
  have hH := InprojReference.rows (X := InprojFinal.tX m c) (Y := InprojFinal.tY m c) (G := InprojFinal.tG m c) (S := InprojFinal.tS m c) (C := InprojFinal.tC m c)
    (S1 := InprojFinal.tS1 m c) (C1 := InprojFinal.tC1 m c) (reads_table (m := 8192) (n := 1024) _) (reads_table (m := 256) (n := 1024) _) (reads_table (m := 1) (n := 1024) _)
    (reads_table (m := 1) (n := 1024) _) (reads_table (m := 1) (n := 1024) _) (reads_table (m := 1) (n := 1024) _) (reads_table (m := 1) (n := 1024) _)
  have hP := InprojReference.multiplied (W := InprojFinal.tW m c) hH (reads_table (m := 1024) (n := 2336) _)
  have hC := reads_table (m := 8192) (n := 64) (m ((c.tc : Thread Cert.Kernel8Ideal.nD Cert.Kernel8Ideal.τ).loc Cert.Kernel8Ideal.main_arg12))
  have hS := reads_table (m := 8192) (n := 64) (m ((c.tc : Thread Cert.Kernel8Ideal.nD Cert.Kernel8Ideal.τ).loc Cert.Kernel8Ideal.main_arg13))
  have hD := InprojReference.decays (Wf := InprojFinal.tWf m c) (Bf := InprojFinal.tBf m c) (Wb := InprojFinal.tWb m c) (Bb := InprojFinal.tBb m c) hP
    (reads_table (m := 16) (n := 256) _) (reads_table (m := 1) (n := 256) _) (reads_table (m := 16) (n := 256) _) (reads_table (m := 1) (n := 256) _)
  refine ⟨(h0.trans (Cert.Reference8Ideal.Read.val_main_v62_eq ..)).trans ?_, (h1.trans (Cert.Reference8Ideal.Read.val_main_v83_eq _ _)).trans ?_,
    (h2.trans (Cert.Reference8Ideal.Read.val_main_v102_eq _ _)).trans ?_, (h3.trans (Cert.Reference8Ideal.Read.val_main_v103_eq ..)).trans ?_,
    (h4.trans (Cert.Reference8Ideal.Read.val_main_v105_eq ..)).trans ?_, (h5.trans (Cert.Reference8Ideal.Read.val_main_v42_eq ..)).trans ?_,
    (h6.trans (Cert.Reference8Ideal.Read.val_main_v43_eq ..)).trans ?_, (h7.trans (Cert.Reference8Ideal.Read.val_main_v106_eq ..)).trans ?_,
    (h8.trans (Cert.Reference8Ideal.Read.val_main_v107_eq _ _)).trans ?_, (h9.trans (Cert.Reference8Ideal.Read.val_main_v61_eq _ _)).trans ?_, hargs⟩
  · rw [a0, a1, a2, a3, a4, a5, a6]
    exact Reads.unique (m := 8448) (n := 1024) hH (InprojFinal.array_12 m c)
  · rw [a0, a1, a2, a3, a4, a5, a6, a7, a12, a13]
    exact Reads.unique (m := 8448) (n := 512) (InprojReference.queries hP hC hS) (InprojFinal.array_13 m c)
  · rw [a0, a1, a2, a3, a4, a5, a6, a7, a12, a13]
    exact Reads.unique (m := 8448) (n := 128) (InprojReference.keys hP hC hS) (InprojFinal.array_14 m c)
  · rw [a0, a1, a2, a3, a4, a5, a6, a7]
    exact Reads.unique (m := 8448) (n := 128) (InprojReference.values hP) (InprojFinal.array_15 m c)
  · rw [a0, a1, a2, a3, a4, a5, a6, a7]
    exact Reads.unique (m := 8448) (n := 256) (InprojReference.linear_queries hP) (InprojFinal.array_16 m c)
  · rw [a0, a1, a2, a3, a4, a5, a6, a7]
    exact Reads.unique (m := 8448) (n := 256) (InprojReference.linear_keys hP) (InprojFinal.array_17 m c)
  · rw [a0, a1, a2, a3, a4, a5, a6, a7]
    exact Reads.unique (m := 8448) (n := 512) (InprojReference.linear_values hP) (InprojFinal.array_18 m c)
  · rw [a0, a1, a2, a3, a4, a5, a6, a7]
    exact Reads.unique (m := 8192) (n := 512) (InprojReference.gate hP) (InprojFinal.array_19 m c)
  · rw [a0, a1, a2, a3, a4, a5, a6, a7]
    exact Reads.unique (m := 8448) (n := 128) (InprojReference.arguments hP) (InprojFinal.array_20 m c)
  · rw [a0, a1, a2, a3, a4, a5, a6, a7, a8, a9, a10, a11]
    exact Reads.unique (m := 8448) (n := 512) hD (InprojFinal.array_21 m c)

end Cert.InprojClaim

end
-- ==== Proof.Ada.lean ====
module

public import proofs.«01_k».proof.Defs
public import Idealize.ShloMosaic.Adequacy
public import proofs.«01_k».proof.Proof.Inproj
public import proofs.«01_k».proof.Proof.Gen.Kernel9Ideal.Value
public import proofs.«01_k».proof.Proof.Gen.Reference9Ideal.Run
public import proofs.«01_k».proof.Proof.Gen.Reference9Ideal.Read

@[expose] public section

/-! The backward pass of the products that give the modulation vectors: the gradient of their weight, and the gradient at the
context's activations. The kernel's arrays are the reference's. -/

noncomputable section

namespace Cert.Ada

open Idealize.ShloMosaic hiding ix2 ix3
open Idealize.ShloMosaic.TcCoe
open Idealize.ShloMosaic.ValueIdx Idealize.SL.Sem Cert.Tables Cert.Pieces Cert.Products Cert.Mix Cert.Inproj Cert.Kernel9Ideal Cert.Kernel9Ideal.Gen
open scoped BigOperators

/-! ### The tables -/

/-- The gradients of the eight devices' vectors, below them that of the context's, and seven rows of zeros. -/
def stacked (D E : ℕ → ℕ → EReal) : ℕ → ℕ → EReal := below 8 D (below 1 E fun _ _ => 0)

/-- The gradient of the weight: the activations of each device's condition times that device's gradients, and the context's. -/
def weightGrad (C K D E : ℕ → ℕ → EReal) (r c : ℕ) : EReal := (∑ k ∈ Finset.range 8, gate (C k r) * D k c) + gate (K 0 r) * E 0 c

/-- The gradient at the context's activations, in the first row; zeros below it. -/
def contextGrad (E W : ℕ → ℕ → EReal) (r k : ℕ) : EReal := if r < 1 then ∑ j ∈ Finset.range 768, E r j * W k j else 0

/-- The product over sixteen rows: the rows of zeros add nothing. -/
theorem weight_sum (C K D E : ℕ → ℕ → EReal) (r c : ℕ) :
    rowsProduct (fun j r => gate (below 8 C (fun _ => K 0) j r)) (stacked D E) 16 r c = weightGrad C K D E r c := by
  rw [rowsProduct_add 8 8]
  unfold rowsProduct weightGrad
  refine congrArg₂ (· + ·) (Finset.sum_congr rfl fun j hj => ?_) ?_
  · have hj := Finset.mem_range.1 hj
    unfold stacked below
    dsimp only
    rw [if_pos hj, if_pos hj]
  · rw [Finset.sum_eq_single 0 (fun j _ h0 => ?_) fun h => absurd (Finset.mem_range.2 (by norm_num)) h]
    · unfold stacked below
      rfl
    · unfold stacked below
      dsimp only
      rw [if_neg (show ¬8 + j < 8 by omega), if_neg (show ¬8 + j < 8 by omega), if_neg (show ¬8 + j - 8 < 1 by omega), mul_zero]

/-- The rows from the eighth on, times the weight. -/
theorem context_sum (D E W : ℕ → ℕ → EReal) (r k : ℕ) : ∑ j ∈ Finset.range 768, stacked D E (8 + r) j * W k j = contextGrad E W r k := by
  unfold stacked below contextGrad
  simp only [if_neg (show ¬8 + r < 8 by omega), Nat.add_sub_cancel_left]
  by_cases h : r < 1
  · simp only [if_pos h]
  · simp only [if_neg h, zero_mul, Finset.sum_const_zero]

/-! ### What the point stores -/

section
variable {C K D E G W : ℕ → ℕ → EReal}

/-- Three arrays one below the other. -/
theorem reads_stacked {x : (⟨2, ![8, 768]⟩ : Shape).Idx → EReal} {y : (⟨2, ![1, 768]⟩ : Shape).Idx → EReal} {z : (⟨2, ![7, 768]⟩ : Shape).Idx → EReal}
    (hx : Reads x D) (hy : Reads y E) (hz : ∀ i, z i = 0)
    (h : Shape.Concatenates [(⟨2, ![8, 768]⟩ : Shape), ⟨2, ![1, 768]⟩, ⟨2, ![7, 768]⟩] ⟨2, ![16, 768]⟩ 0) :
    Reads (concatenate (⟨2, ![16, 768]⟩ : Shape) 0 [⟨⟨2, ![8, 768]⟩, x⟩, ⟨⟨2, ![1, 768]⟩, y⟩, ⟨⟨2, ![7, 768]⟩, z⟩] h) (stacked D E) := by
  refine Reads.of fun r c => ?_
  unfold stacked below
  split
  · next hr =>
    exact (concatenate_apply_piece 0 [⟨⟨2, ![8, 768]⟩, x⟩, ⟨⟨2, ![1, 768]⟩, y⟩, ⟨⟨2, ![7, 768]⟩, z⟩] h (ix2 r c) 0 (by simp) _ x rfl rfl 0 rfl (ix2 ⟨r.val, hr⟩ c)
      (fun b hb => match b with
        | ⟨0, _⟩ => absurd rfl hb
        | ⟨1, _⟩ => rfl) (Nat.zero_add _)).trans (hx _)
  · next hr =>
    split
    · next hr1 =>
      exact (concatenate_apply_piece 0 [⟨⟨2, ![8, 768]⟩, x⟩, ⟨⟨2, ![1, 768]⟩, y⟩, ⟨⟨2, ![7, 768]⟩, z⟩] h (ix2 r c) 1 (by simp) _ y rfl rfl 8 rfl (ix2 ⟨r.val - 8, hr1⟩ c)
        (fun b hb => match b with
          | ⟨0, _⟩ => absurd rfl hb
          | ⟨1, _⟩ => rfl) (by show 8 + (r.val - 8) = r.val; omega)).trans (hy _)
    · next hr1 =>
      exact (concatenate_apply_piece 0 [⟨⟨2, ![8, 768]⟩, x⟩, ⟨⟨2, ![1, 768]⟩, y⟩, ⟨⟨2, ![7, 768]⟩, z⟩] h (ix2 r c) 2 (by simp) _ z rfl rfl 9 rfl
        (ix2 ⟨r.val - 9, by have := r.isLt; omega⟩ c)
        (fun b hb => match b with
          | ⟨0, _⟩ => absurd rfl hb
          | ⟨1, _⟩ => rfl) (by show 9 + (r.val - 9) = r.val; omega)).trans (hz _)

/-- The first product contracts the rows of both. -/
theorem dot_rows : dot_S16x1024_S16x768_S1024x768_0_0_1_1_n_n = rowDims 16 1024 768 := rfl
/-- The second contracts the columns of both. -/
theorem dot_columns : dot_S8x768_S1024x768_S8x1024_1_1_0_0_n_n = DotDims.transposedRhs 8 768 1024 := rfl

/-- The gradients, rounded. -/
theorem reads_rounded {v5 : Vec Ideal S16x768 .f32} (hg : Reads (m := 16) (n := 768) v5 G) : Reads (m := 16) (n := 768) (k0_pay1 v5) G := by
  unfold k0_pay1
  dsimp only
  rw [shapeCast_self]
  exact hg

/-- The gradient of the weight the point stores. -/
theorem point_weight {v0 : Vec Ideal S8x1024 .f32} {v1 : Vec Ideal S1x1024 .f32} {v5 : Vec Ideal S16x768 .f32}
    (hc : Reads (m := 8) (n := 1024) v0 C) (hk : Reads (m := 1) (n := 1024) v1 K) (hg : Reads (m := 16) (n := 768) v5 (stacked D E)) (i : S1x1024x768.Idx) :
    k0_pay2 v0 v1 v5 i = weightGrad C K D E (i 1).val (i 2).val := by
  unfold k0_pay2
  dsimp only
  rw [shapeCast_self]
  have hb : Reads (m := 16) (n := 1024) _ (below 8 C fun _ => K 0) :=
    reads_below (n := 1024) 8 8 rfl hc (reads_broadcastRow (m := 8) (n := 1024) hk broadcasts_S1x1024_S8x1024) concatenates_S8x1024_S8x1024_S16x1024_d0
  have h0 : (i 0).val < 1 := (i 0).isLt
  refine (shapeCast_apply _ shapeCasts_S1024x768_S1x1024x768 i (ix2 (i 1) (i 2)) (by
    rewrite [Shape.rowMajor_val_three, Shape.rowMajor_val_two]
    show (i 1).val * 768 + (i 2).val = ((i 0).val * 1024 + (i 1).val) * 768 + (i 2).val
    rw [show (i 0).val = 0 by omega, Nat.zero_mul, Nat.zero_add])).trans ?_
  rw [dot_rows, ← weight_sum]
  refine Reads.matmul (φ₁ := .bf16) (φ₂ := .bf16) (A := fun j r => gate (below 8 C (fun _ => K 0) j r)) (B := stacked D E) (fun j => ?_) (reads_rounded hg) none (ix2 (i 1) (i 2))
  refine congrArg₂ (· * ·) (hb j) ?_
  refine congrArg₂ Ideal.div (word_one.trans EReal.coe_one) (congrArg₂ (· + ·) (word_one.trans EReal.coe_one) (congrArg Ideal.exp ?_))
  refine (congrArg₂ (· - ·) Ideal.ofBits_zero_f32 (hb j)).trans ?_
  rw [zero_sub]

/-- The gradient at the context's activations the point stores. -/
theorem point_context {v5 : Vec Ideal S16x768 .f32} {v22 : Vec Ideal S1024x768 .f32}
    (hg : Reads (m := 16) (n := 768) v5 (stacked D E)) (hw : Reads (m := 1024) (n := 768) v22 W) :
    Reads (m := 8) (n := 1024) (k0_pay3 v5 v22) (contextGrad E W) := by
  unfold k0_pay3
  dsimp only
  rw [dot_columns]
  exact fun i => (reads_matmulT (m := 8) (n := 1024) (k := 768) (φ₁ := .bf16) (φ₂ := .bf16) (reads_rows (m := 16) (n := 768) (q := 8) (reads_rounded hg) 8 slices_S16x768_o8_0_S8x768) hw none i).trans
    (context_sum D E W _ _)

end

/-! ### The kernel's arrays -/

section
variable (m : (ℓ : Loc nD τ sig) → Buf (Elt Ideal) ℓ) (c : Dev nD)

/-- The table of the devices' conditions. -/
abbrev tC : ℕ → ℕ → EReal := table (m := 8) (n := 1024) (m ((c : Thread nD τ).loc main_arg0))
/-- The table of the context's condition. -/
abbrev tK : ℕ → ℕ → EReal := table (m := 1) (n := 1024) (m ((c : Thread nD τ).loc main_arg1))
/-- The table of the weight. -/
abbrev tW : ℕ → ℕ → EReal := table (m := 1024) (n := 768) (m ((c : Thread nD τ).loc main_arg2))
/-- The table of the devices' gradients. -/
abbrev tD : ℕ → ℕ → EReal := table (m := 8) (n := 768) (m ((c : Thread nD τ).loc main_arg3))
/-- The table of the context's gradient. -/
abbrev tE : ℕ → ℕ → EReal := table (m := 1) (n := 768) (m ((c : Thread nD τ).loc main_arg4))

/-- The gradients as the host prepares them. -/
theorem V_v1 : V m c main_v1 = concatenate S16x768 0 [⟨S8x768, m ((c : Thread nD τ).loc main_arg3)⟩, ⟨S1x768, m ((c : Thread nD τ).loc main_arg4)⟩,
    ⟨S7x768, broadcastInDim S7x768 ![] bcast_S_S7x768 (constant (F := Ideal) S_ .f32 0x00000000#32)⟩] concatenates_S8x768_S1x768_S7x768_S16x768_d0 := by
  show StableHlo.after hostOps0 _ _ = _
  simp only [hostOps0, List.flatten_cons, List.flatten_nil, List.append_nil, List.cons_append, List.nil_append]
  after_results
  rfl

/-- Those gradients, as a table. -/
theorem reads_v1 : Reads (m := 16) (n := 768) (V m c main_v1) (stacked (tD m c) (tE m c)) := by
  rw [V_v1]
  exact reads_stacked (reads_table (m := 8) (n := 768) _) (reads_table (m := 1) (n := 768) _) (fun _ => Ideal.ofBits_zero_f32) concatenates_S8x768_S1x768_S7x768_S16x768_d0

/-- Every window's block is the whole array. -/
theorem index_whole : ∀ t : Fin cfg0.N, (win0_0.index t 0 = 0 ∧ win0_0.index t 1 = 0) ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0 ∧ win0_4.index t 2 = 0) ∧ (win0_5.index t 0 = 0 ∧ win0_5.index t 1 = 0) :=
  (by decide +kernel : ∀ t : Fin grid0.N, (win0_0.index t 0 = 0 ∧ win0_0.index t 1 = 0) ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0 ∧ win0_4.index t 2 = 0) ∧ (win0_5.index t 0 = 0 ∧ win0_5.index t 1 = 0))

section
omit m c
/-- A block that is the whole of an array. -/
theorem reads_all {p q : ℕ} {X : ℕ → ℕ → EReal} {x : (⟨2, ![p, q]⟩ : Shape).Idx → EReal} (hx : Reads x X) (f : (⟨2, ![p, q]⟩ : Shape).Idx → (⟨2, ![p, q]⟩ : Shape).Idx)
    (h0 : ∀ j, (f j 0).val = (j 0).val) (h1 : ∀ j, (f j 1).val = (j 1).val) : Reads (fun j => x (f j)) X := fun j => by
  refine (hx (f j)).trans ?_
  rw [h0 j, h1 j]
/-- A coordinate of a block that starts at zero. -/
theorem from_start {s : Shape} {a : Fin s.rank} {i n : ℕ} (h : i = 0) (j : s.Idx) : i * n + 1 * (j a).val = (j a).val := by rw [h]; ring
end

/-- The devices' conditions. -/
theorem whole0 (t : Fin cfg0.N) : Reads (m := 8) (n := 1024) (iblk m c 0 t) (tC m c) := fun j =>
  reads_all (p := 8) (q := 1024) (x := V m c main_arg0) (by rw [V_main_arg0]; exact reads_table _) (fun j => ((cfg0.win 0).blk t).view.emb j)
    (from_start (index_whole t).1.1) (from_start (index_whole t).1.2) j
/-- The context's condition. -/
theorem whole1 (t : Fin cfg0.N) : Reads (m := 1) (n := 1024) (iblk m c 1 t) (tK m c) := fun j =>
  reads_all (p := 1) (q := 1024) (x := V m c main_arg1) (by rw [V_main_arg1]; exact reads_table _) (fun j => ((cfg0.win 1).blk t).view.emb j)
    (from_start (index_whole t).2.1.1) (from_start (index_whole t).2.1.2) j
/-- The weight. -/
theorem whole2 (t : Fin cfg0.N) : Reads (m := 1024) (n := 768) (iblk m c 2 t) (tW m c) := fun j =>
  reads_all (p := 1024) (q := 768) (x := V m c main_arg2) (by rw [V_main_arg2]; exact reads_table _) (fun j => ((cfg0.win 2).blk t).view.emb j)
    (from_start (index_whole t).2.2.1.1) (from_start (index_whole t).2.2.1.2) j
/-- The gradients. -/
theorem whole3 (t : Fin cfg0.N) : Reads (m := 16) (n := 768) (iblk m c 3 t) (stacked (tD m c) (tE m c)) := fun j =>
  reads_all (p := 16) (q := 768) (x := V m c main_v1) (reads_v1 m c) (fun j => ((cfg0.win 3).blk t).view.emb j)
    (from_start (index_whole t).2.2.2.1.1) (from_start (index_whole t).2.2.2.1.2) j

/-- The offset of a whole array of three axes. -/
theorem hz3 : (![0, 0, 0] : Fin 3 → Nat) = fun _ => 0 := funext fun a => by fin_cases a <;> rfl

/-- Result 0: the gradient of the weight. -/
theorem array_4 (i : S1x1024x768.Idx) : (dats m 0 c).arrAt 4 cfg0.N i = weightGrad (tC m c) (tK m c) (tD m c) (tE m c) (i 1).val (i 2).val := by
  obtain ⟨h0, h1, h2⟩ := (index_whole t0_0).2.2.2.2.1
  have b := congrFun (Value.blocks4 m c t0_0 (flush0_4 _)) i
  rw [View.read_apply, Value.flushed4] at b
  have e : ((cfg0.win 4).blk t0_0).view.emb i = i := funext fun a => Fin.ext (match a with
    | ⟨0, _⟩ => from_start h0 i
    | ⟨1, _⟩ => from_start h1 i
    | ⟨2, _⟩ => from_start h2 i)
  rw [e] at b
  refine b.trans ?_
  show out0_4 (iblk m c 0 t0_0) (iblk m c 1 t0_0) (iblk m c 2 t0_0) (iblk m c 3 t0_0) i = _
  unfold out0_4
  rw [View.canon_unit_zero (S := S1x1024x768) hz3, View.ld_unit_zero (S := S8x1024) hz, View.ld_unit_zero (S := S1x1024) hz, View.ld_unit_zero (S := S16x768) hz]
  exact point_weight (whole0 m c t0_0) (whole1 m c t0_0) (whole3 m c t0_0) i

/-- Result 1: the gradient at the context's activations. -/
theorem array_5 : Reads (m := 8) (n := 1024) ((dats m 0 c).arrAt 5 cfg0.N) (contextGrad (tE m c) (tW m c)) := fun i => by
  obtain ⟨h0, h1⟩ := (index_whole t0_0).2.2.2.2.2
  have b := congrFun (Value.blocks5 m c t0_0 (flush0_5 _)) i
  rw [View.read_apply, Value.flushed5] at b
  have e : ((cfg0.win 5).blk t0_0).view.emb i = i := funext fun a => Fin.ext (match a with
    | ⟨0, _⟩ => from_start h0 i
    | ⟨1, _⟩ => from_start h1 i)
  rw [e] at b
  refine b.trans ?_
  show out0_5 (iblk m c 0 t0_0) (iblk m c 1 t0_0) (iblk m c 2 t0_0) (iblk m c 3 t0_0) i = _
  unfold out0_5
  rw [View.canon_unit_zero (S := S8x1024) hz, View.ld_unit_zero (S := S16x768) hz, View.ld_unit_zero (S := S1024x768) hz]
  exact point_context (whole3 m c t0_0) (whole2 m c t0_0) i

end

/-! ### The reference's arrays -/

section
open Cert.Reference9Ideal.Read
variable {x0 : (⟨Cert.Reference9Ideal.S8x1024, .f32⟩ : BufTy).Contents (Elt Ideal)} {x1 : (⟨Cert.Reference9Ideal.S1x1024, .f32⟩ : BufTy).Contents (Elt Ideal)}
  {x2 : (⟨Cert.Reference9Ideal.S1024x768, .f32⟩ : BufTy).Contents (Elt Ideal)} {x3 : (⟨Cert.Reference9Ideal.S8x768, .f32⟩ : BufTy).Contents (Elt Ideal)}
  {x4 : (⟨Cert.Reference9Ideal.S1x768, .f32⟩ : BufTy).Contents (Elt Ideal)} {C K D E W : ℕ → ℕ → EReal}

/-- The activations of the devices' conditions. -/
theorem activations (hc : Reads (m := 8) (n := 1024) x0 C) : Reads (m := 8) (n := 1024) (val_main_v1 (F := Ideal) x0) fun r k => gate (C r k) := fun i => by
  rw [val_main_v1_apply, val_main_call1_v5_apply, val_main_call1_v4_apply, val_main_call1_v3_apply, val_main_call1_v2_apply, val_main_call1_v1_apply, val_main_call1_v0_apply]
  exact congrArg₂ (· * ·) (hc i) (congrArg₂ Ideal.div (word_one.trans EReal.coe_one) (congrArg₂ (· + ·) (word_one.trans EReal.coe_one) (congrArg Ideal.exp (congrArg (- ·) (hc i)))))

/-- The activations of the context's condition. -/
theorem context_activations (hk : Reads (m := 1) (n := 1024) x1 K) : Reads (m := 1) (n := 1024) (val_main_v0 (F := Ideal) x1) fun r k => gate (K r k) := fun i => by
  rw [val_main_v0_apply, val_main_call0_v5_apply, val_main_call0_v4_apply, val_main_call0_v3_apply, val_main_call0_v2_apply, val_main_call0_v1_apply, val_main_call0_v0_apply]
  exact congrArg₂ (· * ·) (hk i) (congrArg₂ Ideal.div (word_one.trans EReal.coe_one) (congrArg₂ (· + ·) (word_one.trans EReal.coe_one) (congrArg Ideal.exp (congrArg (- ·) (hk i)))))

/-- The gradient of the weight. -/
theorem reference_weight (hc : Reads (m := 8) (n := 1024) x0 C) (hk : Reads (m := 1) (n := 1024) x1 K) (hd : Reads (m := 8) (n := 768) x3 D) (he : Reads (m := 1) (n := 768) x4 E)
    (i : Cert.Reference9Ideal.S1x1024x768.Idx) : val_main_v10 (F := Ideal) x0 x1 x3 x4 i = weightGrad C K D E (i 1).val (i 2).val := by
  rw [val_main_v10_apply, val_main_v9_apply, val_main_v5_apply, val_main_v4_apply, val_main_v8_apply, val_main_v7_apply]
  refine Eq.trans ?_ (add_comm _ _)
  refine congrArg₂ (· + ·) ?_ ?_
  · rw [Fin.sum_univ_one]
    exact (congrArg₂ (· * ·) (he _) (context_activations hk _)).trans (mul_comm _ _)
  · rw [Finset.sum_range]
    exact Finset.sum_congr rfl fun j _ => (congrArg₂ (· * ·) (hd _) (activations hc _)).trans (mul_comm _ _)

/-- The gradient at the context's activations. -/
theorem reference_context (he : Reads (m := 1) (n := 768) x4 E) (hw : Reads (m := 1024) (n := 768) x2 W) :
    Reads (m := 8) (n := 1024) (val_main_v11 (F := Ideal) x2 x4) (contextGrad E W) := .of fun r k => by
  show pad Cert.Reference9Ideal.S8x1024 ![0, 0] ![7, 0] ![0, 0] (val_main_v6 (F := Ideal) x2 x4) (val_main_call2_v0 (F := Ideal)) Cert.Reference9Ideal.Gen.pads_S1x1024_S8x1024_070_000
    Cert.Reference9Ideal.Gen.h_S_ (ix2 r k) = _
  unfold contextGrad
  split
  · next h =>
    refine (pad_apply_of_inside _ _ _ _ _ _ _ (ix2 r k) (ix2 (⟨r.val, h⟩ : Fin 1) k) (fun a => ?_)).trans ?_
    · match a with
      | ⟨0, _⟩ => show r.val = 0 + r.val * (0 + 1); omega
      | ⟨1, _⟩ => show k.val = 0 + k.val * (0 + 1); omega
    · rw [val_main_v6_apply, Finset.sum_range]
      exact Finset.sum_congr rfl fun j _ => congrArg₂ (· * ·) (he _) (hw _)
  · next h =>
    refine (pad_apply_of_not_inside _ _ _ _ _ _ _ (ix2 r k) 0 (fun hi => h ?_)).trans ?_
    · have h2 : (r.val - 0) / (0 + 1) < 1 := hi.2.2
      simpa using h2
    · show ((((0#32 : BitVec 32).toInt : ℤ) : ℝ) : EReal) = 0
      simp

end

/-- The reference runs, its arguments unchanged; it declares no semaphore. -/
theorem frame_reference : Cert.quiescent_Reference9Ideal (hReference9Ideal := Cert.Reference9Ideal.Gen.facts) := fun m ρ _ =>
  (θ_run Cert.Reference9Ideal.defs _ _).mono
    (fun r h => ⟨fun c => (h c).2.2, sem_eq_zero_of_no_sems (by decide) r.2⟩)
    (Cert.Reference9Ideal.Value.run (F := Ideal) m ρ)

/-- From equal arguments the kernel's results and the reference's are equal. -/
theorem algebraic : Cert.algebraic_Kernel9Ideal_Reference9Ideal (hKernel9Ideal := Cert.Kernel9Ideal.Gen.facts)
    (hReference9Ideal := Cert.Reference9Ideal.Gen.facts) := by
  intro m ρ m' ρ' _ hagree
  refine ⟨fun c => (dats m 0 c).arrAt 4 cfg0.N, fun c => (dats m 0 c).arrAt 5 cfg0.N, Value.run_blocks m ρ, ?_⟩
  refine (θ_run Cert.Reference9Ideal.defs _ _).mono (fun r h c => ?_) (Cert.Reference9Ideal.Value.run (F := Ideal) m' ρ')
  obtain ⟨a0, a1, a2, a3, a4⟩ := hagree c
  obtain ⟨h0, h1, hargs⟩ := h c
  refine ⟨(h0.trans (Cert.Reference9Ideal.Read.val_main_v10_eq ..)).trans ?_, (h1.trans (Cert.Reference9Ideal.Read.val_main_v11_eq _ _)).trans ?_, hargs⟩
  · rw [a0, a1, a3, a4]
    exact funext fun i => (reference_weight (C := tC m c) (K := tK m c) (D := tD m c) (E := tE m c) (reads_table (m := 8) (n := 1024) _) (reads_table (m := 1) (n := 1024) _)
      (reads_table (m := 8) (n := 768) _) (reads_table (m := 1) (n := 768) _) i).trans (array_4 m c i).symm
  · rw [a2, a4]
    exact Reads.unique (m := 8) (n := 1024) (reference_context (E := tE m c) (W := tW m c) (reads_table (m := 1) (n := 768) _) (reads_table (m := 1024) (n := 768) _)) (array_5 m c)

end Cert.Ada

end
-- ==== Proof.Adam.lean ====
module

public import Idealize.ShloMosaic.Adequacy
public import proofs.«01_k».proof.Proof.Inproj

@[expose] public section

/-! One step of the optimiser, entry by entry: the two moments' new values and the change of the weight; and the two constants
whose reciprocals the kernels multiply by. -/

noncomputable section

namespace Cert.Adam

open Idealize.ShloMosaic hiding ix2 ix3
open Idealize.ShloMosaic.TcCoe
open Idealize.ShloMosaic.ValueIdx Idealize.SL.Sem
open scoped BigOperators

/-- The real number that a float's word holds. -/
abbrev word (w : BitVec 32) : EReal := Ideal.ofBits .f32 w

/-- The first moment after the step. -/
def first (g m : EReal) : EReal := word 0x3F666666#32 * m + word 0x3DCCCCCD#32 * g
/-- The second moment after the step. -/
def second (g v : EReal) : EReal := word 0x3F7FBE77#32 * v + word 0x3A83126F#32 * (g * g)
/-- The change of the weight, with its decay. -/
def change (w g m v : EReal) : EReal :=
  word 0xBA83126F#32 * (Ideal.div (Ideal.div (first g m) (word 0x3F26BD02#32)) (Ideal.sqrt (Ideal.div (second g v) (word 0x3C231ACC#32)) + word 0x322BCC77#32)
    + word 0x3C23D70A#32 * w)

/-- What the first moment is divided by. -/
theorem word_first : word 0x3F26BD02#32 = ((5463681 * 8388608⁻¹ : ℝ) : EReal) := by
  simp [word, Ideal.ofBits, Ideal.ieee, -EReal.coe_mul]; norm_num
/-- What the second moment is divided by. -/
theorem word_second : word 0x3C231ACC#32 = ((2672307 * 268435456⁻¹ : ℝ) : EReal) := by
  simp [word, Ideal.ofBits, Ideal.ieee, -EReal.coe_mul]; norm_num

/-- Times the reciprocal is divided by: the first moment. -/
theorem over_first (x : EReal) : x * (((5463681 * 8388608⁻¹)⁻¹ : ℝ) : EReal) = Ideal.div x (word 0x3F26BD02#32) := by
  rw [word_first, Ideal.div_coe (by norm_num), one_div]
/-- Times the reciprocal is divided by: the second moment. -/
theorem over_second (x : EReal) : x * (((2672307 * 268435456⁻¹)⁻¹ : ℝ) : EReal) = Ideal.div x (word 0x3C231ACC#32) := by
  rw [word_second, Ideal.div_coe (by norm_num), one_div]

/-- A matrix under a leading axis of size one. -/
theorem lifted {p q : ℕ} {α : Type} (x : (⟨2, ![p, q]⟩ : Shape).Idx → α) (h : (⟨2, ![p, q]⟩ : Shape).ShapeCasts ⟨3, ![1, p, q]⟩) (z : Fin 1) (r : Fin p) (k : Fin q) :
    shapeCast ⟨3, ![1, p, q]⟩ x h (ix3 z r k) = x (ix2 r k) :=
  shapeCast_apply x h _ _ (by
    rw [Shape.rowMajor_val_two, Shape.rowMajor_val_three]
    show r.val * q + k.val = (z.val * p + r.val) * q + k.val
    rw [show z.val = 0 from Nat.lt_one_iff.1 z.isLt, Nat.zero_mul, Nat.zero_add])
/-- A matrix whose leading axis of size one is dropped. -/
theorem dropped {p q : ℕ} {α : Type} (x : (⟨3, ![1, p, q]⟩ : Shape).Idx → α) (h : (⟨3, ![1, p, q]⟩ : Shape).ShapeCasts ⟨2, ![p, q]⟩) (z : Fin 1) (r : Fin p) (k : Fin q) :
    shapeCast ⟨2, ![p, q]⟩ x h (ix2 r k) = x (ix3 z r k) :=
  shapeCast_apply x h _ _ (by
    rw [Shape.rowMajor_val_two, Shape.rowMajor_val_three]
    show (z.val * p + r.val) * q + k.val = r.val * q + k.val
    rw [show z.val = 0 from Nat.lt_one_iff.1 z.isLt, Nat.zero_mul, Nat.zero_add])

/-- The gradient at an entry, summed over the devices. -/
def total {n p q : ℕ} (G : (⟨3, ![n, p, q]⟩ : Shape).Idx → EReal) (r : Fin p) (k : Fin q) : EReal := ∑ j : Fin n, G (ix3 j r k)

/-- A block's index along three axes, if it is the block of rows `t`. -/
abbrev Rows (f : Fin 3 → ℕ) (t : ℕ) : Prop := f 0 = 0 ∧ f 1 = t ∧ f 2 = 0

/-- Two arrays of one slot are equal if their entries are. -/
theorem by_rows {p q : ℕ} {α : Type} {f g : (⟨3, ![1, p, q]⟩ : Shape).Idx → α} (h : ∀ (r : Fin p) (k : Fin q), f (ix3 0 r k) = g (ix3 0 r k)) : f = g :=
  funext fun i =>
    have e : i = ix3 (n0 := 1) (n1 := p) (n2 := q) 0 (i 1) (i 2) :=
      (ValueIdx.eq_ix3 (n0 := 1) (n1 := p) (n2 := q) i).trans (congrArg (fun z : Fin 1 => ix3 (n0 := 1) (n1 := p) (n2 := q) z (i 1) (i 2)) (Subsingleton.elim (α := Fin 1) (i 0) 0))
    (congrArg f e).trans ((h _ _).trans (congrArg g e).symm)

/-- The offset of a whole block of three axes. -/
theorem start : (![0, 0, 0] : Fin 3 → Nat) = fun _ => 0 := funext fun a => by fin_cases a <;> rfl

/-- A coordinate of a block that starts at zero. -/
theorem from_zero {i n j : ℕ} (h : i = 0) : i * n + 1 * j = j := by rw [h]; ring
/-- A coordinate of a block of rows. -/
theorem from_rows {i n t j : ℕ} (h : i = t) : i * n + 1 * j = n * t + j := by rw [h]; ring

end Cert.Adam

end
-- ==== Proof.AdamAda.lean ====
module

public import proofs.«01_k».proof.Defs
public import proofs.«01_k».proof.Proof.Adam
public import proofs.«01_k».proof.Proof.Gen.Kernel10Ideal.Value
public import proofs.«01_k».proof.Proof.Gen.Reference10Ideal.Run
public import proofs.«01_k».proof.Proof.Gen.Reference10Ideal.Read

@[expose] public section

/-! The optimiser's step for the weight of the modulation vectors: the kernel's arrays are the reference's. -/

noncomputable section

namespace Cert.AdamAda

open Idealize.ShloMosaic hiding ix2 ix3
open Idealize.ShloMosaic.TcCoe
open Idealize.ShloMosaic.ValueIdx Idealize.SL.Sem Cert.Adam Cert.Kernel10Ideal Cert.Kernel10Ideal.Gen
open scoped BigOperators

/-- The name for the first moment's factor holds the reciprocal. -/
theorem named_first : Named.named (F := Ideal) κ "c1" (φ := .f32) 0x3FC48605#32 = (((5463681 * 8388608⁻¹)⁻¹ : ℝ) : EReal) :=
  IdealRules.named_const.ideal_named_scalar _ _ _ _ rfl
/-- The name for the second moment's factor holds the reciprocal. -/
theorem named_second : Named.named (F := Ideal) κ "c2" (φ := .f32) 0x42C8E6D3#32 = (((2672307 * 268435456⁻¹)⁻¹ : ℝ) : EReal) :=
  IdealRules.named_const.ideal_named_scalar _ _ _ _ rfl

/-- The two named constants are the exact reciprocals. -/
theorem preserves : Cert.preserves_Kernel10_Kernel10Ideal :=
  ⟨IdealRules.named_const.statement κ "c1" .f32 0x3FC48605#32 (((5463681 * 8388608⁻¹)⁻¹ : ℝ) : EReal) rfl,
    IdealRules.named_const.statement κ "c2" .f32 0x42C8E6D3#32 (((2672307 * 268435456⁻¹)⁻¹ : ℝ) : EReal) rfl⟩

/-! ### One block -/

section
variable (x0 : Vec Ideal S1x512x768 .f32) (x1 : Vec Ideal S1x512x768 .f32) (x2 x3 : Vec Ideal S1x512x768 .f32) (r : Fin 512) (k : Fin 768)

/-- The gradient. -/
theorem point_sum : (k0_pay2 (View.ld x1 r0_0) : FVec Ideal S512x768 .f32) (ix2 r k) = total (p := 512) (q := 768) x1 r k := by
  unfold k0_pay2
  refine (dropped (p := 512) (q := 768) _ _ 0 r k).trans ?_
  rw [View.ld_unit_zero (S := S1x512x768) start]
  exact (Fin.sum_univ_one fun j : Fin 1 => x1 (ix3 (n0 := 1) (n1 := 512) (n2 := 768) j r k)).symm

/-- The first moment. -/
theorem point_first : (k0_pay4 (View.ld x1 r0_0) (View.ld x2 r0_0) : FVec Ideal S512x768 .f32) (ix2 r k) = first (total (p := 512) (q := 768) x1 r k) (x2 (ix3 0 r k)) := by
  have h := point_sum x1 r k
  unfold k0_pay4
  exact congrArg₂ (· + ·) (congrArg₂ (· * ·) rfl ((dropped (p := 512) (q := 768) (View.ld (Val := Elt Ideal) x2 r0_0) _ 0 r k).trans (congrFun (View.ld_unit_zero (S := S1x512x768) start ..) _))) (congrArg₂ (· * ·) rfl h)

/-- The second moment. -/
theorem point_second : (k0_pay5 (View.ld x1 r0_0) (View.ld x3 r0_0) : FVec Ideal S512x768 .f32) (ix2 r k) = second (total (p := 512) (q := 768) x1 r k) (x3 (ix3 0 r k)) := by
  have h := point_sum x1 r k
  unfold k0_pay5
  exact congrArg₂ (· + ·) (congrArg₂ (· * ·) rfl ((dropped (p := 512) (q := 768) (View.ld (Val := Elt Ideal) x3 r0_0) _ 0 r k).trans (congrFun (View.ld_unit_zero (S := S1x512x768) start ..) _))) (congrArg₂ (· * ·) rfl (congrArg₂ (· * ·) h h))

/-- The gradient's block. -/
theorem out_sum (z : Fin 1) : (out0_4 x0 x1 x2 x3 : Vec Ideal S1x512x768 .f32) (ix3 z r k) = total (p := 512) (q := 768) x1 r k := by
  unfold out0_4
  rw [View.canon_unit_zero (S := S1x512x768) start]
  unfold k0_pay3
  exact (lifted (p := 512) (q := 768) _ _ z r k).trans (point_sum x1 r k)

/-- The first moment's block. -/
theorem out_first (z : Fin 1) : (out0_6 x0 x1 x2 x3 : Vec Ideal S1x512x768 .f32) (ix3 z r k) = first (total (p := 512) (q := 768) x1 r k) (x2 (ix3 0 r k)) := by
  unfold out0_6
  rw [View.canon_unit_zero (S := S1x512x768) start]
  unfold k0_pay6
  exact (lifted (p := 512) (q := 768) _ _ z r k).trans (point_first x1 x2 r k)

/-- The second moment's block. -/
theorem out_second (z : Fin 1) : (out0_7 x0 x1 x2 x3 : Vec Ideal S1x512x768 .f32) (ix3 z r k) = second (total (p := 512) (q := 768) x1 r k) (x3 (ix3 0 r k)) := by
  unfold out0_7
  rw [View.canon_unit_zero (S := S1x512x768) start]
  unfold k0_pay7
  exact (lifted (p := 512) (q := 768) _ _ z r k).trans (point_second x1 x3 r k)

/-- The change's block. -/
theorem out_change (z : Fin 1) :
    (out0_5 x0 x1 x2 x3 : Vec Ideal S1x512x768 .f32) (ix3 z r k) = change (x0 (ix3 0 r k)) (total (p := 512) (q := 768) x1 r k) (x2 (ix3 0 r k)) (x3 (ix3 0 r k)) := by
  have hm := point_first x1 x2 r k
  have hv := point_second x1 x3 r k
  unfold out0_5
  rw [View.canon_unit_zero (S := S1x512x768) start]
  unfold k0_pay1
  refine (lifted (p := 512) (q := 768) _ _ z r k).trans ?_
  unfold k0_pay8 k0_pay9
  dsimp only
  refine congrArg₂ (· * ·) rfl (congrArg₂ (· + ·) (congrArg₂ Ideal.div ?_ (congrArg₂ (· + ·) (congrArg Ideal.sqrt ?_) rfl)) (congrArg₂ (· * ·) rfl ?_))
  · exact (congrArg₂ (· * ·) hm named_first).trans (over_first _)
  · exact (congrArg₂ (· * ·) hv named_second).trans (over_second _)
  · exact (dropped (p := 512) (q := 768) (View.ld (Val := Elt Ideal) x0 r0_0) _ 0 r k).trans (congrFun (View.ld_unit_zero (S := S1x512x768) start ..) _)

end

/-! ### The arrays -/

section
variable (m : (ℓ : Loc nD τ sig) → Buf (Elt Ideal) ℓ) (c : Dev nD)

/-- Every window's block is a block of rows. -/
theorem index_rows : ∀ t : Fin cfg0.N, Rows (win0_0.index t) t.val ∧ Rows (win0_1.index t) t.val ∧ Rows (win0_2.index t) t.val ∧ Rows (win0_3.index t) t.val ∧ Rows (win0_4.index t) t.val ∧ Rows (win0_5.index t) t.val ∧ Rows (win0_6.index t) t.val ∧ Rows (win0_7.index t) t.val :=
  (by decide +kernel : ∀ t : Fin grid0.N, Rows (win0_0.index t) t.val ∧ Rows (win0_1.index t) t.val ∧ Rows (win0_2.index t) t.val ∧ Rows (win0_3.index t) t.val ∧ Rows (win0_4.index t) t.val ∧ Rows (win0_5.index t) t.val ∧ Rows (win0_6.index t) t.val ∧ Rows (win0_7.index t) t.val)

/-- A block of the weight. -/
theorem block0 (t : Fin cfg0.N) (j : Fin 1) (r : Fin 512) (k : Fin 768) (R : Fin 1024) (hR : R.val = 512 * t.val + r.val) :
    (iblk m c 0 t : Vec Ideal S1x512x768 .f32) (ix3 j r k) = (m ((c : Thread nD τ).loc main_arg0) : (⟨S1x1024x768, .f32⟩ : BufTy).Contents (Elt Ideal)) (ix3 j R k) := by
  obtain ⟨h0, h1, h2⟩ := (index_rows t).1
  show V m c main_arg0 (((cfg0.win 0).blk t).view.emb (ix3 (n0 := 1) (n1 := 512) (n2 := 768) j r k)) = _
  rw [V_main_arg0]
  refine congrArg _ (funext fun a => Fin.ext (match a with
    | ⟨0, _⟩ => from_zero h0
    | ⟨1, _⟩ => (from_rows h1).trans hR.symm
    | ⟨2, _⟩ => from_zero h2))

/-- A block of the gradients. -/
theorem block1 (t : Fin cfg0.N) (j : Fin 1) (r : Fin 512) (k : Fin 768) (R : Fin 1024) (hR : R.val = 512 * t.val + r.val) :
    (iblk m c 1 t : Vec Ideal S1x512x768 .f32) (ix3 j r k) = (m ((c : Thread nD τ).loc main_arg1) : (⟨S1x1024x768, .f32⟩ : BufTy).Contents (Elt Ideal)) (ix3 j R k) := by
  obtain ⟨h0, h1, h2⟩ := (index_rows t).2.1
  show V m c main_arg1 (((cfg0.win 1).blk t).view.emb (ix3 (n0 := 1) (n1 := 512) (n2 := 768) j r k)) = _
  rw [V_main_arg1]
  refine congrArg _ (funext fun a => Fin.ext (match a with
    | ⟨0, _⟩ => from_zero h0
    | ⟨1, _⟩ => (from_rows h1).trans hR.symm
    | ⟨2, _⟩ => from_zero h2))

/-- A block of the first moment. -/
theorem block2 (t : Fin cfg0.N) (j : Fin 1) (r : Fin 512) (k : Fin 768) (R : Fin 1024) (hR : R.val = 512 * t.val + r.val) :
    (iblk m c 2 t : Vec Ideal S1x512x768 .f32) (ix3 j r k) = (m ((c : Thread nD τ).loc main_arg2) : (⟨S1x1024x768, .f32⟩ : BufTy).Contents (Elt Ideal)) (ix3 j R k) := by
  obtain ⟨h0, h1, h2⟩ := (index_rows t).2.2.1
  show V m c main_arg2 (((cfg0.win 2).blk t).view.emb (ix3 (n0 := 1) (n1 := 512) (n2 := 768) j r k)) = _
  rw [V_main_arg2]
  refine congrArg _ (funext fun a => Fin.ext (match a with
    | ⟨0, _⟩ => from_zero h0
    | ⟨1, _⟩ => (from_rows h1).trans hR.symm
    | ⟨2, _⟩ => from_zero h2))

/-- A block of the second moment. -/
theorem block3 (t : Fin cfg0.N) (j : Fin 1) (r : Fin 512) (k : Fin 768) (R : Fin 1024) (hR : R.val = 512 * t.val + r.val) :
    (iblk m c 3 t : Vec Ideal S1x512x768 .f32) (ix3 j r k) = (m ((c : Thread nD τ).loc main_arg3) : (⟨S1x1024x768, .f32⟩ : BufTy).Contents (Elt Ideal)) (ix3 j R k) := by
  obtain ⟨h0, h1, h2⟩ := (index_rows t).2.2.2.1
  show V m c main_arg3 (((cfg0.win 3).blk t).view.emb (ix3 (n0 := 1) (n1 := 512) (n2 := 768) j r k)) = _
  rw [V_main_arg3]
  refine congrArg _ (funext fun a => Fin.ext (match a with
    | ⟨0, _⟩ => from_zero h0
    | ⟨1, _⟩ => (from_rows h1).trans hR.symm
    | ⟨2, _⟩ => from_zero h2))

/-- The arrays' entries at a row and a column. -/
abbrev wAt (r : Fin 1024) (k : Fin 768) : EReal := (m ((c : Thread nD τ).loc main_arg0) : (⟨S1x1024x768, .f32⟩ : BufTy).Contents (Elt Ideal)) (ix3 (n0 := 1) (n1 := 1024) (n2 := 768) 0 r k)
abbrev gAt (r : Fin 1024) (k : Fin 768) : EReal := total (p := 1024) (q := 768) (m ((c : Thread nD τ).loc main_arg1) : (⟨S1x1024x768, .f32⟩ : BufTy).Contents (Elt Ideal)) r k
abbrev mAt (r : Fin 1024) (k : Fin 768) : EReal := (m ((c : Thread nD τ).loc main_arg2) : (⟨S1x1024x768, .f32⟩ : BufTy).Contents (Elt Ideal)) (ix3 (n0 := 1) (n1 := 1024) (n2 := 768) 0 r k)
abbrev vAt (r : Fin 1024) (k : Fin 768) : EReal := (m ((c : Thread nD τ).loc main_arg3) : (⟨S1x1024x768, .f32⟩ : BufTy).Contents (Elt Ideal)) (ix3 (n0 := 1) (n1 := 1024) (n2 := 768) 0 r k)

/-- A block's gradient is the array's. -/
theorem total_block (t : Fin cfg0.N) (r : Fin 512) (k : Fin 768) (R : Fin 1024) (hR : R.val = 512 * t.val + r.val) :
    total (p := 512) (q := 768) (iblk m c 1 t) r k = gAt m c R k :=
  Finset.sum_congr rfl fun j _ => block1 m c t j r k R hR

/-- A row's point is in the grid. -/
theorem point_of (r : Fin 1024) : r.val / 512 < cfg0.N := by
  have hN : cfg0.N = 2 := N_0
  have := r.isLt
  omega
/-- The point that writes a row. -/
abbrev point (r : Fin 1024) : Fin cfg0.N := ⟨r.val / 512, point_of r⟩
/-- The row's place in the point's block. -/
abbrev place (r : Fin 1024) : Fin 512 := ⟨r.val % 512, Nat.mod_lt _ (by norm_num)⟩
theorem row_of (r : Fin 1024) : r.val = 512 * (point r).val + (place r).val := (Nat.div_add_mod _ _).symm

/-- The result array of the gradient. -/
theorem array_4 (z : Fin 1) (r : Fin 1024) (k : Fin 768) : (dats m 0 c).arrAt 4 cfg0.N (ix3 (n0 := 1) (n1 := 1024) (n2 := 768) z r k) = gAt m c r k := by
  have b := congrFun (Value.blocks4 m c (point r) (flush0_4 _)) (ix3 (n0 := 1) (n1 := 512) (n2 := 768) z (place r) k)
  rw [View.read_apply, Value.flushed4] at b
  obtain ⟨h0, h1, h2⟩ := (index_rows (point r)).2.2.2.2.1
  have e : ((cfg0.win 4).blk (point r)).view.emb (ix3 (n0 := 1) (n1 := 512) (n2 := 768) z (place r) k) = ix3 (n0 := 1) (n1 := 1024) (n2 := 768) z r k :=
    funext fun a => Fin.ext (match a with
      | ⟨0, _⟩ => from_zero h0
      | ⟨1, _⟩ => (from_rows h1).trans (row_of r).symm
      | ⟨2, _⟩ => from_zero h2)
  rw [e] at b
  refine b.trans ((out_sum _ _ _ _ _ k z).trans ?_)
  rw [total_block m c _ _ k r (row_of r)]

/-- The result array of the change. -/
theorem array_5 (z : Fin 1) (r : Fin 1024) (k : Fin 768) : (dats m 0 c).arrAt 5 cfg0.N (ix3 (n0 := 1) (n1 := 1024) (n2 := 768) z r k) = change (wAt m c r k) (gAt m c r k) (mAt m c r k) (vAt m c r k) := by
  have b := congrFun (Value.blocks5 m c (point r) (flush0_5 _)) (ix3 (n0 := 1) (n1 := 512) (n2 := 768) z (place r) k)
  rw [View.read_apply, Value.flushed5] at b
  obtain ⟨h0, h1, h2⟩ := (index_rows (point r)).2.2.2.2.2.1
  have e : ((cfg0.win 5).blk (point r)).view.emb (ix3 (n0 := 1) (n1 := 512) (n2 := 768) z (place r) k) = ix3 (n0 := 1) (n1 := 1024) (n2 := 768) z r k :=
    funext fun a => Fin.ext (match a with
      | ⟨0, _⟩ => from_zero h0
      | ⟨1, _⟩ => (from_rows h1).trans (row_of r).symm
      | ⟨2, _⟩ => from_zero h2)
  rw [e] at b
  refine b.trans ((out_change _ _ _ _ _ k z).trans ?_)
  rw [total_block m c _ _ k r (row_of r)]
  rw [block0 m c _ _ _ k r (row_of r), block2 m c _ _ _ k r (row_of r), block3 m c _ _ _ k r (row_of r)]

/-- The result array of the first moment. -/
theorem array_6 (z : Fin 1) (r : Fin 1024) (k : Fin 768) : (dats m 0 c).arrAt 6 cfg0.N (ix3 (n0 := 1) (n1 := 1024) (n2 := 768) z r k) = first (gAt m c r k) (mAt m c r k) := by
  have b := congrFun (Value.blocks6 m c (point r) (flush0_6 _)) (ix3 (n0 := 1) (n1 := 512) (n2 := 768) z (place r) k)
  rw [View.read_apply, Value.flushed6] at b
  obtain ⟨h0, h1, h2⟩ := (index_rows (point r)).2.2.2.2.2.2.1
  have e : ((cfg0.win 6).blk (point r)).view.emb (ix3 (n0 := 1) (n1 := 512) (n2 := 768) z (place r) k) = ix3 (n0 := 1) (n1 := 1024) (n2 := 768) z r k :=
    funext fun a => Fin.ext (match a with
      | ⟨0, _⟩ => from_zero h0
      | ⟨1, _⟩ => (from_rows h1).trans (row_of r).symm
      | ⟨2, _⟩ => from_zero h2)
  rw [e] at b
  refine b.trans ((out_first _ _ _ _ _ k z).trans ?_)
  rw [total_block m c _ _ k r (row_of r)]
  rw [block2 m c _ _ _ k r (row_of r)]

/-- The result array of the second moment. -/
theorem array_7 (z : Fin 1) (r : Fin 1024) (k : Fin 768) : (dats m 0 c).arrAt 7 cfg0.N (ix3 (n0 := 1) (n1 := 1024) (n2 := 768) z r k) = second (gAt m c r k) (vAt m c r k) := by
  have b := congrFun (Value.blocks7 m c (point r) (flush0_7 _)) (ix3 (n0 := 1) (n1 := 512) (n2 := 768) z (place r) k)
  rw [View.read_apply, Value.flushed7] at b
  obtain ⟨h0, h1, h2⟩ := (index_rows (point r)).2.2.2.2.2.2.2
  have e : ((cfg0.win 7).blk (point r)).view.emb (ix3 (n0 := 1) (n1 := 512) (n2 := 768) z (place r) k) = ix3 (n0 := 1) (n1 := 1024) (n2 := 768) z r k :=
    funext fun a => Fin.ext (match a with
      | ⟨0, _⟩ => from_zero h0
      | ⟨1, _⟩ => (from_rows h1).trans (row_of r).symm
      | ⟨2, _⟩ => from_zero h2)
  rw [e] at b
  refine b.trans ((out_second _ _ _ _ _ k z).trans ?_)
  rw [total_block m c _ _ k r (row_of r)]
  rw [block3 m c _ _ _ k r (row_of r)]

end

/-! ### The reference's arrays -/

section
open Cert.Reference10Ideal.Read
variable (x0 : (⟨Cert.Reference10Ideal.S1x1024x768, .f32⟩ : BufTy).Contents (Elt Ideal)) (x1 : (⟨Cert.Reference10Ideal.S1x1024x768, .f32⟩ : BufTy).Contents (Elt Ideal)) (x2 x3 : (⟨Cert.Reference10Ideal.S1x1024x768, .f32⟩ : BufTy).Contents (Elt Ideal))
  (z : Fin 1) (r : Fin 1024) (k : Fin 768)

/-- The reference's gradient, summed over the devices. -/
theorem reference_sum : val_main_v1 (F := Ideal) x1 (ix3 (n0 := 1) (n1 := 1024) (n2 := 768) z r k) = total (p := 1024) (q := 768) x1 r k := by
  simp only [val_main_cst_apply, val_main_v0_apply, val_main_v1_apply]
  refine (congrArg₂ (· + ·) Ideal.ofBits_zero_f32 (Finset.sum_congr rfl fun j _ => ?_)).trans (zero_add _)
  exact congrArg x1 (funext fun a => Fin.ext (match a with
    | ⟨0, _⟩ => rfl
    | ⟨1, _⟩ => rfl
    | ⟨2, _⟩ => rfl))

/-- The reference's first moment. -/
theorem reference_first : val_main_v6 (F := Ideal) x1 x2 (ix3 (n0 := 1) (n1 := 1024) (n2 := 768) z r k) = first (total (p := 1024) (q := 768) x1 r k) (x2 (ix3 z r k)) := by
  simp only [val_main_cst_0_apply, val_main_v2_apply, val_main_v3_apply, val_main_cst_1_apply, val_main_v4_apply, val_main_v5_apply, val_main_v6_apply]
  rw [reference_sum]
  rfl

/-- The reference's second moment. -/
theorem reference_second : val_main_v12 (F := Ideal) x1 x3 (ix3 (n0 := 1) (n1 := 1024) (n2 := 768) z r k) = second (total (p := 1024) (q := 768) x1 r k) (x3 (ix3 z r k)) := by
  simp only [val_main_cst_2_apply, val_main_v7_apply, val_main_v8_apply, val_main_v9_apply, val_main_cst_3_apply, val_main_v10_apply, val_main_v11_apply, val_main_v12_apply]
  rw [reference_sum]
  rfl

/-- The reference's change. -/
theorem reference_change : val_main_v25 (F := Ideal) x0 x1 x2 x3 (ix3 (n0 := 1) (n1 := 1024) (n2 := 768) z r k)
    = change (x0 (ix3 z r k)) (total (p := 1024) (q := 768) x1 r k) (x2 (ix3 z r k)) (x3 (ix3 z r k)) := by
  simp only [val_main_cst_4_apply, val_main_v13_apply, val_main_v14_apply, val_main_cst_5_apply, val_main_v15_apply, val_main_v16_apply, val_main_v17_apply, val_main_cst_6_apply, val_main_v18_apply, val_main_v19_apply, val_main_v20_apply, val_main_cst_7_apply, val_main_v21_apply, val_main_v22_apply, val_main_v23_apply, val_main_cst_8_apply, val_main_v24_apply, val_main_v25_apply]
  rw [reference_first, reference_second]
  rfl

end

/-- The reference runs, its arguments unchanged; it declares no semaphore. -/
theorem frame_reference : Cert.quiescent_Reference10Ideal (hReference10Ideal := Cert.Reference10Ideal.Gen.facts) := fun m ρ _ =>
  (θ_run Cert.Reference10Ideal.defs _ _).mono
    (fun r h => ⟨fun c => (h c).2.2.2.2, sem_eq_zero_of_no_sems (by decide) r.2⟩)
    (Cert.Reference10Ideal.Value.run (F := Ideal) m ρ)

/-- From equal arguments the kernel's results and the reference's are equal. -/
theorem algebraic : Cert.algebraic_Kernel10Ideal_Reference10Ideal (hKernel10Ideal := Cert.Kernel10Ideal.Gen.facts)
    (hReference10Ideal := Cert.Reference10Ideal.Gen.facts) := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N,
    Value.run_blocks m ρ, ?_⟩
  refine (θ_run Cert.Reference10Ideal.defs _ _).mono (fun r h c => ?_) (Cert.Reference10Ideal.Value.run (F := Ideal) m' ρ')
  obtain ⟨a0, a1, a2, a3⟩ := hagree c
  obtain ⟨h0, h1, h2, h3, hargs⟩ := h c
  refine ⟨(h0.trans (Cert.Reference10Ideal.Read.val_main_v1_eq ..)).trans ?_, (h1.trans (Cert.Reference10Ideal.Read.val_main_v25_eq ..)).trans ?_,
    (h2.trans (Cert.Reference10Ideal.Read.val_main_v6_eq ..)).trans ?_, (h3.trans (Cert.Reference10Ideal.Read.val_main_v12_eq ..)).trans ?_, hargs⟩
  · rw [a1]
    exact by_rows (p := 1024) (q := 768) fun r k => (reference_sum _ 0 r k).trans (array_4 m c 0 r k).symm
  · rw [a0, a1, a2, a3]
    exact by_rows (p := 1024) (q := 768) fun r k => (reference_change _ _ _ _ 0 r k).trans (array_5 m c 0 r k).symm
  · rw [a1, a2]
    exact by_rows (p := 1024) (q := 768) fun r k => (reference_first _ _ 0 r k).trans (array_6 m c 0 r k).symm
  · rw [a1, a3]
    exact by_rows (p := 1024) (q := 768) fun r k => (reference_second _ _ 0 r k).trans (array_7 m c 0 r k).symm

end Cert.AdamAda

end
-- ==== Proof.AdamOut.lean ====
module

public import proofs.«01_k».proof.Defs
public import proofs.«01_k».proof.Proof.Adam
public import proofs.«01_k».proof.Proof.Gen.Kernel11Ideal.Value
public import proofs.«01_k».proof.Proof.Gen.Reference11Ideal.Run
public import proofs.«01_k».proof.Proof.Gen.Reference11Ideal.Read

@[expose] public section

/-! The optimiser's step for the weight after the mixing half's heads: the kernel's arrays are the reference's. -/

noncomputable section

namespace Cert.AdamOut

open Idealize.ShloMosaic hiding ix2 ix3
open Idealize.ShloMosaic.TcCoe
open Idealize.ShloMosaic.ValueIdx Idealize.SL.Sem Cert.Adam Cert.Kernel11Ideal Cert.Kernel11Ideal.Gen
open scoped BigOperators

/-- The name for the first moment's factor holds the reciprocal. -/
theorem named_first : Named.named (F := Ideal) κ "c1" (φ := .f32) 0x3FC48605#32 = (((5463681 * 8388608⁻¹)⁻¹ : ℝ) : EReal) :=
  IdealRules.named_const.ideal_named_scalar _ _ _ _ rfl
/-- The name for the second moment's factor holds the reciprocal. -/
theorem named_second : Named.named (F := Ideal) κ "c2" (φ := .f32) 0x42C8E6D3#32 = (((2672307 * 268435456⁻¹)⁻¹ : ℝ) : EReal) :=
  IdealRules.named_const.ideal_named_scalar _ _ _ _ rfl

/-- The two named constants are the exact reciprocals. -/
theorem preserves : Cert.preserves_Kernel11_Kernel11Ideal :=
  ⟨IdealRules.named_const.statement κ "c1" .f32 0x3FC48605#32 (((5463681 * 8388608⁻¹)⁻¹ : ℝ) : EReal) rfl,
    IdealRules.named_const.statement κ "c2" .f32 0x42C8E6D3#32 (((2672307 * 268435456⁻¹)⁻¹ : ℝ) : EReal) rfl⟩

/-! ### One block -/

section
variable (x0 : Vec Ideal S1x64x1024 .f32) (x1 : Vec Ideal S8x64x1024 .bf16) (x2 x3 : Vec Ideal S1x64x1024 .f32) (r : Fin 64) (k : Fin 1024)

/-- A device's gradients. -/
theorem point_slot (j : Fin 8) (inb : ∀ a, (![j.val, 0, 0] : Fin 3 → Nat) a + (S1x64x1024 : Shape).size a ≤ (S8x64x1024 : Shape).size a) :
    shapeCast S64x1024 (View.ld (Val := Elt Ideal) x1 (Rect.unit (s := S8x64x1024) ![j.val, 0, 0] (S1x64x1024 : Shape).size inb) : Vec Ideal S1x64x1024 .bf16) shapeCasts_S1x64x1024_S64x1024 (ix2 r k)
      = x1 (ix3 (n0 := 8) (n1 := 64) (n2 := 1024) j r k) := by
  refine (dropped (p := 64) (q := 1024) _ _ 0 r k).trans ?_
  refine congrArg x1 (funext fun a => Fin.ext ?_)
  match a with
  | ⟨0, _⟩ => show j.val + 1 * 0 = j.val; omega
  | ⟨1, _⟩ => show 0 + 1 * r.val = r.val; omega
  | ⟨2, _⟩ => show 0 + 1 * k.val = k.val; omega

/-- The gradient. -/
theorem point_sum : (k0_pay11 x0 x1 x2 x3 : FVec Ideal S64x1024 .f32) (ix2 r k) = total (p := 64) (q := 1024) x1 r k := by
  unfold total
  rw [Fin.sum_univ_eight]
  unfold k0_pay11 k0_pay2
  exact congrArg₂ (· + ·) (congrArg₂ (· + ·) (congrArg₂ (· + ·) (congrArg₂ (· + ·) (congrArg₂ (· + ·) (congrArg₂ (· + ·) (congrArg₂ (· + ·)
    (point_slot x1 r k 0 _) (point_slot x1 r k 1 _)) (point_slot x1 r k 2 _)) (point_slot x1 r k 3 _)) (point_slot x1 r k 4 _)) (point_slot x1 r k 5 _))
    (point_slot x1 r k 6 _)) (point_slot x1 r k 7 _)

/-- The first moment. -/
theorem point_first : (k0_pay4 (k0_pay11 x0 x1 x2 x3) (View.ld x2 r0_8) : FVec Ideal S64x1024 .f32) (ix2 r k) = first (total (p := 64) (q := 1024) x1 r k) (x2 (ix3 0 r k)) := by
  have h := point_sum x0 x1 x2 x3 r k
  unfold k0_pay4
  exact congrArg₂ (· + ·) (congrArg₂ (· * ·) rfl ((dropped (p := 64) (q := 1024) (View.ld (Val := Elt Ideal) x2 r0_8) _ 0 r k).trans (congrFun (View.ld_unit_zero (S := S1x64x1024) start ..) _))) (congrArg₂ (· * ·) rfl h)

/-- The second moment. -/
theorem point_second : (k0_pay5 (k0_pay11 x0 x1 x2 x3) (View.ld x3 r0_8) : FVec Ideal S64x1024 .f32) (ix2 r k) = second (total (p := 64) (q := 1024) x1 r k) (x3 (ix3 0 r k)) := by
  have h := point_sum x0 x1 x2 x3 r k
  unfold k0_pay5
  exact congrArg₂ (· + ·) (congrArg₂ (· * ·) rfl ((dropped (p := 64) (q := 1024) (View.ld (Val := Elt Ideal) x3 r0_8) _ 0 r k).trans (congrFun (View.ld_unit_zero (S := S1x64x1024) start ..) _))) (congrArg₂ (· * ·) rfl (congrArg₂ (· * ·) h h))

/-- The gradient's block. -/
theorem out_sum (z : Fin 1) : (out0_4 x0 x1 x2 x3 : Vec Ideal S1x64x1024 .f32) (ix3 z r k) = total (p := 64) (q := 1024) x1 r k := by
  unfold out0_4
  rw [View.canon_unit_zero (S := S1x64x1024) start]
  unfold k0_pay3
  exact (lifted (p := 64) (q := 1024) _ _ z r k).trans (point_sum x0 x1 x2 x3 r k)

/-- The first moment's block. -/
theorem out_first (z : Fin 1) : (out0_6 x0 x1 x2 x3 : Vec Ideal S1x64x1024 .f32) (ix3 z r k) = first (total (p := 64) (q := 1024) x1 r k) (x2 (ix3 0 r k)) := by
  unfold out0_6
  rw [View.canon_unit_zero (S := S1x64x1024) start]
  unfold k0_pay6
  exact (lifted (p := 64) (q := 1024) _ _ z r k).trans (point_first x0 x1 x2 x3 r k)

/-- The second moment's block. -/
theorem out_second (z : Fin 1) : (out0_7 x0 x1 x2 x3 : Vec Ideal S1x64x1024 .f32) (ix3 z r k) = second (total (p := 64) (q := 1024) x1 r k) (x3 (ix3 0 r k)) := by
  unfold out0_7
  rw [View.canon_unit_zero (S := S1x64x1024) start]
  unfold k0_pay7
  exact (lifted (p := 64) (q := 1024) _ _ z r k).trans (point_second x0 x1 x2 x3 r k)

/-- The change's block. -/
theorem out_change (z : Fin 1) :
    (out0_5 x0 x1 x2 x3 : Vec Ideal S1x64x1024 .f32) (ix3 z r k) = change (x0 (ix3 0 r k)) (total (p := 64) (q := 1024) x1 r k) (x2 (ix3 0 r k)) (x3 (ix3 0 r k)) := by
  have hm := point_first x0 x1 x2 x3 r k
  have hv := point_second x0 x1 x2 x3 r k
  unfold out0_5
  rw [View.canon_unit_zero (S := S1x64x1024) start]
  unfold k0_pay1
  refine (lifted (p := 64) (q := 1024) _ _ z r k).trans ?_
  unfold k0_pay8 k0_pay9 k0_pay10
  dsimp only
  refine congrArg₂ (· * ·) rfl (congrArg₂ (· + ·) (congrArg₂ Ideal.div ?_ (congrArg₂ (· + ·) (congrArg Ideal.sqrt ?_) rfl)) (congrArg₂ (· * ·) rfl ?_))
  · exact (congrArg₂ (· * ·) hm named_first).trans (over_first _)
  · exact (congrArg₂ (· * ·) hv named_second).trans (over_second _)
  · exact (dropped (p := 64) (q := 1024) (View.ld (Val := Elt Ideal) x0 r0_8) _ 0 r k).trans (congrFun (View.ld_unit_zero (S := S1x64x1024) start ..) _)

end

/-! ### The arrays -/

section
variable (m : (ℓ : Loc nD τ sig) → Buf (Elt Ideal) ℓ) (c : Dev nD)

/-- Every window's block is a block of rows. -/
theorem index_rows : ∀ t : Fin cfg0.N, Rows (win0_0.index t) t.val ∧ Rows (win0_1.index t) t.val ∧ Rows (win0_2.index t) t.val ∧ Rows (win0_3.index t) t.val ∧ Rows (win0_4.index t) t.val ∧ Rows (win0_5.index t) t.val ∧ Rows (win0_6.index t) t.val ∧ Rows (win0_7.index t) t.val :=
  (by decide +kernel : ∀ t : Fin grid0.N, Rows (win0_0.index t) t.val ∧ Rows (win0_1.index t) t.val ∧ Rows (win0_2.index t) t.val ∧ Rows (win0_3.index t) t.val ∧ Rows (win0_4.index t) t.val ∧ Rows (win0_5.index t) t.val ∧ Rows (win0_6.index t) t.val ∧ Rows (win0_7.index t) t.val)

/-- A block of the weight. -/
theorem block0 (t : Fin cfg0.N) (j : Fin 1) (r : Fin 64) (k : Fin 1024) (R : Fin 128) (hR : R.val = 64 * t.val + r.val) :
    (iblk m c 0 t : Vec Ideal S1x64x1024 .f32) (ix3 j r k) = (m ((c : Thread nD τ).loc main_arg0) : (⟨S1x128x1024, .f32⟩ : BufTy).Contents (Elt Ideal)) (ix3 j R k) := by
  obtain ⟨h0, h1, h2⟩ := (index_rows t).1
  show V m c main_arg0 (((cfg0.win 0).blk t).view.emb (ix3 (n0 := 1) (n1 := 64) (n2 := 1024) j r k)) = _
  rw [V_main_arg0]
  refine congrArg _ (funext fun a => Fin.ext (match a with
    | ⟨0, _⟩ => from_zero h0
    | ⟨1, _⟩ => (from_rows h1).trans hR.symm
    | ⟨2, _⟩ => from_zero h2))

/-- A block of the gradients. -/
theorem block1 (t : Fin cfg0.N) (j : Fin 8) (r : Fin 64) (k : Fin 1024) (R : Fin 128) (hR : R.val = 64 * t.val + r.val) :
    (iblk m c 1 t : Vec Ideal S8x64x1024 .bf16) (ix3 j r k) = (m ((c : Thread nD τ).loc main_arg1) : (⟨S8x128x1024, .bf16⟩ : BufTy).Contents (Elt Ideal)) (ix3 j R k) := by
  obtain ⟨h0, h1, h2⟩ := (index_rows t).2.1
  show V m c main_arg1 (((cfg0.win 1).blk t).view.emb (ix3 (n0 := 8) (n1 := 64) (n2 := 1024) j r k)) = _
  rw [V_main_arg1]
  refine congrArg _ (funext fun a => Fin.ext (match a with
    | ⟨0, _⟩ => from_zero h0
    | ⟨1, _⟩ => (from_rows h1).trans hR.symm
    | ⟨2, _⟩ => from_zero h2))

/-- A block of the first moment. -/
theorem block2 (t : Fin cfg0.N) (j : Fin 1) (r : Fin 64) (k : Fin 1024) (R : Fin 128) (hR : R.val = 64 * t.val + r.val) :
    (iblk m c 2 t : Vec Ideal S1x64x1024 .f32) (ix3 j r k) = (m ((c : Thread nD τ).loc main_arg2) : (⟨S1x128x1024, .f32⟩ : BufTy).Contents (Elt Ideal)) (ix3 j R k) := by
  obtain ⟨h0, h1, h2⟩ := (index_rows t).2.2.1
  show V m c main_arg2 (((cfg0.win 2).blk t).view.emb (ix3 (n0 := 1) (n1 := 64) (n2 := 1024) j r k)) = _
  rw [V_main_arg2]
  refine congrArg _ (funext fun a => Fin.ext (match a with
    | ⟨0, _⟩ => from_zero h0
    | ⟨1, _⟩ => (from_rows h1).trans hR.symm
    | ⟨2, _⟩ => from_zero h2))

/-- A block of the second moment. -/
theorem block3 (t : Fin cfg0.N) (j : Fin 1) (r : Fin 64) (k : Fin 1024) (R : Fin 128) (hR : R.val = 64 * t.val + r.val) :
    (iblk m c 3 t : Vec Ideal S1x64x1024 .f32) (ix3 j r k) = (m ((c : Thread nD τ).loc main_arg3) : (⟨S1x128x1024, .f32⟩ : BufTy).Contents (Elt Ideal)) (ix3 j R k) := by
  obtain ⟨h0, h1, h2⟩ := (index_rows t).2.2.2.1
  show V m c main_arg3 (((cfg0.win 3).blk t).view.emb (ix3 (n0 := 1) (n1 := 64) (n2 := 1024) j r k)) = _
  rw [V_main_arg3]
  refine congrArg _ (funext fun a => Fin.ext (match a with
    | ⟨0, _⟩ => from_zero h0
    | ⟨1, _⟩ => (from_rows h1).trans hR.symm
    | ⟨2, _⟩ => from_zero h2))

/-- The arrays' entries at a row and a column. -/
abbrev wAt (r : Fin 128) (k : Fin 1024) : EReal := (m ((c : Thread nD τ).loc main_arg0) : (⟨S1x128x1024, .f32⟩ : BufTy).Contents (Elt Ideal)) (ix3 (n0 := 1) (n1 := 128) (n2 := 1024) 0 r k)
abbrev gAt (r : Fin 128) (k : Fin 1024) : EReal := total (p := 128) (q := 1024) (m ((c : Thread nD τ).loc main_arg1) : (⟨S8x128x1024, .bf16⟩ : BufTy).Contents (Elt Ideal)) r k
abbrev mAt (r : Fin 128) (k : Fin 1024) : EReal := (m ((c : Thread nD τ).loc main_arg2) : (⟨S1x128x1024, .f32⟩ : BufTy).Contents (Elt Ideal)) (ix3 (n0 := 1) (n1 := 128) (n2 := 1024) 0 r k)
abbrev vAt (r : Fin 128) (k : Fin 1024) : EReal := (m ((c : Thread nD τ).loc main_arg3) : (⟨S1x128x1024, .f32⟩ : BufTy).Contents (Elt Ideal)) (ix3 (n0 := 1) (n1 := 128) (n2 := 1024) 0 r k)

/-- A block's gradient is the array's. -/
theorem total_block (t : Fin cfg0.N) (r : Fin 64) (k : Fin 1024) (R : Fin 128) (hR : R.val = 64 * t.val + r.val) :
    total (p := 64) (q := 1024) (iblk m c 1 t) r k = gAt m c R k :=
  Finset.sum_congr rfl fun j _ => block1 m c t j r k R hR

/-- A row's point is in the grid. -/
theorem point_of (r : Fin 128) : r.val / 64 < cfg0.N := by
  have hN : cfg0.N = 2 := N_0
  have := r.isLt
  omega
/-- The point that writes a row. -/
abbrev point (r : Fin 128) : Fin cfg0.N := ⟨r.val / 64, point_of r⟩
/-- The row's place in the point's block. -/
abbrev place (r : Fin 128) : Fin 64 := ⟨r.val % 64, Nat.mod_lt _ (by norm_num)⟩
theorem row_of (r : Fin 128) : r.val = 64 * (point r).val + (place r).val := (Nat.div_add_mod _ _).symm

/-- The result array of the gradient. -/
theorem array_4 (z : Fin 1) (r : Fin 128) (k : Fin 1024) : (dats m 0 c).arrAt 4 cfg0.N (ix3 (n0 := 1) (n1 := 128) (n2 := 1024) z r k) = gAt m c r k := by
  have b := congrFun (Value.blocks4 m c (point r) (flush0_4 _)) (ix3 (n0 := 1) (n1 := 64) (n2 := 1024) z (place r) k)
  rw [View.read_apply, Value.flushed4] at b
  obtain ⟨h0, h1, h2⟩ := (index_rows (point r)).2.2.2.2.1
  have e : ((cfg0.win 4).blk (point r)).view.emb (ix3 (n0 := 1) (n1 := 64) (n2 := 1024) z (place r) k) = ix3 (n0 := 1) (n1 := 128) (n2 := 1024) z r k :=
    funext fun a => Fin.ext (match a with
      | ⟨0, _⟩ => from_zero h0
      | ⟨1, _⟩ => (from_rows h1).trans (row_of r).symm
      | ⟨2, _⟩ => from_zero h2)
  rw [e] at b
  refine b.trans ((out_sum _ _ _ _ _ k z).trans ?_)
  rw [total_block m c _ _ k r (row_of r)]

/-- The result array of the change. -/
theorem array_5 (z : Fin 1) (r : Fin 128) (k : Fin 1024) : (dats m 0 c).arrAt 5 cfg0.N (ix3 (n0 := 1) (n1 := 128) (n2 := 1024) z r k) = change (wAt m c r k) (gAt m c r k) (mAt m c r k) (vAt m c r k) := by
  have b := congrFun (Value.blocks5 m c (point r) (flush0_5 _)) (ix3 (n0 := 1) (n1 := 64) (n2 := 1024) z (place r) k)
  rw [View.read_apply, Value.flushed5] at b
  obtain ⟨h0, h1, h2⟩ := (index_rows (point r)).2.2.2.2.2.1
  have e : ((cfg0.win 5).blk (point r)).view.emb (ix3 (n0 := 1) (n1 := 64) (n2 := 1024) z (place r) k) = ix3 (n0 := 1) (n1 := 128) (n2 := 1024) z r k :=
    funext fun a => Fin.ext (match a with
      | ⟨0, _⟩ => from_zero h0
      | ⟨1, _⟩ => (from_rows h1).trans (row_of r).symm
      | ⟨2, _⟩ => from_zero h2)
  rw [e] at b
  refine b.trans ((out_change _ _ _ _ _ k z).trans ?_)
  rw [total_block m c _ _ k r (row_of r)]
  rw [block0 m c _ _ _ k r (row_of r), block2 m c _ _ _ k r (row_of r), block3 m c _ _ _ k r (row_of r)]

/-- The result array of the first moment. -/
theorem array_6 (z : Fin 1) (r : Fin 128) (k : Fin 1024) : (dats m 0 c).arrAt 6 cfg0.N (ix3 (n0 := 1) (n1 := 128) (n2 := 1024) z r k) = first (gAt m c r k) (mAt m c r k) := by
  have b := congrFun (Value.blocks6 m c (point r) (flush0_6 _)) (ix3 (n0 := 1) (n1 := 64) (n2 := 1024) z (place r) k)
  rw [View.read_apply, Value.flushed6] at b
  obtain ⟨h0, h1, h2⟩ := (index_rows (point r)).2.2.2.2.2.2.1
  have e : ((cfg0.win 6).blk (point r)).view.emb (ix3 (n0 := 1) (n1 := 64) (n2 := 1024) z (place r) k) = ix3 (n0 := 1) (n1 := 128) (n2 := 1024) z r k :=
    funext fun a => Fin.ext (match a with
      | ⟨0, _⟩ => from_zero h0
      | ⟨1, _⟩ => (from_rows h1).trans (row_of r).symm
      | ⟨2, _⟩ => from_zero h2)
  rw [e] at b
  refine b.trans ((out_first _ _ _ _ _ k z).trans ?_)
  rw [total_block m c _ _ k r (row_of r)]
  rw [block2 m c _ _ _ k r (row_of r)]

/-- The result array of the second moment. -/
theorem array_7 (z : Fin 1) (r : Fin 128) (k : Fin 1024) : (dats m 0 c).arrAt 7 cfg0.N (ix3 (n0 := 1) (n1 := 128) (n2 := 1024) z r k) = second (gAt m c r k) (vAt m c r k) := by
  have b := congrFun (Value.blocks7 m c (point r) (flush0_7 _)) (ix3 (n0 := 1) (n1 := 64) (n2 := 1024) z (place r) k)
  rw [View.read_apply, Value.flushed7] at b
  obtain ⟨h0, h1, h2⟩ := (index_rows (point r)).2.2.2.2.2.2.2
  have e : ((cfg0.win 7).blk (point r)).view.emb (ix3 (n0 := 1) (n1 := 64) (n2 := 1024) z (place r) k) = ix3 (n0 := 1) (n1 := 128) (n2 := 1024) z r k :=
    funext fun a => Fin.ext (match a with
      | ⟨0, _⟩ => from_zero h0
      | ⟨1, _⟩ => (from_rows h1).trans (row_of r).symm
      | ⟨2, _⟩ => from_zero h2)
  rw [e] at b
  refine b.trans ((out_second _ _ _ _ _ k z).trans ?_)
  rw [total_block m c _ _ k r (row_of r)]
  rw [block3 m c _ _ _ k r (row_of r)]

end

/-! ### The reference's arrays -/

section
open Cert.Reference11Ideal.Read
variable (x0 : (⟨Cert.Reference11Ideal.S1x128x1024, .f32⟩ : BufTy).Contents (Elt Ideal)) (x1 : (⟨Cert.Reference11Ideal.S8x128x1024, .bf16⟩ : BufTy).Contents (Elt Ideal)) (x2 x3 : (⟨Cert.Reference11Ideal.S1x128x1024, .f32⟩ : BufTy).Contents (Elt Ideal))
  (z : Fin 1) (r : Fin 128) (k : Fin 1024)

/-- The reference's gradient, summed over the devices. -/
theorem reference_sum : val_main_v2 (F := Ideal) x1 (ix3 (n0 := 1) (n1 := 128) (n2 := 1024) z r k) = total (p := 128) (q := 1024) x1 r k := by
  simp only [val_main_v0_apply, val_main_cst_apply, val_main_v1_apply, val_main_v2_apply]
  refine (congrArg₂ (· + ·) Ideal.ofBits_zero_f32 (Finset.sum_congr rfl fun j _ => ?_)).trans (zero_add _)
  exact congrArg x1 (funext fun a => Fin.ext (match a with
    | ⟨0, _⟩ => rfl
    | ⟨1, _⟩ => rfl
    | ⟨2, _⟩ => rfl))

/-- The reference's first moment. -/
theorem reference_first : val_main_v7 (F := Ideal) x1 x2 (ix3 (n0 := 1) (n1 := 128) (n2 := 1024) z r k) = first (total (p := 128) (q := 1024) x1 r k) (x2 (ix3 z r k)) := by
  simp only [val_main_cst_0_apply, val_main_v3_apply, val_main_v4_apply, val_main_cst_1_apply, val_main_v5_apply, val_main_v6_apply, val_main_v7_apply]
  rw [reference_sum]
  rfl

/-- The reference's second moment. -/
theorem reference_second : val_main_v13 (F := Ideal) x1 x3 (ix3 (n0 := 1) (n1 := 128) (n2 := 1024) z r k) = second (total (p := 128) (q := 1024) x1 r k) (x3 (ix3 z r k)) := by
  simp only [val_main_cst_2_apply, val_main_v8_apply, val_main_v9_apply, val_main_v10_apply, val_main_cst_3_apply, val_main_v11_apply, val_main_v12_apply, val_main_v13_apply]
  rw [reference_sum]
  rfl

/-- The reference's change. -/
theorem reference_change : val_main_v26 (F := Ideal) x0 x1 x2 x3 (ix3 (n0 := 1) (n1 := 128) (n2 := 1024) z r k)
    = change (x0 (ix3 z r k)) (total (p := 128) (q := 1024) x1 r k) (x2 (ix3 z r k)) (x3 (ix3 z r k)) := by
  simp only [val_main_cst_4_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply, val_main_v24_apply, val_main_cst_8_apply, val_main_v25_apply, val_main_v26_apply]
  rw [reference_first, reference_second]
  rfl

end

/-- The reference runs, its arguments unchanged; it declares no semaphore. -/
theorem frame_reference : Cert.quiescent_Reference11Ideal (hReference11Ideal := Cert.Reference11Ideal.Gen.facts) := fun m ρ _ =>
  (θ_run Cert.Reference11Ideal.defs _ _).mono
    (fun r h => ⟨fun c => (h c).2.2.2.2, sem_eq_zero_of_no_sems (by decide) r.2⟩)
    (Cert.Reference11Ideal.Value.run (F := Ideal) m ρ)

/-- From equal arguments the kernel's results and the reference's are equal. -/
theorem algebraic : Cert.algebraic_Kernel11Ideal_Reference11Ideal (hKernel11Ideal := Cert.Kernel11Ideal.Gen.facts)
    (hReference11Ideal := Cert.Reference11Ideal.Gen.facts) := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N,
    Value.run_blocks m ρ, ?_⟩
  refine (θ_run Cert.Reference11Ideal.defs _ _).mono (fun r h c => ?_) (Cert.Reference11Ideal.Value.run (F := Ideal) m' ρ')
  obtain ⟨a0, a1, a2, a3⟩ := hagree c
  obtain ⟨h0, h1, h2, h3, hargs⟩ := h c
  refine ⟨(h0.trans (Cert.Reference11Ideal.Read.val_main_v2_eq ..)).trans ?_, (h1.trans (Cert.Reference11Ideal.Read.val_main_v26_eq ..)).trans ?_,
    (h2.trans (Cert.Reference11Ideal.Read.val_main_v7_eq ..)).trans ?_, (h3.trans (Cert.Reference11Ideal.Read.val_main_v13_eq ..)).trans ?_, hargs⟩
  · rw [a1]
    exact by_rows (p := 128) (q := 1024) fun r k => (reference_sum _ 0 r k).trans (array_4 m c 0 r k).symm
  · rw [a0, a1, a2, a3]
    exact by_rows (p := 128) (q := 1024) fun r k => (reference_change _ _ _ _ 0 r k).trans (array_5 m c 0 r k).symm
  · rw [a1, a2]
    exact by_rows (p := 128) (q := 1024) fun r k => (reference_first _ _ 0 r k).trans (array_6 m c 0 r k).symm
  · rw [a1, a3]
    exact by_rows (p := 128) (q := 1024) fun r k => (reference_second _ _ 0 r k).trans (array_7 m c 0 r k).symm

end Cert.AdamOut

end
-- ==== Proof.AdamFfnOut.lean ====
module

public import proofs.«01_k».proof.Defs
public import proofs.«01_k».proof.Proof.Adam
public import proofs.«01_k».proof.Proof.Gen.Kernel12Ideal.Value
public import proofs.«01_k».proof.Proof.Gen.Reference12Ideal.Run
public import proofs.«01_k».proof.Proof.Gen.Reference12Ideal.Read

@[expose] public section

/-! The optimiser's step for the feed-forward half's second weight: the kernel's arrays are the reference's. -/

noncomputable section

namespace Cert.AdamFfnOut

open Idealize.ShloMosaic hiding ix2 ix3
open Idealize.ShloMosaic.TcCoe
open Idealize.ShloMosaic.ValueIdx Idealize.SL.Sem Cert.Adam Cert.Kernel12Ideal Cert.Kernel12Ideal.Gen
open scoped BigOperators

/-- The name for the first moment's factor holds the reciprocal. -/
theorem named_first : Named.named (F := Ideal) κ "c1" (φ := .f32) 0x3FC48605#32 = (((5463681 * 8388608⁻¹)⁻¹ : ℝ) : EReal) :=
  IdealRules.named_const.ideal_named_scalar _ _ _ _ rfl
/-- The name for the second moment's factor holds the reciprocal. -/
theorem named_second : Named.named (F := Ideal) κ "c2" (φ := .f32) 0x42C8E6D3#32 = (((2672307 * 268435456⁻¹)⁻¹ : ℝ) : EReal) :=
  IdealRules.named_const.ideal_named_scalar _ _ _ _ rfl

/-- The two named constants are the exact reciprocals. -/
theorem preserves : Cert.preserves_Kernel12_Kernel12Ideal :=
  ⟨IdealRules.named_const.statement κ "c1" .f32 0x3FC48605#32 (((5463681 * 8388608⁻¹)⁻¹ : ℝ) : EReal) rfl,
    IdealRules.named_const.statement κ "c2" .f32 0x42C8E6D3#32 (((2672307 * 268435456⁻¹)⁻¹ : ℝ) : EReal) rfl⟩

/-! ### One block -/

section
variable (x0 : Vec Ideal S1x176x1024 .f32) (x1 : Vec Ideal S8x176x1024 .bf16) (x2 x3 : Vec Ideal S1x176x1024 .f32) (r : Fin 176) (k : Fin 1024)

/-- A device's gradients. -/
theorem point_slot (j : Fin 8) (inb : ∀ a, (![j.val, 0, 0] : Fin 3 → Nat) a + (S1x176x1024 : Shape).size a ≤ (S8x176x1024 : Shape).size a) :
    shapeCast S176x1024 (View.ld (Val := Elt Ideal) x1 (Rect.unit (s := S8x176x1024) ![j.val, 0, 0] (S1x176x1024 : Shape).size inb) : Vec Ideal S1x176x1024 .bf16) shapeCasts_S1x176x1024_S176x1024 (ix2 r k)
      = x1 (ix3 (n0 := 8) (n1 := 176) (n2 := 1024) j r k) := by
  refine (dropped (p := 176) (q := 1024) _ _ 0 r k).trans ?_
  refine congrArg x1 (funext fun a => Fin.ext ?_)
  match a with
  | ⟨0, _⟩ => show j.val + 1 * 0 = j.val; omega
  | ⟨1, _⟩ => show 0 + 1 * r.val = r.val; omega
  | ⟨2, _⟩ => show 0 + 1 * k.val = k.val; omega

/-- The gradient. -/
theorem point_sum : (k0_pay11 x0 x1 x2 x3 : FVec Ideal S176x1024 .f32) (ix2 r k) = total (p := 176) (q := 1024) x1 r k := by
  unfold total
  rw [Fin.sum_univ_eight]
  unfold k0_pay11 k0_pay2
  exact congrArg₂ (· + ·) (congrArg₂ (· + ·) (congrArg₂ (· + ·) (congrArg₂ (· + ·) (congrArg₂ (· + ·) (congrArg₂ (· + ·) (congrArg₂ (· + ·)
    (point_slot x1 r k 0 _) (point_slot x1 r k 1 _)) (point_slot x1 r k 2 _)) (point_slot x1 r k 3 _)) (point_slot x1 r k 4 _)) (point_slot x1 r k 5 _))
    (point_slot x1 r k 6 _)) (point_slot x1 r k 7 _)

/-- The first moment. -/
theorem point_first : (k0_pay4 (k0_pay11 x0 x1 x2 x3) (View.ld x2 r0_8) : FVec Ideal S176x1024 .f32) (ix2 r k) = first (total (p := 176) (q := 1024) x1 r k) (x2 (ix3 0 r k)) := by
  have h := point_sum x0 x1 x2 x3 r k
  unfold k0_pay4
  exact congrArg₂ (· + ·) (congrArg₂ (· * ·) rfl ((dropped (p := 176) (q := 1024) (View.ld (Val := Elt Ideal) x2 r0_8) _ 0 r k).trans (congrFun (View.ld_unit_zero (S := S1x176x1024) start ..) _))) (congrArg₂ (· * ·) rfl h)

/-- The second moment. -/
theorem point_second : (k0_pay5 (k0_pay11 x0 x1 x2 x3) (View.ld x3 r0_8) : FVec Ideal S176x1024 .f32) (ix2 r k) = second (total (p := 176) (q := 1024) x1 r k) (x3 (ix3 0 r k)) := by
  have h := point_sum x0 x1 x2 x3 r k
  unfold k0_pay5
  exact congrArg₂ (· + ·) (congrArg₂ (· * ·) rfl ((dropped (p := 176) (q := 1024) (View.ld (Val := Elt Ideal) x3 r0_8) _ 0 r k).trans (congrFun (View.ld_unit_zero (S := S1x176x1024) start ..) _))) (congrArg₂ (· * ·) rfl (congrArg₂ (· * ·) h h))

/-- The gradient's block. -/
theorem out_sum (z : Fin 1) : (out0_4 x0 x1 x2 x3 : Vec Ideal S1x176x1024 .f32) (ix3 z r k) = total (p := 176) (q := 1024) x1 r k := by
  unfold out0_4
  rw [View.canon_unit_zero (S := S1x176x1024) start]
  unfold k0_pay3
  exact (lifted (p := 176) (q := 1024) _ _ z r k).trans (point_sum x0 x1 x2 x3 r k)

/-- The first moment's block. -/
theorem out_first (z : Fin 1) : (out0_6 x0 x1 x2 x3 : Vec Ideal S1x176x1024 .f32) (ix3 z r k) = first (total (p := 176) (q := 1024) x1 r k) (x2 (ix3 0 r k)) := by
  unfold out0_6
  rw [View.canon_unit_zero (S := S1x176x1024) start]
  unfold k0_pay6
  exact (lifted (p := 176) (q := 1024) _ _ z r k).trans (point_first x0 x1 x2 x3 r k)

/-- The second moment's block. -/
theorem out_second (z : Fin 1) : (out0_7 x0 x1 x2 x3 : Vec Ideal S1x176x1024 .f32) (ix3 z r k) = second (total (p := 176) (q := 1024) x1 r k) (x3 (ix3 0 r k)) := by
  unfold out0_7
  rw [View.canon_unit_zero (S := S1x176x1024) start]
  unfold k0_pay7
  exact (lifted (p := 176) (q := 1024) _ _ z r k).trans (point_second x0 x1 x2 x3 r k)

/-- The change's block. -/
theorem out_change (z : Fin 1) :
    (out0_5 x0 x1 x2 x3 : Vec Ideal S1x176x1024 .f32) (ix3 z r k) = change (x0 (ix3 0 r k)) (total (p := 176) (q := 1024) x1 r k) (x2 (ix3 0 r k)) (x3 (ix3 0 r k)) := by
  have hm := point_first x0 x1 x2 x3 r k
  have hv := point_second x0 x1 x2 x3 r k
  unfold out0_5
  rw [View.canon_unit_zero (S := S1x176x1024) start]
  unfold k0_pay1
  refine (lifted (p := 176) (q := 1024) _ _ z r k).trans ?_
  unfold k0_pay8 k0_pay9 k0_pay10
  dsimp only
  refine congrArg₂ (· * ·) rfl (congrArg₂ (· + ·) (congrArg₂ Ideal.div ?_ (congrArg₂ (· + ·) (congrArg Ideal.sqrt ?_) rfl)) (congrArg₂ (· * ·) rfl ?_))
  · exact (congrArg₂ (· * ·) hm named_first).trans (over_first _)
  · exact (congrArg₂ (· * ·) hv named_second).trans (over_second _)
  · exact (dropped (p := 176) (q := 1024) (View.ld (Val := Elt Ideal) x0 r0_8) _ 0 r k).trans (congrFun (View.ld_unit_zero (S := S1x176x1024) start ..) _)

end

/-! ### The arrays -/

section
variable (m : (ℓ : Loc nD τ sig) → Buf (Elt Ideal) ℓ) (c : Dev nD)

/-- Every window's block is a block of rows. -/
theorem index_rows : ∀ t : Fin cfg0.N, Rows (win0_0.index t) t.val ∧ Rows (win0_1.index t) t.val ∧ Rows (win0_2.index t) t.val ∧ Rows (win0_3.index t) t.val ∧ Rows (win0_4.index t) t.val ∧ Rows (win0_5.index t) t.val ∧ Rows (win0_6.index t) t.val ∧ Rows (win0_7.index t) t.val :=
  (by decide +kernel : ∀ t : Fin grid0.N, Rows (win0_0.index t) t.val ∧ Rows (win0_1.index t) t.val ∧ Rows (win0_2.index t) t.val ∧ Rows (win0_3.index t) t.val ∧ Rows (win0_4.index t) t.val ∧ Rows (win0_5.index t) t.val ∧ Rows (win0_6.index t) t.val ∧ Rows (win0_7.index t) t.val)

/-- A block of the weight. -/
theorem block0 (t : Fin cfg0.N) (j : Fin 1) (r : Fin 176) (k : Fin 1024) (R : Fin 352) (hR : R.val = 176 * t.val + r.val) :
    (iblk m c 0 t : Vec Ideal S1x176x1024 .f32) (ix3 j r k) = (m ((c : Thread nD τ).loc main_arg0) : (⟨S1x352x1024, .f32⟩ : BufTy).Contents (Elt Ideal)) (ix3 j R k) := by
  obtain ⟨h0, h1, h2⟩ := (index_rows t).1
  show V m c main_arg0 (((cfg0.win 0).blk t).view.emb (ix3 (n0 := 1) (n1 := 176) (n2 := 1024) j r k)) = _
  rw [V_main_arg0]
  refine congrArg _ (funext fun a => Fin.ext (match a with
    | ⟨0, _⟩ => from_zero h0
    | ⟨1, _⟩ => (from_rows h1).trans hR.symm
    | ⟨2, _⟩ => from_zero h2))

/-- A block of the gradients. -/
theorem block1 (t : Fin cfg0.N) (j : Fin 8) (r : Fin 176) (k : Fin 1024) (R : Fin 352) (hR : R.val = 176 * t.val + r.val) :
    (iblk m c 1 t : Vec Ideal S8x176x1024 .bf16) (ix3 j r k) = (m ((c : Thread nD τ).loc main_arg1) : (⟨S8x352x1024, .bf16⟩ : BufTy).Contents (Elt Ideal)) (ix3 j R k) := by
  obtain ⟨h0, h1, h2⟩ := (index_rows t).2.1
  show V m c main_arg1 (((cfg0.win 1).blk t).view.emb (ix3 (n0 := 8) (n1 := 176) (n2 := 1024) j r k)) = _
  rw [V_main_arg1]
  refine congrArg _ (funext fun a => Fin.ext (match a with
    | ⟨0, _⟩ => from_zero h0
    | ⟨1, _⟩ => (from_rows h1).trans hR.symm
    | ⟨2, _⟩ => from_zero h2))

/-- A block of the first moment. -/
theorem block2 (t : Fin cfg0.N) (j : Fin 1) (r : Fin 176) (k : Fin 1024) (R : Fin 352) (hR : R.val = 176 * t.val + r.val) :
    (iblk m c 2 t : Vec Ideal S1x176x1024 .f32) (ix3 j r k) = (m ((c : Thread nD τ).loc main_arg2) : (⟨S1x352x1024, .f32⟩ : BufTy).Contents (Elt Ideal)) (ix3 j R k) := by
  obtain ⟨h0, h1, h2⟩ := (index_rows t).2.2.1
  show V m c main_arg2 (((cfg0.win 2).blk t).view.emb (ix3 (n0 := 1) (n1 := 176) (n2 := 1024) j r k)) = _
  rw [V_main_arg2]
  refine congrArg _ (funext fun a => Fin.ext (match a with
    | ⟨0, _⟩ => from_zero h0
    | ⟨1, _⟩ => (from_rows h1).trans hR.symm
    | ⟨2, _⟩ => from_zero h2))

/-- A block of the second moment. -/
theorem block3 (t : Fin cfg0.N) (j : Fin 1) (r : Fin 176) (k : Fin 1024) (R : Fin 352) (hR : R.val = 176 * t.val + r.val) :
    (iblk m c 3 t : Vec Ideal S1x176x1024 .f32) (ix3 j r k) = (m ((c : Thread nD τ).loc main_arg3) : (⟨S1x352x1024, .f32⟩ : BufTy).Contents (Elt Ideal)) (ix3 j R k) := by
  obtain ⟨h0, h1, h2⟩ := (index_rows t).2.2.2.1
  show V m c main_arg3 (((cfg0.win 3).blk t).view.emb (ix3 (n0 := 1) (n1 := 176) (n2 := 1024) j r k)) = _
  rw [V_main_arg3]
  refine congrArg _ (funext fun a => Fin.ext (match a with
    | ⟨0, _⟩ => from_zero h0
    | ⟨1, _⟩ => (from_rows h1).trans hR.symm
    | ⟨2, _⟩ => from_zero h2))

/-- The arrays' entries at a row and a column. -/
abbrev wAt (r : Fin 352) (k : Fin 1024) : EReal := (m ((c : Thread nD τ).loc main_arg0) : (⟨S1x352x1024, .f32⟩ : BufTy).Contents (Elt Ideal)) (ix3 (n0 := 1) (n1 := 352) (n2 := 1024) 0 r k)
abbrev gAt (r : Fin 352) (k : Fin 1024) : EReal := total (p := 352) (q := 1024) (m ((c : Thread nD τ).loc main_arg1) : (⟨S8x352x1024, .bf16⟩ : BufTy).Contents (Elt Ideal)) r k
abbrev mAt (r : Fin 352) (k : Fin 1024) : EReal := (m ((c : Thread nD τ).loc main_arg2) : (⟨S1x352x1024, .f32⟩ : BufTy).Contents (Elt Ideal)) (ix3 (n0 := 1) (n1 := 352) (n2 := 1024) 0 r k)
abbrev vAt (r : Fin 352) (k : Fin 1024) : EReal := (m ((c : Thread nD τ).loc main_arg3) : (⟨S1x352x1024, .f32⟩ : BufTy).Contents (Elt Ideal)) (ix3 (n0 := 1) (n1 := 352) (n2 := 1024) 0 r k)

/-- A block's gradient is the array's. -/
theorem total_block (t : Fin cfg0.N) (r : Fin 176) (k : Fin 1024) (R : Fin 352) (hR : R.val = 176 * t.val + r.val) :
    total (p := 176) (q := 1024) (iblk m c 1 t) r k = gAt m c R k :=
  Finset.sum_congr rfl fun j _ => block1 m c t j r k R hR

/-- A row's point is in the grid. -/
theorem point_of (r : Fin 352) : r.val / 176 < cfg0.N := by
  have hN : cfg0.N = 2 := N_0
  have := r.isLt
  omega
/-- The point that writes a row. -/
abbrev point (r : Fin 352) : Fin cfg0.N := ⟨r.val / 176, point_of r⟩
/-- The row's place in the point's block. -/
abbrev place (r : Fin 352) : Fin 176 := ⟨r.val % 176, Nat.mod_lt _ (by norm_num)⟩
theorem row_of (r : Fin 352) : r.val = 176 * (point r).val + (place r).val := (Nat.div_add_mod _ _).symm

/-- The result array of the gradient. -/
theorem array_4 (z : Fin 1) (r : Fin 352) (k : Fin 1024) : (dats m 0 c).arrAt 4 cfg0.N (ix3 (n0 := 1) (n1 := 352) (n2 := 1024) z r k) = gAt m c r k := by
  have b := congrFun (Value.blocks4 m c (point r) (flush0_4 _)) (ix3 (n0 := 1) (n1 := 176) (n2 := 1024) z (place r) k)
  rw [View.read_apply, Value.flushed4] at b
  obtain ⟨h0, h1, h2⟩ := (index_rows (point r)).2.2.2.2.1
  have e : ((cfg0.win 4).blk (point r)).view.emb (ix3 (n0 := 1) (n1 := 176) (n2 := 1024) z (place r) k) = ix3 (n0 := 1) (n1 := 352) (n2 := 1024) z r k :=
    funext fun a => Fin.ext (match a with
      | ⟨0, _⟩ => from_zero h0
      | ⟨1, _⟩ => (from_rows h1).trans (row_of r).symm
      | ⟨2, _⟩ => from_zero h2)
  rw [e] at b
  refine b.trans ((out_sum _ _ _ _ _ k z).trans ?_)
  rw [total_block m c _ _ k r (row_of r)]

/-- The result array of the change. -/
theorem array_5 (z : Fin 1) (r : Fin 352) (k : Fin 1024) : (dats m 0 c).arrAt 5 cfg0.N (ix3 (n0 := 1) (n1 := 352) (n2 := 1024) z r k) = change (wAt m c r k) (gAt m c r k) (mAt m c r k) (vAt m c r k) := by
  have b := congrFun (Value.blocks5 m c (point r) (flush0_5 _)) (ix3 (n0 := 1) (n1 := 176) (n2 := 1024) z (place r) k)
  rw [View.read_apply, Value.flushed5] at b
  obtain ⟨h0, h1, h2⟩ := (index_rows (point r)).2.2.2.2.2.1
  have e : ((cfg0.win 5).blk (point r)).view.emb (ix3 (n0 := 1) (n1 := 176) (n2 := 1024) z (place r) k) = ix3 (n0 := 1) (n1 := 352) (n2 := 1024) z r k :=
    funext fun a => Fin.ext (match a with
      | ⟨0, _⟩ => from_zero h0
      | ⟨1, _⟩ => (from_rows h1).trans (row_of r).symm
      | ⟨2, _⟩ => from_zero h2)
  rw [e] at b
  refine b.trans ((out_change _ _ _ _ _ k z).trans ?_)
  rw [total_block m c _ _ k r (row_of r)]
  rw [block0 m c _ _ _ k r (row_of r), block2 m c _ _ _ k r (row_of r), block3 m c _ _ _ k r (row_of r)]

/-- The result array of the first moment. -/
theorem array_6 (z : Fin 1) (r : Fin 352) (k : Fin 1024) : (dats m 0 c).arrAt 6 cfg0.N (ix3 (n0 := 1) (n1 := 352) (n2 := 1024) z r k) = first (gAt m c r k) (mAt m c r k) := by
  have b := congrFun (Value.blocks6 m c (point r) (flush0_6 _)) (ix3 (n0 := 1) (n1 := 176) (n2 := 1024) z (place r) k)
  rw [View.read_apply, Value.flushed6] at b
  obtain ⟨h0, h1, h2⟩ := (index_rows (point r)).2.2.2.2.2.2.1
  have e : ((cfg0.win 6).blk (point r)).view.emb (ix3 (n0 := 1) (n1 := 176) (n2 := 1024) z (place r) k) = ix3 (n0 := 1) (n1 := 352) (n2 := 1024) z r k :=
    funext fun a => Fin.ext (match a with
      | ⟨0, _⟩ => from_zero h0
      | ⟨1, _⟩ => (from_rows h1).trans (row_of r).symm
      | ⟨2, _⟩ => from_zero h2)
  rw [e] at b
  refine b.trans ((out_first _ _ _ _ _ k z).trans ?_)
  rw [total_block m c _ _ k r (row_of r)]
  rw [block2 m c _ _ _ k r (row_of r)]

/-- The result array of the second moment. -/
theorem array_7 (z : Fin 1) (r : Fin 352) (k : Fin 1024) : (dats m 0 c).arrAt 7 cfg0.N (ix3 (n0 := 1) (n1 := 352) (n2 := 1024) z r k) = second (gAt m c r k) (vAt m c r k) := by
  have b := congrFun (Value.blocks7 m c (point r) (flush0_7 _)) (ix3 (n0 := 1) (n1 := 176) (n2 := 1024) z (place r) k)
  rw [View.read_apply, Value.flushed7] at b
  obtain ⟨h0, h1, h2⟩ := (index_rows (point r)).2.2.2.2.2.2.2
  have e : ((cfg0.win 7).blk (point r)).view.emb (ix3 (n0 := 1) (n1 := 176) (n2 := 1024) z (place r) k) = ix3 (n0 := 1) (n1 := 352) (n2 := 1024) z r k :=
    funext fun a => Fin.ext (match a with
      | ⟨0, _⟩ => from_zero h0
      | ⟨1, _⟩ => (from_rows h1).trans (row_of r).symm
      | ⟨2, _⟩ => from_zero h2)
  rw [e] at b
  refine b.trans ((out_second _ _ _ _ _ k z).trans ?_)
  rw [total_block m c _ _ k r (row_of r)]
  rw [block3 m c _ _ _ k r (row_of r)]

end

/-! ### The reference's arrays -/

section
open Cert.Reference12Ideal.Read
variable (x0 : (⟨Cert.Reference12Ideal.S1x352x1024, .f32⟩ : BufTy).Contents (Elt Ideal)) (x1 : (⟨Cert.Reference12Ideal.S8x352x1024, .bf16⟩ : BufTy).Contents (Elt Ideal)) (x2 x3 : (⟨Cert.Reference12Ideal.S1x352x1024, .f32⟩ : BufTy).Contents (Elt Ideal))
  (z : Fin 1) (r : Fin 352) (k : Fin 1024)

/-- The reference's gradient, summed over the devices. -/
theorem reference_sum : val_main_v2 (F := Ideal) x1 (ix3 (n0 := 1) (n1 := 352) (n2 := 1024) z r k) = total (p := 352) (q := 1024) x1 r k := by
  simp only [val_main_v0_apply, val_main_cst_apply, val_main_v1_apply, val_main_v2_apply]
  refine (congrArg₂ (· + ·) Ideal.ofBits_zero_f32 (Finset.sum_congr rfl fun j _ => ?_)).trans (zero_add _)
  exact congrArg x1 (funext fun a => Fin.ext (match a with
    | ⟨0, _⟩ => rfl
    | ⟨1, _⟩ => rfl
    | ⟨2, _⟩ => rfl))

/-- The reference's first moment. -/
theorem reference_first : val_main_v7 (F := Ideal) x1 x2 (ix3 (n0 := 1) (n1 := 352) (n2 := 1024) z r k) = first (total (p := 352) (q := 1024) x1 r k) (x2 (ix3 z r k)) := by
  simp only [val_main_cst_0_apply, val_main_v3_apply, val_main_v4_apply, val_main_cst_1_apply, val_main_v5_apply, val_main_v6_apply, val_main_v7_apply]
  rw [reference_sum]
  rfl

/-- The reference's second moment. -/
theorem reference_second : val_main_v13 (F := Ideal) x1 x3 (ix3 (n0 := 1) (n1 := 352) (n2 := 1024) z r k) = second (total (p := 352) (q := 1024) x1 r k) (x3 (ix3 z r k)) := by
  simp only [val_main_cst_2_apply, val_main_v8_apply, val_main_v9_apply, val_main_v10_apply, val_main_cst_3_apply, val_main_v11_apply, val_main_v12_apply, val_main_v13_apply]
  rw [reference_sum]
  rfl

/-- The reference's change. -/
theorem reference_change : val_main_v26 (F := Ideal) x0 x1 x2 x3 (ix3 (n0 := 1) (n1 := 352) (n2 := 1024) z r k)
    = change (x0 (ix3 z r k)) (total (p := 352) (q := 1024) x1 r k) (x2 (ix3 z r k)) (x3 (ix3 z r k)) := by
  simp only [val_main_cst_4_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply, val_main_v24_apply, val_main_cst_8_apply, val_main_v25_apply, val_main_v26_apply]
  rw [reference_first, reference_second]
  rfl

end

/-- The reference runs, its arguments unchanged; it declares no semaphore. -/
theorem frame_reference : Cert.quiescent_Reference12Ideal (hReference12Ideal := Cert.Reference12Ideal.Gen.facts) := fun m ρ _ =>
  (θ_run Cert.Reference12Ideal.defs _ _).mono
    (fun r h => ⟨fun c => (h c).2.2.2.2, sem_eq_zero_of_no_sems (by decide) r.2⟩)
    (Cert.Reference12Ideal.Value.run (F := Ideal) m ρ)

/-- From equal arguments the kernel's results and the reference's are equal. -/
theorem algebraic : Cert.algebraic_Kernel12Ideal_Reference12Ideal (hKernel12Ideal := Cert.Kernel12Ideal.Gen.facts)
    (hReference12Ideal := Cert.Reference12Ideal.Gen.facts) := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N,
    Value.run_blocks m ρ, ?_⟩
  refine (θ_run Cert.Reference12Ideal.defs _ _).mono (fun r h c => ?_) (Cert.Reference12Ideal.Value.run (F := Ideal) m' ρ')
  obtain ⟨a0, a1, a2, a3⟩ := hagree c
  obtain ⟨h0, h1, h2, h3, hargs⟩ := h c
  refine ⟨(h0.trans (Cert.Reference12Ideal.Read.val_main_v2_eq ..)).trans ?_, (h1.trans (Cert.Reference12Ideal.Read.val_main_v26_eq ..)).trans ?_,
    (h2.trans (Cert.Reference12Ideal.Read.val_main_v7_eq ..)).trans ?_, (h3.trans (Cert.Reference12Ideal.Read.val_main_v13_eq ..)).trans ?_, hargs⟩
  · rw [a1]
    exact by_rows (p := 352) (q := 1024) fun r k => (reference_sum _ 0 r k).trans (array_4 m c 0 r k).symm
  · rw [a0, a1, a2, a3]
    exact by_rows (p := 352) (q := 1024) fun r k => (reference_change _ _ _ _ 0 r k).trans (array_5 m c 0 r k).symm
  · rw [a1, a2]
    exact by_rows (p := 352) (q := 1024) fun r k => (reference_first _ _ 0 r k).trans (array_6 m c 0 r k).symm
  · rw [a1, a3]
    exact by_rows (p := 352) (q := 1024) fun r k => (reference_second _ _ 0 r k).trans (array_7 m c 0 r k).symm

end Cert.AdamFfnOut

end
-- ==== Proof.AdamFfnIn.lean ====
module

public import proofs.«01_k».proof.Defs
public import proofs.«01_k».proof.Proof.Adam
public import proofs.«01_k».proof.Proof.Gen.Kernel13Ideal.Value
public import proofs.«01_k».proof.Proof.Gen.Reference13Ideal.Run
public import proofs.«01_k».proof.Proof.Gen.Reference13Ideal.Read

@[expose] public section

/-! The optimiser's step for the feed-forward half's first weight, transposed: the kernel's arrays are the reference's. -/

noncomputable section

namespace Cert.AdamFfnIn

open Idealize.ShloMosaic hiding ix2 ix3
open Idealize.ShloMosaic.TcCoe
open Idealize.ShloMosaic.ValueIdx Idealize.SL.Sem Cert.Adam Cert.Kernel13Ideal Cert.Kernel13Ideal.Gen
open scoped BigOperators

/-- The name for the first moment's factor holds the reciprocal. -/
theorem named_first : Named.named (F := Ideal) κ "c1" (φ := .f32) 0x3FC48605#32 = (((5463681 * 8388608⁻¹)⁻¹ : ℝ) : EReal) :=
  IdealRules.named_const.ideal_named_scalar _ _ _ _ rfl
/-- The name for the second moment's factor holds the reciprocal. -/
theorem named_second : Named.named (F := Ideal) κ "c2" (φ := .f32) 0x42C8E6D3#32 = (((2672307 * 268435456⁻¹)⁻¹ : ℝ) : EReal) :=
  IdealRules.named_const.ideal_named_scalar _ _ _ _ rfl

/-- The two named constants are the exact reciprocals. -/
theorem preserves : Cert.preserves_Kernel13_Kernel13Ideal :=
  ⟨IdealRules.named_const.statement κ "c1" .f32 0x3FC48605#32 (((5463681 * 8388608⁻¹)⁻¹ : ℝ) : EReal) rfl,
    IdealRules.named_const.statement κ "c2" .f32 0x42C8E6D3#32 (((2672307 * 268435456⁻¹)⁻¹ : ℝ) : EReal) rfl⟩

/-! ### One block -/

section
variable (x0 : Vec Ideal S1x352x1024 .f32) (x1 : Vec Ideal S8x352x1024 .bf16) (x2 x3 : Vec Ideal S1x352x1024 .f32) (r : Fin 352) (k : Fin 1024)

/-- A device's gradients. -/
theorem point_slot (j : Fin 8) (inb : ∀ a, (![j.val, 0, 0] : Fin 3 → Nat) a + (S1x352x1024 : Shape).size a ≤ (S8x352x1024 : Shape).size a) :
    shapeCast S352x1024 (View.ld (Val := Elt Ideal) x1 (Rect.unit (s := S8x352x1024) ![j.val, 0, 0] (S1x352x1024 : Shape).size inb) : Vec Ideal S1x352x1024 .bf16) shapeCasts_S1x352x1024_S352x1024 (ix2 r k)
      = x1 (ix3 (n0 := 8) (n1 := 352) (n2 := 1024) j r k) := by
  refine (dropped (p := 352) (q := 1024) _ _ 0 r k).trans ?_
  refine congrArg x1 (funext fun a => Fin.ext ?_)
  match a with
  | ⟨0, _⟩ => show j.val + 1 * 0 = j.val; omega
  | ⟨1, _⟩ => show 0 + 1 * r.val = r.val; omega
  | ⟨2, _⟩ => show 0 + 1 * k.val = k.val; omega

/-- The gradient. -/
theorem point_sum : (k0_pay11 x0 x1 x2 x3 : FVec Ideal S352x1024 .f32) (ix2 r k) = total (p := 352) (q := 1024) x1 r k := by
  unfold total
  rw [Fin.sum_univ_eight]
  unfold k0_pay11 k0_pay2
  exact congrArg₂ (· + ·) (congrArg₂ (· + ·) (congrArg₂ (· + ·) (congrArg₂ (· + ·) (congrArg₂ (· + ·) (congrArg₂ (· + ·) (congrArg₂ (· + ·)
    (point_slot x1 r k 0 _) (point_slot x1 r k 1 _)) (point_slot x1 r k 2 _)) (point_slot x1 r k 3 _)) (point_slot x1 r k 4 _)) (point_slot x1 r k 5 _))
    (point_slot x1 r k 6 _)) (point_slot x1 r k 7 _)

/-- The first moment. -/
theorem point_first : (k0_pay4 (k0_pay11 x0 x1 x2 x3) (View.ld x2 r0_8) : FVec Ideal S352x1024 .f32) (ix2 r k) = first (total (p := 352) (q := 1024) x1 r k) (x2 (ix3 0 r k)) := by
  have h := point_sum x0 x1 x2 x3 r k
  unfold k0_pay4
  exact congrArg₂ (· + ·) (congrArg₂ (· * ·) rfl ((dropped (p := 352) (q := 1024) (View.ld (Val := Elt Ideal) x2 r0_8) _ 0 r k).trans (congrFun (View.ld_unit_zero (S := S1x352x1024) start ..) _))) (congrArg₂ (· * ·) rfl h)

/-- The second moment. -/
theorem point_second : (k0_pay5 (k0_pay11 x0 x1 x2 x3) (View.ld x3 r0_8) : FVec Ideal S352x1024 .f32) (ix2 r k) = second (total (p := 352) (q := 1024) x1 r k) (x3 (ix3 0 r k)) := by
  have h := point_sum x0 x1 x2 x3 r k
  unfold k0_pay5
  exact congrArg₂ (· + ·) (congrArg₂ (· * ·) rfl ((dropped (p := 352) (q := 1024) (View.ld (Val := Elt Ideal) x3 r0_8) _ 0 r k).trans (congrFun (View.ld_unit_zero (S := S1x352x1024) start ..) _))) (congrArg₂ (· * ·) rfl (congrArg₂ (· * ·) h h))

/-- The gradient's block. -/
theorem out_sum (z : Fin 1) : (out0_4 x0 x1 x2 x3 : Vec Ideal S1x352x1024 .f32) (ix3 z r k) = total (p := 352) (q := 1024) x1 r k := by
  unfold out0_4
  rw [View.canon_unit_zero (S := S1x352x1024) start]
  unfold k0_pay3
  exact (lifted (p := 352) (q := 1024) _ _ z r k).trans (point_sum x0 x1 x2 x3 r k)

/-- The first moment's block. -/
theorem out_first (z : Fin 1) : (out0_6 x0 x1 x2 x3 : Vec Ideal S1x352x1024 .f32) (ix3 z r k) = first (total (p := 352) (q := 1024) x1 r k) (x2 (ix3 0 r k)) := by
  unfold out0_6
  rw [View.canon_unit_zero (S := S1x352x1024) start]
  unfold k0_pay6
  exact (lifted (p := 352) (q := 1024) _ _ z r k).trans (point_first x0 x1 x2 x3 r k)

/-- The second moment's block. -/
theorem out_second (z : Fin 1) : (out0_7 x0 x1 x2 x3 : Vec Ideal S1x352x1024 .f32) (ix3 z r k) = second (total (p := 352) (q := 1024) x1 r k) (x3 (ix3 0 r k)) := by
  unfold out0_7
  rw [View.canon_unit_zero (S := S1x352x1024) start]
  unfold k0_pay7
  exact (lifted (p := 352) (q := 1024) _ _ z r k).trans (point_second x0 x1 x2 x3 r k)

/-- The change's block. -/
theorem out_change (z : Fin 1) :
    (out0_5 x0 x1 x2 x3 : Vec Ideal S1x352x1024 .f32) (ix3 z r k) = change (x0 (ix3 0 r k)) (total (p := 352) (q := 1024) x1 r k) (x2 (ix3 0 r k)) (x3 (ix3 0 r k)) := by
  have hm := point_first x0 x1 x2 x3 r k
  have hv := point_second x0 x1 x2 x3 r k
  unfold out0_5
  rw [View.canon_unit_zero (S := S1x352x1024) start]
  unfold k0_pay1
  refine (lifted (p := 352) (q := 1024) _ _ z r k).trans ?_
  unfold k0_pay8 k0_pay9 k0_pay10
  dsimp only
  refine congrArg₂ (· * ·) rfl (congrArg₂ (· + ·) (congrArg₂ Ideal.div ?_ (congrArg₂ (· + ·) (congrArg Ideal.sqrt ?_) rfl)) (congrArg₂ (· * ·) rfl ?_))
  · exact (congrArg₂ (· * ·) hm named_first).trans (over_first _)
  · exact (congrArg₂ (· * ·) hv named_second).trans (over_second _)
  · exact (dropped (p := 352) (q := 1024) (View.ld (Val := Elt Ideal) x0 r0_8) _ 0 r k).trans (congrFun (View.ld_unit_zero (S := S1x352x1024) start ..) _)

end

/-! ### The arrays -/

section
variable (m : (ℓ : Loc nD τ sig) → Buf (Elt Ideal) ℓ) (c : Dev nD)

/-- Every window's block is a block of rows. -/
theorem index_rows : ∀ t : Fin cfg0.N, Rows (win0_0.index t) t.val ∧ Rows (win0_1.index t) t.val ∧ Rows (win0_2.index t) t.val ∧ Rows (win0_3.index t) t.val ∧ Rows (win0_4.index t) t.val ∧ Rows (win0_5.index t) t.val ∧ Rows (win0_6.index t) t.val ∧ Rows (win0_7.index t) t.val :=
  (by decide +kernel : ∀ t : Fin grid0.N, Rows (win0_0.index t) t.val ∧ Rows (win0_1.index t) t.val ∧ Rows (win0_2.index t) t.val ∧ Rows (win0_3.index t) t.val ∧ Rows (win0_4.index t) t.val ∧ Rows (win0_5.index t) t.val ∧ Rows (win0_6.index t) t.val ∧ Rows (win0_7.index t) t.val)

/-- A block of the weight. -/
theorem block0 (t : Fin cfg0.N) (j : Fin 1) (r : Fin 352) (k : Fin 1024) (R : Fin 704) (hR : R.val = 352 * t.val + r.val) :
    (iblk m c 0 t : Vec Ideal S1x352x1024 .f32) (ix3 j r k) = (m ((c : Thread nD τ).loc main_arg0) : (⟨S1x704x1024, .f32⟩ : BufTy).Contents (Elt Ideal)) (ix3 j R k) := by
  obtain ⟨h0, h1, h2⟩ := (index_rows t).1
  show V m c main_arg0 (((cfg0.win 0).blk t).view.emb (ix3 (n0 := 1) (n1 := 352) (n2 := 1024) j r k)) = _
  rw [V_main_arg0]
  refine congrArg _ (funext fun a => Fin.ext (match a with
    | ⟨0, _⟩ => from_zero h0
    | ⟨1, _⟩ => (from_rows h1).trans hR.symm
    | ⟨2, _⟩ => from_zero h2))

/-- A block of the gradients. -/
theorem block1 (t : Fin cfg0.N) (j : Fin 8) (r : Fin 352) (k : Fin 1024) (R : Fin 704) (hR : R.val = 352 * t.val + r.val) :
    (iblk m c 1 t : Vec Ideal S8x352x1024 .bf16) (ix3 j r k) = (m ((c : Thread nD τ).loc main_arg1) : (⟨S8x704x1024, .bf16⟩ : BufTy).Contents (Elt Ideal)) (ix3 j R k) := by
  obtain ⟨h0, h1, h2⟩ := (index_rows t).2.1
  show V m c main_arg1 (((cfg0.win 1).blk t).view.emb (ix3 (n0 := 8) (n1 := 352) (n2 := 1024) j r k)) = _
  rw [V_main_arg1]
  refine congrArg _ (funext fun a => Fin.ext (match a with
    | ⟨0, _⟩ => from_zero h0
    | ⟨1, _⟩ => (from_rows h1).trans hR.symm
    | ⟨2, _⟩ => from_zero h2))

/-- A block of the first moment. -/
theorem block2 (t : Fin cfg0.N) (j : Fin 1) (r : Fin 352) (k : Fin 1024) (R : Fin 704) (hR : R.val = 352 * t.val + r.val) :
    (iblk m c 2 t : Vec Ideal S1x352x1024 .f32) (ix3 j r k) = (m ((c : Thread nD τ).loc main_arg2) : (⟨S1x704x1024, .f32⟩ : BufTy).Contents (Elt Ideal)) (ix3 j R k) := by
  obtain ⟨h0, h1, h2⟩ := (index_rows t).2.2.1
  show V m c main_arg2 (((cfg0.win 2).blk t).view.emb (ix3 (n0 := 1) (n1 := 352) (n2 := 1024) j r k)) = _
  rw [V_main_arg2]
  refine congrArg _ (funext fun a => Fin.ext (match a with
    | ⟨0, _⟩ => from_zero h0
    | ⟨1, _⟩ => (from_rows h1).trans hR.symm
    | ⟨2, _⟩ => from_zero h2))

/-- A block of the second moment. -/
theorem block3 (t : Fin cfg0.N) (j : Fin 1) (r : Fin 352) (k : Fin 1024) (R : Fin 704) (hR : R.val = 352 * t.val + r.val) :
    (iblk m c 3 t : Vec Ideal S1x352x1024 .f32) (ix3 j r k) = (m ((c : Thread nD τ).loc main_arg3) : (⟨S1x704x1024, .f32⟩ : BufTy).Contents (Elt Ideal)) (ix3 j R k) := by
  obtain ⟨h0, h1, h2⟩ := (index_rows t).2.2.2.1
  show V m c main_arg3 (((cfg0.win 3).blk t).view.emb (ix3 (n0 := 1) (n1 := 352) (n2 := 1024) j r k)) = _
  rw [V_main_arg3]
  refine congrArg _ (funext fun a => Fin.ext (match a with
    | ⟨0, _⟩ => from_zero h0
    | ⟨1, _⟩ => (from_rows h1).trans hR.symm
    | ⟨2, _⟩ => from_zero h2))

/-- The arrays' entries at a row and a column. -/
abbrev wAt (r : Fin 704) (k : Fin 1024) : EReal := (m ((c : Thread nD τ).loc main_arg0) : (⟨S1x704x1024, .f32⟩ : BufTy).Contents (Elt Ideal)) (ix3 (n0 := 1) (n1 := 704) (n2 := 1024) 0 r k)
abbrev gAt (r : Fin 704) (k : Fin 1024) : EReal := total (p := 704) (q := 1024) (m ((c : Thread nD τ).loc main_arg1) : (⟨S8x704x1024, .bf16⟩ : BufTy).Contents (Elt Ideal)) r k
abbrev mAt (r : Fin 704) (k : Fin 1024) : EReal := (m ((c : Thread nD τ).loc main_arg2) : (⟨S1x704x1024, .f32⟩ : BufTy).Contents (Elt Ideal)) (ix3 (n0 := 1) (n1 := 704) (n2 := 1024) 0 r k)
abbrev vAt (r : Fin 704) (k : Fin 1024) : EReal := (m ((c : Thread nD τ).loc main_arg3) : (⟨S1x704x1024, .f32⟩ : BufTy).Contents (Elt Ideal)) (ix3 (n0 := 1) (n1 := 704) (n2 := 1024) 0 r k)

/-- A block's gradient is the array's. -/
theorem total_block (t : Fin cfg0.N) (r : Fin 352) (k : Fin 1024) (R : Fin 704) (hR : R.val = 352 * t.val + r.val) :
    total (p := 352) (q := 1024) (iblk m c 1 t) r k = gAt m c R k :=
  Finset.sum_congr rfl fun j _ => block1 m c t j r k R hR

/-- A row's point is in the grid. -/
theorem point_of (r : Fin 704) : r.val / 352 < cfg0.N := by
  have hN : cfg0.N = 2 := N_0
  have := r.isLt
  omega
/-- The point that writes a row. -/
abbrev point (r : Fin 704) : Fin cfg0.N := ⟨r.val / 352, point_of r⟩
/-- The row's place in the point's block. -/
abbrev place (r : Fin 704) : Fin 352 := ⟨r.val % 352, Nat.mod_lt _ (by norm_num)⟩
theorem row_of (r : Fin 704) : r.val = 352 * (point r).val + (place r).val := (Nat.div_add_mod _ _).symm

/-- The result array of the gradient. -/
theorem array_4 (z : Fin 1) (r : Fin 704) (k : Fin 1024) : (dats m 0 c).arrAt 4 cfg0.N (ix3 (n0 := 1) (n1 := 704) (n2 := 1024) z r k) = gAt m c r k := by
  have b := congrFun (Value.blocks4 m c (point r) (flush0_4 _)) (ix3 (n0 := 1) (n1 := 352) (n2 := 1024) z (place r) k)
  rw [View.read_apply, Value.flushed4] at b
  obtain ⟨h0, h1, h2⟩ := (index_rows (point r)).2.2.2.2.1
  have e : ((cfg0.win 4).blk (point r)).view.emb (ix3 (n0 := 1) (n1 := 352) (n2 := 1024) z (place r) k) = ix3 (n0 := 1) (n1 := 704) (n2 := 1024) z r k :=
    funext fun a => Fin.ext (match a with
      | ⟨0, _⟩ => from_zero h0
      | ⟨1, _⟩ => (from_rows h1).trans (row_of r).symm
      | ⟨2, _⟩ => from_zero h2)
  rw [e] at b
  refine b.trans ((out_sum _ _ _ _ _ k z).trans ?_)
  rw [total_block m c _ _ k r (row_of r)]

/-- The result array of the change. -/
theorem array_5 (z : Fin 1) (r : Fin 704) (k : Fin 1024) : (dats m 0 c).arrAt 5 cfg0.N (ix3 (n0 := 1) (n1 := 704) (n2 := 1024) z r k) = change (wAt m c r k) (gAt m c r k) (mAt m c r k) (vAt m c r k) := by
  have b := congrFun (Value.blocks5 m c (point r) (flush0_5 _)) (ix3 (n0 := 1) (n1 := 352) (n2 := 1024) z (place r) k)
  rw [View.read_apply, Value.flushed5] at b
  obtain ⟨h0, h1, h2⟩ := (index_rows (point r)).2.2.2.2.2.1
  have e : ((cfg0.win 5).blk (point r)).view.emb (ix3 (n0 := 1) (n1 := 352) (n2 := 1024) z (place r) k) = ix3 (n0 := 1) (n1 := 704) (n2 := 1024) z r k :=
    funext fun a => Fin.ext (match a with
      | ⟨0, _⟩ => from_zero h0
      | ⟨1, _⟩ => (from_rows h1).trans (row_of r).symm
      | ⟨2, _⟩ => from_zero h2)
  rw [e] at b
  refine b.trans ((out_change _ _ _ _ _ k z).trans ?_)
  rw [total_block m c _ _ k r (row_of r)]
  rw [block0 m c _ _ _ k r (row_of r), block2 m c _ _ _ k r (row_of r), block3 m c _ _ _ k r (row_of r)]

/-- The result array of the first moment. -/
theorem array_6 (z : Fin 1) (r : Fin 704) (k : Fin 1024) : (dats m 0 c).arrAt 6 cfg0.N (ix3 (n0 := 1) (n1 := 704) (n2 := 1024) z r k) = first (gAt m c r k) (mAt m c r k) := by
  have b := congrFun (Value.blocks6 m c (point r) (flush0_6 _)) (ix3 (n0 := 1) (n1 := 352) (n2 := 1024) z (place r) k)
  rw [View.read_apply, Value.flushed6] at b
  obtain ⟨h0, h1, h2⟩ := (index_rows (point r)).2.2.2.2.2.2.1
  have e : ((cfg0.win 6).blk (point r)).view.emb (ix3 (n0 := 1) (n1 := 352) (n2 := 1024) z (place r) k) = ix3 (n0 := 1) (n1 := 704) (n2 := 1024) z r k :=
    funext fun a => Fin.ext (match a with
      | ⟨0, _⟩ => from_zero h0
      | ⟨1, _⟩ => (from_rows h1).trans (row_of r).symm
      | ⟨2, _⟩ => from_zero h2)
  rw [e] at b
  refine b.trans ((out_first _ _ _ _ _ k z).trans ?_)
  rw [total_block m c _ _ k r (row_of r)]
  rw [block2 m c _ _ _ k r (row_of r)]

/-- The result array of the second moment. -/
theorem array_7 (z : Fin 1) (r : Fin 704) (k : Fin 1024) : (dats m 0 c).arrAt 7 cfg0.N (ix3 (n0 := 1) (n1 := 704) (n2 := 1024) z r k) = second (gAt m c r k) (vAt m c r k) := by
  have b := congrFun (Value.blocks7 m c (point r) (flush0_7 _)) (ix3 (n0 := 1) (n1 := 352) (n2 := 1024) z (place r) k)
  rw [View.read_apply, Value.flushed7] at b
  obtain ⟨h0, h1, h2⟩ := (index_rows (point r)).2.2.2.2.2.2.2
  have e : ((cfg0.win 7).blk (point r)).view.emb (ix3 (n0 := 1) (n1 := 352) (n2 := 1024) z (place r) k) = ix3 (n0 := 1) (n1 := 704) (n2 := 1024) z r k :=
    funext fun a => Fin.ext (match a with
      | ⟨0, _⟩ => from_zero h0
      | ⟨1, _⟩ => (from_rows h1).trans (row_of r).symm
      | ⟨2, _⟩ => from_zero h2)
  rw [e] at b
  refine b.trans ((out_second _ _ _ _ _ k z).trans ?_)
  rw [total_block m c _ _ k r (row_of r)]
  rw [block3 m c _ _ _ k r (row_of r)]

end

/-! ### The reference's arrays -/

section
open Cert.Reference13Ideal.Read
variable (x0 : (⟨Cert.Reference13Ideal.S1x704x1024, .f32⟩ : BufTy).Contents (Elt Ideal)) (x1 : (⟨Cert.Reference13Ideal.S8x704x1024, .bf16⟩ : BufTy).Contents (Elt Ideal)) (x2 x3 : (⟨Cert.Reference13Ideal.S1x704x1024, .f32⟩ : BufTy).Contents (Elt Ideal))
  (z : Fin 1) (r : Fin 704) (k : Fin 1024)

/-- The reference's gradient, summed over the devices. -/
theorem reference_sum : val_main_v2 (F := Ideal) x1 (ix3 (n0 := 1) (n1 := 704) (n2 := 1024) z r k) = total (p := 704) (q := 1024) x1 r k := by
  simp only [val_main_v0_apply, val_main_cst_apply, val_main_v1_apply, val_main_v2_apply]
  refine (congrArg₂ (· + ·) Ideal.ofBits_zero_f32 (Finset.sum_congr rfl fun j _ => ?_)).trans (zero_add _)
  exact congrArg x1 (funext fun a => Fin.ext (match a with
    | ⟨0, _⟩ => rfl
    | ⟨1, _⟩ => rfl
    | ⟨2, _⟩ => rfl))

/-- The reference's first moment. -/
theorem reference_first : val_main_v7 (F := Ideal) x1 x2 (ix3 (n0 := 1) (n1 := 704) (n2 := 1024) z r k) = first (total (p := 704) (q := 1024) x1 r k) (x2 (ix3 z r k)) := by
  simp only [val_main_cst_0_apply, val_main_v3_apply, val_main_v4_apply, val_main_cst_1_apply, val_main_v5_apply, val_main_v6_apply, val_main_v7_apply]
  rw [reference_sum]
  rfl

/-- The reference's second moment. -/
theorem reference_second : val_main_v13 (F := Ideal) x1 x3 (ix3 (n0 := 1) (n1 := 704) (n2 := 1024) z r k) = second (total (p := 704) (q := 1024) x1 r k) (x3 (ix3 z r k)) := by
  simp only [val_main_cst_2_apply, val_main_v8_apply, val_main_v9_apply, val_main_v10_apply, val_main_cst_3_apply, val_main_v11_apply, val_main_v12_apply, val_main_v13_apply]
  rw [reference_sum]
  rfl

/-- The reference's change. -/
theorem reference_change : val_main_v26 (F := Ideal) x0 x1 x2 x3 (ix3 (n0 := 1) (n1 := 704) (n2 := 1024) z r k)
    = change (x0 (ix3 z r k)) (total (p := 704) (q := 1024) x1 r k) (x2 (ix3 z r k)) (x3 (ix3 z r k)) := by
  simp only [val_main_cst_4_apply, val_main_v14_apply, val_main_v15_apply, val_main_cst_5_apply, val_main_v16_apply, val_main_v17_apply, val_main_v18_apply, val_main_cst_6_apply, val_main_v19_apply, val_main_v20_apply, val_main_v21_apply, val_main_cst_7_apply, val_main_v22_apply, val_main_v23_apply, val_main_v24_apply, val_main_cst_8_apply, val_main_v25_apply, val_main_v26_apply]
  rw [reference_first, reference_second]
  rfl

end

/-- The reference runs, its arguments unchanged; it declares no semaphore. -/
theorem frame_reference : Cert.quiescent_Reference13Ideal (hReference13Ideal := Cert.Reference13Ideal.Gen.facts) := fun m ρ _ =>
  (θ_run Cert.Reference13Ideal.defs _ _).mono
    (fun r h => ⟨fun c => (h c).2.2.2.2, sem_eq_zero_of_no_sems (by decide) r.2⟩)
    (Cert.Reference13Ideal.Value.run (F := Ideal) m ρ)

/-- From equal arguments the kernel's results and the reference's are equal. -/
theorem algebraic : Cert.algebraic_Kernel13Ideal_Reference13Ideal (hKernel13Ideal := Cert.Kernel13Ideal.Gen.facts)
    (hReference13Ideal := Cert.Reference13Ideal.Gen.facts) := by
  intro m ρ m' ρ' _ hagree
  refine ⟨fun c => (dats m 0 c).arrAt 4 cfg0.N, fun c => (dats m 0 c).arrAt 5 cfg0.N, fun c => (dats m 0 c).arrAt 6 cfg0.N, fun c => (dats m 0 c).arrAt 7 cfg0.N,
    Value.run_blocks m ρ, ?_⟩
  refine (θ_run Cert.Reference13Ideal.defs _ _).mono (fun r h c => ?_) (Cert.Reference13Ideal.Value.run (F := Ideal) m' ρ')
  obtain ⟨a0, a1, a2, a3⟩ := hagree c
  obtain ⟨h0, h1, h2, h3, hargs⟩ := h c
  refine ⟨(h0.trans (Cert.Reference13Ideal.Read.val_main_v2_eq ..)).trans ?_, (h1.trans (Cert.Reference13Ideal.Read.val_main_v26_eq ..)).trans ?_,
    (h2.trans (Cert.Reference13Ideal.Read.val_main_v7_eq ..)).trans ?_, (h3.trans (Cert.Reference13Ideal.Read.val_main_v13_eq ..)).trans ?_, hargs⟩
  · rw [a1]
    exact by_rows (p := 704) (q := 1024) fun r k => (reference_sum _ 0 r k).trans (array_4 m c 0 r k).symm
  · rw [a0, a1, a2, a3]
    exact by_rows (p := 704) (q := 1024) fun r k => (reference_change _ _ _ _ 0 r k).trans (array_5 m c 0 r k).symm
  · rw [a1, a2]
    exact by_rows (p := 704) (q := 1024) fun r k => (reference_first _ _ 0 r k).trans (array_6 m c 0 r k).symm
  · rw [a1, a3]
    exact by_rows (p := 704) (q := 1024) fun r k => (reference_second _ _ 0 r k).trans (array_7 m c 0 r k).symm

end Cert.AdamFfnIn

end
-- ==== Proof.AdamIn.lean ====
module

public import proofs.«01_k».proof.Defs
public import proofs.«01_k».proof.Proof.Adam
public import proofs.«01_k».proof.Proof.Gen.Kernel14Ideal.Value
public import proofs.«01_k».proof.Proof.Gen.Reference14Ideal.Run
public import proofs.«01_k».proof.Proof.Gen.Reference14Ideal.Read

@[expose] public section

/-! The optimiser's step for the input projection's weight, whose gradient comes in two halves of columns:
    each store is a half of an array. -/

noncomputable section

namespace Cert.AdamIn

open Idealize.ShloMosaic hiding ix2 ix3
open Idealize.ShloMosaic.TcCoe
open Idealize.ShloMosaic.ValueIdx Idealize.SL.Sem Cert.Adam Cert.Kernel14Ideal Cert.Kernel14Ideal.Gen
open scoped BigOperators

/-- The name for the first moment's factor holds the reciprocal. -/
theorem named_first : Named.named (F := Ideal) κ "c1" (φ := .f32) 0x3FC48605#32 = (((5463681 * 8388608⁻¹)⁻¹ : ℝ) : EReal) :=
  IdealRules.named_const.ideal_named_scalar _ _ _ _ rfl
/-- The name for the second moment's factor holds the reciprocal. -/
theorem named_second : Named.named (F := Ideal) κ "c2" (φ := .f32) 0x42C8E6D3#32 = (((2672307 * 268435456⁻¹)⁻¹ : ℝ) : EReal) :=
  IdealRules.named_const.ideal_named_scalar _ _ _ _ rfl

/-- The two named constants are the exact reciprocals. -/
theorem preserves : Cert.preserves_Kernel14_Kernel14Ideal :=
  ⟨IdealRules.named_const.statement κ "c1" .f32 0x3FC48605#32 (((5463681 * 8388608⁻¹)⁻¹ : ℝ) : EReal) rfl,
    IdealRules.named_const.statement κ "c2" .f32 0x42C8E6D3#32 (((2672307 * 268435456⁻¹)⁻¹ : ℝ) : EReal) rfl⟩

/-- A column of the left half. -/
def left (k : Fin 512) : Fin 1024 := ⟨k.val, by have := k.isLt; omega⟩
/-- A column of the right half. -/
def right (k : Fin 512) : Fin 1024 := ⟨512 + k.val, by have := k.isLt; omega⟩

/-- The left half's place. -/
theorem emb_left (z : Fin 1) (r : Fin 292) (k : Fin 512) : r0_8.emb (ix3 (n0 := 1) (n1 := 292) (n2 := 512) z r k) = ix3 (n0 := 1) (n1 := 292) (n2 := 1024) z r (left k) :=
  funext fun a => Fin.ext (match a with
    | ⟨0, _⟩ => by show 0 + 1 * z.val = z.val; omega
    | ⟨1, _⟩ => by show 0 + 1 * r.val = r.val; omega
    | ⟨2, _⟩ => by show 0 + 1 * k.val = k.val; omega)
/-- The right half's place. -/
theorem emb_right (z : Fin 1) (r : Fin 292) (k : Fin 512) : r0_9.emb (ix3 (n0 := 1) (n1 := 292) (n2 := 512) z r k) = ix3 (n0 := 1) (n1 := 292) (n2 := 1024) z r (right k) :=
  funext fun a => Fin.ext (match a with
    | ⟨0, _⟩ => by show 0 + 1 * z.val = z.val; omega
    | ⟨1, _⟩ => by show 0 + 1 * r.val = r.val; omega
    | ⟨2, _⟩ => by show 512 + 1 * k.val = 512 + k.val; omega)

/-! ### The payloads -/

section
variable (g : FVec Ideal S292x512 .f32) (b : Vec Ideal S1x292x512 .bf16) (A B C : Vec Ideal S1x292x512 .f32) (r : Fin 292) (k : Fin 512)

/-- The left half's first moment. -/
theorem left_first : (k0_pay4 g A : FVec Ideal S292x512 .f32) (ix2 r k) = first (g (ix2 r k)) (A (ix3 0 r k)) := by
  unfold k0_pay4
  exact congrArg₂ (· + ·) (congrArg₂ (· * ·) rfl (dropped (p := 292) (q := 512) A _ 0 r k)) rfl
/-- The left half's second moment. -/
theorem left_second : (k0_pay5 g B : FVec Ideal S292x512 .f32) (ix2 r k) = second (g (ix2 r k)) (B (ix3 0 r k)) := by
  unfold k0_pay5
  exact congrArg₂ (· + ·) (congrArg₂ (· * ·) rfl (dropped (p := 292) (q := 512) B _ 0 r k)) rfl
/-- The right half's first moment. -/
theorem right_first : (k0_pay15 g b A : FVec Ideal S292x512 .f32) (ix2 r k) = first ((k0_pay13 g b : FVec Ideal S292x512 .f32) (ix2 r k)) (A (ix3 0 r k)) := by
  unfold k0_pay15
  exact congrArg₂ (· + ·) (congrArg₂ (· * ·) rfl (dropped (p := 292) (q := 512) A _ 0 r k)) rfl
/-- The right half's second moment. -/
theorem right_second : (k0_pay16 g b B : FVec Ideal S292x512 .f32) (ix2 r k) = second ((k0_pay13 g b : FVec Ideal S292x512 .f32) (ix2 r k)) (B (ix3 0 r k)) := by
  unfold k0_pay16
  exact congrArg₂ (· + ·) (congrArg₂ (· * ·) rfl (dropped (p := 292) (q := 512) B _ 0 r k)) rfl

/-- The left half's change. -/
theorem left_change : (k0_pay11 (k0_pay8 g A B) (k0_pay9 C) (k0_pay10 (F := Ideal)) : FVec Ideal S1x292x512 .f32) (ix3 0 r k)
    = change (C (ix3 0 r k)) (g (ix2 r k)) (A (ix3 0 r k)) (B (ix3 0 r k)) := by
  have hm := left_first g A r k
  have hv := left_second g B r k
  unfold k0_pay11
  refine (lifted (p := 292) (q := 512) _ _ 0 r k).trans ?_
  unfold k0_pay8 k0_pay9 k0_pay10
  refine congrArg₂ (· * ·) rfl (congrArg₂ (· + ·) (congrArg₂ Ideal.div ?_ (congrArg₂ (· + ·) (congrArg Ideal.sqrt ?_) rfl)) (congrArg₂ (· * ·) rfl ?_))
  · exact (congrArg₂ (· * ·) hm named_first).trans (over_first _)
  · exact (congrArg₂ (· * ·) hv named_second).trans (over_second _)
  · exact dropped (p := 292) (q := 512) C _ 0 r k
/-- The right half's change. -/
theorem right_change : (k0_pay1 (k0_pay19 g b A) (k0_pay20 g b B) C : FVec Ideal S1x292x512 .f32) (ix3 0 r k)
    = change (C (ix3 0 r k)) ((k0_pay13 g b : FVec Ideal S292x512 .f32) (ix2 r k)) (A (ix3 0 r k)) (B (ix3 0 r k)) := by
  have hm := right_first g b A r k
  have hv := right_second g b B r k
  unfold k0_pay1
  refine (lifted (p := 292) (q := 512) _ _ 0 r k).trans ?_
  unfold k0_pay19 k0_pay20
  refine congrArg₂ (· * ·) rfl (congrArg₂ (· + ·) (congrArg₂ Ideal.div ?_ (congrArg₂ (· + ·) (congrArg Ideal.sqrt ?_) rfl)) (congrArg₂ (· * ·) rfl ?_))
  · exact (congrArg₂ (· * ·) hm named_first).trans (over_first _)
  · exact (congrArg₂ (· * ·) hv named_second).trans (over_second _)
  · exact dropped (p := 292) (q := 512) C _ 0 r k

end

section
variable (x0 : Vec Ideal S1x292x1024 .f32) (x1 x2 : Vec Ideal S8x292x512 .bf16) (x3 x4 : Vec Ideal S1x292x1024 .f32) (r : Fin 292) (k : Fin 512)

/-- A device's gradients. -/
theorem point_slot (x : Vec Ideal S8x292x512 .bf16) (j : Fin 8) (inb : ∀ a, (![j.val, 0, 0] : Fin 3 → Nat) a + (S1x292x512 : Shape).size a ≤ (S8x292x512 : Shape).size a) :
    shapeCast S292x512 (View.ld (Val := Elt Ideal) x (Rect.unit (s := S8x292x512) ![j.val, 0, 0] (S1x292x512 : Shape).size inb) : Vec Ideal S1x292x512 .bf16) shapeCasts_S1x292x512_S292x512 (ix2 r k)
      = x (ix3 (n0 := 8) (n1 := 292) (n2 := 512) j r k) := by
  refine (dropped (p := 292) (q := 512) _ _ 0 r k).trans ?_
  refine congrArg x (funext fun a => Fin.ext ?_)
  match a with
  | ⟨0, _⟩ => show j.val + 1 * 0 = j.val; omega
  | ⟨1, _⟩ => show 0 + 1 * r.val = r.val; omega
  | ⟨2, _⟩ => show 0 + 1 * k.val = k.val; omega

/-- The left half's gradient. -/
theorem left_sum : (k0_pay21 x0 x1 x2 x3 x4 : FVec Ideal S292x512 .f32) (ix2 r k) = total x1 r k := by
  unfold total
  rw [Fin.sum_univ_eight]
  unfold k0_pay21 k0_pay2
  exact congrArg₂ (· + ·) (congrArg₂ (· + ·) (congrArg₂ (· + ·) (congrArg₂ (· + ·) (congrArg₂ (· + ·) (congrArg₂ (· + ·) (congrArg₂ (· + ·)
    (point_slot r k x1 0 _) (point_slot r k x1 1 _)) (point_slot r k x1 2 _)) (point_slot r k x1 3 _)) (point_slot r k x1 4 _)) (point_slot r k x1 5 _))
    (point_slot r k x1 6 _)) (point_slot r k x1 7 _)
/-- The right half's gradient. -/
theorem right_sum : (k0_pay13 (k0_pay22 x0 x1 x2 x3 x4) (View.ld x2 r0_7) : FVec Ideal S292x512 .f32) (ix2 r k) = total x2 r k := by
  unfold total
  rw [Fin.sum_univ_eight]
  unfold k0_pay13 k0_pay22 k0_pay12
  exact congrArg₂ (· + ·) (congrArg₂ (· + ·) (congrArg₂ (· + ·) (congrArg₂ (· + ·) (congrArg₂ (· + ·) (congrArg₂ (· + ·) (congrArg₂ (· + ·)
    (point_slot r k x2 0 _) (point_slot r k x2 1 _)) (point_slot r k x2 2 _)) (point_slot r k x2 3 _)) (point_slot r k x2 4 _)) (point_slot r k x2 5 _))
    (point_slot r k x2 6 _)) (point_slot r k x2 7 _)

end

/-! ### The reference's arrays -/

section
open Cert.Reference14Ideal.Read
variable (x0 : (⟨Cert.Reference14Ideal.S1x292x1024, .f32⟩ : BufTy).Contents (Elt Ideal)) (x1 x2 : (⟨Cert.Reference14Ideal.S8x292x512, .bf16⟩ : BufTy).Contents (Elt Ideal)) (x3 x4 : (⟨Cert.Reference14Ideal.S1x292x1024, .f32⟩ : BufTy).Contents (Elt Ideal))
  (z : Fin 1) (r : Fin 292) (k : Fin 512) (i : (⟨3, ![1, 292, 1024]⟩ : Shape).Idx)

/-- The reference's gradient in the left half. -/
theorem reference_left : val_main_v6 (F := Ideal) x1 x2 (ix3 (n0 := 1) (n1 := 292) (n2 := 1024) z r (left k)) = total x1 r k := by
  unfold val_main_v6
  refine (concatenate_pair_apply_left (t := Cert.Reference14Ideal.S1x292x1024) (s₁ := Cert.Reference14Ideal.S1x292x512) (s₂ := Cert.Reference14Ideal.S1x292x512) 2 _ _ _ _ rfl (ix3 (n0 := 1) (n1 := 292) (n2 := 512) z r k) (fun a => match a with
    | ⟨0, _⟩ => rfl
    | ⟨1, _⟩ => rfl
    | ⟨2, _⟩ => rfl)).trans ?_
  simp only [val_main_v0_apply, val_main_cst_apply, val_main_v1_apply, val_main_v2_apply]
  refine (congrArg₂ (· + ·) Ideal.ofBits_zero_f32 (Finset.sum_congr rfl fun j _ => ?_)).trans (zero_add _)
  exact congrArg x1 (funext fun a => Fin.ext (match a with
    | ⟨0, _⟩ => rfl
    | ⟨1, _⟩ => rfl
    | ⟨2, _⟩ => rfl))
/-- The reference's gradient in the right half. -/
theorem reference_right : val_main_v6 (F := Ideal) x1 x2 (ix3 (n0 := 1) (n1 := 292) (n2 := 1024) z r (right k)) = total x2 r k := by
  unfold val_main_v6
  refine (concatenate_pair_apply_right (t := Cert.Reference14Ideal.S1x292x1024) (s₁ := Cert.Reference14Ideal.S1x292x512) (s₂ := Cert.Reference14Ideal.S1x292x512) 2 _ _ _ _ rfl rfl (ix3 (n0 := 1) (n1 := 292) (n2 := 512) z r k) (fun a h => match a with
    | ⟨0, _⟩ => rfl
    | ⟨1, _⟩ => rfl
    | ⟨2, _⟩ => absurd rfl h) (by show k.val + 512 = 512 + k.val; omega)).trans ?_
  simp only [val_main_v3_apply, val_main_cst_0_apply, val_main_v4_apply, val_main_v5_apply]
  refine (congrArg₂ (· + ·) Ideal.ofBits_zero_f32 (Finset.sum_congr rfl fun j _ => ?_)).trans (zero_add _)
  exact congrArg x2 (funext fun a => Fin.ext (match a with
    | ⟨0, _⟩ => rfl
    | ⟨1, _⟩ => rfl
    | ⟨2, _⟩ => rfl))

/-- The reference's first moment. -/
theorem reference_first : val_main_v11 (F := Ideal) x1 x2 x3 i = first (val_main_v6 (F := Ideal) x1 x2 i) (x3 i) := by
  simp only [val_main_cst_1_apply, val_main_v7_apply, val_main_v8_apply, val_main_cst_2_apply, val_main_v9_apply, val_main_v10_apply, val_main_v11_apply]
  rfl
/-- The reference's second moment. -/
theorem reference_second : val_main_v17 (F := Ideal) x1 x2 x4 i = second (val_main_v6 (F := Ideal) x1 x2 i) (x4 i) := by
  simp only [val_main_cst_3_apply, val_main_v12_apply, val_main_v13_apply, val_main_v14_apply, val_main_cst_4_apply, val_main_v15_apply, val_main_v16_apply, val_main_v17_apply]
  rfl
/-- The reference's change. -/
theorem reference_change : val_main_v30 (F := Ideal) x0 x1 x2 x3 x4 i = change (x0 i) (val_main_v6 (F := Ideal) x1 x2 i) (x3 i) (x4 i) := by
  simp only [val_main_cst_5_apply, val_main_v18_apply, val_main_v19_apply, val_main_cst_6_apply, val_main_v20_apply, val_main_v21_apply, val_main_v22_apply, val_main_cst_7_apply, val_main_v23_apply, val_main_v24_apply, val_main_v25_apply, val_main_cst_8_apply, val_main_v26_apply, val_main_v27_apply, val_main_v28_apply, val_main_cst_9_apply, val_main_v29_apply, val_main_v30_apply]
  rw [reference_first, reference_second]
  rfl

/-- The left halves agree. -/
theorem sum_left : (k0_pay21 x0 x1 x2 x3 x4 : FVec Ideal S292x512 .f32) (ix2 r k) = val_main_v6 (F := Ideal) x1 x2 (r0_8.emb (ix3 (n0 := 1) (n1 := 292) (n2 := 512) 0 r k)) :=
  (left_sum x0 x1 x2 x3 x4 r k).trans ((congrArg (val_main_v6 (F := Ideal) x1 x2) (emb_left 0 r k)).trans (reference_left x1 x2 0 r k)).symm
/-- The right halves agree. -/
theorem sum_right : (k0_pay13 (k0_pay22 x0 x1 x2 x3 x4) (View.ld x2 r0_7) : FVec Ideal S292x512 .f32) (ix2 r k) = val_main_v6 (F := Ideal) x1 x2 (r0_9.emb (ix3 (n0 := 1) (n1 := 292) (n2 := 512) 0 r k)) :=
  (right_sum x0 x1 x2 x3 x4 r k).trans ((congrArg (val_main_v6 (F := Ideal) x1 x2) (emb_right 0 r k)).trans (reference_right x1 x2 0 r k)).symm

/-- The gradient's array. -/
theorem array_5 : Value.G5 (F := Ideal) x0 x1 x2 x3 x4 = val_main_v6 (F := Ideal) x1 x2 := by
  refine funext fun y => View.canon_apply_of_pieces (Val := Elt Ideal) (e := .f32) (val_main_v6 (F := Ideal) x1 x2) _ (fun p hp j => ?_) y (cover0_5 _ _ y)
  simp only [List.mem_cons, List.mem_nil_iff, or_false] at hp
  rcases hp with rfl | rfl
  · refine congrFun (by_rows (p := 292) (q := 512) (f := k0_pay14 (k0_pay22 x0 x1 x2 x3 x4) (View.ld x2 r0_7)) (g := fun j => val_main_v6 (F := Ideal) x1 x2 (r0_9.emb j)) fun r k => ?_) j
    unfold k0_pay14
    exact (lifted (p := 292) (q := 512) _ _ 0 r k).trans (sum_right x0 x1 x2 x3 x4 r k)
  · refine congrFun (by_rows (p := 292) (q := 512) (f := k0_pay3 (k0_pay21 x0 x1 x2 x3 x4)) (g := fun j => val_main_v6 (F := Ideal) x1 x2 (r0_8.emb j)) fun r k => ?_) j
    unfold k0_pay3
    exact (lifted (p := 292) (q := 512) _ _ 0 r k).trans (sum_left x0 x1 x2 x3 x4 r k)

/-- The change's array. -/
theorem array_6 : Value.G6 (F := Ideal) x0 x1 x2 x3 x4 = val_main_v30 (F := Ideal) x0 x1 x2 x3 x4 := by
  refine funext fun y => View.canon_apply_of_pieces (Val := Elt Ideal) (e := .f32) (val_main_v30 (F := Ideal) x0 x1 x2 x3 x4) _ (fun p hp j => ?_) y (cover0_6 _ _ y)
  simp only [List.mem_cons, List.mem_nil_iff, or_false] at hp
  rcases hp with rfl | rfl
  · refine congrFun (by_rows (p := 292) (q := 512) (f := k0_pay1 (k0_pay19 (k0_pay22 x0 x1 x2 x3 x4) (View.ld x2 r0_7) (View.ld x3 r0_9)) (k0_pay20 (k0_pay22 x0 x1 x2 x3 x4) (View.ld x2 r0_7) (View.ld x4 r0_9)) (View.ld x0 r0_9)) (g := fun j => val_main_v30 (F := Ideal) x0 x1 x2 x3 x4 (r0_9.emb j)) fun r k => ?_) j
    exact (right_change _ _ _ _ _ r k).trans ((congrArg (fun g => change _ g _ _) (sum_right x0 x1 x2 x3 x4 r k)).trans (reference_change x0 x1 x2 x3 x4 _).symm)
  · refine congrFun (by_rows (p := 292) (q := 512) (f := k0_pay11 (k0_pay8 (k0_pay21 x0 x1 x2 x3 x4) (View.ld x3 r0_8) (View.ld x4 r0_8)) (k0_pay9 (View.ld x0 r0_8)) (k0_pay10 (F := Ideal))) (g := fun j => val_main_v30 (F := Ideal) x0 x1 x2 x3 x4 (r0_8.emb j)) fun r k => ?_) j
    exact (left_change _ _ _ _ r k).trans ((congrArg (fun g => change _ g _ _) (sum_left x0 x1 x2 x3 x4 r k)).trans (reference_change x0 x1 x2 x3 x4 _).symm)

/-- The first moment's array. -/
theorem array_7 : Value.G7 (F := Ideal) x0 x1 x2 x3 x4 = val_main_v11 (F := Ideal) x1 x2 x3 := by
  refine funext fun y => View.canon_apply_of_pieces (Val := Elt Ideal) (e := .f32) (val_main_v11 (F := Ideal) x1 x2 x3) _ (fun p hp j => ?_) y (cover0_7 _ _ y)
  simp only [List.mem_cons, List.mem_nil_iff, or_false] at hp
  rcases hp with rfl | rfl
  · refine congrFun (by_rows (p := 292) (q := 512) (f := k0_pay17 (k0_pay22 x0 x1 x2 x3 x4) (View.ld x2 r0_7) (View.ld x3 r0_9)) (g := fun j => val_main_v11 (F := Ideal) x1 x2 x3 (r0_9.emb j)) fun r k => ?_) j
    unfold k0_pay17
    exact (lifted (p := 292) (q := 512) _ _ 0 r k).trans ((right_first _ _ _ r k).trans ((congrArg (fun g => first g _) (sum_right x0 x1 x2 x3 x4 r k)).trans (reference_first x1 x2 x3 _).symm))
  · refine congrFun (by_rows (p := 292) (q := 512) (f := k0_pay6 (k0_pay21 x0 x1 x2 x3 x4) (View.ld x3 r0_8)) (g := fun j => val_main_v11 (F := Ideal) x1 x2 x3 (r0_8.emb j)) fun r k => ?_) j
    unfold k0_pay6
    exact (lifted (p := 292) (q := 512) _ _ 0 r k).trans ((left_first _ _ r k).trans ((congrArg (fun g => first g _) (sum_left x0 x1 x2 x3 x4 r k)).trans (reference_first x1 x2 x3 _).symm))

/-- The second moment's array. -/
theorem array_8 : Value.G8 (F := Ideal) x0 x1 x2 x3 x4 = val_main_v17 (F := Ideal) x1 x2 x4 := by
  refine funext fun y => View.canon_apply_of_pieces (Val := Elt Ideal) (e := .f32) (val_main_v17 (F := Ideal) x1 x2 x4) _ (fun p hp j => ?_) y (cover0_8 _ _ y)
  simp only [List.mem_cons, List.mem_nil_iff, or_false] at hp
  rcases hp with rfl | rfl
  · refine congrFun (by_rows (p := 292) (q := 512) (f := k0_pay18 (k0_pay22 x0 x1 x2 x3 x4) (View.ld x2 r0_7) (View.ld x4 r0_9)) (g := fun j => val_main_v17 (F := Ideal) x1 x2 x4 (r0_9.emb j)) fun r k => ?_) j
    unfold k0_pay18
    exact (lifted (p := 292) (q := 512) _ _ 0 r k).trans ((right_second _ _ _ r k).trans ((congrArg (fun g => second g _) (sum_right x0 x1 x2 x3 x4 r k)).trans (reference_second x1 x2 x4 _).symm))
  · refine congrFun (by_rows (p := 292) (q := 512) (f := k0_pay7 (k0_pay21 x0 x1 x2 x3 x4) (View.ld x4 r0_8)) (g := fun j => val_main_v17 (F := Ideal) x1 x2 x4 (r0_8.emb j)) fun r k => ?_) j
    unfold k0_pay7
    exact (lifted (p := 292) (q := 512) _ _ 0 r k).trans ((left_second _ _ r k).trans ((congrArg (fun g => second g _) (sum_left x0 x1 x2 x3 x4 r k)).trans (reference_second x1 x2 x4 _).symm))

end

/-- The reference runs, its arguments unchanged; it declares no semaphore. -/
theorem frame_reference : Cert.quiescent_Reference14Ideal (hReference14Ideal := Cert.Reference14Ideal.Gen.facts) := fun m ρ _ =>
  (θ_run Cert.Reference14Ideal.defs _ _).mono
    (fun r h => ⟨fun c => (h c).2.2.2.2, sem_eq_zero_of_no_sems (by decide) r.2⟩)
    (Cert.Reference14Ideal.Value.run (F := Ideal) m ρ)

/-- From equal arguments the kernel's results and the reference's are equal. -/
theorem algebraic : Cert.algebraic_Kernel14Ideal_Reference14Ideal (hKernel14Ideal := Cert.Kernel14Ideal.Gen.facts)
    (hReference14Ideal := Cert.Reference14Ideal.Gen.facts) := by
  intro m ρ m' ρ' _ hagree
  refine ⟨_, _, _, _, Value.run m ρ, ?_⟩
  refine (θ_run Cert.Reference14Ideal.defs _ _).mono (fun r h c => ?_) (Cert.Reference14Ideal.Value.run (F := Ideal) m' ρ')
  obtain ⟨a0, a1, a2, a3, a4⟩ := hagree c
  obtain ⟨h0, h1, h2, h3, hargs⟩ := h c
  refine ⟨(h0.trans (Cert.Reference14Ideal.Read.val_main_v6_eq ..)).trans ?_, (h1.trans (Cert.Reference14Ideal.Read.val_main_v30_eq ..)).trans ?_,
    (h2.trans (Cert.Reference14Ideal.Read.val_main_v11_eq ..)).trans ?_, (h3.trans (Cert.Reference14Ideal.Read.val_main_v17_eq ..)).trans ?_, hargs⟩
  · rw [a1, a2]
    exact (array_5 _ _ _ _ _).symm
  · rw [a0, a1, a2, a3, a4]
    exact (array_6 _ _ _ _ _).symm
  · rw [a1, a2, a3]
    exact (array_7 _ _ _ _ _).symm
  · rw [a1, a2, a4]
    exact (array_8 _ _ _ _ _).symm

end Cert.AdamIn

end
-- ==== Proof.lean ====
/- The claims about the feed-forward call, five weight-gradient products, two calls of the mixing half's forward pass and the
   backward pass of the modulation products: each and its reference run with their arguments unchanged and every counter at zero, and from equal arguments (finite ones, for the feed-forward
   call, and finite heads, for the mixing call) their results are equal. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Reference7Ideal
public import proofs.«01_k».proof.Proof.Gen.Pre_finite
public import proofs.«01_k».proof.Proof.Gen.Pre_finite_heads
public import proofs.«01_k».proof.Proof.Finite
public import proofs.«01_k».proof.Proof.ProductFfnIn
public import proofs.«01_k».proof.Proof.ProductFfnOut
public import proofs.«01_k».proof.Proof.ProductOut
public import proofs.«01_k».proof.Proof.ProductInFirst
public import proofs.«01_k».proof.Proof.ProductInSecond
public import proofs.«01_k».proof.Proof.MixClaim
public import proofs.«01_k».proof.Proof.InprojBits
public import proofs.«01_k».proof.Proof.InprojClaim
public import proofs.«01_k».proof.Proof.Ada
public import proofs.«01_k».proof.Proof.AdamAda
public import proofs.«01_k».proof.Proof.AdamOut
public import proofs.«01_k».proof.Proof.AdamFfnOut
public import proofs.«01_k».proof.Proof.AdamFfnIn
public import proofs.«01_k».proof.Proof.AdamIn
public import Idealize.ShloMosaic.Adequacy
public import Idealize.ShloMosaic.Init
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Reference8Ideal.Run
public import proofs.«01_k».proof.Proof.Gen.Reference8Ideal.Read
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Reference14Ideal

@[expose] public section

noncomputable section

namespace Cert.Proof

open Idealize.ShloMosaic Idealize.ShloMosaic.TcCoe Idealize.SL.Sem

/-- The reference runs, its arguments unchanged; it declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2.2.2, sem_eq_zero_of_no_sems (by decide) r.2⟩)
    (Cert.ReferenceIdeal.Value.run (F := Ideal) m ρ)

set_option maxRecDepth 20000 in
/-- Each of the seven results: the kernel's array and the reference's hold the same table of real numbers. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    Cert.KernelIdeal.Value.run_blocks m ρ, ?_⟩
  refine (θ_run Cert.ReferenceIdeal.defs _ _).mono (fun r h c => ?_) (Cert.ReferenceIdeal.Value.run (F := Ideal) m' ρ')
  have G := Finite.given (hPre := Cert.Pre_finite.Gen.facts) c hpre
  have H := Finite.inputs c G (hagree c)
  obtain ⟨h0, h1, h2, h3, h4, h5, h6, hargs⟩ := h c
  exact ⟨(h0.trans (Cert.ReferenceIdeal.Read.val_main_v106_eq _)).trans (Tables.Holds.unique (RefValue.s_v106 H) (Final.array_6 G) fun _ _ _ _ => rfl),
    (h1.trans (Cert.ReferenceIdeal.Read.val_main_v107_eq _)).trans (Tables.Holds.unique (RefValue.s_v107 H) (Final.array_7 G) fun _ _ _ _ => rfl),
    (h2.trans (Cert.ReferenceIdeal.Read.val_main_v108_eq _)).trans (Tables.Holds.unique (RefValue.s_v108 H) (Final.array_8 G) fun _ _ _ _ => rfl),
    (h3.trans (Cert.ReferenceIdeal.Read.val_main_v109_eq _)).trans (Tables.Holds.unique (RefValue.s_v109 H) (Final.array_9 G) fun _ _ _ _ => rfl),
    (h4.trans (Cert.ReferenceIdeal.Read.val_main_v110_eq _)).trans (Tables.Holds.unique (RefValue.s_v110 H) (Final.array_10 G) fun _ _ _ _ => rfl),
    (h5.trans (Cert.ReferenceIdeal.Read.val_main_v105_eq _)).trans (Tables.Holds.unique (RefValue.s_v105 H) (Final.array_11 G) fun _ _ _ _ => rfl),
    (h6.trans (Cert.ReferenceIdeal.Read.val_main_v111_eq _)).trans (Tables.Holds.unique (RefValue.s_v111 H) (Final.array_12 G) fun _ _ _ _ => rfl),
    hargs⟩

/-- The certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_finite.Gen.facts, Cert.Pre_finite_heads.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ (by trivial),
    fun m ρ _ => Cert.Kernel2.Gen.frame m ρ,
    fun m ρ _ => Cert.Kernel2Ideal.Gen.frame m ρ,
    ProductFfnIn.frame_reference,
    fun m ρ _ => Cert.Kernel3.Gen.frame m ρ,
    fun m ρ _ => Cert.Kernel3Ideal.Gen.frame m ρ,
    ProductFfnOut.frame_reference,
    fun m ρ _ => Cert.Kernel4.Gen.frame m ρ,
    fun m ρ _ => Cert.Kernel4Ideal.Gen.frame m ρ,
    ProductOut.frame_reference,
    fun m ρ _ => Cert.Kernel5.Gen.frame m ρ,
    fun m ρ _ => Cert.Kernel5Ideal.Gen.frame m ρ,
    ProductInFirst.frame_reference,
    fun m ρ _ => Cert.Kernel6.Gen.frame m ρ,
    fun m ρ _ => Cert.Kernel6Ideal.Gen.frame m ρ,
    ProductInSecond.frame_reference,
    fun m ρ _ => Cert.Kernel7.Gen.frame m ρ,
    fun m ρ _ => Cert.Kernel7Ideal.Gen.frame m ρ,
    fun m ρ _ => Cert.Kernel7Ideal.Gen.frame m ρ,
    MixClaim.frame_reference,
    fun m ρ _ => MixClaim.frame_reference m ρ (by trivial),
    InprojBits.frame_kernel,
    InprojClaim.frame_ideal,
    InprojClaim.frame_reference,
    fun m ρ _ => Cert.Kernel9.Gen.frame m ρ,
    fun m ρ _ => Cert.Kernel9Ideal.Gen.frame m ρ,
    Ada.frame_reference,
    fun m ρ _ => Cert.Kernel10.Gen.frame m ρ, fun m ρ _ => Cert.Kernel10Ideal.Gen.frame m ρ, AdamAda.frame_reference,
    fun m ρ _ => Cert.Kernel11.Gen.frame m ρ, fun m ρ _ => Cert.Kernel11Ideal.Gen.frame m ρ, AdamOut.frame_reference,
    fun m ρ _ => Cert.Kernel12.Gen.frame m ρ, fun m ρ _ => Cert.Kernel12Ideal.Gen.frame m ρ, AdamFfnOut.frame_reference,
    fun m ρ _ => Cert.Kernel13.Gen.frame m ρ, fun m ρ _ => Cert.Kernel13Ideal.Gen.frame m ρ, AdamFfnIn.frame_reference,
    fun m ρ _ => Cert.Kernel14.Gen.frame m ρ, fun m ρ _ => Cert.Kernel14Ideal.Gen.frame m ρ, AdamIn.frame_reference,
    trivial,
    algebraic,
    trivial,
    ProductFfnIn.algebraic,
    trivial,
    ProductFfnOut.algebraic,
    trivial,
    ProductOut.algebraic,
    trivial,
    ProductInFirst.algebraic,
    trivial,
    ProductInSecond.algebraic,
    trivial,
    MixClaim.algebraic,
    trivial,
    InprojClaim.algebraic,
    trivial,
    Ada.algebraic,
    AdamAda.preserves, AdamAda.algebraic,
    AdamOut.preserves, AdamOut.algebraic,
    AdamFfnOut.preserves, AdamFfnOut.algebraic,
    AdamFfnIn.preserves, AdamFfnIn.algebraic,
    AdamIn.preserves, AdamIn.algebraic⟩

end Cert.Proof

end
